-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_ok [hPre_scores_ok : Cert.Pre_scores_ok.Facts] (m : (ℓ : Loc Cert.KernelIdeal.nD Cert.KernelIdeal.τ Cert.KernelIdeal.sig) → Buf (Elt Ideal) ℓ) : Prop :=
  ∀ c : Dev Cert.KernelIdeal.nD,
    (Cert.Pre_scores_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_scores_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_scores_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_scores_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_scores_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_scores_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_scores_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_scores_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_ok [hPre_scores_ok : Cert.Pre_scores_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_scores_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_scores_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_scores_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_scores_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_scores_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_scores_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_scores_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_gates_ok [hPre_gates_ok : Cert.Pre_gates_ok.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_gates_ok.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_gates_ok [hPre_gates_ok : Cert.Pre_gates_ok.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_gates_ok.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_scores_ok [hKernelIdeal : Cert.KernelIdeal.Facts] [hPre_scores_ok : Cert.Pre_scores_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_scores_ok [hReferenceIdeal : Cert.ReferenceIdeal.Facts] [hPre_scores_ok : Cert.Pre_scores_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_gates_ok [hKernel2Ideal : Cert.Kernel2Ideal.Facts] [hPre_gates_ok : Cert.Pre_gates_ok.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_gates_ok m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_gates_ok [hReference2Ideal : Cert.Reference2Ideal.Facts] [hPre_gates_ok : Cert.Pre_gates_ok.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_gates_ok m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_scores_ok [hKernelIdeal : Cert.KernelIdeal.Facts] [hReferenceIdeal : Cert.ReferenceIdeal.Facts] [hPre_scores_ok : Cert.Pre_scores_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal_pre_gates_ok [hKernel2Ideal : Cert.Kernel2Ideal.Facts] [hReference2Ideal : Cert.Reference2Ideal.Facts] [hPre_gates_ok : Cert.Pre_gates_ok.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_gates_ok m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_scores_ok : Cert.Pre_scores_ok.Facts) (hPre_gates_ok : Cert.Pre_gates_ok.Facts),
    quiescent_Kernel (hKernel := hKernel)
    ∧ quiescent_KernelIdeal (hKernelIdeal := hKernelIdeal)
    ∧ quiescent_KernelIdeal_pre_scores_ok (hKernelIdeal := hKernelIdeal) (hPre_scores_ok := hPre_scores_ok)
    ∧ quiescent_ReferenceIdeal (hReferenceIdeal := hReferenceIdeal)
    ∧ quiescent_ReferenceIdeal_pre_scores_ok (hReferenceIdeal := hReferenceIdeal) (hPre_scores_ok := hPre_scores_ok)
    ∧ quiescent_Kernel2 (hKernel2 := hKernel2)
    ∧ quiescent_Kernel2Ideal (hKernel2Ideal := hKernel2Ideal)
    ∧ quiescent_Kernel2Ideal_pre_gates_ok (hKernel2Ideal := hKernel2Ideal) (hPre_gates_ok := hPre_gates_ok)
    ∧ quiescent_Reference2Ideal (hReference2Ideal := hReference2Ideal)
    ∧ quiescent_Reference2Ideal_pre_gates_ok (hReference2Ideal := hReference2Ideal) (hPre_gates_ok := hPre_gates_ok)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_scores_ok (hKernelIdeal := hKernelIdeal) (hReferenceIdeal := hReferenceIdeal) (hPre_scores_ok := hPre_scores_ok)
    ∧ preserves_Kernel2_Kernel2Ideal
    ∧ algebraic_Kernel2Ideal_Reference2Ideal_pre_gates_ok (hKernel2Ideal := hKernel2Ideal) (hReference2Ideal := hReference2Ideal) (hPre_gates_ok := hPre_gates_ok)
    ∧ preserves_Kernel3_Kernel3Ideal
    ∧ algebraic_Kernel3Ideal_Reference3Ideal (hKernel3Ideal := hKernel3Ideal) (hReference3Ideal := hReference3Ideal)
-- ==== Pre_gates_ok.lean ====
abbrev S8x8192x1024 : Shape := ⟨3, ![8, 8192, 1024]⟩
abbrev S8x8192x128 : Shape := ⟨3, ![8, 8192, 128]⟩
abbrev S8x6x1024 : Shape := ⟨3, ![8, 6, 1024]⟩
abbrev S1x32x1024x256 : Shape := ⟨4, ![1, 32, 1024, 256]⟩
abbrev S1x32x256x1024 : Shape := ⟨4, ![1, 32, 256, 1024]⟩
abbrev S1024 : Shape := ⟨1, ![1024]⟩
abbrev S8x8192x32 : Shape := ⟨3, ![8, 8192, 32]⟩
abbrev S_ : Shape := ⟨0, ![]⟩

class Facts : Prop where
  slices_S8x8192x128_S8x8192x32_0_0_0 : S8x8192x128.Slices ![0, 0, 0] S8x8192x32
  bcast_S_S8x8192x32 : S_.BroadcastsInDim S8x8192x32 (![] : Fin 0 → Fin S8x8192x32.rank)

variable [Facts]

def fn {F : FTy → Type} [FloatOps F] (main_arg0 : FVec F S8x8192x1024 .bf16) (main_arg1 : FVec F S8x8192x128 .f32) (main_arg2 : FVec F S8x8192x1024 .f32) (main_arg3 : FVec F S8x6x1024 .f32) (main_arg4 : FVec F S1x32x1024x256 .f32) (main_arg5 : FVec F S1x32x1024x256 .f32) (main_arg6 : FVec F S1x32x256x1024 .f32) (main_arg7 : FVec F S1024 .f32) : IVec S8x8192x32 1 :=
  let main_v0 : FVec F S8x8192x32 .f32 := (extractStridedSlice S8x8192x32 ![0, 0, 0] · slices_S8x8192x128_S8x8192x32_0_0_0) main_arg1
  let main_cst : FVec F S_ .f32 := constant S_ .f32 0xFF800000#32
  let main_v1 : FVec F S8x8192x32 .f32 := broadcastInDim S8x8192x32 ![] bcast_S_S8x8192x32 main_cst
  let main_v2 : IVec S8x8192x32 1 := cmpf .ogt main_v0 main_v1
  let main_cst_0 : FVec F S_ .f32 := constant S_ .f32 0x7F800000#32
  let main_v3 : FVec F S8x8192x32 .f32 := broadcastInDim S8x8192x32 ![] bcast_S_S8x8192x32 main_cst_0
  let main_v4 : IVec S8x8192x32 1 := cmpf .olt main_v0 main_v3
  let main_v5 : IVec S8x8192x32 1 := andi main_v2 main_v4
  main_v5
-- ==== Pre_scores_ok.lean ====
abbrev S8x8192x4x2x64 : Shape := ⟨5, ![8, 8192, 4, 2, 64]⟩
abbrev S8x8192x4x128 : Shape := ⟨4, ![8, 8192, 4, 128]⟩
abbrev S8x16x8x128 : Shape := ⟨4, ![8, 16, 8, 128]⟩
abbrev S1x64 : Shape := ⟨2, ![1, 64]⟩
abbrev S1x128 : Shape := ⟨2, ![1, 128]⟩
abbrev S_ : Shape := ⟨0, ![]⟩
abbrev S8x16x1x8 : Shape := ⟨4, ![8, 16, 1, 8]⟩

class Facts : Prop where
  bcast_S_S8x8192x4x2x64 : S_.BroadcastsInDim S8x8192x4x2x64 (![] : Fin 0 → Fin S8x8192x4x2x64.rank)
  bcast_S_S8x8192x4x128 : S_.BroadcastsInDim S8x8192x4x128 (![] : Fin 0 → Fin S8x8192x4x128.rank)
  slices_S8x16x8x128_S8x16x1x8_0_0_0_0 : S8x16x8x128.Slices ![0, 0, 0, 0] S8x16x1x8
  bcast_S_S8x16x1x8 : S_.BroadcastsInDim S8x16x1x8 (![] : Fin 0 → Fin S8x16x1x8.rank)
  bcast_S_S1x64 : S_.BroadcastsInDim S1x64 (![] : Fin 0 → Fin S1x64.rank)

variable [Facts]

def fn_part2 {F : FTy → Type} [FloatOps F] (main_arg7 : FVec F S1x64 .f32) (main_v4 : IVec S8x8192x4x2x64 1) (main_v9 : IVec S8x8192x4x2x64 1) (main_v14 : IVec S8x8192x4x128 1) (main_v17 : IVec S8x16x1x8 1) (main_v22 : IVec S1x64 1) (main_v27 : IVec S1x64 1) (main_v32 : IVec S1x64 1) (main_v33 : FVec F S1x64 .f32) : IVec S8x8192x4x2x64 1 × IVec S8x8192x4x2x64 1 × IVec S8x8192x4x128 1 × IVec S8x16x1x8 1 × IVec S1x64 1 × IVec S1x64 1 × IVec S1x64 1 × IVec S1x64 1 :=
  let main_v34 : IVec S1x64 1 := cmpf .ogt main_arg7 main_v33
  let main_cst_13 : FVec F S_ .f32 := constant S_ .f32 0x7F800000#32
  let main_v35 : FVec F S1x64 .f32 := broadcastInDim S1x64 ![] bcast_S_S1x64 main_cst_13
  let main_v36 : IVec S1x64 1 := cmpf .olt main_arg7 main_v35
  let main_v37 : IVec S1x64 1 := andi main_v34 main_v36
  (main_v4, main_v9, main_v14, main_v17, main_v22, main_v27, main_v32, main_v37)

def fn_part1 {F : FTy → Type} [FloatOps F] (main_arg4 : FVec F S1x64 .f32) (main_arg5 : FVec F S1x64 .f32) (main_arg6 : FVec F S1x64 .f32) (main_arg7 : FVec F S1x64 .f32) (main_v4 : IVec S8x8192x4x2x64 1) (main_v9 : IVec S8x8192x4x2x64 1) (main_v14 : IVec S8x8192x4x128 1) (main_v15 : FVec F S8x16x1x8 .f32) (main_v16 : FVec F S8x16x1x8 .f32) : IVec S8x8192x4x2x64 1 × IVec S8x8192x4x2x64 1 × IVec S8x8192x4x128 1 × IVec S8x16x1x8 1 × IVec S1x64 1 × IVec S1x64 1 × IVec S1x64 1 × IVec S1x64 1 :=
  let main_v17 : IVec S8x16x1x8 1 := cmpf .olt main_v15 main_v16
  let main_cst_6 : FVec F S_ .f32 := constant S_ .f32 0xFF800000#32
  let main_v18 : FVec F S1x64 .f32 := broadcastInDim S1x64 ![] bcast_S_S1x64 main_cst_6
  let main_v19 : IVec S1x64 1 := cmpf .ogt main_arg4 main_v18
  let main_cst_7 : FVec F S_ .f32 := constant S_ .f32 0x7F800000#32
  let main_v20 : FVec F S1x64 .f32 := broadcastInDim S1x64 ![] bcast_S_S1x64 main_cst_7
  let main_v21 : IVec S1x64 1 := cmpf .olt main_arg4 main_v20
  let main_v22 : IVec S1x64 1 := andi main_v19 main_v21
  let main_cst_8 : FVec F S_ .f32 := constant S_ .f32 0xFF800000#32
  let main_v23 : FVec F S1x64 .f32 := broadcastInDim S1x64 ![] bcast_S_S1x64 main_cst_8
  let main_v24 : IVec S1x64 1 := cmpf .ogt main_arg5 main_v23
  let main_cst_9 : FVec F S_ .f32 := constant S_ .f32 0x7F800000#32
  let main_v25 : FVec F S1x64 .f32 := broadcastInDim S1x64 ![] bcast_S_S1x64 main_cst_9
  let main_v26 : IVec S1x64 1 := cmpf .olt main_arg5 main_v25
  let main_v27 : IVec S1x64 1 := andi main_v24 main_v26
  let main_cst_10 : FVec F S_ .f32 := constant S_ .f32 0xFF800000#32
  let main_v28 : FVec F S1x64 .f32 := broadcastInDim S1x64 ![] bcast_S_S1x64 main_cst_10
  let main_v29 : IVec S1x64 1 := cmpf .ogt main_arg6 main_v28
  let main_cst_11 : FVec F S_ .f32 := constant S_ .f32 0x7F800000#32
  let main_v30 : FVec F S1x64 .f32 := broadcastInDim S1x64 ![] bcast_S_S1x64 main_cst_11
  let main_v31 : IVec S1x64 1 := cmpf .olt main_arg6 main_v30
  let main_v32 : IVec S1x64 1 := andi main_v29 main_v31
  let main_cst_12 : FVec F S_ .f32 := constant S_ .f32 0xFF800000#32
  let main_v33 : FVec F S1x64 .f32 := broadcastInDim S1x64 ![] bcast_S_S1x64 main_cst_12
  fn_part2 (F := F) main_arg7 main_v4 main_v9 main_v14 main_v17 main_v22 main_v27 main_v32 main_v33

def fn {F : FTy → Type} [FloatOps F] (main_arg0 : FVec F S8x8192x4x2x64 .f32) (main_arg1 : FVec F S8x8192x4x2x64 .f32) (main_arg2 : FVec F S8x8192x4x128 .f32) (main_arg3 : FVec F S8x16x8x128 .f32) (main_arg4 : FVec F S1x64 .f32) (main_arg5 : FVec F S1x64 .f32) (main_arg6 : FVec F S1x64 .f32) (main_arg7 : FVec F S1x64 .f32) (main_arg8 : FVec F S1x128 .f32) : IVec S8x8192x4x2x64 1 × IVec S8x8192x4x2x64 1 × IVec S8x8192x4x128 1 × IVec S8x16x1x8 1 × IVec S1x64 1 × IVec S1x64 1 × IVec S1x64 1 × IVec S1x64 1 :=
  let main_cst : FVec F S_ .f32 := constant S_ .f32 0xFF800000#32
  let main_v0 : FVec F S8x8192x4x2x64 .f32 := broadcastInDim S8x8192x4x2x64 ![] bcast_S_S8x8192x4x2x64 main_cst
  let main_v1 : IVec S8x8192x4x2x64 1 := cmpf .ogt main_arg0 main_v0
  let main_cst_0 : FVec F S_ .f32 := constant S_ .f32 0x7F800000#32
  let main_v2 : FVec F S8x8192x4x2x64 .f32 := broadcastInDim S8x8192x4x2x64 ![] bcast_S_S8x8192x4x2x64 main_cst_0
  let main_v3 : IVec S8x8192x4x2x64 1 := cmpf .olt main_arg0 main_v2
  let main_v4 : IVec S8x8192x4x2x64 1 := andi main_v1 main_v3
  let main_cst_1 : FVec F S_ .f32 := constant S_ .f32 0xFF800000#32
  let main_v5 : FVec F S8x8192x4x2x64 .f32 := broadcastInDim S8x8192x4x2x64 ![] bcast_S_S8x8192x4x2x64 main_cst_1
  let main_v6 : IVec S8x8192x4x2x64 1 := cmpf .ogt main_arg1 main_v5
  let main_cst_2 : FVec F S_ .f32 := constant S_ .f32 0x7F800000#32
  let main_v7 : FVec F S8x8192x4x2x64 .f32 := broadcastInDim S8x8192x4x2x64 ![] bcast_S_S8x8192x4x2x64 main_cst_2
  let main_v8 : IVec S8x8192x4x2x64 1 := cmpf .olt main_arg1 main_v7
  let main_v9 : IVec S8x8192x4x2x64 1 := andi main_v6 main_v8
  let main_cst_3 : FVec F S_ .f32 := constant S_ .f32 0xFF800000#32
  let main_v10 : FVec F S8x8192x4x128 .f32 := broadcastInDim S8x8192x4x128 ![] bcast_S_S8x8192x4x128 main_cst_3
  let main_v11 : IVec S8x8192x4x128 1 := cmpf .ogt main_arg2 main_v10
  let main_cst_4 : FVec F S_ .f32 := constant S_ .f32 0x7F800000#32
  let main_v12 : FVec F S8x8192x4x128 .f32 := broadcastInDim S8x8192x4x128 ![] bcast_S_S8x8192x4x128 main_cst_4
  let main_v13 : IVec S8x8192x4x128 1 := cmpf .olt main_arg2 main_v12
  let main_v14 : IVec S8x8192x4x128 1 := andi main_v11 main_v13
  let main_v15 : FVec F S8x16x1x8 .f32 := (extractStridedSlice S8x16x1x8 ![0, 0, 0, 0] · slices_S8x16x8x128_S8x16x1x8_0_0_0_0) main_arg3
  let main_cst_5 : FVec F S_ .f32 := constant S_ .f32 0x7F800000#32
  let main_v16 : FVec F S8x16x1x8 .f32 := broadcastInDim S8x16x1x8 ![] bcast_S_S8x16x1x8 main_cst_5
  fn_part1 (F := F) main_arg4 main_arg5 main_arg6 main_arg7 main_v4 main_v9 main_v14 main_v15 main_v16
-- ==== Kernel.lean ====
abbrev S8x8192x4x2x64 : Shape := ⟨5, ![8, 8192, 4, 2, 64]⟩
abbrev S8x8192x4x128 : Shape := ⟨4, ![8, 8192, 4, 128]⟩
abbrev S8x16x8x128 : Shape := ⟨4, ![8, 16, 8, 128]⟩
abbrev S1x64 : Shape := ⟨2, ![1, 64]⟩
abbrev S1x128 : Shape := ⟨2, ![1, 128]⟩
abbrev S8192x1 : Shape := ⟨2, ![8192, 1]⟩
abbrev S_ : Shape := ⟨0, ![]⟩
abbrev S8192x64 : Shape := ⟨2, ![8192, 64]⟩
abbrev S8x8192x8x64 : Shape := ⟨4, ![8, 8192, 8, 64]⟩
abbrev S8x8192x8x128 : Shape := ⟨4, ![8, 8192, 8, 128]⟩
abbrev S8x8192x1024 : Shape := ⟨3, ![8, 8192, 1024]⟩
abbrev S8x1024x8192 : Shape := ⟨3, ![8, 1024, 8192]⟩
abbrev S1x8192x1x64 : Shape := ⟨4, ![1, 8192, 1, 64]⟩
abbrev S8192x16 : Shape := ⟨2, ![8192, 16]⟩
abbrev S1x16x512x1x16 : Shape := ⟨5, ![1, 16, 512, 1, 16]⟩
abbrev S8x16x512x4x16 : Shape := ⟨5, ![8, 16, 512, 4, 16]⟩
abbrev S8x16x512x4x128 : Shape := ⟨5, ![8, 16, 512, 4, 128]⟩
abbrev S8x16x512x4x144 : Shape := ⟨5, ![8, 16, 512, 4, 144]⟩
abbrev S8x4x16x144x512 : Shape := ⟨5, ![8, 4, 16, 144, 512]⟩
abbrev S64 : Shape := ⟨1, ![64]⟩
abbrev S4x64 : Shape := ⟨2, ![4, 64]⟩
abbrev S128 : Shape := ⟨1, ![128]⟩
abbrev S128x1 : Shape := ⟨2, ![128, 1]⟩
abbrev S8x8192x512 : Shape := ⟨3, ![8, 8192, 512]⟩
abbrev S1x256x2048 : Shape := ⟨3, ![1, 256, 2048]⟩
abbrev S1x8192x256 : Shape := ⟨3, ![1, 8192, 256]⟩
abbrev S1x1x16x144x512 : Shape := ⟨5, ![1, 1, 16, 144, 512]⟩
abbrev S1x16x8x128 : Shape := ⟨4, ![1, 16, 8, 128]⟩
abbrev S1x2048x128 : Shape := ⟨3, ![1, 2048, 128]⟩
abbrev S256x2048 : Shape := ⟨2, ![256, 2048]⟩
abbrev S2x144x2048 : Shape := ⟨3, ![2, 144, 2048]⟩
abbrev S2x1x2048 : Shape := ⟨3, ![2, 1, 2048]⟩
abbrev S1x2048 : Shape := ⟨2, ![1, 2048]⟩
abbrev S1x64x2048 : Shape := ⟨3, ![1, 64, 2048]⟩
abbrev S64x2048 : Shape := ⟨2, ![64, 2048]⟩
abbrev S2048 : Shape := ⟨1, ![2048]⟩
abbrev S16x8x128 : Shape := ⟨3, ![16, 8, 128]⟩
abbrev S8x128 : Shape := ⟨2, ![8, 128]⟩
abbrev S8 : Shape := ⟨1, ![8]⟩
abbrev S8x1 : Shape := ⟨2, ![8, 1]⟩
abbrev S1x1 : Shape := ⟨2, ![1, 1]⟩
abbrev S16x2048 : Shape := ⟨2, ![16, 2048]⟩
abbrev S48x2048 : Shape := ⟨2, ![48, 2048]⟩
abbrev S1x512x256 : Shape := ⟨3, ![1, 512, 256]⟩
abbrev S512x256 : Shape := ⟨2, ![512, 256]⟩
abbrev S1x1x1x144x512 : Shape := ⟨5, ![1, 1, 1, 144, 512]⟩
abbrev S144x512 : Shape := ⟨2, ![144, 512]⟩
abbrev S512x128 : Shape := ⟨2, ![512, 128]⟩
abbrev S128x2048 : Shape := ⟨2, ![128, 2048]⟩
abbrev S512x2048 : Shape := ⟨2, ![512, 2048]⟩
abbrev S144x2048 : Shape := ⟨2, ![144, 2048]⟩
abbrev S1x144x2048 : Shape := ⟨3, ![1, 144, 2048]⟩
abbrev S128x1536 : Shape := ⟨2, ![128, 1536]⟩
abbrev S512x1536 : Shape := ⟨2, ![512, 1536]⟩
abbrev S1x1536 : Shape := ⟨2, ![1, 1536]⟩
abbrev S144x1536 : Shape := ⟨2, ![144, 1536]⟩
abbrev S1x144x1536 : Shape := ⟨3, ![1, 144, 1536]⟩
abbrev S128x1024 : Shape := ⟨2, ![128, 1024]⟩
abbrev S512x1024 : Shape := ⟨2, ![512, 1024]⟩
abbrev S1x1024 : Shape := ⟨2, ![1, 1024]⟩
abbrev S144x1024 : Shape := ⟨2, ![144, 1024]⟩
abbrev S1x144x1024 : Shape := ⟨3, ![1, 144, 1024]⟩
abbrev S128x512 : Shape := ⟨2, ![128, 512]⟩
abbrev S512x512 : Shape := ⟨2, ![512, 512]⟩
abbrev S1x512 : Shape := ⟨2, ![1, 512]⟩
abbrev S1x144x512 : Shape := ⟨3, ![1, 144, 512]⟩
abbrev S1x2x1x2048 : Shape := ⟨4, ![1, 2, 1, 2048]⟩
abbrev S1 : Shape := ⟨1, ![1]⟩
abbrev S1x1x1x1 : Shape := ⟨4, ![1, 1, 1, 1]⟩
abbrev S1x1x2048 : Shape := ⟨3, ![1, 1, 2048]⟩
abbrev S2048x128 : Shape := ⟨2, ![2048, 128]⟩

abbrev nBuf : Space → Nat
  | .hbm => 107
  | .vmem => 15
  | .smem => 0
  | _ => 0

abbrev bufTy : (tb : Table) → Fin (tcTables nBuf tb) → BufTy
  | .hbm, ⟨0, _⟩ => ⟨S8x8192x4x2x64, .f32⟩
  | .hbm, ⟨1, _⟩ => ⟨S8x8192x4x2x64, .f32⟩
  | .hbm, ⟨2, _⟩ => ⟨S8x8192x4x128, .f32⟩
  | .hbm, ⟨3, _⟩ => ⟨S8x16x8x128, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x128, .f32⟩
  | .hbm, ⟨9, _⟩ => ⟨S8192x1, .i32⟩
  | .hbm, ⟨10, _⟩ => ⟨S_, .i32⟩
  | .hbm, ⟨11, _⟩ => ⟨S_, .i32⟩
  | .hbm, ⟨12, _⟩ => ⟨S8192x1, .i32⟩
  | .hbm, ⟨13, _⟩ => ⟨S8192x1, .i32⟩
  | .hbm, ⟨14, _⟩ => ⟨S8192x1, .i32⟩
  | .hbm, ⟨15, _⟩ => ⟨S_, .i32⟩
  | .hbm, ⟨16, _⟩ => ⟨S8192x1, .i32⟩
  | .hbm, ⟨17, _⟩ => ⟨S8192x1, .i1⟩
  | .hbm, ⟨18, _⟩ => ⟨S8192x1, .i32⟩
  | .hbm, ⟨19, _⟩ => ⟨S8192x1, .i32⟩
  | .hbm, ⟨20, _⟩ => ⟨S_, .i32⟩
  | .hbm, ⟨21, _⟩ => ⟨S8192x1, .i32⟩
  | .hbm, ⟨22, _⟩ => ⟨S8192x1, .i1⟩
  | .hbm, ⟨23, _⟩ => ⟨S8192x1, .i1⟩
  | .hbm, ⟨24, _⟩ => ⟨S_, .i32⟩
  | .hbm, ⟨25, _⟩ => ⟨S8192x1, .i32⟩
  | .hbm, ⟨26, _⟩ => ⟨S8192x1, .i32⟩
  | .hbm, ⟨27, _⟩ => ⟨S8192x1, .i32⟩
  | .hbm, ⟨28, _⟩ => ⟨S8192x1, .f32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S8192x1, .i32⟩
  | .hbm, ⟨36, _⟩ => ⟨S8192x1, .i32⟩
  | .hbm, ⟨37, _⟩ => ⟨S_, .i32⟩
  | .hbm, ⟨38, _⟩ => ⟨S8192x1, .i32⟩
  | .hbm, ⟨39, _⟩ => ⟨S8192x1, .i1⟩
  | .hbm, ⟨40, _⟩ => ⟨S_, .i32⟩
  | .hbm, ⟨41, _⟩ => ⟨S8192x1, .i32⟩
  | .hbm, ⟨42, _⟩ => ⟨S8192x1, .i1⟩
  | .hbm, ⟨43, _⟩ => ⟨S_, .i32⟩
  | .hbm, ⟨44, _⟩ => ⟨S_, .i1⟩
  | .hbm, ⟨45, _⟩ => ⟨S8192x1, .i1⟩
  | .hbm, ⟨46, _⟩ => ⟨S8192x1, .i1⟩
  | .hbm, ⟨47, _⟩ => ⟨S8192x1, .i1⟩
  | .hbm, ⟨48, _⟩ => ⟨S8192x1, .i32⟩
  | .hbm, ⟨49, _⟩ => ⟨S8192x1, .i32⟩
  | .hbm, ⟨50, _⟩ => ⟨S8192x1, .i32⟩
  | .hbm, ⟨51, _⟩ => ⟨S8192x1, .f32⟩
  | .hbm, ⟨52, _⟩ => ⟨S8192x64, .i32⟩
  | .hbm, ⟨53, _⟩ => ⟨S_, .i32⟩
  | .hbm, ⟨54, _⟩ => ⟨S8192x64, .i32⟩
  | .hbm, ⟨55, _⟩ => ⟨S8192x64, .i1⟩
  | .hbm, ⟨56, _⟩ => ⟨S_, .i32⟩
  | .hbm, ⟨57, _⟩ => ⟨S8192x64, .i32⟩
  | .hbm, ⟨58, _⟩ => ⟨S8192x64, .i1⟩
  | .hbm, ⟨59, _⟩ => ⟨S_, .i32⟩
  | .hbm, ⟨60, _⟩ => ⟨S8192x64, .i32⟩
  | .hbm, ⟨61, _⟩ => ⟨S8192x64, .i1⟩
  | .hbm, ⟨62, _⟩ => ⟨S_, .f32⟩
  | .hbm, ⟨63, _⟩ => ⟨S_, .f32⟩
  | .hbm, ⟨64, _⟩ => ⟨S8192x64, .f32⟩
  | .hbm, ⟨65, _⟩ => ⟨S8192x64, .f32⟩
  | .hbm, ⟨66, _⟩ => ⟨S8192x64, .f32⟩
  | .hbm, ⟨67, _⟩ => ⟨S8192x64, .f32⟩
  | .hbm, ⟨68, _⟩ => ⟨S8192x64, .f32⟩
  | .hbm, ⟨69, _⟩ => ⟨S8192x64, .f32⟩
  | .hbm, ⟨70, _⟩ => ⟨S8192x64, .f32⟩
  | .hbm, ⟨71, _⟩ => ⟨S8192x64, .f32⟩
  | .hbm, ⟨72, _⟩ => ⟨S_, .f32⟩
  | .hbm, ⟨73, _⟩ => ⟨S8x8192x4x2x64, .f32⟩
  | .hbm, ⟨74, _⟩ => ⟨S8x8192x4x2x64, .f32⟩
  | .hbm, ⟨75, _⟩ => ⟨S8x8192x8x64, .f32⟩
  | .hbm, ⟨76, _⟩ => ⟨S_, .i32⟩
  | .hbm, ⟨77, _⟩ => ⟨S_, .f32⟩
  | .hbm, ⟨78, _⟩ => ⟨S8x8192x8x128, .f32⟩
  | .hbm, ⟨79, _⟩ => ⟨S8x8192x1024, .f32⟩
  | .hbm, ⟨80, _⟩ => ⟨S8x1024x8192, .f32⟩
  | .hbm, ⟨81, _⟩ => ⟨S8x1024x8192, .bf16⟩
  | .hbm, ⟨82, _⟩ => ⟨S8x8192x8x64, .f32⟩
  | .hbm, ⟨83, _⟩ => ⟨S1x8192x1x64, .f32⟩
  | .hbm, ⟨84, _⟩ => ⟨S8x8192x8x64, .f32⟩
  | .hbm, ⟨85, _⟩ => ⟨S8x8192x8x128, .f32⟩
  | .hbm, ⟨86, _⟩ => ⟨S8x8192x1024, .f32⟩
  | .hbm, ⟨87, _⟩ => ⟨S8x8192x1024, .bf16⟩
  | .hbm, ⟨88, _⟩ => ⟨S8192x16, .f32⟩
  | .hbm, ⟨89, _⟩ => ⟨S1x16x512x1x16, .f32⟩
  | .hbm, ⟨90, _⟩ => ⟨S8x16x512x4x16, .f32⟩
  | .hbm, ⟨91, _⟩ => ⟨S8x16x512x4x128, .f32⟩
  | .hbm, ⟨92, _⟩ => ⟨S8x16x512x4x144, .f32⟩
  | .hbm, ⟨93, _⟩ => ⟨S8x4x16x144x512, .f32⟩
  | .hbm, ⟨94, _⟩ => ⟨S8x4x16x144x512, .bf16⟩
  | .hbm, ⟨95, _⟩ => ⟨S64, .f32⟩
  | .hbm, ⟨96, _⟩ => ⟨S1x64, .f32⟩
  | .hbm, ⟨97, _⟩ => ⟨S64, .f32⟩
  | .hbm, ⟨98, _⟩ => ⟨S1x64, .f32⟩
  | .hbm, ⟨99, _⟩ => ⟨S64, .f32⟩
  | .hbm, ⟨100, _⟩ => ⟨S1x64, .f32⟩
  | .hbm, ⟨101, _⟩ => ⟨S64, .f32⟩
  | .hbm, ⟨102, _⟩ => ⟨S1x64, .f32⟩
  | .hbm, ⟨103, _⟩ => ⟨S4x64, .f32⟩
  | .hbm, ⟨104, _⟩ => ⟨S128, .f32⟩
  | .hbm, ⟨105, _⟩ => ⟨S128x1, .f32⟩
  | .hbm, ⟨106, _⟩ => ⟨S8x8192x512, .bf16⟩
  | .local _ .vmem, ⟨0, _⟩ => ⟨S1x256x2048, .bf16⟩
  | .local _ .vmem, ⟨1, _⟩ => ⟨S1x256x2048, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x1x16x144x512, .bf16⟩
  | .local _ .vmem, ⟨5, _⟩ => ⟨S1x1x16x144x512, .bf16⟩
  | .local _ .vmem, ⟨6, _⟩ => ⟨S1x16x8x128, .f32⟩
  | .local _ .vmem, ⟨7, _⟩ => ⟨S1x16x8x128, .f32⟩
  | .local _ .vmem, ⟨8, _⟩ => ⟨S4x64, .f32⟩
  | .local _ .vmem, ⟨9, _⟩ => ⟨S128x1, .f32⟩
  | .local _ .vmem, ⟨10, _⟩ => ⟨S1x2048x128, .bf16⟩
  | .local _ .vmem, ⟨11, _⟩ => ⟨S1x2048x128, .bf16⟩
  | .local _ .vmem, ⟨12, _⟩ => ⟨S256x2048, .bf16⟩
  | .local _ .vmem, ⟨13, _⟩ => ⟨S2x144x2048, .f32⟩
  | .local _ .vmem, ⟨14, _⟩ => ⟨S2x1x2048, .f32⟩
  | _, _ => ⟨S8x8192x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v1 : Ref sig .tc := ⟨.hbm, 27, rfl⟩
abbrev main_v2 : Ref sig .tc := ⟨.hbm, 28, rfl⟩
abbrev main_c_0 : Ref sig .tc := ⟨.hbm, 29, rfl⟩
abbrev main_call1_v0 : Ref sig .tc := ⟨.hbm, 30, rfl⟩
abbrev main_call1_c : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_c_1 : Ref sig .tc := ⟨.hbm, 37, rfl⟩
abbrev main_call1_v5 : Ref sig .tc := ⟨.hbm, 38, rfl⟩
abbrev main_call1_v6 : Ref sig .tc := ⟨.hbm, 39, rfl⟩
abbrev main_call1_c_2 : Ref sig .tc := ⟨.hbm, 40, rfl⟩
abbrev main_call1_v7 : Ref sig .tc := ⟨.hbm, 41, rfl⟩
abbrev main_call1_v8 : Ref sig .tc := ⟨.hbm, 42, rfl⟩
abbrev main_call1_c_3 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_v3 : Ref sig .tc := ⟨.hbm, 50, rfl⟩
abbrev main_v4 : Ref sig .tc := ⟨.hbm, 51, rfl⟩
abbrev main_v5 : Ref sig .tc := ⟨.hbm, 52, rfl⟩
abbrev main_c_1 : Ref sig .tc := ⟨.hbm, 53, rfl⟩
abbrev main_v6 : Ref sig .tc := ⟨.hbm, 54, rfl⟩
abbrev main_v7 : Ref sig .tc := ⟨.hbm, 55, rfl⟩
abbrev main_c_2 : Ref sig .tc := ⟨.hbm, 56, rfl⟩
abbrev main_v8 : Ref sig .tc := ⟨.hbm, 57, rfl⟩
abbrev main_v9 : Ref sig .tc := ⟨.hbm, 58, rfl⟩
abbrev main_c_3 : Ref sig .tc := ⟨.hbm, 59, rfl⟩
abbrev main_v10 : Ref sig .tc := ⟨.hbm, 60, rfl⟩
abbrev main_v11 : Ref sig .tc := ⟨.hbm, 61, rfl⟩
abbrev main_cst : Ref sig .tc := ⟨.hbm, 62, rfl⟩
abbrev main_cst_4 : Ref sig .tc := ⟨.hbm, 63, rfl⟩
abbrev main_call2_v0 : Ref sig .tc := ⟨.hbm, 64, rfl⟩
abbrev main_call2_v1 : Ref sig .tc := ⟨.hbm, 65, rfl⟩
abbrev main_v12 : Ref sig .tc := ⟨.hbm, 66, rfl⟩
abbrev main_call3_v0 : Ref sig .tc := ⟨.hbm, 67, rfl⟩
abbrev main_call3_v1 : Ref sig .tc := ⟨.hbm, 68, rfl⟩
abbrev main_v13 : Ref sig .tc := ⟨.hbm, 69, rfl⟩
abbrev main_call4_v0 : Ref sig .tc := ⟨.hbm, 70, rfl⟩
abbrev main_v14 : Ref sig .tc := ⟨.hbm, 71, rfl⟩
abbrev main_cst_5 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_c_6 : Ref sig .tc := ⟨.hbm, 76, rfl⟩
abbrev main_call5_v0 : Ref sig .tc := ⟨.hbm, 77, rfl⟩
abbrev main_v18 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![8, 4, 4], ![false, false, false]⟩

@[reducible] def k0_t1_loop (i : grid0.Coords) : Scf.Loop 32 :=
  let c0_i32_109 : BitVec 32 := 0#32
  let arg2 : BitVec 32 := BitVec.ofNat 32 (i 2).val
  let c2048_i32_0 : BitVec 32 := 2048#32
  let v4 : BitVec 32 := Scalar.muli arg2 c2048_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c512_i32 : BitVec 32 := 512#32
  let c0_i32_2 : BitVec 32 := 0#32
  let v11 : BitVec 1 := Scalar.cmpi .sgt c512_i32 c0_i32_2
  let v12 : BitVec 32 := Scalar.extui v11
  let c0_i32_3 : BitVec 32 := 0#32
  let v13 : BitVec 1 := Scalar.cmpi .slt c512_i32 c0_i32_3
  let v14 : BitVec 32 := Scalar.extui v13
  let v15 : BitVec 32 := Scalar.subi v12 v14
  let v16 : BitVec 1 := Scalar.cmpi .ne v10 v15
  let v17 : BitVec 32 := Scalar.remsi v4 c512_i32
  let c0_i32_4 : BitVec 32 := 0#32
  let v18 : BitVec 1 := Scalar.cmpi .ne v17 c0_i32_4
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c0_i32_102 : BitVec 32 := 0#32
  let v279 : BitVec 1 := Scalar.cmpi .sgt v21 c0_i32_102
  let v280 : BitVec 32 := Scalar.extui v279
  let c0_i32_103 : BitVec 32 := 0#32
  let v281 : BitVec 1 := Scalar.cmpi .slt v21 c0_i32_103
  let v282 : BitVec 32 := Scalar.extui v281
  let v283 : BitVec 32 := Scalar.subi v280 v282
  let c2_i32_101 : BitVec 32 := 2#32
  let c0_i32_104 : BitVec 32 := 0#32
  let v284 : BitVec 1 := Scalar.cmpi .sgt c2_i32_101 c0_i32_104
  let v285 : BitVec 32 := Scalar.extui v284
  let c0_i32_105 : BitVec 32 := 0#32
  let v286 : BitVec 1 := Scalar.cmpi .slt c2_i32_101 c0_i32_105
  let v287 : BitVec 32 := Scalar.extui v286
  let v288 : BitVec 32 := Scalar.subi v285 v287
  let v289 : BitVec 1 := Scalar.cmpi .ne v283 v288
  let v290 : BitVec 32 := Scalar.remsi v21 c2_i32_101
  let c0_i32_106 : BitVec 32 := 0#32
  let v291 : BitVec 1 := Scalar.cmpi .ne v290 c0_i32_106
  let v292 : BitVec 1 := Scalar.andi v289 v291
  let v278 : BitVec 32 := Scalar.divsi v21 c2_i32_101
  let c1_i32_107 : BitVec 32 := 1#32
  let v293 : BitVec 32 := Scalar.subi v278 c1_i32_107
  let v294 : BitVec 32 := Scalar.select v292 v293 v278
  let v295 : BitVec 32 := Scalar.subi v294 c0_i32_109
  let c1_i32_110 : BitVec 32 := 1#32
  let v297 : BitVec 32 := Scalar.divsi v295 c1_i32_110
  let v298 : BitVec 32 := Scalar.muli v297 c1_i32_110
  let v299 : BitVec 32 := Scalar.addi c0_i32_109 v298
  let c1_i32_111 : BitVec 32 := 1#32
  ⟨c0_i32_109, v299, c1_i32_111⟩
def k0_mult1 (i : grid0.Coords) (k0_t1 : Fin (k0_t1_loop i).trips) : BitVec 32 :=
  let c2_i32_153 : BitVec 32 := 2#32
  let c0_i32_109 : BitVec 32 := 0#32
  let c1_i32_111 : BitVec 32 := 1#32
  let arg13 : BitVec 32 := Scf.iv c0_i32_109 c1_i32_111 k0_t1
  let v388 : BitVec 32 := Scalar.muli c2_i32_153 arg13
  let c512_i32_154 : BitVec 32 := 512#32
  let v389 : BitVec 32 := Scalar.muli v388 c512_i32_154
  v389
def k0_off1 (i : grid0.Coords) (k0_t1 : Fin (k0_t1_loop i).trips) : Fin 3 → Nat :=
  let c0_155 : Index := 0#32
  let c2_i32_153 : BitVec 32 := 2#32
  let c0_i32_109 : BitVec 32 := 0#32
  let c1_i32_111 : BitVec 32 := 1#32
  let arg13 : BitVec 32 := Scf.iv c0_i32_109 c1_i32_111 k0_t1
  let v388 : BitVec 32 := Scalar.muli c2_i32_153 arg13
  let c512_i32_154 : BitVec 32 := 512#32
  let v389 : BitVec 32 := Scalar.muli v388 c512_i32_154
  let v390 : BitVec 32 := v389
  let v391 : Index := Scalar.indexCast v390
  let c0_156 : Index := 0#32
  ![0, v391.toNat, 0]
def k0_off2 (i : grid0.Coords) (k0_t1 : Fin (k0_t1_loop i).trips) : Fin 5 → Nat :=
  let c0_157 : Index := 0#32
  let c0_158 : Index := 0#32
  let c2_i32_153 : BitVec 32 := 2#32
  let c0_i32_109 : BitVec 32 := 0#32
  let c1_i32_111 : BitVec 32 := 1#32
  let arg13 : BitVec 32 := Scf.iv c0_i32_109 c1_i32_111 k0_t1
  let v388 : BitVec 32 := Scalar.muli c2_i32_153 arg13
  let v394 : Index := Scalar.indexCast v388
  let c0_159 : Index := 0#32
  let c0_160 : Index := 0#32
  ![0, 0, v394.toNat, 0, 0]
def k0_mult2 (i : grid0.Coords) (k0_t1 : Fin (k0_t1_loop i).trips) : BitVec 32 :=
  let c2_i32_169 : BitVec 32 := 2#32
  let c0_i32_109 : BitVec 32 := 0#32
  let c1_i32_111 : BitVec 32 := 1#32
  let arg13 : BitVec 32 := Scf.iv c0_i32_109 c1_i32_111 k0_t1
  let v409 : BitVec 32 := Scalar.muli c2_i32_169 arg13
  let c1_i32_170 : BitVec 32 := 1#32
  let v410 : BitVec 32 := Scalar.addi v409 c1_i32_170
  let c512_i32_171 : BitVec 32 := 512#32
  let v411 : BitVec 32 := Scalar.muli v410 c512_i32_171
  v411
def k0_off3 (i : grid0.Coords) (k0_t1 : Fin (k0_t1_loop i).trips) : Fin 3 → Nat :=
  let c0_172 : Index := 0#32
  let c2_i32_169 : BitVec 32 := 2#32
  let c0_i32_109 : BitVec 32 := 0#32
  let c1_i32_111 : BitVec 32 := 1#32
  let arg13 : BitVec 32 := Scf.iv c0_i32_109 c1_i32_111 k0_t1
  let v409 : BitVec 32 := Scalar.muli c2_i32_169 arg13
  let c1_i32_170 : BitVec 32 := 1#32
  let v410 : BitVec 32 := Scalar.addi v409 c1_i32_170
  let c512_i32_171 : BitVec 32 := 512#32
  let v411 : BitVec 32 := Scalar.muli v410 c512_i32_171
  let v412 : BitVec 32 := v411
  let v413 : Index := Scalar.indexCast v412
  let c0_173 : Index := 0#32
  ![0, v413.toNat, 0]
def k0_off4 (i : grid0.Coords) (k0_t1 : Fin (k0_t1_loop i).trips) : Fin 5 → Nat :=
  let c0_174 : Index := 0#32
  let c0_175 : Index := 0#32
  let c2_i32_169 : BitVec 32 := 2#32
  let c0_i32_109 : BitVec 32 := 0#32
  let c1_i32_111 : BitVec 32 := 1#32
  let arg13 : BitVec 32 := Scf.iv c0_i32_109 c1_i32_111 k0_t1
  let v409 : BitVec 32 := Scalar.muli c2_i32_169 arg13
  let c1_i32_170 : BitVec 32 := 1#32
  let v410 : BitVec 32 := Scalar.addi v409 c1_i32_170
  let v416 : Index := Scalar.indexCast v410
  let c0_176 : Index := 0#32
  let c0_177 : Index := 0#32
  ![0, 0, v416.toNat, 0, 0]
@[reducible] def k0_t2_loop (i : grid0.Coords) : Scf.Loop 32 :=
  let c0_i32_109 : BitVec 32 := 0#32
  let arg2 : BitVec 32 := BitVec.ofNat 32 (i 2).val
  let c2048_i32_0 : BitVec 32 := 2048#32
  let v4 : BitVec 32 := Scalar.muli arg2 c2048_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c512_i32 : BitVec 32 := 512#32
  let c0_i32_2 : BitVec 32 := 0#32
  let v11 : BitVec 1 := Scalar.cmpi .sgt c512_i32 c0_i32_2
  let v12 : BitVec 32 := Scalar.extui v11
  let c0_i32_3 : BitVec 32 := 0#32
  let v13 : BitVec 1 := Scalar.cmpi .slt c512_i32 c0_i32_3
  let v14 : BitVec 32 := Scalar.extui v13
  let v15 : BitVec 32 := Scalar.subi v12 v14
  let v16 : BitVec 1 := Scalar.cmpi .ne v10 v15
  let v17 : BitVec 32 := Scalar.remsi v4 c512_i32
  let c0_i32_4 : BitVec 32 := 0#32
  let v18 : BitVec 1 := Scalar.cmpi .ne v17 c0_i32_4
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c0_i32_102 : BitVec 32 := 0#32
  let v279 : BitVec 1 := Scalar.cmpi .sgt v21 c0_i32_102
  let v280 : BitVec 32 := Scalar.extui v279
  let c0_i32_103 : BitVec 32 := 0#32
  let v281 : BitVec 1 := Scalar.cmpi .slt v21 c0_i32_103
  let v282 : BitVec 32 := Scalar.extui v281
  let v283 : BitVec 32 := Scalar.subi v280 v282
  let c2_i32_101 : BitVec 32 := 2#32
  let c0_i32_104 : BitVec 32 := 0#32
  let v284 : BitVec 1 := Scalar.cmpi .sgt c2_i32_101 c0_i32_104
  let v285 : BitVec 32 := Scalar.extui v284
  let c0_i32_105 : BitVec 32 := 0#32
  let v286 : BitVec 1 := Scalar.cmpi .slt c2_i32_101 c0_i32_105
  let v287 : BitVec 32 := Scalar.extui v286
  let v288 : BitVec 32 := Scalar.subi v285 v287
  let v289 : BitVec 1 := Scalar.cmpi .ne v283 v288
  let v290 : BitVec 32 := Scalar.remsi v21 c2_i32_101
  let c0_i32_106 : BitVec 32 := 0#32
  let v291 : BitVec 1 := Scalar.cmpi .ne v290 c0_i32_106
  let v292 : BitVec 1 := Scalar.andi v289 v291
  let v278 : BitVec 32 := Scalar.divsi v21 c2_i32_101
  let c1_i32_107 : BitVec 32 := 1#32
  let v293 : BitVec 32 := Scalar.subi v278 c1_i32_107
  let v294 : BitVec 32 := Scalar.select v292 v293 v278
  let v295 : BitVec 32 := Scalar.subi v294 c0_i32_109
  let c1_i32_110 : BitVec 32 := 1#32
  let v297 : BitVec 32 := Scalar.divsi v295 c1_i32_110
  let v298 : BitVec 32 := Scalar.muli v297 c1_i32_110
  let v299 : BitVec 32 := Scalar.addi c0_i32_109 v298
  let v296 : BitVec 32 := Scalar.addi c0_i32_109 v295
  let c1_i32_112 : BitVec 32 := 1#32
  ⟨v299, v296, c1_i32_112⟩
def k0_mult3 (i : grid0.Coords) (k0_t2 : Fin (k0_t2_loop i).trips) : BitVec 32 :=
  let c2_i32_153 : BitVec 32 := 2#32
  let c0_i32_109 : BitVec 32 := 0#32
  let arg2 : BitVec 32 := BitVec.ofNat 32 (i 2).val
  let c2048_i32_0 : BitVec 32 := 2048#32
  let v4 : BitVec 32 := Scalar.muli arg2 c2048_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c512_i32 : BitVec 32 := 512#32
  let c0_i32_2 : BitVec 32 := 0#32
  let v11 : BitVec 1 := Scalar.cmpi .sgt c512_i32 c0_i32_2
  let v12 : BitVec 32 := Scalar.extui v11
  let c0_i32_3 : BitVec 32 := 0#32
  let v13 : BitVec 1 := Scalar.cmpi .slt c512_i32 c0_i32_3
  let v14 : BitVec 32 := Scalar.extui v13
  let v15 : BitVec 32 := Scalar.subi v12 v14
  let v16 : BitVec 1 := Scalar.cmpi .ne v10 v15
  let v17 : BitVec 32 := Scalar.remsi v4 c512_i32
  let c0_i32_4 : BitVec 32 := 0#32
  let v18 : BitVec 1 := Scalar.cmpi .ne v17 c0_i32_4
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c0_i32_102 : BitVec 32 := 0#32
  let v279 : BitVec 1 := Scalar.cmpi .sgt v21 c0_i32_102
  let v280 : BitVec 32 := Scalar.extui v279
  let c0_i32_103 : BitVec 32 := 0#32
  let v281 : BitVec 1 := Scalar.cmpi .slt v21 c0_i32_103
  let v282 : BitVec 32 := Scalar.extui v281
  let v283 : BitVec 32 := Scalar.subi v280 v282
  let c2_i32_101 : BitVec 32 := 2#32
  let c0_i32_104 : BitVec 32 := 0#32
  let v284 : BitVec 1 := Scalar.cmpi .sgt c2_i32_101 c0_i32_104
  let v285 : BitVec 32 := Scalar.extui v284
  let c0_i32_105 : BitVec 32 := 0#32
  let v286 : BitVec 1 := Scalar.cmpi .slt c2_i32_101 c0_i32_105
  let v287 : BitVec 32 := Scalar.extui v286
  let v288 : BitVec 32 := Scalar.subi v285 v287
  let v289 : BitVec 1 := Scalar.cmpi .ne v283 v288
  let v290 : BitVec 32 := Scalar.remsi v21 c2_i32_101
  let c0_i32_106 : BitVec 32 := 0#32
  let v291 : BitVec 1 := Scalar.cmpi .ne v290 c0_i32_106
  let v292 : BitVec 1 := Scalar.andi v289 v291
  let v278 : BitVec 32 := Scalar.divsi v21 c2_i32_101
  let c1_i32_107 : BitVec 32 := 1#32
  let v293 : BitVec 32 := Scalar.subi v278 c1_i32_107
  let v294 : BitVec 32 := Scalar.select v292 v293 v278
  let v295 : BitVec 32 := Scalar.subi v294 c0_i32_109
  let c1_i32_110 : BitVec 32 := 1#32
  let v297 : BitVec 32 := Scalar.divsi v295 c1_i32_110
  let v298 : BitVec 32 := Scalar.muli v297 c1_i32_110
  let v299 : BitVec 32 := Scalar.addi c0_i32_109 v298
  let c1_i32_112 : BitVec 32 := 1#32
  let arg13 : BitVec 32 := Scf.iv v299 c1_i32_112 k0_t2
  let v388 : BitVec 32 := Scalar.muli c2_i32_153 arg13
  let c512_i32_154 : BitVec 32 := 512#32
  let v389 : BitVec 32 := Scalar.muli v388 c512_i32_154
  v389
def k0_off5 (i : grid0.Coords) (k0_t2 : Fin (k0_t2_loop i).trips) : Fin 3 → Nat :=
  let c0_155 : Index := 0#32
  let c2_i32_153 : BitVec 32 := 2#32
  let c0_i32_109 : BitVec 32 := 0#32
  let arg2 : BitVec 32 := BitVec.ofNat 32 (i 2).val
  let c2048_i32_0 : BitVec 32 := 2048#32
  let v4 : BitVec 32 := Scalar.muli arg2 c2048_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c512_i32 : BitVec 32 := 512#32
  let c0_i32_2 : BitVec 32 := 0#32
  let v11 : BitVec 1 := Scalar.cmpi .sgt c512_i32 c0_i32_2
  let v12 : BitVec 32 := Scalar.extui v11
  let c0_i32_3 : BitVec 32 := 0#32
  let v13 : BitVec 1 := Scalar.cmpi .slt c512_i32 c0_i32_3
  let v14 : BitVec 32 := Scalar.extui v13
  let v15 : BitVec 32 := Scalar.subi v12 v14
  let v16 : BitVec 1 := Scalar.cmpi .ne v10 v15
  let v17 : BitVec 32 := Scalar.remsi v4 c512_i32
  let c0_i32_4 : BitVec 32 := 0#32
  let v18 : BitVec 1 := Scalar.cmpi .ne v17 c0_i32_4
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c0_i32_102 : BitVec 32 := 0#32
  let v279 : BitVec 1 := Scalar.cmpi .sgt v21 c0_i32_102
  let v280 : BitVec 32 := Scalar.extui v279
  let c0_i32_103 : BitVec 32 := 0#32
  let v281 : BitVec 1 := Scalar.cmpi .slt v21 c0_i32_103
  let v282 : BitVec 32 := Scalar.extui v281
  let v283 : BitVec 32 := Scalar.subi v280 v282
  let c2_i32_101 : BitVec 32 := 2#32
  let c0_i32_104 : BitVec 32 := 0#32
  let v284 : BitVec 1 := Scalar.cmpi .sgt c2_i32_101 c0_i32_104
  let v285 : BitVec 32 := Scalar.extui v284
  let c0_i32_105 : BitVec 32 := 0#32
  let v286 : BitVec 1 := Scalar.cmpi .slt c2_i32_101 c0_i32_105
  let v287 : BitVec 32 := Scalar.extui v286
  let v288 : BitVec 32 := Scalar.subi v285 v287
  let v289 : BitVec 1 := Scalar.cmpi .ne v283 v288
  let v290 : BitVec 32 := Scalar.remsi v21 c2_i32_101
  let c0_i32_106 : BitVec 32 := 0#32
  let v291 : BitVec 1 := Scalar.cmpi .ne v290 c0_i32_106
  let v292 : BitVec 1 := Scalar.andi v289 v291
  let v278 : BitVec 32 := Scalar.divsi v21 c2_i32_101
  let c1_i32_107 : BitVec 32 := 1#32
  let v293 : BitVec 32 := Scalar.subi v278 c1_i32_107
  let v294 : BitVec 32 := Scalar.select v292 v293 v278
  let v295 : BitVec 32 := Scalar.subi v294 c0_i32_109
  let c1_i32_110 : BitVec 32 := 1#32
  let v297 : BitVec 32 := Scalar.divsi v295 c1_i32_110
  let v298 : BitVec 32 := Scalar.muli v297 c1_i32_110
  let v299 : BitVec 32 := Scalar.addi c0_i32_109 v298
  let c1_i32_112 : BitVec 32 := 1#32
  let arg13 : BitVec 32 := Scf.iv v299 c1_i32_112 k0_t2
  let v388 : BitVec 32 := Scalar.muli c2_i32_153 arg13
  let c512_i32_154 : BitVec 32 := 512#32
  let v389 : BitVec 32 := Scalar.muli v388 c512_i32_154
  let v390 : BitVec 32 := v389
  let v391 : Index := Scalar.indexCast v390
  let c0_156 : Index := 0#32
  ![0, v391.toNat, 0]
def k0_off6 (i : grid0.Coords) (k0_t2 : Fin (k0_t2_loop i).trips) : Fin 5 → Nat :=
  let c0_157 : Index := 0#32
  let c0_158 : Index := 0#32
  let c2_i32_153 : BitVec 32 := 2#32
  let c0_i32_109 : BitVec 32 := 0#32
  let arg2 : BitVec 32 := BitVec.ofNat 32 (i 2).val
  let c2048_i32_0 : BitVec 32 := 2048#32
  let v4 : BitVec 32 := Scalar.muli arg2 c2048_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c512_i32 : BitVec 32 := 512#32
  let c0_i32_2 : BitVec 32 := 0#32
  let v11 : BitVec 1 := Scalar.cmpi .sgt c512_i32 c0_i32_2
  let v12 : BitVec 32 := Scalar.extui v11
  let c0_i32_3 : BitVec 32 := 0#32
  let v13 : BitVec 1 := Scalar.cmpi .slt c512_i32 c0_i32_3
  let v14 : BitVec 32 := Scalar.extui v13
  let v15 : BitVec 32 := Scalar.subi v12 v14
  let v16 : BitVec 1 := Scalar.cmpi .ne v10 v15
  let v17 : BitVec 32 := Scalar.remsi v4 c512_i32
  let c0_i32_4 : BitVec 32 := 0#32
  let v18 : BitVec 1 := Scalar.cmpi .ne v17 c0_i32_4
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c0_i32_102 : BitVec 32 := 0#32
  let v279 : BitVec 1 := Scalar.cmpi .sgt v21 c0_i32_102
  let v280 : BitVec 32 := Scalar.extui v279
  let c0_i32_103 : BitVec 32 := 0#32
  let v281 : BitVec 1 := Scalar.cmpi .slt v21 c0_i32_103
  let v282 : BitVec 32 := Scalar.extui v281
  let v283 : BitVec 32 := Scalar.subi v280 v282
  let c2_i32_101 : BitVec 32 := 2#32
  let c0_i32_104 : BitVec 32 := 0#32
  let v284 : BitVec 1 := Scalar.cmpi .sgt c2_i32_101 c0_i32_104
  let v285 : BitVec 32 := Scalar.extui v284
  let c0_i32_105 : BitVec 32 := 0#32
  let v286 : BitVec 1 := Scalar.cmpi .slt c2_i32_101 c0_i32_105
  let v287 : BitVec 32 := Scalar.extui v286
  let v288 : BitVec 32 := Scalar.subi v285 v287
  let v289 : BitVec 1 := Scalar.cmpi .ne v283 v288
  let v290 : BitVec 32 := Scalar.remsi v21 c2_i32_101
  let c0_i32_106 : BitVec 32 := 0#32
  let v291 : BitVec 1 := Scalar.cmpi .ne v290 c0_i32_106
  let v292 : BitVec 1 := Scalar.andi v289 v291
  let v278 : BitVec 32 := Scalar.divsi v21 c2_i32_101
  let c1_i32_107 : BitVec 32 := 1#32
  let v293 : BitVec 32 := Scalar.subi v278 c1_i32_107
  let v294 : BitVec 32 := Scalar.select v292 v293 v278
  let v295 : BitVec 32 := Scalar.subi v294 c0_i32_109
  let c1_i32_110 : BitVec 32 := 1#32
  let v297 : BitVec 32 := Scalar.divsi v295 c1_i32_110
  let v298 : BitVec 32 := Scalar.muli v297 c1_i32_110
  let v299 : BitVec 32 := Scalar.addi c0_i32_109 v298
  let c1_i32_112 : BitVec 32 := 1#32
  let arg13 : BitVec 32 := Scf.iv v299 c1_i32_112 k0_t2
  let v388 : BitVec 32 := Scalar.muli c2_i32_153 arg13
  let v394 : Index := Scalar.indexCast v388
  let c0_159 : Index := 0#32
  let c0_160 : Index := 0#32
  ![0, 0, v394.toNat, 0, 0]
def k0_mult4 (i : grid0.Coords) (k0_t2 : Fin (k0_t2_loop i).trips) : BitVec 32 :=
  let c2_i32_169 : BitVec 32 := 2#32
  let c0_i32_109 : BitVec 32 := 0#32
  let arg2 : BitVec 32 := BitVec.ofNat 32 (i 2).val
  let c2048_i32_0 : BitVec 32 := 2048#32
  let v4 : BitVec 32 := Scalar.muli arg2 c2048_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c512_i32 : BitVec 32 := 512#32
  let c0_i32_2 : BitVec 32 := 0#32
  let v11 : BitVec 1 := Scalar.cmpi .sgt c512_i32 c0_i32_2
  let v12 : BitVec 32 := Scalar.extui v11
  let c0_i32_3 : BitVec 32 := 0#32
  let v13 : BitVec 1 := Scalar.cmpi .slt c512_i32 c0_i32_3
  let v14 : BitVec 32 := Scalar.extui v13
  let v15 : BitVec 32 := Scalar.subi v12 v14
  let v16 : BitVec 1 := Scalar.cmpi .ne v10 v15
  let v17 : BitVec 32 := Scalar.remsi v4 c512_i32
  let c0_i32_4 : BitVec 32 := 0#32
  let v18 : BitVec 1 := Scalar.cmpi .ne v17 c0_i32_4
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c0_i32_102 : BitVec 32 := 0#32
  let v279 : BitVec 1 := Scalar.cmpi .sgt v21 c0_i32_102
  let v280 : BitVec 32 := Scalar.extui v279
  let c0_i32_103 : BitVec 32 := 0#32
  let v281 : BitVec 1 := Scalar.cmpi .slt v21 c0_i32_103
  let v282 : BitVec 32 := Scalar.extui v281
  let v283 : BitVec 32 := Scalar.subi v280 v282
  let c2_i32_101 : BitVec 32 := 2#32
  let c0_i32_104 : BitVec 32 := 0#32
  let v284 : BitVec 1 := Scalar.cmpi .sgt c2_i32_101 c0_i32_104
  let v285 : BitVec 32 := Scalar.extui v284
  let c0_i32_105 : BitVec 32 := 0#32
  let v286 : BitVec 1 := Scalar.cmpi .slt c2_i32_101 c0_i32_105
  let v287 : BitVec 32 := Scalar.extui v286
  let v288 : BitVec 32 := Scalar.subi v285 v287
  let v289 : BitVec 1 := Scalar.cmpi .ne v283 v288
  let v290 : BitVec 32 := Scalar.remsi v21 c2_i32_101
  let c0_i32_106 : BitVec 32 := 0#32
  let v291 : BitVec 1 := Scalar.cmpi .ne v290 c0_i32_106
  let v292 : BitVec 1 := Scalar.andi v289 v291
  let v278 : BitVec 32 := Scalar.divsi v21 c2_i32_101
  let c1_i32_107 : BitVec 32 := 1#32
  let v293 : BitVec 32 := Scalar.subi v278 c1_i32_107
  let v294 : BitVec 32 := Scalar.select v292 v293 v278
  let v295 : BitVec 32 := Scalar.subi v294 c0_i32_109
  let c1_i32_110 : BitVec 32 := 1#32
  let v297 : BitVec 32 := Scalar.divsi v295 c1_i32_110
  let v298 : BitVec 32 := Scalar.muli v297 c1_i32_110
  let v299 : BitVec 32 := Scalar.addi c0_i32_109 v298
  let c1_i32_112 : BitVec 32 := 1#32
  let arg13 : BitVec 32 := Scf.iv v299 c1_i32_112 k0_t2
  let v409 : BitVec 32 := Scalar.muli c2_i32_169 arg13
  let c1_i32_170 : BitVec 32 := 1#32
  let v410 : BitVec 32 := Scalar.addi v409 c1_i32_170
  let c512_i32_171 : BitVec 32 := 512#32
  let v411 : BitVec 32 := Scalar.muli v410 c512_i32_171
  v411
def k0_off7 (i : grid0.Coords) (k0_t2 : Fin (k0_t2_loop i).trips) : Fin 3 → Nat :=
  let c0_172 : Index := 0#32
  let c2_i32_169 : BitVec 32 := 2#32
  let c0_i32_109 : BitVec 32 := 0#32
  let arg2 : BitVec 32 := BitVec.ofNat 32 (i 2).val
  let c2048_i32_0 : BitVec 32 := 2048#32
  let v4 : BitVec 32 := Scalar.muli arg2 c2048_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c512_i32 : BitVec 32 := 512#32
  let c0_i32_2 : BitVec 32 := 0#32
  let v11 : BitVec 1 := Scalar.cmpi .sgt c512_i32 c0_i32_2
  let v12 : BitVec 32 := Scalar.extui v11
  let c0_i32_3 : BitVec 32 := 0#32
  let v13 : BitVec 1 := Scalar.cmpi .slt c512_i32 c0_i32_3
  let v14 : BitVec 32 := Scalar.extui v13
  let v15 : BitVec 32 := Scalar.subi v12 v14
  let v16 : BitVec 1 := Scalar.cmpi .ne v10 v15
  let v17 : BitVec 32 := Scalar.remsi v4 c512_i32
  let c0_i32_4 : BitVec 32 := 0#32
  let v18 : BitVec 1 := Scalar.cmpi .ne v17 c0_i32_4
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c0_i32_102 : BitVec 32 := 0#32
  let v279 : BitVec 1 := Scalar.cmpi .sgt v21 c0_i32_102
  let v280 : BitVec 32 := Scalar.extui v279
  let c0_i32_103 : BitVec 32 := 0#32
  let v281 : BitVec 1 := Scalar.cmpi .slt v21 c0_i32_103
  let v282 : BitVec 32 := Scalar.extui v281
  let v283 : BitVec 32 := Scalar.subi v280 v282
  let c2_i32_101 : BitVec 32 := 2#32
  let c0_i32_104 : BitVec 32 := 0#32
  let v284 : BitVec 1 := Scalar.cmpi .sgt c2_i32_101 c0_i32_104
  let v285 : BitVec 32 := Scalar.extui v284
  let c0_i32_105 : BitVec 32 := 0#32
  let v286 : BitVec 1 := Scalar.cmpi .slt c2_i32_101 c0_i32_105
  let v287 : BitVec 32 := Scalar.extui v286
  let v288 : BitVec 32 := Scalar.subi v285 v287
  let v289 : BitVec 1 := Scalar.cmpi .ne v283 v288
  let v290 : BitVec 32 := Scalar.remsi v21 c2_i32_101
  let c0_i32_106 : BitVec 32 := 0#32
  let v291 : BitVec 1 := Scalar.cmpi .ne v290 c0_i32_106
  let v292 : BitVec 1 := Scalar.andi v289 v291
  let v278 : BitVec 32 := Scalar.divsi v21 c2_i32_101
  let c1_i32_107 : BitVec 32 := 1#32
  let v293 : BitVec 32 := Scalar.subi v278 c1_i32_107
  let v294 : BitVec 32 := Scalar.select v292 v293 v278
  let v295 : BitVec 32 := Scalar.subi v294 c0_i32_109
  let c1_i32_110 : BitVec 32 := 1#32
  let v297 : BitVec 32 := Scalar.divsi v295 c1_i32_110
  let v298 : BitVec 32 := Scalar.muli v297 c1_i32_110
  let v299 : BitVec 32 := Scalar.addi c0_i32_109 v298
  let c1_i32_112 : BitVec 32 := 1#32
  let arg13 : BitVec 32 := Scf.iv v299 c1_i32_112 k0_t2
  let v409 : BitVec 32 := Scalar.muli c2_i32_169 arg13
  let c1_i32_170 : BitVec 32 := 1#32
  let v410 : BitVec 32 := Scalar.addi v409 c1_i32_170
  let c512_i32_171 : BitVec 32 := 512#32
  let v411 : BitVec 32 := Scalar.muli v410 c512_i32_171
  let v412 : BitVec 32 := v411
  let v413 : Index := Scalar.indexCast v412
  let c0_173 : Index := 0#32
  ![0, v413.toNat, 0]
def k0_off8 (i : grid0.Coords) (k0_t2 : Fin (k0_t2_loop i).trips) : Fin 5 → Nat :=
  let c0_174 : Index := 0#32
  let c0_175 : Index := 0#32
  let c2_i32_169 : BitVec 32 := 2#32
  let c0_i32_109 : BitVec 32 := 0#32
  let arg2 : BitVec 32 := BitVec.ofNat 32 (i 2).val
  let c2048_i32_0 : BitVec 32 := 2048#32
  let v4 : BitVec 32 := Scalar.muli arg2 c2048_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c512_i32 : BitVec 32 := 512#32
  let c0_i32_2 : BitVec 32 := 0#32
  let v11 : BitVec 1 := Scalar.cmpi .sgt c512_i32 c0_i32_2
  let v12 : BitVec 32 := Scalar.extui v11
  let c0_i32_3 : BitVec 32 := 0#32
  let v13 : BitVec 1 := Scalar.cmpi .slt c512_i32 c0_i32_3
  let v14 : BitVec 32 := Scalar.extui v13
  let v15 : BitVec 32 := Scalar.subi v12 v14
  let v16 : BitVec 1 := Scalar.cmpi .ne v10 v15
  let v17 : BitVec 32 := Scalar.remsi v4 c512_i32
  let c0_i32_4 : BitVec 32 := 0#32
  let v18 : BitVec 1 := Scalar.cmpi .ne v17 c0_i32_4
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c0_i32_102 : BitVec 32 := 0#32
  let v279 : BitVec 1 := Scalar.cmpi .sgt v21 c0_i32_102
  let v280 : BitVec 32 := Scalar.extui v279
  let c0_i32_103 : BitVec 32 := 0#32
  let v281 : BitVec 1 := Scalar.cmpi .slt v21 c0_i32_103
  let v282 : BitVec 32 := Scalar.extui v281
  let v283 : BitVec 32 := Scalar.subi v280 v282
  let c2_i32_101 : BitVec 32 := 2#32
  let c0_i32_104 : BitVec 32 := 0#32
  let v284 : BitVec 1 := Scalar.cmpi .sgt c2_i32_101 c0_i32_104
  let v285 : BitVec 32 := Scalar.extui v284
  let c0_i32_105 : BitVec 32 := 0#32
  let v286 : BitVec 1 := Scalar.cmpi .slt c2_i32_101 c0_i32_105
  let v287 : BitVec 32 := Scalar.extui v286
  let v288 : BitVec 32 := Scalar.subi v285 v287
  let v289 : BitVec 1 := Scalar.cmpi .ne v283 v288
  let v290 : BitVec 32 := Scalar.remsi v21 c2_i32_101
  let c0_i32_106 : BitVec 32 := 0#32
  let v291 : BitVec 1 := Scalar.cmpi .ne v290 c0_i32_106
  let v292 : BitVec 1 := Scalar.andi v289 v291
  let v278 : BitVec 32 := Scalar.divsi v21 c2_i32_101
  let c1_i32_107 : BitVec 32 := 1#32
  let v293 : BitVec 32 := Scalar.subi v278 c1_i32_107
  let v294 : BitVec 32 := Scalar.select v292 v293 v278
  let v295 : BitVec 32 := Scalar.subi v294 c0_i32_109
  let c1_i32_110 : BitVec 32 := 1#32
  let v297 : BitVec 32 := Scalar.divsi v295 c1_i32_110
  let v298 : BitVec 32 := Scalar.muli v297 c1_i32_110
  let v299 : BitVec 32 := Scalar.addi c0_i32_109 v298
  let c1_i32_112 : BitVec 32 := 1#32
  let arg13 : BitVec 32 := Scf.iv v299 c1_i32_112 k0_t2
  let v409 : BitVec 32 := Scalar.muli c2_i32_169 arg13
  let c1_i32_170 : BitVec 32 := 1#32
  let v410 : BitVec 32 := Scalar.addi v409 c1_i32_170
  let v416 : Index := Scalar.indexCast v410
  let c0_176 : Index := 0#32
  let c0_177 : Index := 0#32
  ![0, 0, v416.toNat, 0, 0]
def k0_cond1 (i : grid0.Coords) : BitVec 1 :=
  let arg2 : BitVec 32 := BitVec.ofNat 32 (i 2).val
  let c2048_i32_0 : BitVec 32 := 2048#32
  let v4 : BitVec 32 := Scalar.muli arg2 c2048_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c512_i32 : BitVec 32 := 512#32
  let c0_i32_2 : BitVec 32 := 0#32
  let v11 : BitVec 1 := Scalar.cmpi .sgt c512_i32 c0_i32_2
  let v12 : BitVec 32 := Scalar.extui v11
  let c0_i32_3 : BitVec 32 := 0#32
  let v13 : BitVec 1 := Scalar.cmpi .slt c512_i32 c0_i32_3
  let v14 : BitVec 32 := Scalar.extui v13
  let v15 : BitVec 32 := Scalar.subi v12 v14
  let v16 : BitVec 1 := Scalar.cmpi .ne v10 v15
  let v17 : BitVec 32 := Scalar.remsi v4 c512_i32
  let c0_i32_4 : BitVec 32 := 0#32
  let v18 : BitVec 1 := Scalar.cmpi .ne v17 c0_i32_4
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c2_i32_113 : BitVec 32 := 2#32
  let c0_i32_114 : BitVec 32 := 0#32
  let v300 : BitVec 1 := Scalar.cmpi .eq c2_i32_113 c0_i32_114
  let c1_i32_115 : BitVec 32 := 1#32
  let v301 : BitVec 32 := Scalar.select v300 c1_i32_115 c2_i32_113
  let v302 : BitVec 32 := Scalar.remsi v21 v301
  let c0_i32_117 : BitVec 32 := 0#32
  let v304 : BitVec 1 := Scalar.cmpi .slt v302 c0_i32_117
  let c0_i32_118 : BitVec 32 := 0#32
  let v305 : BitVec 1 := Scalar.cmpi .slt v301 c0_i32_118
  let v306 : BitVec 1 := Scalar.xori v304 v305
  let c0_i32_116 : BitVec 32 := 0#32
  let v303 : BitVec 1 := Scalar.cmpi .ne v302 c0_i32_116
  let v307 : BitVec 1 := Scalar.andi v306 v303
  let v308 : BitVec 32 := Scalar.addi v302 v301
  let v309 : BitVec 32 := Scalar.select v307 v308 v302
  let c1_i32_119 : BitVec 32 := 1#32
  let v310 : BitVec 1 := Scalar.cmpi .eq v309 c1_i32_119
  let v311 : BitVec 32 := Scalar.extui v310
  let c0_i32_120 : BitVec 32 := 0#32
  let v312 : BitVec 1 := Scalar.cmpi .ne v311 c0_i32_120
  v312

def k0_mult5 (i : grid0.Coords) : BitVec 32 :=
  let arg2 : BitVec 32 := BitVec.ofNat 32 (i 2).val
  let c2048_i32_0 : BitVec 32 := 2048#32
  let v4 : BitVec 32 := Scalar.muli arg2 c2048_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c512_i32 : BitVec 32 := 512#32
  let c0_i32_2 : BitVec 32 := 0#32
  let v11 : BitVec 1 := Scalar.cmpi .sgt c512_i32 c0_i32_2
  let v12 : BitVec 32 := Scalar.extui v11
  let c0_i32_3 : BitVec 32 := 0#32
  let v13 : BitVec 1 := Scalar.cmpi .slt c512_i32 c0_i32_3
  let v14 : BitVec 32 := Scalar.extui v13
  let v15 : BitVec 32 := Scalar.subi v12 v14
  let v16 : BitVec 1 := Scalar.cmpi .ne v10 v15
  let v17 : BitVec 32 := Scalar.remsi v4 c512_i32
  let c0_i32_4 : BitVec 32 := 0#32
  let v18 : BitVec 1 := Scalar.cmpi .ne v17 c0_i32_4
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c1_i32_153 : BitVec 32 := 1#32
  let v388 : BitVec 32 := Scalar.subi v21 c1_i32_153
  let c512_i32_154 : BitVec 32 := 512#32
  let v389 : BitVec 32 := Scalar.muli v388 c512_i32_154
  v389
def k0_off9 (i : grid0.Coords) : Fin 3 → Nat :=
  let c0_155 : Index := 0#32
  let arg2 : BitVec 32 := BitVec.ofNat 32 (i 2).val
  let c2048_i32_0 : BitVec 32 := 2048#32
  let v4 : BitVec 32 := Scalar.muli arg2 c2048_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c512_i32 : BitVec 32 := 512#32
  let c0_i32_2 : BitVec 32 := 0#32
  let v11 : BitVec 1 := Scalar.cmpi .sgt c512_i32 c0_i32_2
  let v12 : BitVec 32 := Scalar.extui v11
  let c0_i32_3 : BitVec 32 := 0#32
  let v13 : BitVec 1 := Scalar.cmpi .slt c512_i32 c0_i32_3
  let v14 : BitVec 32 := Scalar.extui v13
  let v15 : BitVec 32 := Scalar.subi v12 v14
  let v16 : BitVec 1 := Scalar.cmpi .ne v10 v15
  let v17 : BitVec 32 := Scalar.remsi v4 c512_i32
  let c0_i32_4 : BitVec 32 := 0#32
  let v18 : BitVec 1 := Scalar.cmpi .ne v17 c0_i32_4
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c1_i32_153 : BitVec 32 := 1#32
  let v388 : BitVec 32 := Scalar.subi v21 c1_i32_153
  let c512_i32_154 : BitVec 32 := 512#32
  let v389 : BitVec 32 := Scalar.muli v388 c512_i32_154
  let v390 : BitVec 32 := v389
  let v391 : Index := Scalar.indexCast v390
  let c0_156 : Index := 0#32
  ![0, v391.toNat, 0]
def k0_off10 (i : grid0.Coords) : Fin 5 → Nat :=
  let c0_157 : Index := 0#32
  let c0_158 : Index := 0#32
  let arg2 : BitVec 32 := BitVec.ofNat 32 (i 2).val
  let c2048_i32_0 : BitVec 32 := 2048#32
  let v4 : BitVec 32 := Scalar.muli arg2 c2048_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c512_i32 : BitVec 32 := 512#32
  let c0_i32_2 : BitVec 32 := 0#32
  let v11 : BitVec 1 := Scalar.cmpi .sgt c512_i32 c0_i32_2
  let v12 : BitVec 32 := Scalar.extui v11
  let c0_i32_3 : BitVec 32 := 0#32
  let v13 : BitVec 1 := Scalar.cmpi .slt c512_i32 c0_i32_3
  let v14 : BitVec 32 := Scalar.extui v13
  let v15 : BitVec 32 := Scalar.subi v12 v14
  let v16 : BitVec 1 := Scalar.cmpi .ne v10 v15
  let v17 : BitVec 32 := Scalar.remsi v4 c512_i32
  let c0_i32_4 : BitVec 32 := 0#32
  let v18 : BitVec 1 := Scalar.cmpi .ne v17 c0_i32_4
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c1_i32_153 : BitVec 32 := 1#32
  let v388 : BitVec 32 := Scalar.subi v21 c1_i32_153
  let v394 : Index := Scalar.indexCast v388
  let c0_159 : Index := 0#32
  let c0_160 : Index := 0#32
  ![0, 0, v394.toNat, 0, 0]
def k0_mult6 (i : grid0.Coords) : BitVec 32 :=
  let arg2 : BitVec 32 := BitVec.ofNat 32 (i 2).val
  let c2048_i32_0 : BitVec 32 := 2048#32
  let v4 : BitVec 32 := Scalar.muli arg2 c2048_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c512_i32 : BitVec 32 := 512#32
  let c0_i32_2 : BitVec 32 := 0#32
  let v11 : BitVec 1 := Scalar.cmpi .sgt c512_i32 c0_i32_2
  let v12 : BitVec 32 := Scalar.extui v11
  let c0_i32_3 : BitVec 32 := 0#32
  let v13 : BitVec 1 := Scalar.cmpi .slt c512_i32 c0_i32_3
  let v14 : BitVec 32 := Scalar.extui v13
  let v15 : BitVec 32 := Scalar.subi v12 v14
  let v16 : BitVec 1 := Scalar.cmpi .ne v10 v15
  let v17 : BitVec 32 := Scalar.remsi v4 c512_i32
  let c0_i32_4 : BitVec 32 := 0#32
  let v18 : BitVec 1 := Scalar.cmpi .ne v17 c0_i32_4
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c512_i32_169 : BitVec 32 := 512#32
  let v409 : BitVec 32 := Scalar.muli v21 c512_i32_169
  v409
def k0_off11 (i : grid0.Coords) : Fin 3 → Nat :=
  let c0_170 : Index := 0#32
  let arg2 : BitVec 32 := BitVec.ofNat 32 (i 2).val
  let c2048_i32_0 : BitVec 32 := 2048#32
  let v4 : BitVec 32 := Scalar.muli arg2 c2048_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c512_i32 : BitVec 32 := 512#32
  let c0_i32_2 : BitVec 32 := 0#32
  let v11 : BitVec 1 := Scalar.cmpi .sgt c512_i32 c0_i32_2
  let v12 : BitVec 32 := Scalar.extui v11
  let c0_i32_3 : BitVec 32 := 0#32
  let v13 : BitVec 1 := Scalar.cmpi .slt c512_i32 c0_i32_3
  let v14 : BitVec 32 := Scalar.extui v13
  let v15 : BitVec 32 := Scalar.subi v12 v14
  let v16 : BitVec 1 := Scalar.cmpi .ne v10 v15
  let v17 : BitVec 32 := Scalar.remsi v4 c512_i32
  let c0_i32_4 : BitVec 32 := 0#32
  let v18 : BitVec 1 := Scalar.cmpi .ne v17 c0_i32_4
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c512_i32_169 : BitVec 32 := 512#32
  let v409 : BitVec 32 := Scalar.muli v21 c512_i32_169
  let v410 : BitVec 32 := v409
  let v411 : Index := Scalar.indexCast v410
  let c0_171 : Index := 0#32
  ![0, v411.toNat, 0]
def k0_off12 (i : grid0.Coords) : Fin 5 → Nat :=
  let c0_172 : Index := 0#32
  let c0_173 : Index := 0#32
  let arg2 : BitVec 32 := BitVec.ofNat 32 (i 2).val
  let c2048_i32_0 : BitVec 32 := 2048#32
  let v4 : BitVec 32 := Scalar.muli arg2 c2048_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c512_i32 : BitVec 32 := 512#32
  let c0_i32_2 : BitVec 32 := 0#32
  let v11 : BitVec 1 := Scalar.cmpi .sgt c512_i32 c0_i32_2
  let v12 : BitVec 32 := Scalar.extui v11
  let c0_i32_3 : BitVec 32 := 0#32
  let v13 : BitVec 1 := Scalar.cmpi .slt c512_i32 c0_i32_3
  let v14 : BitVec 32 := Scalar.extui v13
  let v15 : BitVec 32 := Scalar.subi v12 v14
  let v16 : BitVec 1 := Scalar.cmpi .ne v10 v15
  let v17 : BitVec 32 := Scalar.remsi v4 c512_i32
  let c0_i32_4 : BitVec 32 := 0#32
  let v18 : BitVec 1 := Scalar.cmpi .ne v17 c0_i32_4
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let v414 : Index := Scalar.indexCast v21
  let c0_174 : Index := 0#32
  let c0_175 : Index := 0#32
  ![0, 0, v414.toNat, 0, 0]
def k0_mult7 (i : grid0.Coords) : BitVec 32 :=
  let arg2 : BitVec 32 := BitVec.ofNat 32 (i 2).val
  let c2048_i32_0 : BitVec 32 := 2048#32
  let v4 : BitVec 32 := Scalar.muli arg2 c2048_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c512_i32 : BitVec 32 := 512#32
  let c0_i32_2 : BitVec 32 := 0#32
  let v11 : BitVec 1 := Scalar.cmpi .sgt c512_i32 c0_i32_2
  let v12 : BitVec 32 := Scalar.extui v11
  let c0_i32_3 : BitVec 32 := 0#32
  let v13 : BitVec 1 := Scalar.cmpi .slt c512_i32 c0_i32_3
  let v14 : BitVec 32 := Scalar.extui v13
  let v15 : BitVec 32 := Scalar.subi v12 v14
  let v16 : BitVec 1 := Scalar.cmpi .ne v10 v15
  let v17 : BitVec 32 := Scalar.remsi v4 c512_i32
  let c0_i32_4 : BitVec 32 := 0#32
  let v18 : BitVec 1 := Scalar.cmpi .ne v17 c0_i32_4
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c1_i32_200 : BitVec 32 := 1#32
  let v459 : BitVec 32 := Scalar.addi v21 c1_i32_200
  let c512_i32_201 : BitVec 32 := 512#32
  let v460 : BitVec 32 := Scalar.muli v459 c512_i32_201
  v460
def k0_off13 (i : grid0.Coords) (c1_i32_200 : BitVec 32) : Fin 3 → Nat :=
  let c0_202 : Index := 0#32
  let arg2 : BitVec 32 := BitVec.ofNat 32 (i 2).val
  let c2048_i32_0 : BitVec 32 := 2048#32
  let v4 : BitVec 32 := Scalar.muli arg2 c2048_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c512_i32 : BitVec 32 := 512#32
  let c0_i32_2 : BitVec 32 := 0#32
  let v11 : BitVec 1 := Scalar.cmpi .sgt c512_i32 c0_i32_2
  let v12 : BitVec 32 := Scalar.extui v11
  let c0_i32_3 : BitVec 32 := 0#32
  let v13 : BitVec 1 := Scalar.cmpi .slt c512_i32 c0_i32_3
  let v14 : BitVec 32 := Scalar.extui v13
  let v15 : BitVec 32 := Scalar.subi v12 v14
  let v16 : BitVec 1 := Scalar.cmpi .ne v10 v15
  let v17 : BitVec 32 := Scalar.remsi v4 c512_i32
  let c0_i32_4 : BitVec 32 := 0#32
  let v18 : BitVec 1 := Scalar.cmpi .ne v17 c0_i32_4
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let v459 : BitVec 32 := Scalar.addi v21 c1_i32_200
  let c512_i32_201 : BitVec 32 := 512#32
  let v460 : BitVec 32 := Scalar.muli v459 c512_i32_201
  let v461 : BitVec 32 := v460
  let v462 : Index := Scalar.indexCast v461
  let c0_203 : Index := 0#32
  ![0, v462.toNat, 0]
def k0_off14 (i : grid0.Coords) (c1_i32_200 : BitVec 32) : Fin 5 → Nat :=
  let c0_204 : Index := 0#32
  let c0_205 : Index := 0#32
  let arg2 : BitVec 32 := BitVec.ofNat 32 (i 2).val
  let c2048_i32_0 : BitVec 32 := 2048#32
  let v4 : BitVec 32 := Scalar.muli arg2 c2048_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c512_i32 : BitVec 32 := 512#32
  let c0_i32_2 : BitVec 32 := 0#32
  let v11 : BitVec 1 := Scalar.cmpi .sgt c512_i32 c0_i32_2
  let v12 : BitVec 32 := Scalar.extui v11
  let c0_i32_3 : BitVec 32 := 0#32
  let v13 : BitVec 1 := Scalar.cmpi .slt c512_i32 c0_i32_3
  let v14 : BitVec 32 := Scalar.extui v13
  let v15 : BitVec 32 := Scalar.subi v12 v14
  let v16 : BitVec 1 := Scalar.cmpi .ne v10 v15
  let v17 : BitVec 32 := Scalar.remsi v4 c512_i32
  let c0_i32_4 : BitVec 32 := 0#32
  let v18 : BitVec 1 := Scalar.cmpi .ne v17 c0_i32_4
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let v459 : BitVec 32 := Scalar.addi v21 c1_i32_200
  let v465 : Index := Scalar.indexCast v459
  let c0_206 : Index := 0#32
  let c0_207 : Index := 0#32
  ![0, 0, v465.toNat, 0, 0]
def k0_mult8 (i : grid0.Coords) : BitVec 32 :=
  let arg2 : BitVec 32 := BitVec.ofNat 32 (i 2).val
  let c2048_i32_0 : BitVec 32 := 2048#32
  let v4 : BitVec 32 := Scalar.muli arg2 c2048_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c512_i32 : BitVec 32 := 512#32
  let c0_i32_2 : BitVec 32 := 0#32
  let v11 : BitVec 1 := Scalar.cmpi .sgt c512_i32 c0_i32_2
  let v12 : BitVec 32 := Scalar.extui v11
  let c0_i32_3 : BitVec 32 := 0#32
  let v13 : BitVec 1 := Scalar.cmpi .slt c512_i32 c0_i32_3
  let v14 : BitVec 32 := Scalar.extui v13
  let v15 : BitVec 32 := Scalar.subi v12 v14
  let v16 : BitVec 1 := Scalar.cmpi .ne v10 v15
  let v17 : BitVec 32 := Scalar.remsi v4 c512_i32
  let c0_i32_4 : BitVec 32 := 0#32
  let v18 : BitVec 1 := Scalar.cmpi .ne v17 c0_i32_4
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c2_i32_231 : BitVec 32 := 2#32
  let v510 : BitVec 32 := Scalar.addi v21 c2_i32_231
  let c512_i32_232 : BitVec 32 := 512#32
  let v511 : BitVec 32 := Scalar.muli v510 c512_i32_232
  v511
def k0_mult9 (i : grid0.Coords) : BitVec 32 :=
  let arg2 : BitVec 32 := BitVec.ofNat 32 (i 2).val
  let c2048_i32_0 : BitVec 32 := 2048#32
  let v4 : BitVec 32 := Scalar.muli arg2 c2048_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c512_i32 : BitVec 32 := 512#32
  let c0_i32_2 : BitVec 32 := 0#32
  let v11 : BitVec 1 := Scalar.cmpi .sgt c512_i32 c0_i32_2
  let v12 : BitVec 32 := Scalar.extui v11
  let c0_i32_3 : BitVec 32 := 0#32
  let v13 : BitVec 1 := Scalar.cmpi .slt c512_i32 c0_i32_3
  let v14 : BitVec 32 := Scalar.extui v13
  let v15 : BitVec 32 := Scalar.subi v12 v14
  let v16 : BitVec 1 := Scalar.cmpi .ne v10 v15
  let v17 : BitVec 32 := Scalar.remsi v4 c512_i32
  let c0_i32_4 : BitVec 32 := 0#32
  let v18 : BitVec 1 := Scalar.cmpi .ne v17 c0_i32_4
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c3_i32_262 : BitVec 32 := 3#32
  let v561 : BitVec 32 := Scalar.addi v21 c3_i32_262
  let c512_i32_263 : BitVec 32 := 512#32
  let v562 : BitVec 32 := Scalar.muli v561 c512_i32_263
  v562
def k0_cond2 (i : grid0.Coords) : BitVec 1 :=
  let arg2 : BitVec 32 := BitVec.ofNat 32 (i 2).val
  let c2048_i32_0 : BitVec 32 := 2048#32
  let v4 : BitVec 32 := Scalar.muli arg2 c2048_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c512_i32 : BitVec 32 := 512#32
  let c0_i32_2 : BitVec 32 := 0#32
  let v11 : BitVec 1 := Scalar.cmpi .sgt c512_i32 c0_i32_2
  let v12 : BitVec 32 := Scalar.extui v11
  let c0_i32_3 : BitVec 32 := 0#32
  let v13 : BitVec 1 := Scalar.cmpi .slt c512_i32 c0_i32_3
  let v14 : BitVec 32 := Scalar.extui v13
  let v15 : BitVec 32 := Scalar.subi v12 v14
  let v16 : BitVec 1 := Scalar.cmpi .ne v10 v15
  let v17 : BitVec 32 := Scalar.remsi v4 c512_i32
  let c0_i32_4 : BitVec 32 := 0#32
  let v18 : BitVec 1 := Scalar.cmpi .ne v17 c0_i32_4
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c2_i32_121 : BitVec 32 := 2#32
  let c0_i32_122 : BitVec 32 := 0#32
  let v313 : BitVec 1 := Scalar.cmpi .eq c2_i32_121 c0_i32_122
  let c1_i32_123 : BitVec 32 := 1#32
  let v314 : BitVec 32 := Scalar.select v313 c1_i32_123 c2_i32_121
  let v315 : BitVec 32 := Scalar.remsi v21 v314
  let c0_i32_125 : BitVec 32 := 0#32
  let v317 : BitVec 1 := Scalar.cmpi .slt v315 c0_i32_125
  let c0_i32_126 : BitVec 32 := 0#32
  let v318 : BitVec 1 := Scalar.cmpi .slt v314 c0_i32_126
  let v319 : BitVec 1 := Scalar.xori v317 v318
  let c0_i32_124 : BitVec 32 := 0#32
  let v316 : BitVec 1 := Scalar.cmpi .ne v315 c0_i32_124
  let v320 : BitVec 1 := Scalar.andi v319 v316
  let v321 : BitVec 32 := Scalar.addi v315 v314
  let v322 : BitVec 32 := Scalar.select v320 v321 v315
  let c0_i32_127 : BitVec 32 := 0#32
  let v323 : BitVec 1 := Scalar.cmpi .eq v322 c0_i32_127
  let v324 : BitVec 32 := Scalar.extui v323
  let c0_i32_128 : BitVec 32 := 0#32
  let v325 : BitVec 1 := Scalar.cmpi .ne v324 c0_i32_128
  v325

def k0_mult10 (i : grid0.Coords) : BitVec 32 :=
  let arg2 : BitVec 32 := BitVec.ofNat 32 (i 2).val
  let c2048_i32_0 : BitVec 32 := 2048#32
  let v4 : BitVec 32 := Scalar.muli arg2 c2048_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c512_i32 : BitVec 32 := 512#32
  let c0_i32_2 : BitVec 32 := 0#32
  let v11 : BitVec 1 := Scalar.cmpi .sgt c512_i32 c0_i32_2
  let v12 : BitVec 32 := Scalar.extui v11
  let c0_i32_3 : BitVec 32 := 0#32
  let v13 : BitVec 1 := Scalar.cmpi .slt c512_i32 c0_i32_3
  let v14 : BitVec 32 := Scalar.extui v13
  let v15 : BitVec 32 := Scalar.subi v12 v14
  let v16 : BitVec 1 := Scalar.cmpi .ne v10 v15
  let v17 : BitVec 32 := Scalar.remsi v4 c512_i32
  let c0_i32_4 : BitVec 32 := 0#32
  let v18 : BitVec 1 := Scalar.cmpi .ne v17 c0_i32_4
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c0_i32_153 : BitVec 32 := 0#32
  let v388 : BitVec 32 := Scalar.addi v21 c0_i32_153
  let c512_i32_154 : BitVec 32 := 512#32
  let v389 : BitVec 32 := Scalar.muli v388 c512_i32_154
  v389
def k0_off15 (i : grid0.Coords) (c0_i32_153 : BitVec 32) : Fin 3 → Nat :=
  let c0_155 : Index := 0#32
  let arg2 : BitVec 32 := BitVec.ofNat 32 (i 2).val
  let c2048_i32_0 : BitVec 32 := 2048#32
  let v4 : BitVec 32 := Scalar.muli arg2 c2048_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c512_i32 : BitVec 32 := 512#32
  let c0_i32_2 : BitVec 32 := 0#32
  let v11 : BitVec 1 := Scalar.cmpi .sgt c512_i32 c0_i32_2
  let v12 : BitVec 32 := Scalar.extui v11
  let c0_i32_3 : BitVec 32 := 0#32
  let v13 : BitVec 1 := Scalar.cmpi .slt c512_i32 c0_i32_3
  let v14 : BitVec 32 := Scalar.extui v13
  let v15 : BitVec 32 := Scalar.subi v12 v14
  let v16 : BitVec 1 := Scalar.cmpi .ne v10 v15
  let v17 : BitVec 32 := Scalar.remsi v4 c512_i32
  let c0_i32_4 : BitVec 32 := 0#32
  let v18 : BitVec 1 := Scalar.cmpi .ne v17 c0_i32_4
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let v388 : BitVec 32 := Scalar.addi v21 c0_i32_153
  let c512_i32_154 : BitVec 32 := 512#32
  let v389 : BitVec 32 := Scalar.muli v388 c512_i32_154
  let v390 : BitVec 32 := v389
  let v391 : Index := Scalar.indexCast v390
  let c0_156 : Index := 0#32
  ![0, v391.toNat, 0]
def k0_off16 (i : grid0.Coords) (c0_i32_153 : BitVec 32) : Fin 5 → Nat :=
  let c0_157 : Index := 0#32
  let c0_158 : Index := 0#32
  let arg2 : BitVec 32 := BitVec.ofNat 32 (i 2).val
  let c2048_i32_0 : BitVec 32 := 2048#32
  let v4 : BitVec 32 := Scalar.muli arg2 c2048_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c512_i32 : BitVec 32 := 512#32
  let c0_i32_2 : BitVec 32 := 0#32
  let v11 : BitVec 1 := Scalar.cmpi .sgt c512_i32 c0_i32_2
  let v12 : BitVec 32 := Scalar.extui v11
  let c0_i32_3 : BitVec 32 := 0#32
  let v13 : BitVec 1 := Scalar.cmpi .slt c512_i32 c0_i32_3
  let v14 : BitVec 32 := Scalar.extui v13
  let v15 : BitVec 32 := Scalar.subi v12 v14
  let v16 : BitVec 1 := Scalar.cmpi .ne v10 v15
  let v17 : BitVec 32 := Scalar.remsi v4 c512_i32
  let c0_i32_4 : BitVec 32 := 0#32
  let v18 : BitVec 1 := Scalar.cmpi .ne v17 c0_i32_4
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let v388 : BitVec 32 := Scalar.addi v21 c0_i32_153
  let v394 : Index := Scalar.indexCast v388
  let c0_159 : Index := 0#32
  let c0_160 : Index := 0#32
  ![0, 0, v394.toNat, 0, 0]
def k0_mult11 (i : grid0.Coords) : BitVec 32 :=
  let arg2 : BitVec 32 := BitVec.ofNat 32 (i 2).val
  let c2048_i32_0 : BitVec 32 := 2048#32
  let v4 : BitVec 32 := Scalar.muli arg2 c2048_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c512_i32 : BitVec 32 := 512#32
  let c0_i32_2 : BitVec 32 := 0#32
  let v11 : BitVec 1 := Scalar.cmpi .sgt c512_i32 c0_i32_2
  let v12 : BitVec 32 := Scalar.extui v11
  let c0_i32_3 : BitVec 32 := 0#32
  let v13 : BitVec 1 := Scalar.cmpi .slt c512_i32 c0_i32_3
  let v14 : BitVec 32 := Scalar.extui v13
  let v15 : BitVec 32 := Scalar.subi v12 v14
  let v16 : BitVec 1 := Scalar.cmpi .ne v10 v15
  let v17 : BitVec 32 := Scalar.remsi v4 c512_i32
  let c0_i32_4 : BitVec 32 := 0#32
  let v18 : BitVec 1 := Scalar.cmpi .ne v17 c0_i32_4
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c1_i32_185 : BitVec 32 := 1#32
  let v437 : BitVec 32 := Scalar.addi v21 c1_i32_185
  let c512_i32_186 : BitVec 32 := 512#32
  let v438 : BitVec 32 := Scalar.muli v437 c512_i32_186
  v438
def k0_mult12 (i : grid0.Coords) : BitVec 32 :=
  let arg2 : BitVec 32 := BitVec.ofNat 32 (i 2).val
  let c2048_i32_0 : BitVec 32 := 2048#32
  let v4 : BitVec 32 := Scalar.muli arg2 c2048_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c512_i32 : BitVec 32 := 512#32
  let c0_i32_2 : BitVec 32 := 0#32
  let v11 : BitVec 1 := Scalar.cmpi .sgt c512_i32 c0_i32_2
  let v12 : BitVec 32 := Scalar.extui v11
  let c0_i32_3 : BitVec 32 := 0#32
  let v13 : BitVec 1 := Scalar.cmpi .slt c512_i32 c0_i32_3
  let v14 : BitVec 32 := Scalar.extui v13
  let v15 : BitVec 32 := Scalar.subi v12 v14
  let v16 : BitVec 1 := Scalar.cmpi .ne v10 v15
  let v17 : BitVec 32 := Scalar.remsi v4 c512_i32
  let c0_i32_4 : BitVec 32 := 0#32
  let v18 : BitVec 1 := Scalar.cmpi .ne v17 c0_i32_4
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c2_i32_216 : BitVec 32 := 2#32
  let v488 : BitVec 32 := Scalar.addi v21 c2_i32_216
  let c512_i32_217 : BitVec 32 := 512#32
  let v489 : BitVec 32 := Scalar.muli v488 c512_i32_217
  v489
def k0_mult13 (i : grid0.Coords) : BitVec 32 :=
  let arg2 : BitVec 32 := BitVec.ofNat 32 (i 2).val
  let c2048_i32_0 : BitVec 32 := 2048#32
  let v4 : BitVec 32 := Scalar.muli arg2 c2048_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c512_i32 : BitVec 32 := 512#32
  let c0_i32_2 : BitVec 32 := 0#32
  let v11 : BitVec 1 := Scalar.cmpi .sgt c512_i32 c0_i32_2
  let v12 : BitVec 32 := Scalar.extui v11
  let c0_i32_3 : BitVec 32 := 0#32
  let v13 : BitVec 1 := Scalar.cmpi .slt c512_i32 c0_i32_3
  let v14 : BitVec 32 := Scalar.extui v13
  let v15 : BitVec 32 := Scalar.subi v12 v14
  let v16 : BitVec 1 := Scalar.cmpi .ne v10 v15
  let v17 : BitVec 32 := Scalar.remsi v4 c512_i32
  let c0_i32_4 : BitVec 32 := 0#32
  let v18 : BitVec 1 := Scalar.cmpi .ne v17 c0_i32_4
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c3_i32_247 : BitVec 32 := 3#32
  let v539 : BitVec 32 := Scalar.addi v21 c3_i32_247
  let c512_i32_248 : BitVec 32 := 512#32
  let v540 : BitVec 32 := Scalar.muli v539 c512_i32_248
  v540
@[reducible] def k0_t3_loop (i : grid0.Coords) : Scf.Loop 32 :=
  let c0_i32_162 : BitVec 32 := 0#32
  let arg2 : BitVec 32 := BitVec.ofNat 32 (i 2).val
  let c2048_i32_0 : BitVec 32 := 2048#32
  let v4 : BitVec 32 := Scalar.muli arg2 c2048_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c512_i32 : BitVec 32 := 512#32
  let c0_i32_2 : BitVec 32 := 0#32
  let v11 : BitVec 1 := Scalar.cmpi .sgt c512_i32 c0_i32_2
  let v12 : BitVec 32 := Scalar.extui v11
  let c0_i32_3 : BitVec 32 := 0#32
  let v13 : BitVec 1 := Scalar.cmpi .slt c512_i32 c0_i32_3
  let v14 : BitVec 32 := Scalar.extui v13
  let v15 : BitVec 32 := Scalar.subi v12 v14
  let v16 : BitVec 1 := Scalar.cmpi .ne v10 v15
  let v17 : BitVec 32 := Scalar.remsi v4 c512_i32
  let c0_i32_4 : BitVec 32 := 0#32
  let v18 : BitVec 1 := Scalar.cmpi .ne v17 c0_i32_4
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let v396 : BitVec 32 := Scalar.subi v21 c0_i32_162
  let c1_i32_163 : BitVec 32 := 1#32
  let v398 : BitVec 32 := Scalar.divsi v396 c1_i32_163
  let v399 : BitVec 32 := Scalar.muli v398 c1_i32_163
  let v400 : BitVec 32 := Scalar.addi c0_i32_162 v399
  let c1_i32_164 : BitVec 32 := 1#32
  ⟨c0_i32_162, v400, c1_i32_164⟩
def k0_mult14 (i : grid0.Coords) (k0_t3 : Fin (k0_t3_loop i).trips) : BitVec 32 :=
  let c0_i32_162 : BitVec 32 := 0#32
  let c1_i32_164 : BitVec 32 := 1#32
  let arg13 : BitVec 32 := Scf.iv c0_i32_162 c1_i32_164 k0_t3
  let c512_i32_330 : BitVec 32 := 512#32
  let v717 : BitVec 32 := Scalar.muli arg13 c512_i32_330
  v717
def k0_off17 (i : grid0.Coords) (k0_t3 : Fin (k0_t3_loop i).trips) : Fin 3 → Nat :=
  let c0_331 : Index := 0#32
  let c0_i32_162 : BitVec 32 := 0#32
  let c1_i32_164 : BitVec 32 := 1#32
  let arg13 : BitVec 32 := Scf.iv c0_i32_162 c1_i32_164 k0_t3
  let c512_i32_330 : BitVec 32 := 512#32
  let v717 : BitVec 32 := Scalar.muli arg13 c512_i32_330
  let v718 : BitVec 32 := v717
  let v719 : Index := Scalar.indexCast v718
  let c0_332 : Index := 0#32
  ![0, v719.toNat, 0]
def k0_off18 (i : grid0.Coords) (k0_t3 : Fin (k0_t3_loop i).trips) : Fin 5 → Nat :=
  let c0_333 : Index := 0#32
  let c0_334 : Index := 0#32
  let c0_i32_162 : BitVec 32 := 0#32
  let c1_i32_164 : BitVec 32 := 1#32
  let arg13 : BitVec 32 := Scf.iv c0_i32_162 c1_i32_164 k0_t3
  let v722 : Index := Scalar.indexCast arg13
  let c0_335 : Index := 0#32
  let c0_336 : Index := 0#32
  ![0, 0, v722.toNat, 0, 0]
@[reducible] def k0_t4_loop (i : grid0.Coords) : Scf.Loop 32 :=
  let c0_i32_162 : BitVec 32 := 0#32
  let arg2 : BitVec 32 := BitVec.ofNat 32 (i 2).val
  let c2048_i32_0 : BitVec 32 := 2048#32
  let v4 : BitVec 32 := Scalar.muli arg2 c2048_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c512_i32 : BitVec 32 := 512#32
  let c0_i32_2 : BitVec 32 := 0#32
  let v11 : BitVec 1 := Scalar.cmpi .sgt c512_i32 c0_i32_2
  let v12 : BitVec 32 := Scalar.extui v11
  let c0_i32_3 : BitVec 32 := 0#32
  let v13 : BitVec 1 := Scalar.cmpi .slt c512_i32 c0_i32_3
  let v14 : BitVec 32 := Scalar.extui v13
  let v15 : BitVec 32 := Scalar.subi v12 v14
  let v16 : BitVec 1 := Scalar.cmpi .ne v10 v15
  let v17 : BitVec 32 := Scalar.remsi v4 c512_i32
  let c0_i32_4 : BitVec 32 := 0#32
  let v18 : BitVec 1 := Scalar.cmpi .ne v17 c0_i32_4
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let v396 : BitVec 32 := Scalar.subi v21 c0_i32_162
  let c1_i32_163 : BitVec 32 := 1#32
  let v398 : BitVec 32 := Scalar.divsi v396 c1_i32_163
  let v399 : BitVec 32 := Scalar.muli v398 c1_i32_163
  let v400 : BitVec 32 := Scalar.addi c0_i32_162 v399
  let v397 : BitVec 32 := Scalar.addi c0_i32_162 v396
  let c1_i32_165 : BitVec 32 := 1#32
  ⟨v400, v397, c1_i32_165⟩
def k0_mult15 (i : grid0.Coords) (k0_t4 : Fin (k0_t4_loop i).trips) : BitVec 32 :=
  let c0_i32_162 : BitVec 32 := 0#32
  let arg2 : BitVec 32 := BitVec.ofNat 32 (i 2).val
  let c2048_i32_0 : BitVec 32 := 2048#32
  let v4 : BitVec 32 := Scalar.muli arg2 c2048_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c512_i32 : BitVec 32 := 512#32
  let c0_i32_2 : BitVec 32 := 0#32
  let v11 : BitVec 1 := Scalar.cmpi .sgt c512_i32 c0_i32_2
  let v12 : BitVec 32 := Scalar.extui v11
  let c0_i32_3 : BitVec 32 := 0#32
  let v13 : BitVec 1 := Scalar.cmpi .slt c512_i32 c0_i32_3
  let v14 : BitVec 32 := Scalar.extui v13
  let v15 : BitVec 32 := Scalar.subi v12 v14
  let v16 : BitVec 1 := Scalar.cmpi .ne v10 v15
  let v17 : BitVec 32 := Scalar.remsi v4 c512_i32
  let c0_i32_4 : BitVec 32 := 0#32
  let v18 : BitVec 1 := Scalar.cmpi .ne v17 c0_i32_4
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let v396 : BitVec 32 := Scalar.subi v21 c0_i32_162
  let c1_i32_163 : BitVec 32 := 1#32
  let v398 : BitVec 32 := Scalar.divsi v396 c1_i32_163
  let v399 : BitVec 32 := Scalar.muli v398 c1_i32_163
  let v400 : BitVec 32 := Scalar.addi c0_i32_162 v399
  let c1_i32_165 : BitVec 32 := 1#32
  let arg13 : BitVec 32 := Scf.iv v400 c1_i32_165 k0_t4
  let c512_i32_330 : BitVec 32 := 512#32
  let v717 : BitVec 32 := Scalar.muli arg13 c512_i32_330
  v717
def k0_off19 (i : grid0.Coords) (k0_t4 : Fin (k0_t4_loop i).trips) : Fin 3 → Nat :=
  let c0_331 : Index := 0#32
  let c0_i32_162 : BitVec 32 := 0#32
  let arg2 : BitVec 32 := BitVec.ofNat 32 (i 2).val
  let c2048_i32_0 : BitVec 32 := 2048#32
  let v4 : BitVec 32 := Scalar.muli arg2 c2048_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c512_i32 : BitVec 32 := 512#32
  let c0_i32_2 : BitVec 32 := 0#32
  let v11 : BitVec 1 := Scalar.cmpi .sgt c512_i32 c0_i32_2
  let v12 : BitVec 32 := Scalar.extui v11
  let c0_i32_3 : BitVec 32 := 0#32
  let v13 : BitVec 1 := Scalar.cmpi .slt c512_i32 c0_i32_3
  let v14 : BitVec 32 := Scalar.extui v13
  let v15 : BitVec 32 := Scalar.subi v12 v14
  let v16 : BitVec 1 := Scalar.cmpi .ne v10 v15
  let v17 : BitVec 32 := Scalar.remsi v4 c512_i32
  let c0_i32_4 : BitVec 32 := 0#32
  let v18 : BitVec 1 := Scalar.cmpi .ne v17 c0_i32_4
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let v396 : BitVec 32 := Scalar.subi v21 c0_i32_162
  let c1_i32_163 : BitVec 32 := 1#32
  let v398 : BitVec 32 := Scalar.divsi v396 c1_i32_163
  let v399 : BitVec 32 := Scalar.muli v398 c1_i32_163
  let v400 : BitVec 32 := Scalar.addi c0_i32_162 v399
  let c1_i32_165 : BitVec 32 := 1#32
  let arg13 : BitVec 32 := Scf.iv v400 c1_i32_165 k0_t4
  let c512_i32_330 : BitVec 32 := 512#32
  let v717 : BitVec 32 := Scalar.muli arg13 c512_i32_330
  let v718 : BitVec 32 := v717
  let v719 : Index := Scalar.indexCast v718
  let c0_332 : Index := 0#32
  ![0, v719.toNat, 0]
def k0_off20 (i : grid0.Coords) (k0_t4 : Fin (k0_t4_loop i).trips) : Fin 5 → Nat :=
  let c0_333 : Index := 0#32
  let c0_334 : Index := 0#32
  let c0_i32_162 : BitVec 32 := 0#32
  let arg2 : BitVec 32 := BitVec.ofNat 32 (i 2).val
  let c2048_i32_0 : BitVec 32 := 2048#32
  let v4 : BitVec 32 := Scalar.muli arg2 c2048_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c512_i32 : BitVec 32 := 512#32
  let c0_i32_2 : BitVec 32 := 0#32
  let v11 : BitVec 1 := Scalar.cmpi .sgt c512_i32 c0_i32_2
  let v12 : BitVec 32 := Scalar.extui v11
  let c0_i32_3 : BitVec 32 := 0#32
  let v13 : BitVec 1 := Scalar.cmpi .slt c512_i32 c0_i32_3
  let v14 : BitVec 32 := Scalar.extui v13
  let v15 : BitVec 32 := Scalar.subi v12 v14
  let v16 : BitVec 1 := Scalar.cmpi .ne v10 v15
  let v17 : BitVec 32 := Scalar.remsi v4 c512_i32
  let c0_i32_4 : BitVec 32 := 0#32
  let v18 : BitVec 1 := Scalar.cmpi .ne v17 c0_i32_4
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let v396 : BitVec 32 := Scalar.subi v21 c0_i32_162
  let c1_i32_163 : BitVec 32 := 1#32
  let v398 : BitVec 32 := Scalar.divsi v396 c1_i32_163
  let v399 : BitVec 32 := Scalar.muli v398 c1_i32_163
  let v400 : BitVec 32 := Scalar.addi c0_i32_162 v399
  let c1_i32_165 : BitVec 32 := 1#32
  let arg13 : BitVec 32 := Scf.iv v400 c1_i32_165 k0_t4
  let v722 : Index := Scalar.indexCast arg13
  let c0_335 : Index := 0#32
  let c0_336 : Index := 0#32
  ![0, 0, v722.toNat, 0, 0]
def k0_mult16 (i : grid0.Coords) : BitVec 32 :=
  let arg2 : BitVec 32 := BitVec.ofNat 32 (i 2).val
  let c2048_i32_0 : BitVec 32 := 2048#32
  let v4 : BitVec 32 := Scalar.muli arg2 c2048_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c512_i32 : BitVec 32 := 512#32
  let c0_i32_2 : BitVec 32 := 0#32
  let v11 : BitVec 1 := Scalar.cmpi .sgt c512_i32 c0_i32_2
  let v12 : BitVec 32 := Scalar.extui v11
  let c0_i32_3 : BitVec 32 := 0#32
  let v13 : BitVec 1 := Scalar.cmpi .slt c512_i32 c0_i32_3
  let v14 : BitVec 32 := Scalar.extui v13
  let v15 : BitVec 32 := Scalar.subi v12 v14
  let v16 : BitVec 1 := Scalar.cmpi .ne v10 v15
  let v17 : BitVec 32 := Scalar.remsi v4 c512_i32
  let c0_i32_4 : BitVec 32 := 0#32
  let v18 : BitVec 1 := Scalar.cmpi .ne v17 c0_i32_4
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c0_i32_166 : BitVec 32 := 0#32
  let v401 : BitVec 32 := Scalar.addi v21 c0_i32_166
  let c512_i32_167 : BitVec 32 := 512#32
  let v402 : BitVec 32 := Scalar.muli v401 c512_i32_167
  v402
def k0_off21 (i : grid0.Coords) (c0_i32_166 : BitVec 32) : Fin 3 → Nat :=
  let c0_168 : Index := 0#32
  let arg2 : BitVec 32 := BitVec.ofNat 32 (i 2).val
  let c2048_i32_0 : BitVec 32 := 2048#32
  let v4 : BitVec 32 := Scalar.muli arg2 c2048_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c512_i32 : BitVec 32 := 512#32
  let c0_i32_2 : BitVec 32 := 0#32
  let v11 : BitVec 1 := Scalar.cmpi .sgt c512_i32 c0_i32_2
  let v12 : BitVec 32 := Scalar.extui v11
  let c0_i32_3 : BitVec 32 := 0#32
  let v13 : BitVec 1 := Scalar.cmpi .slt c512_i32 c0_i32_3
  let v14 : BitVec 32 := Scalar.extui v13
  let v15 : BitVec 32 := Scalar.subi v12 v14
  let v16 : BitVec 1 := Scalar.cmpi .ne v10 v15
  let v17 : BitVec 32 := Scalar.remsi v4 c512_i32
  let c0_i32_4 : BitVec 32 := 0#32
  let v18 : BitVec 1 := Scalar.cmpi .ne v17 c0_i32_4
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let v401 : BitVec 32 := Scalar.addi v21 c0_i32_166
  let c512_i32_167 : BitVec 32 := 512#32
  let v402 : BitVec 32 := Scalar.muli v401 c512_i32_167
  let v403 : BitVec 32 := v402
  let v404 : Index := Scalar.indexCast v403
  let c0_169 : Index := 0#32
  ![0, v404.toNat, 0]
def k0_off22 (i : grid0.Coords) (c0_i32_166 : BitVec 32) : Fin 5 → Nat :=
  let c0_170 : Index := 0#32
  let c0_171 : Index := 0#32
  let arg2 : BitVec 32 := BitVec.ofNat 32 (i 2).val
  let c2048_i32_0 : BitVec 32 := 2048#32
  let v4 : BitVec 32 := Scalar.muli arg2 c2048_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c512_i32 : BitVec 32 := 512#32
  let c0_i32_2 : BitVec 32 := 0#32
  let v11 : BitVec 1 := Scalar.cmpi .sgt c512_i32 c0_i32_2
  let v12 : BitVec 32 := Scalar.extui v11
  let c0_i32_3 : BitVec 32 := 0#32
  let v13 : BitVec 1 := Scalar.cmpi .slt c512_i32 c0_i32_3
  let v14 : BitVec 32 := Scalar.extui v13
  let v15 : BitVec 32 := Scalar.subi v12 v14
  let v16 : BitVec 1 := Scalar.cmpi .ne v10 v15
  let v17 : BitVec 32 := Scalar.remsi v4 c512_i32
  let c0_i32_4 : BitVec 32 := 0#32
  let v18 : BitVec 1 := Scalar.cmpi .ne v17 c0_i32_4
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let v401 : BitVec 32 := Scalar.addi v21 c0_i32_166
  let v407 : Index := Scalar.indexCast v401
  let c0_172 : Index := 0#32
  let c0_173 : Index := 0#32
  ![0, 0, v407.toNat, 0, 0]
def k0_mult17 (i : grid0.Coords) : BitVec 32 :=
  let arg2 : BitVec 32 := BitVec.ofNat 32 (i 2).val
  let c2048_i32_0 : BitVec 32 := 2048#32
  let v4 : BitVec 32 := Scalar.muli arg2 c2048_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c512_i32 : BitVec 32 := 512#32
  let c0_i32_2 : BitVec 32 := 0#32
  let v11 : BitVec 1 := Scalar.cmpi .sgt c512_i32 c0_i32_2
  let v12 : BitVec 32 := Scalar.extui v11
  let c0_i32_3 : BitVec 32 := 0#32
  let v13 : BitVec 1 := Scalar.cmpi .slt c512_i32 c0_i32_3
  let v14 : BitVec 32 := Scalar.extui v13
  let v15 : BitVec 32 := Scalar.subi v12 v14
  let v16 : BitVec 1 := Scalar.cmpi .ne v10 v15
  let v17 : BitVec 32 := Scalar.remsi v4 c512_i32
  let c0_i32_4 : BitVec 32 := 0#32
  let v18 : BitVec 1 := Scalar.cmpi .ne v17 c0_i32_4
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c1_i32_207 : BitVec 32 := 1#32
  let v480 : BitVec 32 := Scalar.addi v21 c1_i32_207
  let c512_i32_208 : BitVec 32 := 512#32
  let v481 : BitVec 32 := Scalar.muli v480 c512_i32_208
  v481
def k0_mult18 (i : grid0.Coords) : BitVec 32 :=
  let arg2 : BitVec 32 := BitVec.ofNat 32 (i 2).val
  let c2048_i32_0 : BitVec 32 := 2048#32
  let v4 : BitVec 32 := Scalar.muli arg2 c2048_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c512_i32 : BitVec 32 := 512#32
  let c0_i32_2 : BitVec 32 := 0#32
  let v11 : BitVec 1 := Scalar.cmpi .sgt c512_i32 c0_i32_2
  let v12 : BitVec 32 := Scalar.extui v11
  let c0_i32_3 : BitVec 32 := 0#32
  let v13 : BitVec 1 := Scalar.cmpi .slt c512_i32 c0_i32_3
  let v14 : BitVec 32 := Scalar.extui v13
  let v15 : BitVec 32 := Scalar.subi v12 v14
  let v16 : BitVec 1 := Scalar.cmpi .ne v10 v15
  let v17 : BitVec 32 := Scalar.remsi v4 c512_i32
  let c0_i32_4 : BitVec 32 := 0#32
  let v18 : BitVec 1 := Scalar.cmpi .ne v17 c0_i32_4
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c2_i32_248 : BitVec 32 := 2#32
  let v559 : BitVec 32 := Scalar.addi v21 c2_i32_248
  let c512_i32_249 : BitVec 32 := 512#32
  let v560 : BitVec 32 := Scalar.muli v559 c512_i32_249
  v560
def k0_mult19 (i : grid0.Coords) : BitVec 32 :=
  let arg2 : BitVec 32 := BitVec.ofNat 32 (i 2).val
  let c2048_i32_0 : BitVec 32 := 2048#32
  let v4 : BitVec 32 := Scalar.muli arg2 c2048_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c512_i32 : BitVec 32 := 512#32
  let c0_i32_2 : BitVec 32 := 0#32
  let v11 : BitVec 1 := Scalar.cmpi .sgt c512_i32 c0_i32_2
  let v12 : BitVec 32 := Scalar.extui v11
  let c0_i32_3 : BitVec 32 := 0#32
  let v13 : BitVec 1 := Scalar.cmpi .slt c512_i32 c0_i32_3
  let v14 : BitVec 32 := Scalar.extui v13
  let v15 : BitVec 32 := Scalar.subi v12 v14
  let v16 : BitVec 1 := Scalar.cmpi .ne v10 v15
  let v17 : BitVec 32 := Scalar.remsi v4 c512_i32
  let c0_i32_4 : BitVec 32 := 0#32
  let v18 : BitVec 1 := Scalar.cmpi .ne v17 c0_i32_4
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c3_i32_289 : BitVec 32 := 3#32
  let v638 : BitVec 32 := Scalar.addi v21 c3_i32_289
  let c512_i32_290 : BitVec 32 := 512#32
  let v639 : BitVec 32 := Scalar.muli v638 c512_i32_290
  v639
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x16x144x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x16x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8x8192x4x2x64 : Shape := ⟨5, ![8, 8192, 4, 2, 64]⟩
abbrev S8x8192x4x128 : Shape := ⟨4, ![8, 8192, 4, 128]⟩
abbrev S8x16x8x128 : Shape := ⟨4, ![8, 16, 8, 128]⟩
abbrev S1x64 : Shape := ⟨2, ![1, 64]⟩
abbrev S1x128 : Shape := ⟨2, ![1, 128]⟩
abbrev S_ : Shape := ⟨0, ![]⟩
abbrev S1 : Shape := ⟨1, ![1]⟩
abbrev S4 : Shape := ⟨1, ![4]⟩
abbrev S64 : Shape := ⟨1, ![64]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S8x4x2x8192x8192 : Shape := ⟨5, ![8, 4, 2, 8192, 8192]⟩
abbrev S1x4x1x1x1 : Shape := ⟨5, ![1, 4, 1, 1, 1]⟩
abbrev S1x1x1x8192x8192 : Shape := ⟨5, ![1, 1, 1, 8192, 8192]⟩
abbrev S1x4x1x8192x8192 : Shape := ⟨5, ![1, 4, 1, 8192, 8192]⟩
abbrev S8x4x2x8192 : Shape := ⟨4, ![8, 4, 2, 8192]⟩
abbrev S8x4x2x8192x1 : Shape := ⟨5, ![8, 4, 2, 8192, 1]⟩
abbrev S8x4x1x8192x8192 : Shape := ⟨5, ![8, 4, 1, 8192, 8192]⟩
abbrev S8x4x8192x8192 : Shape := ⟨4, ![8, 4, 8192, 8192]⟩
abbrev S8x4x128x8192 : Shape := ⟨4, ![8, 4, 128, 8192]⟩
abbrev S8x8192x4 : Shape := ⟨3, ![8, 8192, 4]⟩
abbrev S8x8192x4x1 : Shape := ⟨4, ![8, 8192, 4, 1]⟩
abbrev S128 : Shape := ⟨1, ![128]⟩
abbrev S1x1x1x128 : Shape := ⟨4, ![1, 1, 1, 128]⟩
abbrev S8x8192x512 : Shape := ⟨3, ![8, 8192, 512]⟩

abbrev nBuf : Space → Nat
  | .hbm => 104
  | .vmem => 0
  | .smem => 0
  | _ => 0

abbrev bufTy : (tb : Table) → Fin (tcTables nBuf tb) → BufTy
  | .hbm, ⟨0, _⟩ => ⟨S8x8192x4x2x64, .f32⟩
  | .hbm, ⟨1, _⟩ => ⟨S8x8192x4x2x64, .f32⟩
  | .hbm, ⟨2, _⟩ => ⟨S8x8192x4x128, .f32⟩
  | .hbm, ⟨3, _⟩ => ⟨S8x16x8x128, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1, .f32⟩
  | .hbm, ⟨14, _⟩ => ⟨S1, .f32⟩
  | .hbm, ⟨15, _⟩ => ⟨S1, .f32⟩
  | .hbm, ⟨16, _⟩ => ⟨S1, .f32⟩
  | .hbm, ⟨17, _⟩ => ⟨S4, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S8192, .i32⟩
  | .hbm, ⟨34, _⟩ => ⟨S8192x1, .i32⟩
  | .hbm, ⟨35, _⟩ => ⟨S1x8192, .i32⟩
  | .hbm, ⟨36, _⟩ => ⟨S8192x8192, .i32⟩
  | .hbm, ⟨37, _⟩ => ⟨S8192x8192, .i32⟩
  | .hbm, ⟨38, _⟩ => ⟨S8192x8192, .i32⟩
  | .hbm, ⟨39, _⟩ => ⟨S8192x8192, .f32⟩
  | .hbm, ⟨40, _⟩ => ⟨S8x4x2x8192x8192, .f32⟩
  | .hbm, ⟨41, _⟩ => ⟨S_, .f32⟩
  | .hbm, ⟨42, _⟩ => ⟨S8x4x2x8192x8192, .f32⟩
  | .hbm, ⟨43, _⟩ => ⟨S8x4x2x8192x8192, .f32⟩
  | .hbm, ⟨44, _⟩ => ⟨S1x4x1x1x1, .f32⟩
  | .hbm, ⟨45, _⟩ => ⟨S1x1x1x8192x8192, .f32⟩
  | .hbm, ⟨46, _⟩ => ⟨S1x4x1x8192x8192, .f32⟩
  | .hbm, ⟨47, _⟩ => ⟨S1x4x1x8192x8192, .f32⟩
  | .hbm, ⟨48, _⟩ => ⟨S1x4x1x8192x8192, .f32⟩
  | .hbm, ⟨49, _⟩ => ⟨S8x4x2x8192x8192, .f32⟩
  | .hbm, ⟨50, _⟩ => ⟨S8x4x2x8192x8192, .f32⟩
  | .hbm, ⟨51, _⟩ => ⟨S_, .f32⟩
  | .hbm, ⟨52, _⟩ => ⟨S8192x8192, .f32⟩
  | .hbm, ⟨53, _⟩ => ⟨S8192x8192, .i1⟩
  | .hbm, ⟨54, _⟩ => ⟨S_, .f32⟩
  | .hbm, ⟨55, _⟩ => ⟨S_, .f32⟩
  | .hbm, ⟨56, _⟩ => ⟨S8x4x2x8192x8192, .i1⟩
  | .hbm, ⟨57, _⟩ => ⟨S8x4x2x8192x8192, .f32⟩
  | .hbm, ⟨58, _⟩ => ⟨S8x4x2x8192x8192, .f32⟩
  | .hbm, ⟨59, _⟩ => ⟨S_, .f32⟩
  | .hbm, ⟨60, _⟩ => ⟨S8x4x2x8192, .f32⟩
  | .hbm, ⟨61, _⟩ => ⟨S_, .f32⟩
  | .hbm, ⟨62, _⟩ => ⟨S8x4x2x8192, .f32⟩
  | .hbm, ⟨63, _⟩ => ⟨S8x4x2x8192, .f32⟩
  | .hbm, ⟨64, _⟩ => ⟨S8x4x2x8192x1, .f32⟩
  | .hbm, ⟨65, _⟩ => ⟨S8x4x2x8192x8192, .f32⟩
  | .hbm, ⟨66, _⟩ => ⟨S8x4x2x8192x8192, .f32⟩
  | .hbm, ⟨67, _⟩ => ⟨S8x4x2x8192x8192, .f32⟩
  | .hbm, ⟨68, _⟩ => ⟨S_, .f32⟩
  | .hbm, ⟨69, _⟩ => ⟨S8x4x2x8192, .f32⟩
  | .hbm, ⟨70, _⟩ => ⟨S8x4x2x8192x1, .f32⟩
  | .hbm, ⟨71, _⟩ => ⟨S8x4x2x8192x8192, .f32⟩
  | .hbm, ⟨72, _⟩ => ⟨S8x4x2x8192x8192, .f32⟩
  | .hbm, ⟨73, _⟩ => ⟨S8x4x1x8192x8192, .f32⟩
  | .hbm, ⟨74, _⟩ => ⟨S8x4x8192x8192, .f32⟩
  | .hbm, ⟨75, _⟩ => ⟨S8x4x1x8192x8192, .f32⟩
  | .hbm, ⟨76, _⟩ => ⟨S8x4x8192x8192, .f32⟩
  | .hbm, ⟨77, _⟩ => ⟨S8x4x8192x8192, .f32⟩
  | .hbm, ⟨78, _⟩ => ⟨S8x4x8192x8192, .f32⟩
  | .hbm, ⟨79, _⟩ => ⟨S8x4x8192x8192, .f32⟩
  | .hbm, ⟨80, _⟩ => ⟨S8x4x128x8192, .f32⟩
  | .hbm, ⟨81, _⟩ => ⟨S8x8192x4x128, .f32⟩
  | .hbm, ⟨82, _⟩ => ⟨S8x8192x4x128, .f32⟩
  | .hbm, ⟨83, _⟩ => ⟨S_, .f32⟩
  | .hbm, ⟨84, _⟩ => ⟨S8x8192x4, .f32⟩
  | .hbm, ⟨85, _⟩ => ⟨S8x8192x4x1, .f32⟩
  | .hbm, ⟨86, _⟩ => ⟨S_, .f32⟩
  | .hbm, ⟨87, _⟩ => ⟨S8x8192x4x1, .f32⟩
  | .hbm, ⟨88, _⟩ => ⟨S8x8192x4x1, .f32⟩
  | .hbm, ⟨89, _⟩ => ⟨S_, .f32⟩
  | .hbm, ⟨90, _⟩ => ⟨S8x8192x4x1, .f32⟩
  | .hbm, ⟨91, _⟩ => ⟨S8x8192x4x1, .f32⟩
  | .hbm, ⟨92, _⟩ => ⟨S8x8192x4x1, .f32⟩
  | .hbm, ⟨93, _⟩ => ⟨S8x8192x4x128, .f32⟩
  | .hbm, ⟨94, _⟩ => ⟨S8x8192x4x128, .f32⟩
  | .hbm, ⟨95, _⟩ => ⟨S128, .f32⟩
  | .hbm, ⟨96, _⟩ => ⟨S1x1x1x128, .f32⟩
  | .hbm, ⟨97, _⟩ => ⟨S8x8192x4x128, .f32⟩
  | .hbm, ⟨98, _⟩ => ⟨S8x8192x4x128, .f32⟩
  | .hbm, ⟨99, _⟩ => ⟨S_, .f32⟩
  | .hbm, ⟨100, _⟩ => ⟨S8x8192x4x128, .f32⟩
  | .hbm, ⟨101, _⟩ => ⟨S8x8192x4x128, .f32⟩
  | .hbm, ⟨102, _⟩ => ⟨S8x8192x512, .f32⟩
  | .hbm, ⟨103, _⟩ => ⟨S8x8192x512, .bf16⟩
  | _, _ => ⟨S8x8192x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_cst_1 : Ref sig .tc := ⟨.hbm, 11, rfl⟩
abbrev main_cst_2 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_cst_8 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_v36 : Ref sig .tc := ⟨.hbm, 58, rfl⟩
abbrev main_cst_9 : Ref sig .tc := ⟨.hbm, 59, rfl⟩
abbrev main_v37 : Ref sig .tc := ⟨.hbm, 60, rfl⟩
abbrev main_cst_10 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_11 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_12 : Ref sig .tc := ⟨.hbm, 83, rfl⟩
abbrev main_v58 : Ref sig .tc := ⟨.hbm, 84, rfl⟩
abbrev main_v59 : Ref sig .tc := ⟨.hbm, 85, rfl⟩
abbrev main_cst_13 : Ref sig .tc := ⟨.hbm, 86, rfl⟩
abbrev main_v60 : Ref sig .tc := ⟨.hbm, 87, rfl⟩
abbrev main_v61 : Ref sig .tc := ⟨.hbm, 88, rfl⟩
abbrev main_cst_14 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_15 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩

abbrev nD : Nat := 1
abbrev τ : Topo := Topo.v7x

variable {F : FTy → Type} [FloatOps F]
-- ==== Kernel2.lean ====
abbrev S8x8192x1024 : Shape := ⟨3, ![8, 8192, 1024]⟩
abbrev S8x8192x128 : Shape := ⟨3, ![8, 8192, 128]⟩
abbrev S8x6x1024 : Shape := ⟨3, ![8, 6, 1024]⟩
abbrev S1x32x1024x256 : Shape := ⟨4, ![1, 32, 1024, 256]⟩
abbrev S1x32x256x1024 : Shape := ⟨4, ![1, 32, 256, 1024]⟩
abbrev S1024 : Shape := ⟨1, ![1024]⟩
abbrev S32x1024x256 : Shape := ⟨3, ![32, 1024, 256]⟩
abbrev S1024x32x256 : Shape := ⟨3, ![1024, 32, 256]⟩
abbrev S1024x8192 : Shape := ⟨2, ![1024, 8192]⟩
abbrev S32x256x1024 : Shape := ⟨3, ![32, 256, 1024]⟩
abbrev S8192x1024 : Shape := ⟨2, ![8192, 1024]⟩
abbrev S1x1024 : Shape := ⟨2, ![1, 1024]⟩
abbrev S1x512x1024 : Shape := ⟨3, ![1, 512, 1024]⟩
abbrev S1x512x128 : Shape := ⟨3, ![1, 512, 128]⟩
abbrev S1x6x1024 : Shape := ⟨3, ![1, 6, 1024]⟩
abbrev S1024x2048 : Shape := ⟨2, ![1024, 2048]⟩
abbrev S2048x1024 : Shape := ⟨2, ![2048, 1024]⟩
abbrev S512x1024 : Shape := ⟨2, ![512, 1024]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩
abbrev S512x256 : Shape := ⟨2, ![512, 256]⟩
abbrev S1x1x1024 : Shape := ⟨3, ![1, 1, 1024]⟩

abbrev nBuf : Space → Nat
  | .hbm => 21
  | .vmem => 18
  | .smem => 0
  | _ => 0

abbrev bufTy : (tb : Table) → Fin (tcTables nBuf tb) → BufTy
  | .hbm, ⟨0, _⟩ => ⟨S8x8192x1024, .bf16⟩
  | .hbm, ⟨1, _⟩ => ⟨S8x8192x128, .f32⟩
  | .hbm, ⟨2, _⟩ => ⟨S8x8192x1024, .f32⟩
  | .hbm, ⟨3, _⟩ => ⟨S8x6x1024, .f32⟩
  | .hbm, ⟨4, _⟩ => ⟨S1x32x1024x256, .f32⟩
  | .hbm, ⟨5, _⟩ => ⟨S1x32x1024x256, .f32⟩
  | .hbm, ⟨6, _⟩ => ⟨S1x32x256x1024, .f32⟩
  | .hbm, ⟨7, _⟩ => ⟨S1024, .f32⟩
  | .hbm, ⟨8, _⟩ => ⟨S32x1024x256, .f32⟩
  | .hbm, ⟨9, _⟩ => ⟨S1024x32x256, .f32⟩
  | .hbm, ⟨10, _⟩ => ⟨S1024x8192, .f32⟩
  | .hbm, ⟨11, _⟩ => ⟨S1024x8192, .bf16⟩
  | .hbm, ⟨12, _⟩ => ⟨S32x1024x256, .f32⟩
  | .hbm, ⟨13, _⟩ => ⟨S1024x32x256, .f32⟩
  | .hbm, ⟨14, _⟩ => ⟨S1024x8192, .f32⟩
  | .hbm, ⟨15, _⟩ => ⟨S1024x8192, .bf16⟩
  | .hbm, ⟨16, _⟩ => ⟨S32x256x1024, .f32⟩
  | .hbm, ⟨17, _⟩ => ⟨S8192x1024, .f32⟩
  | .hbm, ⟨18, _⟩ => ⟨S8192x1024, .bf16⟩
  | .hbm, ⟨19, _⟩ => ⟨S1x1024, .f32⟩
  | .hbm, ⟨20, _⟩ => ⟨S8x8192x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x128, .f32⟩
  | .local _ .vmem, ⟨3, _⟩ => ⟨S1x512x128, .f32⟩
  | .local _ .vmem, ⟨4, _⟩ => ⟨S1x512x1024, .f32⟩
  | .local _ .vmem, ⟨5, _⟩ => ⟨S1x512x1024, .f32⟩
  | .local _ .vmem, ⟨6, _⟩ => ⟨S1x6x1024, .f32⟩
  | .local _ .vmem, ⟨7, _⟩ => ⟨S1x6x1024, .f32⟩
  | .local _ .vmem, ⟨8, _⟩ => ⟨S1024x2048, .bf16⟩
  | .local _ .vmem, ⟨9, _⟩ => ⟨S1024x2048, .bf16⟩
  | .local _ .vmem, ⟨10, _⟩ => ⟨S1024x2048, .bf16⟩
  | .local _ .vmem, ⟨11, _⟩ => ⟨S1024x2048, .bf16⟩
  | .local _ .vmem, ⟨12, _⟩ => ⟨S2048x1024, .bf16⟩
  | .local _ .vmem, ⟨13, _⟩ => ⟨S2048x1024, .bf16⟩
  | .local _ .vmem, ⟨14, _⟩ => ⟨S1x1024, .f32⟩
  | .local _ .vmem, ⟨15, _⟩ => ⟨S1x512x1024, .f32⟩
  | .local _ .vmem, ⟨16, _⟩ => ⟨S1x512x1024, .f32⟩
  | .local _ .vmem, ⟨17, _⟩ => ⟨S512x1024, .f32⟩
  | _, _ => ⟨S8x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![8, 16, 4], ![false, false, false]⟩

def k0_cond2 (i : grid0.Coords) : BitVec 1 :=
  let arg2 : BitVec 32 := BitVec.ofNat 32 (i 2).val
  let c3_i32_42 : BitVec 32 := 3#32
  let v122 : BitVec 1 := Scalar.cmpi .eq arg2 c3_i32_42
  let v123 : BitVec 32 := Scalar.extui v122
  let c0_i32_43 : BitVec 32 := 0#32
  let v124 : BitVec 1 := Scalar.cmpi .ne v123 c0_i32_43
  v124

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Reference2Ideal.lean ====
abbrev S8x8192x1024 : Shape := ⟨3, ![8, 8192, 1024]⟩
abbrev S8x8192x128 : Shape := ⟨3, ![8, 8192, 128]⟩
abbrev S8x6x1024 : Shape := ⟨3, ![8, 6, 1024]⟩
abbrev S1x32x1024x256 : Shape := ⟨4, ![1, 32, 1024, 256]⟩
abbrev S1x32x256x1024 : Shape := ⟨4, ![1, 32, 256, 1024]⟩
abbrev S1024 : Shape := ⟨1, ![1024]⟩
abbrev S65536x1024 : Shape := ⟨2, ![65536, 1024]⟩
abbrev S8x8192x32 : Shape := ⟨3, ![8, 8192, 32]⟩
abbrev S65536x32 : Shape := ⟨2, ![65536, 32]⟩
abbrev S32x1024x256 : Shape := ⟨3, ![32, 1024, 256]⟩
abbrev S65536x32x256 : Shape := ⟨3, ![65536, 32, 256]⟩
abbrev S_ : Shape := ⟨0, ![]⟩
abbrev S65536x32x1 : Shape := ⟨3, ![65536, 32, 1]⟩
abbrev S32x256x1024 : Shape := ⟨3, ![32, 256, 1024]⟩
abbrev S32x1024x65536 : Shape := ⟨3, ![32, 1024, 65536]⟩
abbrev S65536x32x1024 : Shape := ⟨3, ![65536, 32, 1024]⟩
abbrev S8x1x1024 : Shape := ⟨3, ![8, 1, 1024]⟩
abbrev S8x8192 : Shape := ⟨2, ![8, 8192]⟩
abbrev S8x8192x1 : Shape := ⟨3, ![8, 8192, 1]⟩
abbrev S1x1x1024 : Shape := ⟨3, ![1, 1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8x8192x1024, .bf16⟩
  | .hbm, ⟨1, _⟩ => ⟨S8x8192x128, .f32⟩
  | .hbm, ⟨2, _⟩ => ⟨S8x8192x1024, .f32⟩
  | .hbm, ⟨3, _⟩ => ⟨S8x6x1024, .f32⟩
  | .hbm, ⟨4, _⟩ => ⟨S1x32x1024x256, .f32⟩
  | .hbm, ⟨5, _⟩ => ⟨S1x32x1024x256, .f32⟩
  | .hbm, ⟨6, _⟩ => ⟨S1x32x256x1024, .f32⟩
  | .hbm, ⟨7, _⟩ => ⟨S1024, .f32⟩
  | .hbm, ⟨8, _⟩ => ⟨S8x8192x1024, .f32⟩
  | .hbm, ⟨9, _⟩ => ⟨S65536x1024, .f32⟩
  | .hbm, ⟨10, _⟩ => ⟨S8x8192x32, .f32⟩
  | .hbm, ⟨11, _⟩ => ⟨S65536x32, .f32⟩
  | .hbm, ⟨12, _⟩ => ⟨S32x1024x256, .f32⟩
  | .hbm, ⟨13, _⟩ => ⟨S65536x32x256, .f32⟩
  | .hbm, ⟨14, _⟩ => ⟨S65536x32x256, .f32⟩
  | .hbm, ⟨15, _⟩ => ⟨S65536x32x256, .f32⟩
  | .hbm, ⟨16, _⟩ => ⟨S_, .f32⟩
  | .hbm, ⟨17, _⟩ => ⟨S65536x32x256, .f32⟩
  | .hbm, ⟨18, _⟩ => ⟨S65536x32x256, .f32⟩
  | .hbm, ⟨19, _⟩ => ⟨S_, .f32⟩
  | .hbm, ⟨20, _⟩ => ⟨S65536x32x256, .f32⟩
  | .hbm, ⟨21, _⟩ => ⟨S65536x32x256, .f32⟩
  | .hbm, ⟨22, _⟩ => ⟨S65536x32x256, .f32⟩
  | .hbm, ⟨23, _⟩ => ⟨S32x1024x256, .f32⟩
  | .hbm, ⟨24, _⟩ => ⟨S65536x32x256, .f32⟩
  | .hbm, ⟨25, _⟩ => ⟨S65536x32x256, .f32⟩
  | .hbm, ⟨26, _⟩ => ⟨S65536x32x1, .f32⟩
  | .hbm, ⟨27, _⟩ => ⟨S32x256x1024, .f32⟩
  | .hbm, ⟨28, _⟩ => ⟨S32x1024x65536, .f32⟩
  | .hbm, ⟨29, _⟩ => ⟨S65536x32x1024, .f32⟩
  | .hbm, ⟨30, _⟩ => ⟨S65536x32x1024, .f32⟩
  | .hbm, ⟨31, _⟩ => ⟨S65536x32x1024, .f32⟩
  | .hbm, ⟨32, _⟩ => ⟨S_, .f32⟩
  | .hbm, ⟨33, _⟩ => ⟨S65536x1024, .f32⟩
  | .hbm, ⟨34, _⟩ => ⟨S8x8192x1024, .f32⟩
  | .hbm, ⟨35, _⟩ => ⟨S8x1x1024, .f32⟩
  | .hbm, ⟨36, _⟩ => ⟨S8x8192x1024, .f32⟩
  | .hbm, ⟨37, _⟩ => ⟨S8x8192x1024, .f32⟩
  | .hbm, ⟨38, _⟩ => ⟨S8x8192x1024, .f32⟩
  | .hbm, ⟨39, _⟩ => ⟨S8x8192x1024, .f32⟩
  | .hbm, ⟨40, _⟩ => ⟨S_, .f32⟩
  | .hbm, ⟨41, _⟩ => ⟨S8x8192, .f32⟩
  | .hbm, ⟨42, _⟩ => ⟨S8x8192x1, .f32⟩
  | .hbm, ⟨43, _⟩ => ⟨S_, .f32⟩
  | .hbm, ⟨44, _⟩ => ⟨S8x8192x1, .f32⟩
  | .hbm, ⟨45, _⟩ => ⟨S8x8192x1, .f32⟩
  | .hbm, ⟨46, _⟩ => ⟨S_, .f32⟩
  | .hbm, ⟨47, _⟩ => ⟨S8x8192x1, .f32⟩
  | .hbm, ⟨48, _⟩ => ⟨S8x8192x1, .f32⟩
  | .hbm, ⟨49, _⟩ => ⟨S8x8192x1, .f32⟩
  | .hbm, ⟨50, _⟩ => ⟨S8x8192x1024, .f32⟩
  | .hbm, ⟨51, _⟩ => ⟨S8x8192x1024, .f32⟩
  | .hbm, ⟨52, _⟩ => ⟨S1x1x1024, .f32⟩
  | .hbm, ⟨53, _⟩ => ⟨S8x8192x1024, .f32⟩
  | .hbm, ⟨54, _⟩ => ⟨S8x8192x1024, .f32⟩
  | _, _ => ⟨S8x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_0 : Ref sig .tc := ⟨.hbm, 40, rfl⟩
abbrev main_v23 : Ref sig .tc := ⟨.hbm, 41, rfl⟩
abbrev main_v24 : Ref sig .tc := ⟨.hbm, 42, rfl⟩
abbrev main_cst_1 : Ref sig .tc := ⟨.hbm, 43, rfl⟩
abbrev main_v25 : Ref sig .tc := ⟨.hbm, 44, rfl⟩
abbrev main_v26 : Ref sig .tc := ⟨.hbm, 45, rfl⟩
abbrev main_cst_2 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Kernel3.lean ====
abbrev S8x1024 : Shape := ⟨2, ![8, 1024]⟩
abbrev S1x1024x6144 : Shape := ⟨3, ![1, 1024, 6144]⟩
abbrev S1x6144 : Shape := ⟨2, ![1, 6144]⟩
abbrev S1024x6144 : Shape := ⟨2, ![1024, 6144]⟩
abbrev S6144 : Shape := ⟨1, ![6144]⟩
abbrev S8x6144 : Shape := ⟨2, ![8, 6144]⟩
abbrev S1024x1024 : Shape := ⟨2, ![1024, 1024]⟩
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1x1024x6144, .f32⟩
  | .hbm, ⟨2, _⟩ => ⟨S1x6144, .f32⟩
  | .hbm, ⟨3, _⟩ => ⟨S1024x6144, .f32⟩
  | .hbm, ⟨4, _⟩ => ⟨S6144, .f32⟩
  | .hbm, ⟨5, _⟩ => ⟨S1x6144, .f32⟩
  | .hbm, ⟨6, _⟩ => ⟨S8x6144, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S8x1024 : Shape := ⟨2, ![8, 1024]⟩
abbrev S1x1024x6144 : Shape := ⟨3, ![1, 1024, 6144]⟩
abbrev S1x6144 : Shape := ⟨2, ![1, 6144]⟩
abbrev S_ : Shape := ⟨0, ![]⟩
abbrev S1024x6144 : Shape := ⟨2, ![1024, 6144]⟩
abbrev S8x6144 : Shape := ⟨2, ![8, 6144]⟩
abbrev S6144 : Shape := ⟨1, ![6144]⟩

abbrev nBuf : Space → Nat
  | .hbm => 18
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1x1024x6144, .f32⟩
  | .hbm, ⟨2, _⟩ => ⟨S1x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1024x6144, .f32⟩
  | .hbm, ⟨13, _⟩ => ⟨S8x6144, .f32⟩
  | .hbm, ⟨14, _⟩ => ⟨S6144, .f32⟩
  | .hbm, ⟨15, _⟩ => ⟨S1x6144, .f32⟩
  | .hbm, ⟨16, _⟩ => ⟨S8x6144, .f32⟩
  | .hbm, ⟨17, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Proof.Moe.Block.lean ====
/- What one grid step of the expert call computes, read at an index over the extended reals: the accumulator plus, for
   every one of the step's 2048 hidden columns, the gated hidden value times the down-projection's weight. -/
module

public import proofs.«01_k».proof.Proof.Gen.Kernel2Ideal.Value
public import Idealize.ShloMosaic.Lib.Pointwise
public import Idealize.ShloMosaic.Lib.ValueIdx
public import Idealize.ShloMosaic.Lib.MatmulPlain

@[expose] public section

noncomputable section

namespace Cert.Moe

open Cert.Kernel2Ideal Cert.Kernel2Ideal.Gen Idealize.ShloMosaic Idealize.ShloMosaic.TcCoe
open scoped BigOperators

/-- The hidden value of one column: `silu(gate) * up` of the two inner products. -/
def hidVal (g u : EReal) : EReal := g * Ideal.logistic g * u

theorem pay3_apply (h : Vec Ideal S1x512x1024 .bf16) (wg wu : Vec Ideal S1024x2048 .bf16) (q : Fin 512) (k : Fin 2048) :
    k0_pay3 h wg wu (ix2 q k)
      = hidVal (∑ d : Fin 1024, h (ix3 0 q d) * wg (ix2 d k)) (∑ d : Fin 1024, h (ix3 0 q d) * wu (ix2 d k)) := by
  unfold hidVal
  pointwise [k0_pay3]

/-- The lane the step's `e`-th expert's gate stands in, at grid coordinate `n` of the expert axis. -/
theorem lane_word (n e : ℕ) (hn : n < 4) (he : e < 8) (l : Fin 128) :
    Scalar.cmpi .eq (BitVec.ofNat 32 l.val) (Scalar.addi (Scalar.muli (BitVec.ofNat 32 n) 8#32) (BitVec.ofNat 32 e)) = 1#1
      ↔ l.val = 8 * n + e := by
  have hl := l.isLt
  have : Scalar.addi (Scalar.muli (BitVec.ofNat 32 n) 8#32) (BitVec.ofNat 32 e) = BitVec.ofNat 32 (8 * n + e) := by
    apply BitVec.eq_of_toNat_eq
    simp [Scalar.addi, Scalar.muli, IntOp.addi, IntOp.muli]
    omega
  rw [this]
  have h2 : (BitVec.ofNat 32 l.val = BitVec.ofNat 32 (8 * n + e)) ↔ l.val = 8 * n + e := by
    constructor
    · intro h
      have := congrArg BitVec.toNat h
      simp only [BitVec.toNat_ofNat] at this
      omega
    · intro h; rw [h]
  rw [← h2]
  show BitVec.ofBool (BitVec.ofNat 32 l.val == BitVec.ofNat 32 (8 * n + e)) = 1#1 ↔ _
  by_cases h : BitVec.ofNat 32 l.val = BitVec.ofNat 32 (8 * n + e)
  · simp [h]
  · simp [h, beq_eq_false_iff_ne.2 h]

/-- A row of gates masked to one lane sums to that lane's gate. -/
theorem sum_lane (n e : ℕ) (hn : n < 4) (he : e < 8) (g : Fin 128 → EReal) :
    ∑ l : Fin 128, Scalar.select (Scalar.cmpi .eq (BitVec.ofNat 32 l.val)
        (Scalar.addi (Scalar.muli (BitVec.ofNat 32 n) 8#32) (BitVec.ofNat 32 e))) (g l) 0
      = g ⟨8 * n + e, by omega⟩ := by
  rw [Finset.sum_eq_single (⟨8 * n + e, by omega⟩ : Fin 128)]
  · unfold Scalar.select
    rw [(lane_word n e hn he ⟨8 * n + e, by omega⟩).2 rfl]
    rfl
  · intro l _ hl
    have h := fun h => hl (Fin.ext ((lane_word n e hn he l).1 h))
    generalize Scalar.cmpi .eq (BitVec.ofNat 32 l.val)
        (Scalar.addi (Scalar.muli (BitVec.ofNat 32 n) 8#32) (BitVec.ofNat 32 e)) = c at h
    rw [show c = 0#1 from by revert h; revert c; decide]
    rfl
  · intro h; exact absurd (Finset.mem_univ _) h

/-- One expert's features, scaled by that expert's gate: the gate's lane is picked by comparing the lane numbers. -/
theorem sum_lane_mul (n e : ℕ) (hn : n < 4) (he : e < 8) (a : EReal) (g : Fin 128 → EReal) :
    a * ∑ l : Fin 128, Scalar.select (Scalar.cmpi .eq (BitVec.ofNat 32 l.val)
        (Scalar.addi (Scalar.muli (BitVec.ofNat 32 n) 8#32) (BitVec.ofNat 32 e))) (g l) 0
      = a * g ⟨8 * n + e, by omega⟩ := congrArg (a * ·) (sum_lane n e hn he g)

theorem pay5_apply (i : grid0.Coords) (hi : (i 2).val < 4) (h : Vec Ideal S1x512x1024 .bf16) (wg wu : Vec Ideal S1024x2048 .bf16)
    (g : Vec Ideal S1x512x128 .f32) (q : Fin 512) (f : Fin 256) :
    k0_pay5 i h wg wu g (ix2 q f)
      = k0_pay3 h wg wu (ix2 q ⟨0 + f.val, by omega⟩) * k0_pay4 g (ix2 q ⟨8 * (i 2).val + 0, by omega⟩) := by
  refine Eq.trans ?_ (sum_lane_mul (i 2).val 0 hi (by omega) _ (fun l => k0_pay4 g (ix2 q l)))
  have e0 : (⟨0 + f.val, by omega⟩ : Fin 2048) = ⟨f.val, by omega⟩ := Fin.ext (Nat.zero_add _)
  rw [e0]
  generalize hA : k0_pay3 h wg wu = A
  generalize hB : k0_pay4 g = B
  pointwise [k0_pay5, hA, hB]
  rfl

theorem pay7_apply (i : grid0.Coords) (hi : (i 2).val < 4) (A : FVec Ideal S512x2048 .f32)
    (g : Vec Ideal S1x512x128 .f32) (q : Fin 512) (f : Fin 256) :
    k0_pay7 A (k0_pay6 i g) (ix2 q f)
      = A (ix2 q ⟨256 + f.val, by omega⟩) * k0_pay4 g (ix2 q ⟨8 * (i 2).val + 1, by omega⟩) := by
  refine Eq.trans ?_ (sum_lane_mul (i 2).val 1 hi (by omega) _ (fun l => k0_pay4 g (ix2 q l)))
  generalize hB : k0_pay4 g = B
  pointwise [k0_pay7, k0_pay6, hB]
  rfl

theorem pay8_apply (n : ℕ) (hn : n < 4) (A : FVec Ideal S512x2048 .f32) (B : FVec Ideal S512x128 .f32) (q : Fin 512) (f : Fin 256) :
    k0_pay8 (BitVec.ofNat 32 n) A B (iota .tc S512x128 32 [1] iota_S512x128_d1_w32) (ix2 q f)
      = A (ix2 q ⟨512 + f.val, by omega⟩) * B (ix2 q ⟨8 * n + 2, by omega⟩) := by
  refine Eq.trans ?_ (sum_lane_mul n 2 hn (by omega) _ (fun l => B (ix2 q l)))
  pointwise [k0_pay8]
  rfl

theorem pay9_apply (n : ℕ) (hn : n < 4) (A : FVec Ideal S512x2048 .f32) (B : FVec Ideal S512x128 .f32) (q : Fin 512) (f : Fin 256) :
    k0_pay9 (BitVec.ofNat 32 n) A B (iota .tc S512x128 32 [1] iota_S512x128_d1_w32) (ix2 q f)
      = A (ix2 q ⟨768 + f.val, by omega⟩) * B (ix2 q ⟨8 * n + 3, by omega⟩) := by
  refine Eq.trans ?_ (sum_lane_mul n 3 hn (by omega) _ (fun l => B (ix2 q l)))
  pointwise [k0_pay9]
  rfl

theorem pay10_apply (n : ℕ) (hn : n < 4) (A : FVec Ideal S512x2048 .f32) (B : FVec Ideal S512x128 .f32) (q : Fin 512) (f : Fin 256) :
    k0_pay10 (BitVec.ofNat 32 n) A B (iota .tc S512x128 32 [1] iota_S512x128_d1_w32) (ix2 q f)
      = A (ix2 q ⟨1024 + f.val, by omega⟩) * B (ix2 q ⟨8 * n + 4, by omega⟩) := by
  refine Eq.trans ?_ (sum_lane_mul n 4 hn (by omega) _ (fun l => B (ix2 q l)))
  pointwise [k0_pay10]
  rfl

/-- Eight experts' scaled features side by side: column `k` is feature `k % 256` of expert `k / 256`. -/
theorem concat_parts (v : Fin 8 → FVec Ideal S512x256 .bf16) (A : FVec Ideal S512x2048 .f32) (B : FVec Ideal S512x128 .f32) (n : ℕ)
    (hn : n < 4) (q : Fin 512)
    (hv : ∀ (e : Fin 8) (f : Fin 256), v e (ix2 q f)
      = A (ix2 q ⟨256 * e.val + f.val, by omega⟩) * B (ix2 q ⟨8 * n + e.val, by omega⟩)) (k : Fin 2048) :
    concatenate S512x2048 1 [⟨S512x256, v 0⟩, ⟨S512x256, v 1⟩, ⟨S512x256, v 2⟩, ⟨S512x256, v 3⟩, ⟨S512x256, v 4⟩, ⟨S512x256, v 5⟩, ⟨S512x256, v 6⟩, ⟨S512x256, v 7⟩]
        concatenates_S512x256_S512x256_S512x256_S512x256_S512x256_S512x256_S512x256_S512x256_S512x2048_d1 (ix2 q k)
      = A (ix2 q k) * B (ix2 q ⟨8 * n + k.val / 256, by omega⟩) := by
  have hk := k.isLt
  refine (concatenate_ofFn_apply (s₁ := S512x256) (t := S512x2048) 1 v
    concatenates_S512x256_S512x256_S512x256_S512x256_S512x256_S512x256_S512x256_S512x256_S512x2048_d1
    rfl 256 rfl (ix2 q k) ⟨k.val / 256, by omega⟩ rfl (ix2 q ⟨k.val % 256, by omega⟩) rfl ?_).trans ?_
  · intro b hb
    match b with
    | ⟨0, _⟩ => rfl
    | ⟨1, _⟩ => exact absurd rfl hb
  · rw [hv]
    have e1 : (⟨256 * (k.val / 256) + k.val % 256, by omega⟩ : Fin 2048) = k := Fin.ext (by simp only []; omega)
    exact congrArg (fun z => A (ix2 q z) * _) e1

/-- One grid step's new accumulator: what was there plus the eight experts' gated features through their rows of the down projection. -/
theorem pay12_apply (n : ℕ) (hn : n < 4) (A : FVec Ideal S512x2048 .f32) (B : FVec Ideal S512x128 .f32)
    (v0 v1 v2 v3 v4 : FVec Ideal S512x256 .bf16) (acc : Vec Ideal S512x1024 .f32) (wd : Vec Ideal S2048x1024 .bf16) (q : Fin 512) (c : Fin 1024)
    (h0 : ∀ f : Fin 256, v0 (ix2 q f) = A (ix2 q ⟨0 + f.val, by omega⟩) * B (ix2 q ⟨8 * n + 0, by omega⟩))
    (h1 : ∀ f : Fin 256, v1 (ix2 q f) = A (ix2 q ⟨256 + f.val, by omega⟩) * B (ix2 q ⟨8 * n + 1, by omega⟩))
    (h2 : ∀ f : Fin 256, v2 (ix2 q f) = A (ix2 q ⟨512 + f.val, by omega⟩) * B (ix2 q ⟨8 * n + 2, by omega⟩))
    (h3 : ∀ f : Fin 256, v3 (ix2 q f) = A (ix2 q ⟨768 + f.val, by omega⟩) * B (ix2 q ⟨8 * n + 3, by omega⟩))
    (h4 : ∀ f : Fin 256, v4 (ix2 q f) = A (ix2 q ⟨1024 + f.val, by omega⟩) * B (ix2 q ⟨8 * n + 4, by omega⟩))
    :
    k0_pay12 (BitVec.ofNat 32 n) A B (iota .tc S512x128 32 [1] iota_S512x128_d1_w32) v0 v1 v2 v3 v4 (k0_pay11 (BitVec.ofNat 32 n)) acc wd (ix2 q c)
      = acc (ix2 q c) + ∑ k : Fin 2048, A (ix2 q k) * B (ix2 q ⟨8 * n + k.val / 256, by omega⟩) * wd (ix2 k c) := by
  unfold k0_pay12
  dsimp only
  rw [shapeCast_self, shapeCast_self]
  refine congrArg (acc (ix2 q c) + ·) ?_
  refine (Ideal.matmul_plain_apply _ _ _ _ _ _).trans ?_
  have e0 : constant (F := Ideal) S512x1024 FTy.f32 0#32 (ValueIdx.ix2 q c) = (0 : EReal) :=
    (show _ = Ideal.ofBits .f32 0#32 from rfl).trans (Ideal.ofBits_zero .f32)
  rw [e0, zero_add]
  simp only [← ix2_eq_valueIdx]
  refine Finset.sum_congr rfl fun k _ => congrArg (· * _) ?_
  refine concat_parts ![v0, v1, v2, v3, v4, _, _, _] A B n hn q ?_ k
  intro e f
  fin_cases e
  · exact h0 f
  · exact h1 f
  · exact h2 f
  · exact h3 f
  · exact h4 f
  · refine Eq.trans ?_ (sum_lane_mul n 5 hn (by omega) _ (fun l => B (ix2 q l)))
    show truncf .bf16 _ _ (ix2 q f) = _
    pointwise [k0_pay11]
    rfl
  · refine Eq.trans ?_ (sum_lane_mul n 6 hn (by omega) _ (fun l => B (ix2 q l)))
    show truncf .bf16 _ _ (ix2 q f) = _
    pointwise []
    rfl
  · refine Eq.trans ?_ (sum_lane_mul n 7 hn (by omega) _ (fun l => B (ix2 q l)))
    show truncf .bf16 _ _ (ix2 q f) = _
    pointwise []
    rfl

/-- The residual plus the gated mixture, normalised: what the last of a tile's steps stores. -/
theorem pay1_apply (x1 : Vec Ideal S1x512x1024 .f32) (md : Vec Ideal S1x1x1024 .f32) (acc : Vec Ideal S512x1024 .f32) (gf : Vec Ideal S1x1024 .f32)
    (q : Fin 512) (c : Fin 1024) :
    k0_pay1 x1 md acc gf (ix3 0 q c)
      = (x1 (ix3 0 q c) + md (ix3 0 0 c) * acc (ix2 q c))
        * Ideal.rsqrt (Ideal.div (∑ d : Fin 1024, (x1 (ix3 0 q d) + md (ix3 0 0 d) * acc (ix2 q d)) * (x1 (ix3 0 q d) + md (ix3 0 0 d) * acc (ix2 q d)))
            (Ideal.ofBits .f32 0x44800000#32) + Ideal.ofBits .f32 0x358637BD#32)
        * gf (ix2 0 c) := by
  pointwise [k0_pay1]

end Cert.Moe

end
-- ==== Proof.Moe.Steps.lean ====
/-
  What one grid step of the expert layer leaves in its accumulator and in its output block, as one expression of the
  step's input blocks, for each of the three kinds of step: the first of a token tile (the accumulator starts at zero),
  a middle one, and the last (which also normalises and stores the tile).
-/
module

public import proofs.«01_k».proof.Proof.Moe.Block
public import Idealize.ShloMosaic.Lib.Pipeline.Value
public import Idealize.ShloMosaic.Lib.StableHlo.Run
public import Idealize.ShloMosaic.Lib.Tactic

@[expose] public section

set_option maxRecDepth 16384

noncomputable section

namespace Cert.Moe

open Cert.Kernel2Ideal Cert.Kernel2Ideal.Gen Idealize.ShloMosaic Idealize.ShloMosaic.TcCoe Idealize.ShloMosaic.Tactic
open scoped BigOperators

/-- The accumulator after a step at grid point `i`, from the step's blocks and the accumulator before. -/
def stepOf (i : grid0.Coords) (x0 : Vec Ideal S1x512x1024 .bf16) (x1 : Vec Ideal S1x512x128 .f32) (x4 x5 : Vec Ideal S1024x2048 .bf16)
    (x6 : Vec Ideal S2048x1024 .bf16) (acc : Vec Ideal S512x1024 .f32) : Vec Ideal S512x1024 .f32 :=
  k0_pay12 (BitVec.ofNat 32 (i 2).val) (k0_pay3 x0 x4 x5) (k0_pay4 x1) (iota .tc S512x128 32 [1] iota_S512x128_d1_w32)
    (k0_pay5 i x0 x4 x5 x1) (k0_pay7 (k0_pay3 x0 x4 x5) (k0_pay6 i x1))
    (k0_pay8 (BitVec.ofNat 32 (i 2).val) (k0_pay3 x0 x4 x5) (k0_pay4 x1) (iota .tc S512x128 32 [1] iota_S512x128_d1_w32))
    (k0_pay9 (BitVec.ofNat 32 (i 2).val) (k0_pay3 x0 x4 x5) (k0_pay4 x1) (iota .tc S512x128 32 [1] iota_S512x128_d1_w32))
    (k0_pay10 (BitVec.ofNat 32 (i 2).val) (k0_pay3 x0 x4 x5) (k0_pay4 x1) (iota .tc S512x128 32 [1] iota_S512x128_d1_w32))
    (k0_pay11 (BitVec.ofNat 32 (i 2).val)) acc x6

/-- One step adds eight experts: column `k` of the step's 2048 is feature `k % 256` of the step's expert `k / 256`. -/
theorem stepOf_apply (i : grid0.Coords) (hi : (i 2).val < 4) (x0 : Vec Ideal S1x512x1024 .bf16) (x1 : Vec Ideal S1x512x128 .f32)
    (x4 x5 : Vec Ideal S1024x2048 .bf16) (x6 : Vec Ideal S2048x1024 .bf16) (acc : Vec Ideal S512x1024 .f32) (q : Fin 512) (c : Fin 1024) :
    stepOf i x0 x1 x4 x5 x6 acc (ix2 q c)
      = (acc (ix2 q c) : EReal) + ∑ k : Fin 2048,
          hidVal (∑ d : Fin 1024, x0 (ix3 0 q d) * x4 (ix2 d k)) (∑ d : Fin 1024, x0 (ix3 0 q d) * x5 (ix2 d k))
            * (x1 (ix3 0 q ⟨8 * (i 2).val + k.val / 256, by omega⟩) : EReal) * (x6 (ix2 k c) : EReal) := by
  unfold stepOf
  rw [pay12_apply (i 2).val hi _ _ _ _ _ _ _ acc x6 q c
    (pay5_apply i hi x0 x4 x5 x1 q) (pay7_apply i hi _ x1 q)
    (pay8_apply _ hi _ _ q) (pay9_apply _ hi _ _ q) (pay10_apply _ hi _ _ q)]
  refine congrArg (_ + ·) (Finset.sum_congr rfl fun k _ => ?_)
  have e4 : ∀ z : Fin 128, k0_pay4 x1 (ix2 q z) = x1 (ix3 0 q z) := fun z => by pointwise [k0_pay4]
  rw [pay3_apply, e4]

theorem hz2 : (![0, 0] : Fin 2 → Nat) = fun _ => 0 := funext fun a => by fin_cases a <;> rfl
theorem hz3 : (![0, 0, 0] : Fin 3 → Nat) = fun _ => 0 := funext fun a => by fin_cases a <;> rfl

/-- The sixth row of the six modulation rows, as the kernel loads it. -/
def row5 (x3 : Vec Ideal S1x6x1024 .f32) : Vec Ideal S1x1x1024 .f32 :=
  View.ld x3 (Rect.unit (s := S1x6x1024) ![0, 5, 0] S1x1x1024.size inb_S1x6x1024_S1x1x1024_0_5_0)

theorem row5_apply (x3 : Vec Ideal S1x6x1024 .f32) (n : Fin 1024) : row5 x3 (ix3 0 0 n) = x3 (ix3 0 5 n) := by
  unfold row5 View.ld
  refine congrArg x3 ?_
  funext a
  apply Fin.ext
  match a with
  | ⟨0, _⟩ => rfl
  | ⟨1, _⟩ => rfl
  | ⟨2, _⟩ => show 0 + 1 * n.val = n.val; omega

/-- The first step of a tile leaves the step over zero. -/
theorem sout_A (c : Dev nD) (i : grid0.Coords) (arg3 : Memref sig .tc .vmem S1x512x1024 .bf16) (harg3 : arg3.IsWhole) (arg4 : Memref sig .tc .vmem S1x512x128 .f32) (harg4 : arg4.IsWhole) (arg5 : Memref sig .tc .vmem S1x512x1024 .f32) (harg5 : arg5.IsWhole) (arg6 : Memref sig .tc .vmem S1x6x1024 .f32) (harg6 : arg6.IsWhole) (arg7 : Memref sig .tc .vmem S1024x2048 .bf16) (harg7 : arg7.IsWhole) (arg8 : Memref sig .tc .vmem S1024x2048 .bf16) (harg8 : arg8.IsWhole) (arg9 : Memref sig .tc .vmem S2048x1024 .bf16) (harg9 : arg9.IsWhole) (arg10 : Memref sig .tc .vmem S1x1024 .f32) (harg10 : arg10.IsWhole) (arg11 : Memref sig .tc .vmem S1x512x1024 .f32) (harg11 : arg11.IsWhole) (arg12 : Memref sig .tc .vmem S512x1024 .f32) (harg12 : arg12.IsWhole) (hc0 : cond0_0 i) (hc1 : ¬cond0_1 i)
    (x0 : Vec Ideal S1x512x1024 .bf16) (x1 : Vec Ideal S1x512x128 .f32) (x2 : Vec Ideal S1x512x1024 .f32) (x3 : Vec Ideal S1x6x1024 .f32) (x4 : Vec Ideal S1024x2048 .bf16) (x5 : Vec Ideal S1024x2048 .bf16) (x6 : Vec Ideal S2048x1024 .bf16) (x7 : Vec Ideal S1x1024 .f32) :
    sout0_A_0 (F := Ideal) c i arg3 harg3 arg4 harg4 arg5 harg5 arg6 harg6 arg7 harg7 arg8 harg8 arg9 harg9 arg10 harg10 arg11 harg11 arg12 harg12 hc0 hc1 x0 x1 x2 x3 x4 x5 x6 x7 = stepOf i x0 x1 x4 x5 x6 (k0_pay2 (F := Ideal)) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 hc0 hc1 x0 x1 x2 x3 x4 x5 x6 x7)]
  unfold kernelRun0_A
  dsimp only
  sl_unfold_words
  rw [View.canon_cons_unit_zero (S := S512x1024) hz2, View.readCov_unit_zero (S := S512x1024) _ hz2]
  simp only [View.readAt_eq_ld, harg3.read_unread, harg4.read_unread, harg5.read_unread, harg6.read_unread, harg7.read_unread, harg8.read_unread, harg9.read_unread, harg10.read_unread, View.ld_unit_zero (S := S1x512x1024) hz3, View.ld_unit_zero (S := S1x512x128) hz3, View.ld_unit_zero (S := S1024x2048) hz2, View.ld_unit_zero (S := S2048x1024) hz2, View.ld_unit_zero (S := S1x1024) hz2, View.ld_unit_zero (S := S512x1024) hz2]
  rfl

/-- A middle step adds to what the step before left. -/
theorem sout_B (c : Dev nD) (i : grid0.Coords) (arg3 : Memref sig .tc .vmem S1x512x1024 .bf16) (harg3 : arg3.IsWhole) (arg4 : Memref sig .tc .vmem S1x512x128 .f32) (harg4 : arg4.IsWhole) (arg5 : Memref sig .tc .vmem S1x512x1024 .f32) (harg5 : arg5.IsWhole) (arg6 : Memref sig .tc .vmem S1x6x1024 .f32) (harg6 : arg6.IsWhole) (arg7 : Memref sig .tc .vmem S1024x2048 .bf16) (harg7 : arg7.IsWhole) (arg8 : Memref sig .tc .vmem S1024x2048 .bf16) (harg8 : arg8.IsWhole) (arg9 : Memref sig .tc .vmem S2048x1024 .bf16) (harg9 : arg9.IsWhole) (arg10 : Memref sig .tc .vmem S1x1024 .f32) (harg10 : arg10.IsWhole) (arg11 : Memref sig .tc .vmem S1x512x1024 .f32) (harg11 : arg11.IsWhole) (arg12 : Memref sig .tc .vmem S512x1024 .f32) (harg12 : arg12.IsWhole) (hc0 : ¬cond0_0 i) (hc1 : ¬cond0_1 i)
    (x0 : Vec Ideal S1x512x1024 .bf16) (x1 : Vec Ideal S1x512x128 .f32) (x2 : Vec Ideal S1x512x1024 .f32) (x3 : Vec Ideal S1x6x1024 .f32) (x4 : Vec Ideal S1024x2048 .bf16) (x5 : Vec Ideal S1024x2048 .bf16) (x6 : Vec Ideal S2048x1024 .bf16) (x7 : Vec Ideal S1x1024 .f32) (xs0 : Vec Ideal S512x1024 .f32) :
    sout0_B_0 (F := Ideal) c i arg3 harg3 arg4 harg4 arg5 harg5 arg6 harg6 arg7 harg7 arg8 harg8 arg9 harg9 arg10 harg10 arg11 harg11 arg12 harg12 hc0 hc1 x0 x1 x2 x3 x4 x5 x6 x7 xs0 = stepOf i x0 x1 x4 x5 x6 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun0_B
  dsimp only
  sl_unfold_words
  rw [View.canon_unit_zero (S := S512x1024) hz2]
  simp only [View.readAt_eq_ld, harg3.read_unread, harg4.read_unread, harg5.read_unread, harg6.read_unread, harg7.read_unread, harg8.read_unread, harg9.read_unread, harg10.read_unread, harg12.read_unread, View.ld_unit_zero (S := S1x512x1024) hz3, View.ld_unit_zero (S := S1x512x128) hz3, View.ld_unit_zero (S := S1024x2048) hz2, View.ld_unit_zero (S := S2048x1024) hz2, View.ld_unit_zero (S := S1x1024) hz2, View.ld_unit_zero (S := S512x1024) hz2]
  rfl

/-- The last step adds to what the step before left. -/
theorem sout_C (c : Dev nD) (i : grid0.Coords) (arg3 : Memref sig .tc .vmem S1x512x1024 .bf16) (harg3 : arg3.IsWhole) (arg4 : Memref sig .tc .vmem S1x512x128 .f32) (harg4 : arg4.IsWhole) (arg5 : Memref sig .tc .vmem S1x512x1024 .f32) (harg5 : arg5.IsWhole) (arg6 : Memref sig .tc .vmem S1x6x1024 .f32) (harg6 : arg6.IsWhole) (arg7 : Memref sig .tc .vmem S1024x2048 .bf16) (harg7 : arg7.IsWhole) (arg8 : Memref sig .tc .vmem S1024x2048 .bf16) (harg8 : arg8.IsWhole) (arg9 : Memref sig .tc .vmem S2048x1024 .bf16) (harg9 : arg9.IsWhole) (arg10 : Memref sig .tc .vmem S1x1024 .f32) (harg10 : arg10.IsWhole) (arg11 : Memref sig .tc .vmem S1x512x1024 .f32) (harg11 : arg11.IsWhole) (arg12 : Memref sig .tc .vmem S512x1024 .f32) (harg12 : arg12.IsWhole) (hc0 : ¬cond0_0 i) (hc1 : cond0_1 i)
    (x0 : Vec Ideal S1x512x1024 .bf16) (x1 : Vec Ideal S1x512x128 .f32) (x2 : Vec Ideal S1x512x1024 .f32) (x3 : Vec Ideal S1x6x1024 .f32) (x4 : Vec Ideal S1024x2048 .bf16) (x5 : Vec Ideal S1024x2048 .bf16) (x6 : Vec Ideal S2048x1024 .bf16) (x7 : Vec Ideal S1x1024 .f32) (xs0 : Vec Ideal S512x1024 .f32) :
    sout0_C_0 (F := Ideal) c i arg3 harg3 arg4 harg4 arg5 harg5 arg6 harg6 arg7 harg7 arg8 harg8 arg9 harg9 arg10 harg10 arg11 harg11 arg12 harg12 hc0 hc1 x0 x1 x2 x3 x4 x5 x6 x7 xs0 = stepOf i x0 x1 x4 x5 x6 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun0_C
  dsimp only
  sl_unfold_words
  rw [View.canon_unit_zero (S := S512x1024) hz2]
  simp only [View.readAt_eq_ld, harg3.read_unread, harg4.read_unread, harg5.read_unread, harg6.read_unread, harg7.read_unread, harg8.read_unread, harg9.read_unread, harg10.read_unread, harg12.read_unread, View.ld_unit_zero (S := S1x512x1024) hz3, View.ld_unit_zero (S := S1x512x128) hz3, View.ld_unit_zero (S := S1024x2048) hz2, View.ld_unit_zero (S := S2048x1024) hz2, View.ld_unit_zero (S := S1x1024) hz2, View.ld_unit_zero (S := S512x1024) hz2]
  rfl

/-- The last step of a tile stores the normalised block. -/
theorem out_C (c : Dev nD) (i : grid0.Coords) (arg3 : Memref sig .tc .vmem S1x512x1024 .bf16) (harg3 : arg3.IsWhole) (arg4 : Memref sig .tc .vmem S1x512x128 .f32) (harg4 : arg4.IsWhole) (arg5 : Memref sig .tc .vmem S1x512x1024 .f32) (harg5 : arg5.IsWhole) (arg6 : Memref sig .tc .vmem S1x6x1024 .f32) (harg6 : arg6.IsWhole) (arg7 : Memref sig .tc .vmem S1024x2048 .bf16) (harg7 : arg7.IsWhole) (arg8 : Memref sig .tc .vmem S1024x2048 .bf16) (harg8 : arg8.IsWhole) (arg9 : Memref sig .tc .vmem S2048x1024 .bf16) (harg9 : arg9.IsWhole) (arg10 : Memref sig .tc .vmem S1x1024 .f32) (harg10 : arg10.IsWhole) (arg11 : Memref sig .tc .vmem S1x512x1024 .f32) (harg11 : arg11.IsWhole) (arg12 : Memref sig .tc .vmem S512x1024 .f32) (harg12 : arg12.IsWhole) (hc0 : ¬cond0_0 i) (hc1 : cond0_1 i)
    (x0 : Vec Ideal S1x512x1024 .bf16) (x1 : Vec Ideal S1x512x128 .f32) (x2 : Vec Ideal S1x512x1024 .f32) (x3 : Vec Ideal S1x6x1024 .f32) (x4 : Vec Ideal S1024x2048 .bf16) (x5 : Vec Ideal S1024x2048 .bf16) (x6 : Vec Ideal S2048x1024 .bf16) (x7 : Vec Ideal S1x1024 .f32) (xs0 : Vec Ideal S512x1024 .f32) :
    out0_C_8 (F := Ideal) c i arg3 harg3 arg4 harg4 arg5 harg5 arg6 harg6 arg7 harg7 arg8 harg8 arg9 harg9 arg10 harg10 arg11 harg11 arg12 harg12 hc0 hc1 x0 x1 x2 x3 x4 x5 x6 x7 xs0 = k0_pay1 x2 (row5 x3) (stepOf i x0 x1 x4 x5 x6 xs0) x7 := by
  unfold out0_C_8
  rw [View.read_writes_eq_canon _ _ _ (cover0_C_8 c i arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun0_C
  dsimp only
  sl_unfold_words
  rw [View.canon_unit_zero (S := S1x512x1024) hz3]
  rw [View.readCov_unit_zero (S := S512x1024) _ hz2]
  simp only [View.readAt_eq_ld, harg3.read_unread, harg4.read_unread, harg5.read_unread, harg6.read_unread, harg7.read_unread, harg8.read_unread, harg9.read_unread, harg10.read_unread, harg12.read_unread, View.ld_unit_zero (S := S1x512x1024) hz3, View.ld_unit_zero (S := S1x512x128) hz3, View.ld_unit_zero (S := S1024x2048) hz2, View.ld_unit_zero (S := S2048x1024) hz2, View.ld_unit_zero (S := S1x1024) hz2, View.ld_unit_zero (S := S512x1024) hz2]
  rfl

end Cert.Moe

end
-- ==== Proof.Moe.Arrays.lean ====
/-
  What the expert layer's kernel finds in its arrays: the weights as the host lays them out (thirty-two experts' columns side by
  side, thirty-two experts' rows one under the other), and each input block as a part of its array.
-/
module

public import proofs.«01_k».proof.Proof.Moe.Steps

@[expose] public section

set_option maxRecDepth 16384

noncomputable section

namespace Cert.Moe

open Cert.Kernel2Ideal Cert.Kernel2Ideal.Gen Idealize.ShloMosaic Idealize.ShloMosaic.TcCoe Idealize.ShloMosaic.Tactic
open scoped BigOperators

/-- Thirty-two experts' input projections laid side by side. -/
def hostCols (w : FVec Ideal S1x32x1024x256 .f32) : FVec Ideal S1024x8192 .bf16 :=
  truncf .bf16 (shapeCast S1024x8192 (transpose S1024x32x256 [1, 0, 2] (shapeCast S32x1024x256 w shapeCasts_S1x32x1024x256_S32x1024x256)
    transposes_S32x1024x256_S1024x32x256_1_0_2) shapeCasts_S1024x32x256_S1024x8192) bitsLt_bf16_f32

/-- Thirty-two experts' output projections laid one under the other. -/
def hostRows (w : FVec Ideal S1x32x256x1024 .f32) : FVec Ideal S8192x1024 .bf16 :=
  truncf .bf16 (shapeCast S8192x1024 (shapeCast S32x256x1024 w shapeCasts_S1x32x256x1024_S32x256x1024)
    shapeCasts_S32x256x1024_S8192x1024) bitsLt_bf16_f32

/-- Column `k` is feature `k % 256` of expert `k / 256`. -/
theorem hostCols_apply (w : FVec Ideal S1x32x1024x256 .f32) (d : Fin 1024) (k : Fin 8192) :
    hostCols w (ix2 d k) = w (ix4 0 ⟨k.val / 256, by omega⟩ d ⟨k.val % 256, by omega⟩) := by
  pointwise [hostCols]

theorem hostRows_apply (w : FVec Ideal S1x32x256x1024 .f32) (k : Fin 8192) (n : Fin 1024) :
    hostRows w (ix2 k n) = w (ix4 0 ⟨k.val / 256, by omega⟩ ⟨k.val % 256, by omega⟩ n) := by
  pointwise [hostRows]

variable (m : (ℓ : Loc nD τ sig) → Buf (Elt Ideal) ℓ) (c : Dev nD)

theorem V_v3 : V m c main_v3 = hostCols (m ((c : Thread nD τ).loc main_arg4)) := rfl
theorem V_v7 : V m c main_v7 = hostCols (m ((c : Thread nD τ).loc main_arg5)) := rfl
theorem V_v10 : V m c main_v10 = hostRows (m ((c : Thread nD τ).loc main_arg6)) := rfl
theorem V_v11 : V m c main_v11 = shapeCast S1x1024 (m ((c : Thread nD τ).loc main_arg7)) shapeCasts_S1024_S1x1024 := rfl

/-- Which block of its array each window holds at a grid point: the batch is the point's 64th, the token tile its 4th within the
    batch, the group of eight experts the point's place in its tile. -/
theorem idx_facts : ∀ t : Fin cfg0.N,
    (win0_0.index t (0 : Fin 3) = t.val / 64 ∧ win0_0.index t (1 : Fin 3) = t.val / 4 % 16 ∧ win0_0.index t (2 : Fin 3) = 0)
    ∧ (win0_1.index t (0 : Fin 3) = t.val / 64 ∧ win0_1.index t (1 : Fin 3) = t.val / 4 % 16 ∧ win0_1.index t (2 : Fin 3) = 0)
    ∧ (win0_2.index t (0 : Fin 3) = t.val / 64 ∧ win0_2.index t (1 : Fin 3) = t.val / 4 % 16 ∧ win0_2.index t (2 : Fin 3) = 0)
    ∧ (win0_3.index t (0 : Fin 3) = t.val / 64 ∧ win0_3.index t (1 : Fin 3) = 0 ∧ win0_3.index t (2 : Fin 3) = 0)
    ∧ (win0_4.index t (0 : Fin 2) = 0 ∧ win0_4.index t (1 : Fin 2) = t.val % 4)
    ∧ (win0_5.index t (0 : Fin 2) = 0 ∧ win0_5.index t (1 : Fin 2) = t.val % 4)
    ∧ (win0_6.index t (0 : Fin 2) = t.val % 4 ∧ win0_6.index t (1 : Fin 2) = 0)
    ∧ (win0_7.index t (0 : Fin 2) = 0 ∧ win0_7.index t (1 : Fin 2) = 0)
    ∧ (grid0.coords t 2).val = t.val % 4 :=
  (by decide +kernel : ∀ t : Fin grid0.N, _)

theorem t_lt (t : Fin cfg0.N) : t.val < 512 := lt_of_lt_of_eq t.isLt N_0

theorem blk0 (t : Fin cfg0.N) (q : Fin 512) (d : Fin 1024) :
    (iblk m c 0 t : Vec Ideal S1x512x1024 .bf16) (ix3 0 q d)
      = (m ((c : Thread nD τ).loc main_arg0) : Vec Ideal S8x8192x1024 .bf16) (ix3 ⟨t.val / 64, by have := t_lt t; omega⟩ ⟨512 * (t.val / 4 % 16) + q.val, by omega⟩ d) := by
  obtain ⟨i0, i1, i2⟩ := (idx_facts t).1
  unfold iblk
  rw [View.read_apply]
  show V m c main_arg0 _ = m ((c : Thread nD τ).loc main_arg0) _
  refine congrArg (m ((c : Thread nD τ).loc main_arg0)) ?_
  funext a
  apply Fin.ext
  match a with
  | ⟨0, _⟩ => show win0_0.index t (0 : Fin 3) * 1 + 1 * 0 = t.val / 64; rw [i0]; omega
  | ⟨1, _⟩ => show win0_0.index t (1 : Fin 3) * 512 + 1 * q.val = 512 * (t.val / 4 % 16) + q.val; rw [i1]; omega
  | ⟨2, _⟩ => show win0_0.index t (2 : Fin 3) * 1024 + 1 * d.val = d.val; rw [i2]; omega

theorem blk1 (t : Fin cfg0.N) (q : Fin 512) (d : Fin 128) :
    (iblk m c 1 t : Vec Ideal S1x512x128 .f32) (ix3 0 q d)
      = (m ((c : Thread nD τ).loc main_arg1) : Vec Ideal S8x8192x128 .f32) (ix3 ⟨t.val / 64, by have := t_lt t; omega⟩ ⟨512 * (t.val / 4 % 16) + q.val, by omega⟩ d) := by
  obtain ⟨i0, i1, i2⟩ := (idx_facts t).2.1
  unfold iblk
  rw [View.read_apply]
  show V m c main_arg1 _ = m ((c : Thread nD τ).loc main_arg1) _
  refine congrArg (m ((c : Thread nD τ).loc main_arg1)) ?_
  funext a
  apply Fin.ext
  match a with
  | ⟨0, _⟩ => show win0_1.index t (0 : Fin 3) * 1 + 1 * 0 = t.val / 64; rw [i0]; omega
  | ⟨1, _⟩ => show win0_1.index t (1 : Fin 3) * 512 + 1 * q.val = 512 * (t.val / 4 % 16) + q.val; rw [i1]; omega
  | ⟨2, _⟩ => show win0_1.index t (2 : Fin 3) * 128 + 1 * d.val = d.val; rw [i2]; omega

theorem blk2 (t : Fin cfg0.N) (q : Fin 512) (d : Fin 1024) :
    (iblk m c 2 t : Vec Ideal S1x512x1024 .f32) (ix3 0 q d)
      = (m ((c : Thread nD τ).loc main_arg2) : Vec Ideal S8x8192x1024 .f32) (ix3 ⟨t.val / 64, by have := t_lt t; omega⟩ ⟨512 * (t.val / 4 % 16) + q.val, by omega⟩ d) := by
  obtain ⟨i0, i1, i2⟩ := (idx_facts t).2.2.1
  unfold iblk
  rw [View.read_apply]
  show V m c main_arg2 _ = m ((c : Thread nD τ).loc main_arg2) _
  refine congrArg (m ((c : Thread nD τ).loc main_arg2)) ?_
  funext a
  apply Fin.ext
  match a with
  | ⟨0, _⟩ => show win0_2.index t (0 : Fin 3) * 1 + 1 * 0 = t.val / 64; rw [i0]; omega
  | ⟨1, _⟩ => show win0_2.index t (1 : Fin 3) * 512 + 1 * q.val = 512 * (t.val / 4 % 16) + q.val; rw [i1]; omega
  | ⟨2, _⟩ => show win0_2.index t (2 : Fin 3) * 1024 + 1 * d.val = d.val; rw [i2]; omega

theorem blk3 (t : Fin cfg0.N) (q : Fin 6) (d : Fin 1024) :
    (iblk m c 3 t : Vec Ideal S1x6x1024 .f32) (ix3 0 q d)
      = (m ((c : Thread nD τ).loc main_arg3) : Vec Ideal S8x6x1024 .f32) (ix3 ⟨t.val / 64, by have := t_lt t; omega⟩ q d) := by
  obtain ⟨i0, i1, i2⟩ := (idx_facts t).2.2.2.1
  unfold iblk
  rw [View.read_apply]
  show V m c main_arg3 _ = m ((c : Thread nD τ).loc main_arg3) _
  refine congrArg (m ((c : Thread nD τ).loc main_arg3)) ?_
  funext a
  apply Fin.ext
  match a with
  | ⟨0, _⟩ => show win0_3.index t (0 : Fin 3) * 1 + 1 * 0 = t.val / 64; rw [i0]; omega
  | ⟨1, _⟩ => show win0_3.index t (1 : Fin 3) * 6 + 1 * q.val = q.val; rw [i1]; omega
  | ⟨2, _⟩ => show win0_3.index t (2 : Fin 3) * 1024 + 1 * d.val = d.val; rw [i2]; omega

theorem blk4 (t : Fin cfg0.N) (r : Fin 1024) (k : Fin 2048) :
    (iblk m c 4 t : Vec Ideal S1024x2048 .bf16) (ix2 r k) = hostCols (m ((c : Thread nD τ).loc main_arg4)) (ix2 r ⟨2048 * (t.val % 4) + k.val, by omega⟩) := by
  obtain ⟨i0, i1⟩ := (idx_facts t).2.2.2.2.1
  unfold iblk
  rw [View.read_apply]
  show V m c main_v3 _ = _
  rw [V_v3]
  refine congrArg (hostCols (m ((c : Thread nD τ).loc main_arg4))) ?_
  funext a
  apply Fin.ext
  match a with
  | ⟨0, _⟩ => show win0_4.index t (0 : Fin 2) * 1024 + 1 * r.val = r.val; rw [i0]; omega
  | ⟨1, _⟩ => show win0_4.index t (1 : Fin 2) * 2048 + 1 * k.val = 2048 * (t.val % 4) + k.val; rw [i1]; omega

theorem blk5 (t : Fin cfg0.N) (r : Fin 1024) (k : Fin 2048) :
    (iblk m c 5 t : Vec Ideal S1024x2048 .bf16) (ix2 r k) = hostCols (m ((c : Thread nD τ).loc main_arg5)) (ix2 r ⟨2048 * (t.val % 4) + k.val, by omega⟩) := by
  obtain ⟨i0, i1⟩ := (idx_facts t).2.2.2.2.2.1
  unfold iblk
  rw [View.read_apply]
  show V m c main_v7 _ = _
  rw [V_v7]
  refine congrArg (hostCols (m ((c : Thread nD τ).loc main_arg5))) ?_
  funext a
  apply Fin.ext
  match a with
  | ⟨0, _⟩ => show win0_5.index t (0 : Fin 2) * 1024 + 1 * r.val = r.val; rw [i0]; omega
  | ⟨1, _⟩ => show win0_5.index t (1 : Fin 2) * 2048 + 1 * k.val = 2048 * (t.val % 4) + k.val; rw [i1]; omega

theorem blk6 (t : Fin cfg0.N) (r : Fin 2048) (k : Fin 1024) :
    (iblk m c 6 t : Vec Ideal S2048x1024 .bf16) (ix2 r k) = hostRows (m ((c : Thread nD τ).loc main_arg6)) (ix2 ⟨2048 * (t.val % 4) + r.val, by omega⟩ k) := by
  obtain ⟨i0, i1⟩ := (idx_facts t).2.2.2.2.2.2.1
  unfold iblk
  rw [View.read_apply]
  show V m c main_v10 _ = _
  rw [V_v10]
  refine congrArg (hostRows (m ((c : Thread nD τ).loc main_arg6))) ?_
  funext a
  apply Fin.ext
  match a with
  | ⟨0, _⟩ => show win0_6.index t (0 : Fin 2) * 2048 + 1 * r.val = 2048 * (t.val % 4) + r.val; rw [i0]; omega
  | ⟨1, _⟩ => show win0_6.index t (1 : Fin 2) * 1024 + 1 * k.val = k.val; rw [i1]; omega

theorem blk7 (t : Fin cfg0.N) (k : Fin 1024) :
    (iblk m c 7 t : Vec Ideal S1x1024 .f32) (ix2 0 k) = (m ((c : Thread nD τ).loc main_arg7) : Vec Ideal S1024 .f32) (ix1 k) := by
  obtain ⟨i0, i1⟩ := (idx_facts t).2.2.2.2.2.2.2.1
  unfold iblk
  rw [View.read_apply]
  show V m c main_v11 _ = _
  rw [V_v11]
  have e : ∀ w : FVec Ideal S1024 .f32, shapeCast S1x1024 w shapeCasts_S1024_S1x1024 (ix2 0 k) = w (ix1 k) := fun w => by pointwise []
  refine Eq.trans ?_ (e _)
  refine congrArg (shapeCast S1x1024 (m ((c : Thread nD τ).loc main_arg7)) shapeCasts_S1024_S1x1024) ?_
  funext a
  apply Fin.ext
  match a with
  | ⟨0, _⟩ => show win0_7.index t (0 : Fin 2) * 1 + 1 * 0 = 0; rw [i0]
  | ⟨1, _⟩ => show win0_7.index t (1 : Fin 2) * 1024 + 1 * k.val = k.val; rw [i1]; omega

end Cert.Moe

end
-- ==== Proof.Moe.Result.lean ====
/-
  What the expert layer's kernel leaves in its result array, at one index: the four steps of a token tile add the thirty-two
  experts eight at a time, and the last of them adds the residual and normalises.
-/
module

public import proofs.«01_k».proof.Proof.Moe.Arrays

@[expose] public section

set_option maxRecDepth 16384

noncomputable section

namespace Cert.Moe

open Cert.Kernel2Ideal Cert.Kernel2Ideal.Gen Cert.Kernel2Ideal.Value Idealize.ShloMosaic Idealize.ShloMosaic.TcCoe Idealize.ShloMosaic.Tactic
open scoped BigOperators

/-- The input arrays of the layer, as tables of extended reals. -/
structure Tables where
  h : Fin 8 → Fin 8192 → Fin 1024 → EReal
  g : Fin 8 → Fin 8192 → Fin 128 → EReal
  x : Fin 8 → Fin 8192 → Fin 1024 → EReal
  md : Fin 8 → Fin 6 → Fin 1024 → EReal
  wg : Fin 32 → Fin 1024 → Fin 256 → EReal
  wu : Fin 32 → Fin 1024 → Fin 256 → EReal
  wd : Fin 32 → Fin 256 → Fin 1024 → EReal
  gf : Fin 1024 → EReal

namespace Tables

variable (T : Tables)

/-- Feature `f` of expert `e` on a token, before its gate. -/
def hid (b : Fin 8) (t : Fin 8192) (e : Fin 32) (f : Fin 256) : EReal :=
  hidVal (∑ d : Fin 1024, T.h b t d * T.wg e d f) (∑ d : Fin 1024, T.h b t d * T.wu e d f)

/-- That feature's part of output column `n`. -/
def term (b : Fin 8) (t : Fin 8192) (n : Fin 1024) (e : Fin 32) (f : Fin 256) : EReal :=
  T.hid b t e f * T.g b t ⟨e.val, by omega⟩ * T.wd e f n

/-- The gated mixture of the experts. -/
def mix (b : Fin 8) (t : Fin 8192) (n : Fin 1024) : EReal := ∑ e : Fin 32, ∑ f : Fin 256, T.term b t n e f

/-- A row with a mixture added to its residual, normalised by its root mean square and scaled. -/
def normed (mx : Fin 1024 → EReal) (b : Fin 8) (t : Fin 8192) (n : Fin 1024) : EReal :=
  (T.x b t n + T.md b 5 n * mx n)
    * Ideal.rsqrt (Ideal.div (∑ d : Fin 1024, (T.x b t d + T.md b 5 d * mx d) * (T.x b t d + T.md b 5 d * mx d))
        (Ideal.ofBits .f32 0x44800000#32) + Ideal.ofBits .f32 0x358637BD#32)
    * T.gf n

end Tables

/-- The kernel's arguments as tables. -/
def tables (m : (ℓ : Loc nD τ sig) → Buf (Elt Ideal) ℓ) (c : Dev nD) : Tables where
  h b t d := (m ((c : Thread nD τ).loc main_arg0) : Vec Ideal S8x8192x1024 .bf16) (ix3 b t d)
  g b t l := (m ((c : Thread nD τ).loc main_arg1) : Vec Ideal S8x8192x128 .f32) (ix3 b t l)
  x b t d := (m ((c : Thread nD τ).loc main_arg2) : Vec Ideal S8x8192x1024 .f32) (ix3 b t d)
  md b r d := (m ((c : Thread nD τ).loc main_arg3) : Vec Ideal S8x6x1024 .f32) (ix3 b r d)
  wg e d f := (m ((c : Thread nD τ).loc main_arg4) : Vec Ideal S1x32x1024x256 .f32) (ix4 0 e d f)
  wu e d f := (m ((c : Thread nD τ).loc main_arg5) : Vec Ideal S1x32x1024x256 .f32) (ix4 0 e d f)
  wd e f n := (m ((c : Thread nD τ).loc main_arg6) : Vec Ideal S1x32x256x1024 .f32) (ix4 0 e f n)
  gf n := (m ((c : Thread nD τ).loc main_arg7) : Vec Ideal S1024 .f32) (ix1 n)

variable (m : (ℓ : Loc nD τ sig) → Buf (Elt Ideal) ℓ) (c : Dev nD)

/-- What the step at point `t` adds to the accumulator. -/
theorem step_at (t : Fin cfg0.N) (acc : Vec Ideal S512x1024 .f32) (q : Fin 512) (n : Fin 1024) :
    stepOf (grid0.coords t) (iblk m c 0 t) (iblk m c 1 t) (iblk m c 4 t) (iblk m c 5 t) (iblk m c 6 t) acc (ix2 q n)
      = (acc (ix2 q n) : EReal) + ∑ k : Fin 2048, (tables m c).term ⟨t.val / 64, by have := t_lt t; omega⟩ ⟨512 * (t.val / 4 % 16) + q.val, by omega⟩ n
          ⟨(2048 * (t.val % 4) + k.val) / 256, by omega⟩ ⟨(2048 * (t.val % 4) + k.val) % 256, by omega⟩ := by
  have hc : (grid0.coords t 2).val = t.val % 4 := (idx_facts t).2.2.2.2.2.2.2.2
  rw [stepOf_apply _ (by rw [hc]; omega)]
  refine congrArg (_ + ·) (Finset.sum_congr rfl fun k _ => ?_)
  have hg : (⟨8 * (grid0.coords t 2).val + k.val / 256, by rw [hc]; omega⟩ : Fin 128)
      = ⟨(2048 * (t.val % 4) + k.val) / 256, by omega⟩ := Fin.ext (by show 8 * (grid0.coords t 2).val + k.val / 256 = _; rw [hc]; show _ = (2048 * (t.val % 4) + k.val) / 256; omega)
  rw [hg, blk1, blk6, hostRows_apply]
  simp only [blk0, blk4, blk5, hostCols_apply]
  rfl

/-- What the `j`-th step of tile `R` adds. -/
theorem step_tile (R : ℕ) (hR : R < 128) (j : ℕ) (hj : j < 4) (hb : 4 * R + j < cfg0.N) (acc : Vec Ideal S512x1024 .f32) (q : Fin 512) (n : Fin 1024) :
    stepOf (grid0.coords ⟨4 * R + j, hb⟩) (iblk m c 0 ⟨4 * R + j, hb⟩) (iblk m c 1 ⟨4 * R + j, hb⟩) (iblk m c 4 ⟨4 * R + j, hb⟩)
        (iblk m c 5 ⟨4 * R + j, hb⟩) (iblk m c 6 ⟨4 * R + j, hb⟩) acc (ix2 q n)
      = (acc (ix2 q n) : EReal) + ∑ k : Fin 2048, (tables m c).term ⟨R / 16, by omega⟩ ⟨512 * (R % 16) + q.val, by omega⟩ n
          ⟨(2048 * j + k.val) / 256, by omega⟩ ⟨(2048 * j + k.val) % 256, by omega⟩ := by
  refine (step_at m c ⟨4 * R + j, hb⟩ acc q n).trans ?_
  have e1 : (4 * R + j) / 64 = R / 16 := by omega
  have e2 : (4 * R + j) / 4 % 16 = R % 16 := by omega
  have e3 : (4 * R + j) % 4 = j := by omega
  simp only [e1, e2, e3]

/-- The accumulator's start. -/
theorem zero_at (q : Fin 512) (n : Fin 1024) : (k0_pay2 (F := Ideal)) (ix2 q n) = (0 : EReal) := by
  pointwise [k0_pay2]

/-- Four steps' worth of a tile's experts are all thirty-two. -/
theorem four_steps (f : Fin 32 → Fin 256 → EReal) :
    (∑ j : Fin 4, ∑ k : Fin 2048, f ⟨(2048 * j.val + k.val) / 256, by omega⟩ ⟨(2048 * j.val + k.val) % 256, by omega⟩)
      = ∑ e : Fin 32, ∑ k : Fin 256, f e k := by
  have h1 := Fin.sum_univ_tiles 4 2048 (N := 8192) (by norm_num) (fun k => f ⟨k.val / 256, by omega⟩ ⟨k.val % 256, by omega⟩)
  have h2 := Fin.sum_univ_tiles 32 256 (N := 8192) (by norm_num) (fun k => f ⟨k.val / 256, by omega⟩ ⟨k.val % 256, by omega⟩)
  have e1 : ∀ (j : Fin 4) (k : Fin 2048), 2048 * j.val + k.val = j.val * 2048 + k.val := fun j k => by omega
  simp only [e1]
  refine h1.symm.trans (h2.trans ?_)
  refine Finset.sum_congr rfl fun e _ => Finset.sum_congr rfl fun k _ => ?_
  have d1 : (e.val * 256 + k.val) / 256 = e.val := by omega
  have d2 : (e.val * 256 + k.val) % 256 = k.val := by omega
  simp only [d1, d2]

/-- The accumulator after the `j`-th step of tile `R`: the steps so far. -/
theorem acc_at (R : ℕ) (hR : R < 128) (q : Fin 512) (n : Fin 1024) : ∀ (j : ℕ) (hj : j < 3) (hb : 4 * R + j < cfg0.N),
    (outsAt0 m c (4 * R + j) hb).2 (ix2 q n)
      = ∑ i : Fin (j + 1), ∑ k : Fin 2048, (tables m c).term ⟨R / 16, by omega⟩ ⟨512 * (R % 16) + q.val, by omega⟩ n
          ⟨(2048 * i.val + k.val) / 256, by omega⟩ ⟨(2048 * i.val + k.val) % 256, by omega⟩ := by
  intro j
  induction j with
  | zero =>
    intro hj hb
    rw [outsAt0_A m c ⟨4 * R + 0, hb⟩ (by show (4 * R + 0) % 4 = 0; omega) (by show ¬(4 * R + 0) % 4 = 3; omega)]
    dsimp only
    rw [sout_A, step_tile m c R hR 0 (by omega) hb, zero_at, zero_add, Fin.sum_univ_one]
    rfl
  | succ j ih =>
    intro hj hb
    rw [outsAt0_B m c ⟨4 * R + (j + 1), hb⟩ (by show ¬(4 * R + (j + 1)) % 4 = 0; omega) (by show ¬(4 * R + (j + 1)) % 4 = 3; omega)]
    dsimp only
    rw [sout_B, step_tile m c R hR (j + 1) (by omega) hb, Fin.sum_univ_castSucc (n := j + 1)]
    exact congrArg (· + _) (ih (by omega) (by omega))

/-- The accumulator the last step normalises: the whole mixture. -/
theorem acc_last (R : ℕ) (hR : R < 128) (hb : 4 * R + 3 < cfg0.N) (q : Fin 512) (n : Fin 1024) :
    stepOf (grid0.coords ⟨4 * R + 3, hb⟩) (iblk m c 0 ⟨4 * R + 3, hb⟩) (iblk m c 1 ⟨4 * R + 3, hb⟩) (iblk m c 4 ⟨4 * R + 3, hb⟩)
        (iblk m c 5 ⟨4 * R + 3, hb⟩) (iblk m c 6 ⟨4 * R + 3, hb⟩) (outsAt0 m c (4 * R + 2) (by omega)).2 (ix2 q n)
      = (tables m c).mix ⟨R / 16, by omega⟩ ⟨512 * (R % 16) + q.val, by omega⟩ n := by
  rw [step_tile m c R hR 3 (by omega) hb, acc_at m c R hR q n 2 (by omega) (by omega)]
  unfold Tables.mix
  rw [← four_steps, Fin.sum_univ_castSucc (n := 3)]
  rfl

/-- The block the last step of tile `R` stores. -/
theorem block_at (R : ℕ) (hR : R < 128) (hb : 4 * R + 3 < cfg0.N) (q : Fin 512) (n : Fin 1024) :
    (outsAt0 m c (4 * R + 3) hb).1 (ix3 0 q n)
      = (tables m c).normed ((tables m c).mix ⟨R / 16, by omega⟩ ⟨512 * (R % 16) + q.val, by omega⟩)
          ⟨R / 16, by omega⟩ ⟨512 * (R % 16) + q.val, by omega⟩ n := by
  rw [outsAt0_C m c ⟨4 * R + 3, hb⟩ (by show ¬(4 * R + 3) % 4 = 0; omega) (by show (4 * R + 3) % 4 = 3; omega)]
  dsimp only
  rw [out_C, pay1_apply]
  have e1 : (4 * R + 3) / 64 = R / 16 := by omega
  have e2 : (4 * R + 3) / 4 % 16 = R % 16 := by omega
  have hx : ∀ d : Fin 1024, (iblk m c 2 ⟨4 * R + 3, hb⟩ : Vec Ideal S1x512x1024 .f32) (ix3 0 q d)
      = (tables m c).x ⟨R / 16, by omega⟩ ⟨512 * (R % 16) + q.val, by omega⟩ d := fun d => by
    rw [blk2]; simp only [e1, e2]; rfl
  have hmd : ∀ d : Fin 1024, row5 (iblk m c 3 ⟨4 * R + 3, hb⟩) (ix3 0 0 d) = (tables m c).md ⟨R / 16, by omega⟩ 5 d := fun d => by
    rw [row5_apply, blk3]; simp only [e1]; rfl
  have ha : ∀ d : Fin 1024, _ = _ := fun d => acc_last m c R hR hb q d
  rw [blk7]
  unfold Tables.normed
  show _ * Ideal.rsqrt (Ideal.div (∑ d : Fin 1024, _) _ + _) * _ = _
  simp only [hx, hmd]
  simp only [Nat.add_sub_cancel, show 4 * R + 3 - 1 = 4 * R + 2 from rfl, ha]
  rfl

/-- THE RESULT ARRAY at one index. -/
theorem result_at (b : Fin 8) (t : Fin 8192) (n : Fin 1024) :
    G8 m c (ix3 b t n) = (tables m c).normed ((tables m c).mix b t) b t n := by
  have hR : 16 * b.val + t.val / 512 < 128 := by omega
  have hp : pt8Of (ix3 b t n) = 4 * (16 * b.val + t.val / 512) + 3 := by
    show 4 * (16 * (b.val / 1 - 0) + 1 * (t.val / 512 - 0) + 1 * (n.val / 1024 - 0)) + 3 = _
    omega
  have hb : 4 * (16 * b.val + t.val / 512) + 3 < cfg0.N := lt_of_lt_of_eq (by omega) N_0.symm
  have hl : loc8Of (ix3 b t n) = ix3 0 ⟨t.val % 512, by omega⟩ n := by
    funext a
    apply Fin.ext
    match a with
    | ⟨0, _⟩ => show b.val % 1 = 0; omega
    | ⟨1, _⟩ => rfl
    | ⟨2, _⟩ => show n.val % 1024 = n.val; omega
  unfold G8
  rw [dif_pos (by rw [hp]; exact hb), hl, fold0_congr m c _ _ _ (by omega) hp, ← outsAt0_sweep m c _ hb, block_at m c _ hR hb]
  have e1 : (16 * b.val + t.val / 512) / 16 = b.val := by omega
  have e2 : 512 * ((16 * b.val + t.val / 512) % 16) + t.val % 512 = t.val := by omega
  simp only [e1, e2]

end Cert.Moe

end
-- ==== Proof.Moe.Alike.lean ====
/-
  Two extended reals are alike when they are equal or both infinite. A factor that is a real goes inside a sum up to this likeness,
  and a normalised row does not see the difference: one infinite entry of a row makes all of its normalised entries zero.
-/
module

public import proofs.«01_k».proof.Proof.Moe.Result

@[expose] public section

noncomputable section

namespace Cert.Moe

open Idealize.ShloMosaic
open scoped BigOperators

/-- An infinite value. -/
def Inf (a : EReal) : Prop := a = ⊤ ∨ a = ⊥

/-- Equal, or both infinite. -/
def Alike (a b : EReal) : Prop := a = b ∨ (Inf a ∧ Inf b)

theorem Inf.add_right {a : EReal} (h : Inf a) (c : EReal) : Inf (a + c) := by
  rcases h with rfl | rfl
  · induction c with
    | bot => exact Or.inr rfl
    | top => exact Or.inl rfl
    | coe r => exact Or.inl (EReal.top_add_coe r)
  · exact Or.inr (EReal.bot_add c)

theorem Inf.add_left {a : EReal} (h : Inf a) (c : EReal) : Inf (c + a) := by
  rw [add_comm]
  exact h.add_right c

/-- A factor other than zero keeps an infinite value infinite. -/
theorem Inf.mul {a : EReal} (h : Inf a) {c : EReal} (hc : c ≠ 0) : Inf (c * a) := by
  rcases lt_or_gt_of_ne hc with h0 | h0
  · rcases h with rfl | rfl
    · exact Or.inr (EReal.mul_top_of_neg h0)
    · exact Or.inl (EReal.mul_bot_of_neg h0)
  · rcases h with rfl | rfl
    · exact Or.inl (EReal.mul_top_of_pos h0)
    · exact Or.inr (EReal.mul_bot_of_pos h0)

theorem Alike.refl (a : EReal) : Alike a a := Or.inl rfl

theorem Alike.trans {a b c : EReal} (h : Alike a b) (h' : Alike b c) : Alike a c := by
  rcases h with rfl | ⟨ha, hb⟩
  · exact h'
  · rcases h' with rfl | ⟨_, hc⟩
    · exact Or.inr ⟨ha, hb⟩
    · exact Or.inr ⟨ha, hc⟩

theorem Alike.add {a b c d : EReal} (h : Alike a b) (h' : Alike c d) : Alike (a + c) (b + d) := by
  rcases h with rfl | ⟨ha, hb⟩
  · rcases h' with rfl | ⟨hc, hd⟩
    · exact Alike.refl _
    · exact Or.inr ⟨hc.add_left _, hd.add_left _⟩
  · exact Or.inr ⟨ha.add_right _, hb.add_right _⟩

theorem Alike.mul {a b : EReal} (h : Alike a b) (c : EReal) : Alike (c * a) (c * b) := by
  rcases h with rfl | ⟨ha, hb⟩
  · exact Alike.refl _
  · by_cases hc : c = 0
    · subst hc
      exact Or.inl (by rw [zero_mul, zero_mul])
    · exact Or.inr ⟨ha.mul hc, hb.mul hc⟩

theorem Alike.sum {ι : Type} (s : Finset ι) (f g : ι → EReal) (h : ∀ i, Alike (f i) (g i)) : Alike (∑ i ∈ s, f i) (∑ i ∈ s, g i) := by
  classical
  induction s using Finset.induction_on with
  | empty => exact Alike.refl _
  | insert i s hi ih =>
    rw [Finset.sum_insert hi, Finset.sum_insert hi]
    exact (h i).add ih

theorem inf_or_real (a : EReal) : Inf a ∨ ∃ r : ℝ, a = (r : EReal) := by
  induction a with
  | bot => exact Or.inl (Or.inr rfl)
  | top => exact Or.inl (Or.inl rfl)
  | coe r => exact Or.inr ⟨r, rfl⟩

/-- A real factor over a sum of two. -/
theorem mul_add_alike (g : ℝ) (x y : EReal) : Alike ((g : EReal) * (x + y)) ((g : EReal) * x + (g : EReal) * y) := by
  by_cases hg : (g : EReal) = 0
  · rw [hg, zero_mul, zero_mul, zero_mul, add_zero]
    exact Alike.refl _
  · rcases inf_or_real x with hx | ⟨a, rfl⟩
    · exact Or.inr ⟨(hx.add_right y).mul hg, (hx.mul hg).add_right _⟩
    · rcases inf_or_real y with hy | ⟨b, rfl⟩
      · exact Or.inr ⟨(hy.add_left _).mul hg, (hy.mul hg).add_left _⟩
      · refine Or.inl ?_
        rw [← EReal.coe_add, ← EReal.coe_mul, ← EReal.coe_mul, ← EReal.coe_mul, ← EReal.coe_add, mul_add]

/-- A real factor over a sum. -/
theorem mul_sum_alike (g : ℝ) {ι : Type} (s : Finset ι) (f : ι → EReal) : Alike ((g : EReal) * ∑ i ∈ s, f i) (∑ i ∈ s, (g : EReal) * f i) := by
  classical
  induction s using Finset.induction_on with
  | empty => exact Or.inl (by rw [Finset.sum_empty, Finset.sum_empty, mul_zero])
  | insert i s hi ih =>
    rw [Finset.sum_insert hi, Finset.sum_insert hi]
    exact (mul_add_alike g _ _).trans ((Alike.refl _).add ih)

theorem square_nonneg (a : EReal) : 0 ≤ a * a := by
  rcases le_total 0 a with h | h
  · exact EReal.mul_nonneg h h
  · have h2 : 0 ≤ -a * -a := EReal.mul_nonneg (EReal.neg_nonneg.mpr h) (EReal.neg_nonneg.mpr h)
    rwa [neg_mul_neg] at h2

theorem Inf.square {a : EReal} (h : Inf a) : a * a = ⊤ := by
  rcases h with rfl | rfl
  · exact EReal.top_mul_top
  · exact EReal.bot_mul_bot

/-- With an infinite entry in it, a row's factor of normalisation is zero. -/
theorem factor_zero (X : Fin 1024 → EReal) (d : Fin 1024) (h : Inf (X d)) :
    Ideal.rsqrt (Ideal.div (∑ d : Fin 1024, X d * X d) (Ideal.ofBits .f32 0x44800000#32) + Ideal.ofBits .f32 0x358637BD#32) = 0 := by
  have hs : (∑ d : Fin 1024, X d * X d) = ⊤ := by
    refine top_le_iff.mp ?_
    rw [← h.square]
    exact Finset.single_le_sum (f := fun d => X d * X d) (fun i _ => square_nonneg (X i)) (Finset.mem_univ d)
  have hc : Ideal.ofBits .f32 0x44800000#32 = ((1024 : ℝ) : EReal) := by
    simp [Ideal.ofBits, Ideal.ieee, -EReal.coe_mul]
    norm_num
  have he : ∃ r : ℝ, Ideal.ofBits .f32 0x358637BD#32 = (r : EReal) := by
    simp [Ideal.ofBits, Ideal.ieee, -EReal.coe_mul]
  obtain ⟨r, he⟩ := he
  have hd : Ideal.div ⊤ ((1024 : ℝ) : EReal) = ⊤ := by
    unfold Ideal.div
    rw [if_neg (by norm_num), ← EReal.coe_inv]
    exact EReal.top_mul_coe_of_pos (by norm_num)
  rw [hs, hc, he, hd, EReal.top_add_coe]
  rfl

/-- Rows of alike mixtures have the same normalised entries. -/
theorem normed_alike (T : Tables) (mx mx' : Fin 1024 → EReal) (h : ∀ d, Alike (mx d) (mx' d)) (b : Fin 8) (t : Fin 8192) (n : Fin 1024) :
    T.normed mx b t n = T.normed mx' b t n := by
  unfold Tables.normed
  have hX : ∀ d, Alike (T.x b t d + T.md b 5 d * mx d) (T.x b t d + T.md b 5 d * mx' d) := fun d => (Alike.refl _).add ((h d).mul _)
  generalize hA : (fun d => T.x b t d + T.md b 5 d * mx d) = A at *
  generalize hB : (fun d => T.x b t d + T.md b 5 d * mx' d) = B at *
  have hA' : ∀ d, T.x b t d + T.md b 5 d * mx d = A d := fun d => congrFun hA d
  have hB' : ∀ d, T.x b t d + T.md b 5 d * mx' d = B d := fun d => congrFun hB d
  simp only [hA', hB'] at hX ⊢
  by_cases he : A = B
  · rw [he]
  · obtain ⟨d, hd⟩ := Function.ne_iff.mp he
    rcases hX d with h0 | ⟨ha, hb⟩
    · exact absurd h0 hd
    · rw [factor_zero A d ha, factor_zero B d hb, mul_zero, mul_zero]

end Cert.Moe

end
-- ==== Proof.Moe.Ref.lean ====
/-
  What the reference computes at one index.
-/
module

public import proofs.«01_k».proof.Proof.Moe.Result
public import proofs.«01_k».proof.Proof.Moe.Alike
public import proofs.«01_k».proof.Proof.Gen.Reference2Ideal.Read
public import Idealize.ShloMosaic.Lib.IdealHost

@[expose] public section

set_option maxRecDepth 16384

noncomputable section

namespace Cert.Moe

open Cert.Reference2Ideal Cert.Reference2Ideal.Gen Cert.Reference2Ideal.Read Idealize.ShloMosaic Idealize.ShloMosaic.TcCoe
open scoped BigOperators

section

variable (x0 : (⟨S8x8192x1024, .bf16⟩ : BufTy).Contents (Elt Ideal)) (x1 : (⟨S8x8192x128, .f32⟩ : BufTy).Contents (Elt Ideal))
  (x2 : (⟨S8x8192x1024, .f32⟩ : BufTy).Contents (Elt Ideal)) (x3 : (⟨S8x6x1024, .f32⟩ : BufTy).Contents (Elt Ideal))
  (x4 x5 : (⟨S1x32x1024x256, .f32⟩ : BufTy).Contents (Elt Ideal)) (x6 : (⟨S1x32x256x1024, .f32⟩ : BufTy).Contents (Elt Ideal))
  (x7 : (⟨S1024, .f32⟩ : BufTy).Contents (Elt Ideal))

/-- The reference's arguments as tables. -/
def refTables : Tables where
  h b t d := x0 (ix3 b t d)
  g b t l := x1 (ix3 b t l)
  x b t d := x2 (ix3 b t d)
  md b r d := x3 (ix3 b r d)
  wg e d f := x4 (ix4 0 e d f)
  wu e d f := x5 (ix4 0 e d f)
  wd e f n := x6 (ix4 0 e f n)
  gf n := x7 (ix1 n)

/-- The row of the flattened tokens that batch `b`'s token `t` stands in. -/
abbrev flat (b : Fin 8) (t : Fin 8192) : Fin 65536 := ⟨b.val * 8192 + t.val, by omega⟩

theorem flat_div (b : Fin 8) (t : Fin 8192) : (b.val * 8192 + t.val) / 8192 = b.val := by omega
theorem flat_mod (b : Fin 8) (t : Fin 8192) : (b.val * 8192 + t.val) % 8192 = t.val := by omega

/-- The hidden feature before its activation. -/
theorem v5_at (b : Fin 8) (t : Fin 8192) (e : Fin 32) (f : Fin 256) :
    val_main_v5 (F := Ideal) x0 x4 (ix3 (flat b t) e f) = ∑ d : Fin 1024, (x0 (ix3 b t d) : EReal) * (x4 (ix4 0 e d f) : EReal) := by
  pointwise [val_main_v5, val_main_v4, val_main_v1, val_main_v0]
  simp only [flat_div, flat_mod]

theorem v8_at (b : Fin 8) (t : Fin 8192) (e : Fin 32) (f : Fin 256) :
    val_main_v8 (F := Ideal) x0 x5 (ix3 (flat b t) e f) = ∑ d : Fin 1024, (x0 (ix3 b t d) : EReal) * (x5 (ix4 0 e d f) : EReal) := by
  pointwise [val_main_v8, val_main_v7, val_main_v1, val_main_v0]
  simp only [flat_div, flat_mod]

/-- The activated hidden feature: the reference writes the logistic function out. -/
theorem v9_at (b : Fin 8) (t : Fin 8192) (e : Fin 32) (f : Fin 256) :
    val_main_v9 (F := Ideal) x0 x4 x5 (ix3 (flat b t) e f) = (refTables x0 x1 x2 x3 x4 x5 x6 x7).hid b t e f := by
  rw [val_main_v9_apply, val_main_v6_apply, v8_at, val_main_call0_v5_apply, val_main_call0_v3_apply, val_main_call0_v1_apply,
    val_main_call0_v0_apply, v5_at, val_main_call0_v4_apply, val_main_call0_v2_apply, val_main_call0_cst_apply, val_main_call0_cst_0_apply]
  have e1 : (FloatOps.ofBits (F := Ideal) .f32 0x3F800000#32) = (1 : EReal) := Ideal.ofBits_one_f32
  rw [e1]
  rfl

/-- A gate: the flattened row's lane. -/
theorem v3_at (b : Fin 8) (t : Fin 8192) (e : Fin 32) :
    val_main_v3 (F := Ideal) x1 (ix2 (flat b t) e) = x1 (ix3 b t ⟨e.val, by omega⟩) := by
  pointwise [val_main_v3, val_main_v2]
  simp only [flat_div, flat_mod]

/-- One expert's output. -/
theorem v12_at (b : Fin 8) (t : Fin 8192) (e : Fin 32) (n : Fin 1024) :
    val_main_v12 (F := Ideal) x0 x4 x5 x6 (ix3 e n (flat b t))
      = ∑ f : Fin 256, (x6 (ix4 0 e f n) : EReal) * val_main_v9 (F := Ideal) x0 x4 x5 (ix3 (flat b t) e f) := by
  pointwise [val_main_v12, val_main_v11]

/-- The gated mixture: each expert's whole output times its gate, then the sum over the experts. -/
theorem v17_at (b : Fin 8) (t : Fin 8192) (n : Fin 1024) :
    val_main_v17 (F := Ideal) x0 x1 x4 x5 x6 (ix3 b t n)
      = ∑ e : Fin 32, (x1 (ix3 b t ⟨e.val, by omega⟩) : EReal) * val_main_v12 (F := Ideal) x0 x4 x5 x6 (ix3 e n (flat b t)) := by
  simp only [← v3_at]
  generalize hA : val_main_v12 (F := Ideal) x0 x4 x5 x6 = A
  generalize hB : val_main_v3 (F := Ideal) x1 = B
  pointwise [val_main_v17, val_main_v16, val_main_v15, val_main_v14, val_main_v13, val_main_v10, val_main_cst, hA, hB]

/-- The result from the mixture. -/
theorem v34_at (b : Fin 8) (t : Fin 8192) (n : Fin 1024) :
    val_main_v34 (F := Ideal) x0 x1 x2 x3 x4 x5 x6 x7 (ix3 b t n)
      = (refTables x0 x1 x2 x3 x4 x5 x6 x7).normed (fun d => val_main_v17 (F := Ideal) x0 x1 x4 x5 x6 (ix3 b t d)) b t n := by
  generalize hA : val_main_v17 (F := Ideal) x0 x1 x4 x5 x6 = A
  pointwise [val_main_v34, val_main_v33, val_main_v32, val_main_v31, val_main_v30, val_main_v29, val_main_v28, val_main_v27, val_main_v26,
    val_main_v25, val_main_v24, val_main_v23, val_main_v22, val_main_v21, val_main_v20, val_main_v19, val_main_v18, val_main_cst_0, val_main_cst_1, val_main_cst_2, hA]
  rfl

/-- With every gate a real, the two orders of gating agree up to likeness, and the reference's result is the kernel's. -/
theorem ref_at (hg : ∀ (b : Fin 8) (t : Fin 8192) (e : Fin 32), ∃ r : ℝ, (x1 (ix3 b t ⟨e.val, by omega⟩) : EReal) = (r : EReal))
    (b : Fin 8) (t : Fin 8192) (n : Fin 1024) :
    val_main_v34 (F := Ideal) x0 x1 x2 x3 x4 x5 x6 x7 (ix3 b t n)
      = (refTables x0 x1 x2 x3 x4 x5 x6 x7).normed ((refTables x0 x1 x2 x3 x4 x5 x6 x7).mix b t) b t n := by
  rw [v34_at]
  refine normed_alike _ _ _ (fun d => ?_) b t n
  rw [v17_at]
  unfold Tables.mix
  refine Alike.sum _ _ _ fun e => ?_
  obtain ⟨r, hr⟩ := hg b t e
  rw [v12_at, hr]
  refine (mul_sum_alike r _ _).trans (Or.inl (Finset.sum_congr rfl fun f _ => ?_))
  rw [v9_at x0 x1 x2 x3 x4 x5 x6 x7, ← hr]
  unfold Tables.term
  show (x1 _ : EReal) * ((x6 _ : EReal) * _) = _ * (x1 _ : EReal) * (x6 _ : EReal)
  rw [mul_comm, mul_comm (x6 _ : EReal), mul_assoc, mul_assoc, mul_comm (x6 _ : EReal)]

end

end Cert.Moe

end
-- ==== Proof.Diff.Finite.lean ====
/-
What the precondition of the attention call says: queries, keys, values and the four mixing vectors are real, and the bounds on the heads' keys
are not infinite.
-/
module

public import proofs.«01_k».proof.Defs
public import proofs.«01_k».proof.Proof.Gen.Pre_scores_ok
public import Idealize.ShloMosaic.Lib.Pointwise

@[expose] public section

noncomputable section

namespace Cert.Diff

open Cert.Pre_scores_ok Idealize.ShloMosaic

theorem top_bits : Ideal.ofBits .f32 0x7F800000#32 = ⊤ := by
  simp [Ideal.ofBits, Ideal.ieee, -EReal.coe_mul]

theorem bot_bits : Ideal.ofBits .f32 0xFF800000#32 = ⊥ := by
  simp [Ideal.ofBits, Ideal.ieee, -EReal.coe_mul]

/-- Strictly between the infinities, an entry is a real. -/
theorem real_of_between {s : Shape} (hb : S_.BroadcastsInDim s ![]) (x : FVec Ideal s .f32) (i : s.Idx)
    (h : andi (cmpf .ogt x (broadcastInDim s ![] hb (constant (F := Ideal) S_ .f32 0xFF800000#32)))
      (cmpf .olt x (broadcastInDim s ![] hb (constant (F := Ideal) S_ .f32 0x7F800000#32))) i = 1#1) :
    (x i : EReal) = ((EReal.toReal (x i) : ℝ) : EReal) := by
  have h2 : IntOp.andi (FloatOps.cmpf (F := Ideal) .ogt (x i) (Ideal.ofBits .f32 0xFF800000#32)) (FloatOps.cmpf (F := Ideal) .olt (x i) (Ideal.ofBits .f32 0x7F800000#32)) = 1#1 := h
  rw [top_bits, bot_bits] at h2
  generalize x i = y at h2 ⊢
  have hb : (⊥ : EReal) < y := by
    by_contra hn
    simp [FloatOps.cmpf, Ideal.cmp, hn, IntOp.andi] at h2
  have ht : (y : EReal) < ⊤ := by
    by_contra hn
    simp [FloatOps.cmpf, Ideal.cmp, hn, IntOp.andi] at h2
  exact (EReal.coe_toReal ht.ne hb.ne').symm

theorem below_of_lt {s : Shape} (hb : S_.BroadcastsInDim s ![]) (x : FVec Ideal s .f32) (i : s.Idx)
    (h : cmpf .olt x (broadcastInDim s ![] hb (constant (F := Ideal) S_ .f32 0x7F800000#32)) i = 1#1) : @LT.lt EReal _ (x i) ⊤ := by
  have h2 : FloatOps.cmpf (F := Ideal) .olt (x i) (Ideal.ofBits .f32 0x7F800000#32) = 1#1 := h
  rw [top_bits] at h2
  generalize x i = y at h2 ⊢
  by_contra hn
  simp [FloatOps.cmpf, Ideal.cmp, hn] at h2

variable (x0 x1 : FVec Ideal S8x8192x4x2x64 .f32) (x2 : FVec Ideal S8x8192x4x128 .f32) (x3 : FVec Ideal S8x16x8x128 .f32) (x4 x5 x6 x7 : FVec Ideal S1x64 .f32)
  (x8 : FVec Ideal S1x128 .f32)

theorem real0 (h : (fn (F := Ideal) x0 x1 x2 x3 x4 x5 x6 x7 x8).1 = fun _ => 1#1) (i : S8x8192x4x2x64.Idx) : (x0 i : EReal) = ((EReal.toReal (x0 i) : ℝ) : EReal) :=
  real_of_between Facts.bcast_S_S8x8192x4x2x64 x0 i (congrFun h i)
theorem real1 (h : (fn (F := Ideal) x0 x1 x2 x3 x4 x5 x6 x7 x8).2.1 = fun _ => 1#1) (i : S8x8192x4x2x64.Idx) : (x1 i : EReal) = ((EReal.toReal (x1 i) : ℝ) : EReal) :=
  real_of_between Facts.bcast_S_S8x8192x4x2x64 x1 i (congrFun h i)
theorem real2 (h : (fn (F := Ideal) x0 x1 x2 x3 x4 x5 x6 x7 x8).2.2.1 = fun _ => 1#1) (i : S8x8192x4x128.Idx) : (x2 i : EReal) = ((EReal.toReal (x2 i) : ℝ) : EReal) :=
  real_of_between Facts.bcast_S_S8x8192x4x128 x2 i (congrFun h i)
theorem below3 (h : (fn (F := Ideal) x0 x1 x2 x3 x4 x5 x6 x7 x8).2.2.2.1 = fun _ => 1#1) (b : Fin 8) (j : Fin 16) (l : Fin 128) (hl : l.val < 8) :
    @LT.lt EReal _ (x3 (ix4 b j 0 l)) ⊤ := by
  have h1 : cmpf .olt (extractStridedSlice S8x16x1x8 ![0, 0, 0, 0] x3 Facts.slices_S8x16x8x128_S8x16x1x8_0_0_0_0)
      (broadcastInDim S8x16x1x8 ![] Facts.bcast_S_S8x16x1x8 (constant (F := Ideal) S_ .f32 0x7F800000#32)) (ix4 b j 0 ⟨l.val, hl⟩) = 1#1 := congrFun h (ix4 b j 0 ⟨l.val, hl⟩)
  have h2 := below_of_lt _ _ _ h1
  have e : extractStridedSlice S8x16x1x8 ![0, 0, 0, 0] x3 Facts.slices_S8x16x8x128_S8x16x1x8_0_0_0_0 (ix4 b j 0 ⟨l.val, hl⟩) = x3 (ix4 b j 0 l) := by
    pointwise []
  rwa [e] at h2
theorem real4 (h : (fn (F := Ideal) x0 x1 x2 x3 x4 x5 x6 x7 x8).2.2.2.2.1 = fun _ => 1#1) (i : S1x64.Idx) : (x4 i : EReal) = ((EReal.toReal (x4 i) : ℝ) : EReal) :=
  real_of_between Facts.bcast_S_S1x64 x4 i (congrFun h i)
theorem real5 (h : (fn (F := Ideal) x0 x1 x2 x3 x4 x5 x6 x7 x8).2.2.2.2.2.1 = fun _ => 1#1) (i : S1x64.Idx) : (x5 i : EReal) = ((EReal.toReal (x5 i) : ℝ) : EReal) :=
  real_of_between Facts.bcast_S_S1x64 x5 i (congrFun h i)
theorem real6 (h : (fn (F := Ideal) x0 x1 x2 x3 x4 x5 x6 x7 x8).2.2.2.2.2.2.1 = fun _ => 1#1) (i : S1x64.Idx) : (x6 i : EReal) = ((EReal.toReal (x6 i) : ℝ) : EReal) :=
  real_of_between Facts.bcast_S_S1x64 x6 i (congrFun h i)
theorem real7 (h : (fn (F := Ideal) x0 x1 x2 x3 x4 x5 x6 x7 x8).2.2.2.2.2.2.2 = fun _ => 1#1) (i : S1x64.Idx) : (x7 i : EReal) = ((EReal.toReal (x7 i) : ℝ) : EReal) :=
  real_of_between Facts.bcast_S_S1x64 x7 i (congrFun h i)

end Cert.Diff

end
-- ==== Proof.Moe.Gates.lean ====
/-
  What the precondition on the gates says: each of the thirty-two lanes that hold a gate is a real.
-/
module

public import proofs.«01_k».proof.Defs
public import proofs.«01_k».proof.Proof.Gen.Pre_gates_ok
public import proofs.«01_k».proof.Proof.Diff.Finite

@[expose] public section

noncomputable section

namespace Cert.Moe

open Cert.Pre_gates_ok Idealize.ShloMosaic

theorem gates_of_pre (x0 : FVec Ideal S8x8192x1024 .bf16) (x1 : FVec Ideal S8x8192x128 .f32) (x2 : FVec Ideal S8x8192x1024 .f32)
    (x3 : FVec Ideal S8x6x1024 .f32) (x4 x5 : FVec Ideal S1x32x1024x256 .f32) (x6 : FVec Ideal S1x32x256x1024 .f32) (x7 : FVec Ideal S1024 .f32)
    (h : Cert.Pre_gates_ok.fn (F := Ideal) x0 x1 x2 x3 x4 x5 x6 x7 = fun _ => 1#1) (b : Fin 8) (t : Fin 8192) (e : Fin 32) :
    ∃ r : ℝ, (x1 (ix3 b t ⟨e.val, by omega⟩) : EReal) = (r : EReal) := by
  have h1 := congrFun h (ix3 b t e)
  unfold Cert.Pre_gates_ok.fn at h1
  dsimp only at h1
  have h2 := Cert.Diff.real_of_between Facts.bcast_S_S8x8192x32 (extractStridedSlice S8x8192x32 ![0, 0, 0] x1 Facts.slices_S8x8192x128_S8x8192x32_0_0_0) (ix3 b t e) h1
  have e1 : extractStridedSlice S8x8192x32 ![0, 0, 0] x1 Facts.slices_S8x8192x128_S8x8192x32_0_0_0 (ix3 b t e) = x1 (ix3 b t ⟨e.val, by omega⟩) := by
    pointwise []
  rw [e1] at h2
  exact ⟨_, h2⟩

end Cert.Moe

end
-- ==== Proof.Diff.Split.lean ====
/-
The body of the differential attention call, cut into its stages: the query rows; the whole key blocks two at a
time; the four blocks on the diagonal; the test of the denominators; the running-maximum pass when the test
fails; the output block.
-/
module

public import proofs.«01_k».proof.Proof.Gen.KernelIdeal.Skeleton
public import proofs.«01_k».proof.Proof.Gen.KernelIdeal.Points

@[expose] public section

set_option maxRecDepth 65536

noncomputable section

namespace Cert.KernelIdeal.Diff

open Idealize.ShloMosaic Idealize.SL.Sem
open Cert.KernelIdeal Cert.KernelIdeal.Gen

variable {F : FTy → Type} [FloatOps F] [Named F]

/-- The query rows with their position features, and the zeroed sums. -/
def diffFill (i : grid0.Coords) (arg3 : Memref sig .tc .vmem S1x256x2048 .bf16) (harg3 : arg3.IsWhole) (arg4 : Memref sig .tc .vmem S1x8192x256 .bf16) (harg4 : arg4.IsWhole) (arg5 : Memref sig .tc .vmem S1x1x16x144x512 .bf16) (harg5 : arg5.IsWhole) (arg6 : Memref sig .tc .vmem S1x16x8x128 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S1x2048x128 .bf16) (harg9 : arg9.IsWhole) (arg10 : Memref sig .tc .vmem S256x2048 .bf16) (harg10 : arg10.IsWhole) (arg11 : Memref sig .tc .vmem S2x144x2048 .f32) (harg11 : arg11.IsWhole) (arg12 : Memref sig .tc .vmem S2x1x2048 .f32) (harg12 : arg12.IsWhole) :
    Prog (TpuEff nD τ sig (Elt F) Λ₀ .tc) (Σ' (_ : IVec S1x2048 32) (_ : BitVec 32) (_ : BitVec 32) (_ : BitVec 32) (_ : BitVec 32), BitVec 32) := do
  let ⟨arg1, v3, v21, v27, v29, v33, v34, c1_i32_13⟩ : Σ' (arg1 : BitVec 32) (v3 : IVec S1x2048 32) (v21 : BitVec 32) (v27 : F .f32) (v29 : FVec F S64x2048 .bf16) (v33 : FVec F S1x2048 .f32) (v34 : BitVec 32), BitVec 32 ← k0_part24 i arg3 harg3 arg4 harg4 arg5 harg5 arg6 harg6 arg7 harg7 arg8 harg8 arg9 harg9 arg10 harg10 arg11 harg11 arg12 harg12
  let ⟨v63, v67, c64_i32, v69, v76⟩ : Σ' (v63 : FVec F S1x2048 .f32) (v67 : IVec S16x2048 32) (c64_i32 : BitVec 32) (v69 : IVec S1x2048 32), IVec S1x2048 32 ← k0_part25 i arg3 harg3 arg4 harg4 arg5 harg5 arg6 harg6 arg7 harg7 arg8 harg8 arg9 harg9 arg10 harg10 arg11 harg11 arg12 harg12 arg1 v3 v29 v33 v34 c1_i32_13
  let ⟨v109, v111, v112, v114, v116, v119, v120⟩ : Σ' (v109 : FVec F S1x2048 .f32) (v111 : IVec S16x2048 1) (v112 : F .f32) (v114 : IVec S16x2048 1) (v116 : IVec S16x2048 1) (v119 : FVec F S1x2048 .f32), IVec S16x2048 32 ← k0_part26 i arg3 harg3 arg4 harg4 arg5 harg5 arg6 harg6 arg7 harg7 arg8 harg8 arg9 harg9 arg10 harg10 arg11 harg11 arg12 harg12 v3 v27 v67 c64_i32 v69 v76
  let ⟨v152, v156, v158, v160⟩ : Σ' (v152 : FVec F S64x2048 .bf16) (v156 : FVec F S1x2048 .f32) (v158 : BitVec 32), BitVec 32 ← k0_part27 i arg3 harg3 arg4 harg4 arg5 harg5 arg6 harg6 arg7 harg7 arg8 harg8 arg9 harg9 arg10 harg10 arg11 harg11 arg12 harg12 arg1 v21 v27 v63 v67 v109 v111 v112 v114 v116 v119 v120
  let ⟨v186, v190, c64_i32_71, v192, v199, v201, v203⟩ : Σ' (v186 : FVec F S1x2048 .f32) (v190 : IVec S16x2048 32) (c64_i32_71 : BitVec 32) (v192 : IVec S1x2048 32) (v199 : IVec S1x2048 32) (v201 : BitVec 32), BitVec 32 ← k0_part28 i arg3 harg3 arg4 harg4 arg5 harg5 arg6 harg6 arg7 harg7 arg8 harg8 arg9 harg9 arg10 harg10 arg11 harg11 arg12 harg12 v3 v152 v156 v158 v160
  let ⟨v234, v235, v237, v239, v242, v244, v247, c4_i32_91⟩ : Σ' (v234 : IVec S16x2048 1) (v235 : F .f32) (v237 : IVec S16x2048 1) (v239 : IVec S16x2048 1) (v242 : FVec F S1x2048 .f32) (v244 : IVec S16x2048 1) (v247 : FVec F S1x2048 .f32), BitVec 32 ← k0_part29 i arg3 harg3 arg4 harg4 arg5 harg5 arg6 harg6 arg7 harg7 arg8 harg8 arg9 harg9 arg10 harg10 arg11 harg11 arg12 harg12 v3 v27 v190 c64_i32_71 v192 v199 v201 v203
  let ⟨c2_i32_101, v278, v283, v288⟩ : Σ' (c2_i32_101 : BitVec 32) (v278 : BitVec 32) (v283 : BitVec 32), BitVec 32 ← k0_part30 i arg3 harg3 arg4 harg4 arg5 harg5 arg6 harg6 arg7 harg7 arg8 harg8 arg9 harg9 arg10 harg10 arg11 harg11 arg12 harg12 v21 v27 v186 v190 v234 v235 v237 v239 v242 v244 v247 c4_i32_91
  pure ⟨v3, v21, c2_i32_101, v278, v283, v288⟩

/-- The whole key blocks before the query block, two at a time. -/
def diffPairs (i : grid0.Coords) (arg3 : Memref sig .tc .vmem S1x256x2048 .bf16) (harg3 : arg3.IsWhole) (arg4 : Memref sig .tc .vmem S1x8192x256 .bf16) (harg4 : arg4.IsWhole) (arg5 : Memref sig .tc .vmem S1x1x16x144x512 .bf16) (harg5 : arg5.IsWhole) (arg6 : Memref sig .tc .vmem S1x16x8x128 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S1x2048x128 .bf16) (harg9 : arg9.IsWhole) (arg10 : Memref sig .tc .vmem S256x2048 .bf16) (harg10 : arg10.IsWhole) (arg11 : Memref sig .tc .vmem S2x144x2048 .f32) (harg11 : arg11.IsWhole) (arg12 : Memref sig .tc .vmem S2x1x2048 .f32) (harg12 : arg12.IsWhole) (v3 : IVec S1x2048 32) (v21 : BitVec 32) (c2_i32_101 : BitVec 32) (v278 : BitVec 32) (v283 : BitVec 32) (v288 : BitVec 32) :
    Prog (TpuEff nD τ sig (Elt F) Λ₀ .tc) PUnit := do
  let v289 : BitVec 1 := Scalar.cmpi .ne v283 v288
  let v290 : BitVec 32 := Scalar.remsi v21 c2_i32_101
  let v291 : BitVec 1 := Scalar.cmpi .ne v290 0#32
  let v292 : BitVec 1 := Scalar.andi v289 v291
  let v293 : BitVec 32 := Scalar.subi v278 1#32
  let v294 : BitVec 32 := Scalar.select v292 v293 v278
  let v295 : BitVec 32 := Scalar.subi v294 0#32
  let v297 : BitVec 32 := Scalar.divsi v295 1#32
  let v298 : BitVec 32 := Scalar.muli v297 1#32
  let v299 : BitVec 32 := Scalar.addi 0#32 v298
  Scf.Loop.for (k0_t1_loop i) (k0_t1_ok i) ⟨⟩ (k0_t1_body i arg3 harg3 arg4 harg4 arg5 harg5 arg6 harg6 arg7 harg7 arg8 harg8 arg9 harg9 arg10 harg10 arg11 harg11 arg12 harg12 v3 v21 c2_i32_101 v278 v283 v288)
  Scf.Loop.for (k0_t2_loop i) (k0_t2_ok i) ⟨⟩ (k0_t2_body i arg3 harg3 arg4 harg4 arg5 harg5 arg6 harg6 arg7 harg7 arg8 harg8 arg9 harg9 arg10 harg10 arg11 harg11 arg12 harg12 v3 v21 c2_i32_101 v278 v283 v288 v299)

/-- The four key blocks on the diagonal. -/
def diffDiag (i : grid0.Coords) (arg3 : Memref sig .tc .vmem S1x256x2048 .bf16) (harg3 : arg3.IsWhole) (arg4 : Memref sig .tc .vmem S1x8192x256 .bf16) (harg4 : arg4.IsWhole) (arg5 : Memref sig .tc .vmem S1x1x16x144x512 .bf16) (harg5 : arg5.IsWhole) (arg6 : Memref sig .tc .vmem S1x16x8x128 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S1x2048x128 .bf16) (harg9 : arg9.IsWhole) (arg10 : Memref sig .tc .vmem S256x2048 .bf16) (harg10 : arg10.IsWhole) (arg11 : Memref sig .tc .vmem S2x144x2048 .f32) (harg11 : arg11.IsWhole) (arg12 : Memref sig .tc .vmem S2x1x2048 .f32) (harg12 : arg12.IsWhole) (v3 : IVec S1x2048 32) (v21 : BitVec 32) (k0_h2 : k0_cond2 i = 1#1) :
    Prog (TpuEff nD τ sig (Elt F) Λ₀ .tc) PUnit := do
  let ⟨v410, v424⟩ : Σ' (v410 : FVec F S144x2048 .f32), FVec F S144x2048 .f32 ← k0_part9 i arg3 harg3 arg4 harg4 arg5 harg5 arg6 harg6 arg7 harg7 arg8 harg8 arg9 harg9 arg10 harg10 arg11 harg11 arg12 harg12 v3 v21 k0_h2
  let ⟨v437, v442, v445, v459, cst_197⟩ : Σ' (v437 : BitVec 32) (v442 : FVec F S512x256 .bf16) (v445 : FVec F S144x512 .bf16) (v459 : FVec F S512x1536 .bf16), FVec F S144x1536 .f32 ← k0_part10 i arg3 harg3 arg4 harg4 arg5 harg5 arg6 harg6 arg7 harg7 arg8 harg8 arg9 harg9 arg10 harg10 arg11 harg11 arg12 harg12 v3 v21 k0_h2 v410 v424
  let ⟨v488, v493⟩ : Σ' (v488 : BitVec 32), FVec F S512x256 .bf16 ← k0_part11 i arg3 harg3 arg4 harg4 arg5 harg5 arg6 harg6 arg7 harg7 arg8 harg8 arg9 harg9 arg10 harg10 arg11 harg11 arg12 harg12 v3 v21 k0_h2 v437 v442 v445 v459 cst_197
  let v526 : FVec F S144x1024 .f32 ← k0_part12 i arg3 harg3 arg4 harg4 arg5 harg5 arg6 harg6 arg7 harg7 arg8 harg8 arg9 harg9 arg10 harg10 arg11 harg11 arg12 harg12 v3 k0_h2 v488 v493
  let ⟨v547, v562, v565, v566, v567⟩ : Σ' (v547 : FVec F S144x512 .bf16) (v562 : FVec F S144x512 .f32) (v565 : FVec F S512x512 .f32) (v566 : IVec S512x512 32), BitVec 32 ← k0_part13 i arg3 harg3 arg4 harg4 arg5 harg5 arg6 harg6 arg7 harg7 arg8 harg8 arg9 harg9 arg10 harg10 arg11 harg11 arg12 harg12 v3 v21 k0_h2 v526
  let v578 : Vec F S1x144x512 .f32 ← Prog.lift (.load arg11 (Rect.unit (s := S2x144x2048) ![0, 0, 1536] S1x144x512.size inb_S2x144x2048_S1x144x512_0_0_1536).toLoadRect (View.loadsAt_vmem h_S1x144x512))
  let v581 : Vec F S1x144x512 .f32 ← Prog.lift (.load arg11 (Rect.unit (s := S2x144x2048) ![0, 0, 1536] S1x144x512.size inb_S2x144x2048_S1x144x512_0_0_1536).toLoadRect (View.loadsAt_vmem h_S1x144x512))
  Prog.lift (.store arg11 (Rect.unit (s := S2x144x2048) ![0, 0, 1536] S1x144x512.size inb_S2x144x2048_S1x144x512_0_0_1536) (k0_pay196 v562 v578) Finset.univ (View.stores_vmem_bits_univ h_S1x144x512 rfl) (.inl rfl))
  let v584 : Vec F S1x144x512 .f32 ← Prog.lift (.load arg11 (Rect.unit (s := S2x144x2048) ![1, 0, 1536] S1x144x512.size inb_S2x144x2048_S1x144x512_1_0_1536).toLoadRect (View.loadsAt_vmem h_S1x144x512))
  let v587 : Vec F S1x144x512 .f32 ← Prog.lift (.load arg11 (Rect.unit (s := S2x144x2048) ![1, 0, 1536] S1x144x512.size inb_S2x144x2048_S1x144x512_1_0_1536).toLoadRect (View.loadsAt_vmem h_S1x144x512))
  Prog.lift (.store arg11 (Rect.unit (s := S2x144x2048) ![1, 0, 1536] S1x144x512.size inb_S2x144x2048_S1x144x512_1_0_1536) (k0_pay197 v3 v547 v565 v566 v567 v584) Finset.univ (View.stores_vmem_bits_univ h_S1x144x512 rfl) (.inl rfl))
  pure ⟨⟩

/-- The running-maximum pass starts: sums zero, maxima at the mask value. -/
def diffReset (i : grid0.Coords) (arg3 : Memref sig .tc .vmem S1x256x2048 .bf16) (harg3 : arg3.IsWhole) (arg4 : Memref sig .tc .vmem S1x8192x256 .bf16) (harg4 : arg4.IsWhole) (arg5 : Memref sig .tc .vmem S1x1x16x144x512 .bf16) (harg5 : arg5.IsWhole) (arg6 : Memref sig .tc .vmem S1x16x8x128 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S1x2048x128 .bf16) (harg9 : arg9.IsWhole) (arg10 : Memref sig .tc .vmem S256x2048 .bf16) (harg10 : arg10.IsWhole) (arg11 : Memref sig .tc .vmem S2x144x2048 .f32) (harg11 : arg11.IsWhole) (arg12 : Memref sig .tc .vmem S2x1x2048 .f32) (harg12 : arg12.IsWhole) :
    Prog (TpuEff nD τ sig (Elt F) Λ₀ .tc) PUnit := do
  let v389 : Vec F S2x144x2048 .f32 ← Prog.lift (.load arg11 (Rect.unit (s := S2x144x2048) ![0, 0, 0] S2x144x2048.size inb_S2x144x2048_S2x144x2048_0_0_0).toLoadRect (View.loadsAt_vmem h_S2x144x2048))
  Prog.lift (.store arg11 (Rect.unit (s := S2x144x2048) ![0, 0, 0] S2x144x2048.size inb_S2x144x2048_S2x144x2048_0_0_0) (k0_pay84 (F := F)) Finset.univ (View.stores_vmem_bits_univ h_S2x144x2048 rfl) (.inl rfl))
  let v393 : Vec F S2x1x2048 .f32 ← Prog.lift (.load arg12 (Rect.unit (s := S2x1x2048) ![0, 0, 0] S2x1x2048.size inb_S2x1x2048_S2x1x2048_0_0_0).toLoadRect (View.loadsAt_vmem h_S2x1x2048))
  Prog.lift (.store arg12 (Rect.unit (s := S2x1x2048) ![0, 0, 0] S2x1x2048.size inb_S2x1x2048_S2x1x2048_0_0_0) (k0_pay85 (F := F)) Finset.univ (View.stores_vmem_bits_univ h_S2x1x2048 rfl) (.inl rfl))

/-- The running-maximum pass over the whole key blocks. -/
def diffBlocks (i : grid0.Coords) (arg3 : Memref sig .tc .vmem S1x256x2048 .bf16) (harg3 : arg3.IsWhole) (arg4 : Memref sig .tc .vmem S1x8192x256 .bf16) (harg4 : arg4.IsWhole) (arg5 : Memref sig .tc .vmem S1x1x16x144x512 .bf16) (harg5 : arg5.IsWhole) (arg6 : Memref sig .tc .vmem S1x16x8x128 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S1x2048x128 .bf16) (harg9 : arg9.IsWhole) (arg10 : Memref sig .tc .vmem S256x2048 .bf16) (harg10 : arg10.IsWhole) (arg11 : Memref sig .tc .vmem S2x144x2048 .f32) (harg11 : arg11.IsWhole) (arg12 : Memref sig .tc .vmem S2x1x2048 .f32) (harg12 : arg12.IsWhole) (v21 : BitVec 32) :
    Prog (TpuEff nD τ sig (Elt F) Λ₀ .tc) PUnit := do
  let v396 : BitVec 32 := Scalar.subi v21 0#32
  let v398 : BitVec 32 := Scalar.divsi v396 1#32
  let v399 : BitVec 32 := Scalar.muli v398 1#32
  let v400 : BitVec 32 := Scalar.addi 0#32 v399
  Scf.Loop.for (k0_t3_loop i) (k0_t3_ok i) ⟨⟩ (k0_t3_body i arg3 harg3 arg4 harg4 arg5 harg5 arg6 harg6 arg7 harg7 arg8 harg8 arg9 harg9 arg10 harg10 arg11 harg11 arg12 harg12 v21)
  Scf.Loop.for (k0_t4_loop i) (k0_t4_ok i) ⟨⟩ (k0_t4_body i arg3 harg3 arg4 harg4 arg5 harg5 arg6 harg6 arg7 harg7 arg8 harg8 arg9 harg9 arg10 harg10 arg11 harg11 arg12 harg12 v21 v400)

/-- The running-maximum pass over the four key blocks on the diagonal. -/
def diffRedo (i : grid0.Coords) (arg3 : Memref sig .tc .vmem S1x256x2048 .bf16) (harg3 : arg3.IsWhole) (arg4 : Memref sig .tc .vmem S1x8192x256 .bf16) (harg4 : arg4.IsWhole) (arg5 : Memref sig .tc .vmem S1x1x16x144x512 .bf16) (harg5 : arg5.IsWhole) (arg6 : Memref sig .tc .vmem S1x16x8x128 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S1x2048x128 .bf16) (harg9 : arg9.IsWhole) (arg10 : Memref sig .tc .vmem S256x2048 .bf16) (harg10 : arg10.IsWhole) (arg11 : Memref sig .tc .vmem S2x144x2048 .f32) (harg11 : arg11.IsWhole) (arg12 : Memref sig .tc .vmem S2x1x2048 .f32) (harg12 : arg12.IsWhole) (v3 : IVec S1x2048 32) (v21 : BitVec 32) :
    Prog (TpuEff nD τ sig (Elt F) Λ₀ .tc) PUnit := do
  let v401 : BitVec 32 := Scalar.addi v21 0#32
  let v405 : Vec F S1x512x256 .bf16 ← Prog.lift (.load arg4 (Rect.unit (s := S1x8192x256) (k0_off21 i 0#32) S1x512x256.size (k0_off21_inb i 0)).toLoadRect (View.loadsAt_vmem h_S1x512x256))
  let v408 : Vec F S1x1x1x144x512 .bf16 ← Prog.lift (.load arg5 (Rect.unit (s := S1x1x16x144x512) (k0_off22 i 0#32) S1x1x1x144x512.size (k0_off22_inb i 0)).toLoadRect (View.loadsAt_vmem h_S1x1x1x144x512))
  let v410 : Vec F S256x2048 .bf16 ← Prog.lift (.load arg10 (Rect.unit (s := S256x2048) ![0, 0] S256x2048.size inb_S256x2048_S256x2048_0_0).toLoadRect (View.loadsAt_vmem h_S256x2048))
  let v411 : Vec F S2x1x2048 .f32 ← Prog.lift (.load arg12 (Rect.unit (s := S2x1x2048) ![0, 0, 0] S2x1x2048.size inb_S2x1x2048_S2x1x2048_0_0_0).toLoadRect (View.loadsAt_vmem h_S2x1x2048))
  have v415 : IVec S512x2048 32 := iota .tc S512x2048 32 [0] iota_S512x2048_d0_w32
  let v406 := k0_pay94 v405
  let v409 := k0_pay95 v408
  let v414 := k0_pay96 v405 v410
  let c512_i32_180 := 512#32
  let ⟨v433, v434, v450, v456, v457⟩ : Σ' (v433 : FVec F S1x2048 .f32) (v434 : FVec F S144x2048 .f32) (v450 : FVec F S1x2048 .f32) (v456 : FVec F S1x2048 .f32), FVec F S144x2048 .f32 ← k0_part17 i arg3 harg3 arg4 harg4 arg5 harg5 arg6 harg6 arg7 harg7 arg8 harg8 arg9 harg9 arg10 harg10 arg11 harg11 arg12 harg12 v3 v401 v406 v409 v410 v411 v414 v415 c512_i32_180
  let ⟨v480, v485, v488, v489, v490, v491, v492⟩ : Σ' (v480 : BitVec 32) (v485 : FVec F S512x256 .bf16) (v488 : FVec F S144x512 .bf16) (v489 : Vec F S256x2048 .bf16) (v490 : Vec F S2x1x2048 .f32) (v491 : FVec F S512x128 .bf16), FVec F S128x2048 .bf16 ← k0_part18 i arg3 harg3 arg4 harg4 arg5 harg5 arg6 harg6 arg7 harg7 arg8 harg8 arg9 harg9 arg10 harg10 arg11 harg11 arg12 harg12 v21 v433 v434 v450 v456 v457
  let ⟨v512, v513, v529, v535, v536, v539⟩ : Σ' (v512 : FVec F S1x2048 .f32) (v513 : FVec F S144x2048 .f32) (v529 : FVec F S1x2048 .f32) (v535 : FVec F S1x2048 .f32) (v536 : FVec F S144x2048 .f32), FVec F S1x1x2048 .f32 ← k0_part19 i arg3 harg3 arg4 harg4 arg5 harg5 arg6 harg6 arg7 harg7 arg8 harg8 arg9 harg9 arg10 harg10 arg11 harg11 arg12 harg12 v3 v480 v485 v488 v489 v490 v491 v492
  let ⟨v559, v564, v567, v568⟩ : Σ' (v559 : BitVec 32) (v564 : FVec F S512x256 .bf16) (v567 : FVec F S144x512 .bf16), Vec F S256x2048 .bf16 ← k0_part20 i arg3 harg3 arg4 harg4 arg5 harg5 arg6 harg6 arg7 harg7 arg8 harg8 arg9 harg9 arg10 harg10 arg11 harg11 arg12 harg12 v21 v512 v513 v529 v535 v536 v539
  let ⟨v585, v591, v592, v608, v614, v615⟩ : Σ' (v585 : FVec F S1x2048 .f32) (v591 : FVec F S1x2048 .f32) (v592 : FVec F S144x2048 .f32) (v608 : FVec F S1x2048 .f32) (v614 : FVec F S1x2048 .f32), FVec F S144x2048 .f32 ← k0_part21 i arg3 harg3 arg4 harg4 arg5 harg5 arg6 harg6 arg7 harg7 arg8 harg8 arg9 harg9 arg10 harg10 arg11 harg11 arg12 harg12 v3 v559 v564 v567 v568
  let ⟨v638, v643, v646⟩ : Σ' (v638 : BitVec 32) (v643 : FVec F S512x256 .bf16), FVec F S144x512 .bf16 ← k0_part22 i arg3 harg3 arg4 harg4 arg5 harg5 arg6 harg6 arg7 harg7 arg8 harg8 arg9 harg9 arg10 harg10 arg11 harg11 arg12 harg12 v21 v585 v591 v592 v608 v614 v615
  let ⟨v664, v670, v671, v687, v691, v693⟩ : Σ' (v664 : FVec F S1x2048 .f32) (v670 : FVec F S1x2048 .f32) (v671 : FVec F S144x2048 .f32) (v687 : FVec F S1x2048 .f32) (v691 : FVec F S512x2048 .bf16), FVec F S1x2048 .f32 ← k0_part23 i arg3 harg3 arg4 harg4 arg5 harg5 arg6 harg6 arg7 harg7 arg8 harg8 arg9 harg9 arg10 harg10 arg11 harg11 arg12 harg12 v3 v638 v643 v646
  let v695 : Vec F S1x1x2048 .f32 ← Prog.lift (.load arg12 (Rect.unit (s := S2x1x2048) ![0, 0, 0] S1x1x2048.size inb_S2x1x2048_S1x1x2048_0_0_0).toLoadRect (View.loadsAt_vmem h_S1x1x2048))
  Prog.lift (.store arg12 (Rect.unit (s := S2x1x2048) ![0, 0, 0] S1x1x2048.size inb_S2x1x2048_S1x1x2048_0_0_0) (k0_pay199 v664) Finset.univ (View.stores_vmem_bits_univ h_S1x1x2048 rfl) (.inl rfl))
  let v698 : Vec F S1x144x2048 .f32 ← Prog.lift (.load arg11 (Rect.unit (s := S2x144x2048) ![0, 0, 0] S1x144x2048.size inb_S2x144x2048_S1x144x2048_0_0_0).toLoadRect (View.loadsAt_vmem h_S1x144x2048))
  let v703 : Vec F S1x144x2048 .f32 ← Prog.lift (.load arg11 (Rect.unit (s := S2x144x2048) ![0, 0, 0] S1x144x2048.size inb_S2x144x2048_S1x144x2048_0_0_0).toLoadRect (View.loadsAt_vmem h_S1x144x2048))
  Prog.lift (.store arg11 (Rect.unit (s := S2x144x2048) ![0, 0, 0] S1x144x2048.size inb_S2x144x2048_S1x144x2048_0_0_0) (k0_pay200 v670 v671 v698) Finset.univ (View.stores_vmem_bits_univ h_S1x144x2048 rfl) (.inl rfl))
  let v706 : Vec F S1x1x2048 .f32 ← Prog.lift (.load arg12 (Rect.unit (s := S2x1x2048) ![1, 0, 0] S1x1x2048.size inb_S2x1x2048_S1x1x2048_1_0_0).toLoadRect (View.loadsAt_vmem h_S1x1x2048))
  Prog.lift (.store arg12 (Rect.unit (s := S2x1x2048) ![1, 0, 0] S1x1x2048.size inb_S2x1x2048_S1x1x2048_1_0_0) (k0_pay201 v687) Finset.univ (View.stores_vmem_bits_univ h_S1x1x2048 rfl) (.inl rfl))
  let v709 : Vec F S1x144x2048 .f32 ← Prog.lift (.load arg11 (Rect.unit (s := S2x144x2048) ![1, 0, 0] S1x144x2048.size inb_S2x144x2048_S1x144x2048_1_0_0).toLoadRect (View.loadsAt_vmem h_S1x144x2048))
  let v714 : Vec F S1x144x2048 .f32 ← Prog.lift (.load arg11 (Rect.unit (s := S2x144x2048) ![1, 0, 0] S1x144x2048.size inb_S2x144x2048_S1x144x2048_1_0_0).toLoadRect (View.loadsAt_vmem h_S1x144x2048))
  Prog.lift (.store arg11 (Rect.unit (s := S2x144x2048) ![1, 0, 0] S1x144x2048.size inb_S2x144x2048_S1x144x2048_1_0_0) (k0_pay202 v646 v691 v693 v709) Finset.univ (View.stores_vmem_bits_univ h_S1x144x2048 rfl) (.inl rfl))
  pure ⟨⟩

/-- The output block: the two quotients, their difference, its normalisation, transposed into the block. -/
def diffOut (i : grid0.Coords) (arg3 : Memref sig .tc .vmem S1x256x2048 .bf16) (harg3 : arg3.IsWhole) (arg4 : Memref sig .tc .vmem S1x8192x256 .bf16) (harg4 : arg4.IsWhole) (arg5 : Memref sig .tc .vmem S1x1x16x144x512 .bf16) (harg5 : arg5.IsWhole) (arg6 : Memref sig .tc .vmem S1x16x8x128 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S1x2048x128 .bf16) (harg9 : arg9.IsWhole) (arg10 : Memref sig .tc .vmem S256x2048 .bf16) (harg10 : arg10.IsWhole) (arg11 : Memref sig .tc .vmem S2x144x2048 .f32) (harg11 : arg11.IsWhole) (arg12 : Memref sig .tc .vmem S2x1x2048 .f32) (harg12 : arg12.IsWhole) :
    Prog (TpuEff nD τ sig (Elt F) Λ₀ .tc) PUnit := do
  let v335 : Vec F S4x64 .f32 ← Prog.lift (.load arg7 (Rect.unit (s := S4x64) ![0, 0] S4x64.size inb_S4x64_S4x64_0_0).toLoadRect (View.loadsAt_vmem h_S4x64))
  let v352 : Vec F S1x144x2048 .f32 ← Prog.lift (.load arg11 (Rect.unit (s := S2x144x2048) ![0, 0, 0] S1x144x2048.size inb_S2x144x2048_S1x144x2048_0_0_0).toLoadRect (View.loadsAt_vmem h_S1x144x2048))
  let v354 : Vec F S1x144x2048 .f32 ← Prog.lift (.load arg11 (Rect.unit (s := S2x144x2048) ![1, 0, 0] S1x144x2048.size inb_S2x144x2048_S1x144x2048_1_0_0).toLoadRect (View.loadsAt_vmem h_S1x144x2048))
  let v351 := k0_pay203 v335
  let v359 := k0_pay205 v352
  let v360 := k0_pay206 v354
  let v362 := k0_pay207 v354
  let v377 : Vec F S128x1 .f32 ← Prog.lift (.load arg8 (Rect.unit (s := S128x1) ![0, 0] S128x1.size inb_S128x1_S128x1_0_0).toLoadRect (View.loadsAt_vmem h_S128x1))
  let v385 : Vec F S1x2048x128 .bf16 ← Prog.lift (.load arg9 (Rect.unit (s := S1x2048x128) ![0, 0, 0] S1x2048x128.size inb_S1x2048x128_S1x2048x128_0_0_0).toLoadRect (View.loadsAt_vmem h_S1x2048x128))
  Prog.lift (.store arg9 (Rect.unit (s := S1x2048x128) ![0, 0, 0] S1x2048x128.size inb_S1x2048x128_S1x2048x128_0_0_0) (k0_pay1 v351 v359 v360 v362 v377) Finset.univ (View.stores_vmem h_S1x2048x128 (harg9.storeExact_slice rfl _ packedbf16_S1x2048x128_S1x2048x128_0_0_0) (fun _ => rfl)) (.inl rfl))
  pure ⟨⟩

/-- The test of the smallest denominator: 1 when the running-maximum pass is to run. -/
def tooSmall (v326 : Vec F S2x1x2048 .f32) : BitVec 1 :=
  Scalar.cmpi .ne (Scalar.extui (Scalar.xori (Scalar.cmpf .ogt (k0_pay198 v326) (Scalar.ofBits .f32 0x0DA24260#32 : F .f32)) 1#1) : BitVec 32) 0#32

/-- The denominators, read. -/
def diffTest (i : grid0.Coords) (arg3 : Memref sig .tc .vmem S1x256x2048 .bf16) (harg3 : arg3.IsWhole) (arg4 : Memref sig .tc .vmem S1x8192x256 .bf16) (harg4 : arg4.IsWhole) (arg5 : Memref sig .tc .vmem S1x1x16x144x512 .bf16) (harg5 : arg5.IsWhole) (arg6 : Memref sig .tc .vmem S1x16x8x128 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S1x2048x128 .bf16) (harg9 : arg9.IsWhole) (arg10 : Memref sig .tc .vmem S256x2048 .bf16) (harg10 : arg10.IsWhole) (arg11 : Memref sig .tc .vmem S2x144x2048 .f32) (harg11 : arg11.IsWhole) (arg12 : Memref sig .tc .vmem S2x1x2048 .f32) (harg12 : arg12.IsWhole) :
    Prog (TpuEff nD τ sig (Elt F) Λ₀ .tc) (Vec F S2x1x2048 .f32) := do
  let v326 : Vec F S2x1x2048 .f32 ← Prog.lift (.load arg11 (Rect.unit (s := S2x144x2048) ![0, 130, 0] S2x1x2048.size inb_S2x144x2048_S2x1x2048_0_130_0).toLoadRect (View.loadsAt_vmem h_S2x1x2048))
  pure v326

/-- The second half: the test of the denominators, the running-maximum pass when it fails, the output block. -/
def diffTail (i : grid0.Coords) (arg3 : Memref sig .tc .vmem S1x256x2048 .bf16) (harg3 : arg3.IsWhole) (arg4 : Memref sig .tc .vmem S1x8192x256 .bf16) (harg4 : arg4.IsWhole) (arg5 : Memref sig .tc .vmem S1x1x16x144x512 .bf16) (harg5 : arg5.IsWhole) (arg6 : Memref sig .tc .vmem S1x16x8x128 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S1x2048x128 .bf16) (harg9 : arg9.IsWhole) (arg10 : Memref sig .tc .vmem S256x2048 .bf16) (harg10 : arg10.IsWhole) (arg11 : Memref sig .tc .vmem S2x144x2048 .f32) (harg11 : arg11.IsWhole) (arg12 : Memref sig .tc .vmem S2x1x2048 .f32) (harg12 : arg12.IsWhole) (v3 : IVec S1x2048 32) (v21 : BitVec 32) :
    Prog (TpuEff nD τ sig (Elt F) Λ₀ .tc) PUnit := do
  let v326 ← diffTest i arg3 harg3 arg4 harg4 arg5 harg5 arg6 harg6 arg7 harg7 arg8 harg8 arg9 harg9 arg10 harg10 arg11 harg11 arg12 harg12
  if tooSmall v326 = 1#1 then
    diffReset i arg3 harg3 arg4 harg4 arg5 harg5 arg6 harg6 arg7 harg7 arg8 harg8 arg9 harg9 arg10 harg10 arg11 harg11 arg12 harg12
    diffBlocks i arg3 harg3 arg4 harg4 arg5 harg5 arg6 harg6 arg7 harg7 arg8 harg8 arg9 harg9 arg10 harg10 arg11 harg11 arg12 harg12 v21
    diffRedo i arg3 harg3 arg4 harg4 arg5 harg5 arg6 harg6 arg7 harg7 arg8 harg8 arg9 harg9 arg10 harg10 arg11 harg11 arg12 harg12 v3 v21
    diffOut i arg3 harg3 arg4 harg4 arg5 harg5 arg6 harg6 arg7 harg7 arg8 harg8 arg9 harg9 arg10 harg10 arg11 harg11 arg12 harg12
  else
    diffOut i arg3 harg3 arg4 harg4 arg5 harg5 arg6 harg6 arg7 harg7 arg8 harg8 arg9 harg9 arg10 harg10 arg11 harg11 arg12 harg12

/-- All stages, one after the other. -/
def diffStages (i : grid0.Coords) (arg3 : Memref sig .tc .vmem S1x256x2048 .bf16) (harg3 : arg3.IsWhole) (arg4 : Memref sig .tc .vmem S1x8192x256 .bf16) (harg4 : arg4.IsWhole) (arg5 : Memref sig .tc .vmem S1x1x16x144x512 .bf16) (harg5 : arg5.IsWhole) (arg6 : Memref sig .tc .vmem S1x16x8x128 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S1x2048x128 .bf16) (harg9 : arg9.IsWhole) (arg10 : Memref sig .tc .vmem S256x2048 .bf16) (harg10 : arg10.IsWhole) (arg11 : Memref sig .tc .vmem S2x144x2048 .f32) (harg11 : arg11.IsWhole) (arg12 : Memref sig .tc .vmem S2x1x2048 .f32) (harg12 : arg12.IsWhole) (k0_h2 : k0_cond2 i = 1#1) :
    Prog (TpuEff nD τ sig (Elt F) Λ₀ .tc) PUnit := do
  let r ← diffFill i arg3 harg3 arg4 harg4 arg5 harg5 arg6 harg6 arg7 harg7 arg8 harg8 arg9 harg9 arg10 harg10 arg11 harg11 arg12 harg12
  diffPairs i arg3 harg3 arg4 harg4 arg5 harg5 arg6 harg6 arg7 harg7 arg8 harg8 arg9 harg9 arg10 harg10 arg11 harg11 arg12 harg12 r.1 r.2.1 r.2.2.1 r.2.2.2.1 r.2.2.2.2.1 r.2.2.2.2.2
  diffDiag i arg3 harg3 arg4 harg4 arg5 harg5 arg6 harg6 arg7 harg7 arg8 harg8 arg9 harg9 arg10 harg10 arg11 harg11 arg12 harg12 r.1 r.2.1 k0_h2
  diffTail i arg3 harg3 arg4 harg4 arg5 harg5 arg6 harg6 arg7 harg7 arg8 harg8 arg9 harg9 arg10 harg10 arg11 harg11 arg12 harg12 r.1 r.2.1

/-- A choice between two programs, then a third, is the choice between the two compositions. -/
theorem bind_choice {E : Type → Type _} {α β : Type} (p : Prop) [Decidable p] (a b : Prog E α) (f : α → Prog E β) :
    (if p then a else b) >>= f = if p then a >>= f else b >>= f := by
  split <;> rfl

/-- A value handed on. -/
theorem pure_then {E : Type → Type _} {α β : Type} (a : α) (f : α → Prog E β) : (pure a : Prog E α) >>= f = f a := rfl

set_option maxHeartbeats 4000000 in
/-- The body is its stages, where no key block is left over after the pairs. -/
theorem cc0_diff_split (i : grid0.Coords) (arg3 : Memref sig .tc .vmem S1x256x2048 .bf16) (harg3 : arg3.IsWhole) (arg4 : Memref sig .tc .vmem S1x8192x256 .bf16) (harg4 : arg4.IsWhole) (arg5 : Memref sig .tc .vmem S1x1x16x144x512 .bf16) (harg5 : arg5.IsWhole) (arg6 : Memref sig .tc .vmem S1x16x8x128 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S1x2048x128 .bf16) (harg9 : arg9.IsWhole) (arg10 : Memref sig .tc .vmem S256x2048 .bf16) (harg10 : arg10.IsWhole) (arg11 : Memref sig .tc .vmem S2x144x2048 .f32) (harg11 : arg11.IsWhole) (arg12 : Memref sig .tc .vmem S2x1x2048 .f32) (harg12 : arg12.IsWhole) (k0_h1 : ¬k0_cond1 i = 1#1) (k0_h2 : k0_cond2 i = 1#1) :
    cc0_diff (F := F) i arg3 harg3 arg4 harg4 arg5 harg5 arg6 harg6 arg7 harg7 arg8 harg8 arg9 harg9 arg10 harg10 arg11 harg11 arg12 harg12
      = diffStages i arg3 harg3 arg4 harg4 arg5 harg5 arg6 harg6 arg7 harg7 arg8 harg8 arg9 harg9 arg10 harg10 arg11 harg11 arg12 harg12 k0_h2 := by
  rw [cc0_diff_eq_skeleton]
  unfold cc0_diff_skel diffStages diffFill diffPairs diffDiag diffTail diffReset diffBlocks diffRedo diffOut diffTest tooSmall
  simp only [k0_part32_eq_skeleton, k0_part31_eq_skeleton]
  unfold k0_part32_skel k0_part31_skel
  simp only [dif_neg k0_h1, dif_pos k0_h2, k0_part16_eq_skeleton]
  unfold k0_part16_skel
  simp only [Prog.bind_assoc, pure_then, bind_choice]

end Cert.KernelIdeal.Diff

end
-- ==== Proof.Diff.Fill.lean ====
/-
The stage that fills the query rows and zeroes the sums, run.
-/
module

public import proofs.«01_k».proof.Proof.Diff.Split
public import proofs.«01_k».proof.Proof.Gen.KernelIdeal.Loops
public import Idealize.ShloMosaic.Lib.Pipeline.FrameBody
public import Idealize.ShloMosaic.Lib.Ring
public import Idealize.ShloMosaic.Lib.WordCmp

@[expose] public section

set_option maxRecDepth 65536

noncomputable section

namespace Cert.KernelIdeal.Diff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

set_option maxHeartbeats 4000000 in
/-- What filling the query rows and zeroing the sums leaves in the two scratch buffers, as the pieces stored (last
    first), with the values handed on, and the proof that the stage leaves them. -/
def fillRun (c : Dev nD) (i : grid0.Coords) (arg3 : Memref sig .tc .vmem S1x256x2048 .bf16) (harg3 : arg3.IsWhole) (arg4 : Memref sig .tc .vmem S1x8192x256 .bf16) (harg4 : arg4.IsWhole) (arg5 : Memref sig .tc .vmem S1x1x16x144x512 .bf16) (harg5 : arg5.IsWhole) (arg6 : Memref sig .tc .vmem S1x16x8x128 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S1x2048x128 .bf16) (harg9 : arg9.IsWhole) (arg10 : Memref sig .tc .vmem S256x2048 .bf16) (harg10 : arg10.IsWhole) (arg11 : Memref sig .tc .vmem S2x144x2048 .f32) (harg11 : arg11.IsWhole) (arg12 : Memref sig .tc .vmem S2x1x2048 .f32) (harg12 : arg12.IsWhole) (x0 : Vec F S1x256x2048 .bf16) (x3 : Vec F S1x16x8x128 .f32) :
    Σ' (r : Σ' (_ : IVec S1x2048 32) (_ : BitVec 32) (_ : BitVec 32) (_ : BitVec 32) (_ : BitVec 32), BitVec 32)
      (L10 : List (View.Piece (Elt F) S256x2048 .bf16)), { L11 : List (View.Piece (Elt F) S2x144x2048 .f32) //
      ∀ (E : Set ℕ) (K : (Σ' (_ : IVec S1x2048 32) (_ : BitVec 32) (_ : BitVec 32) (_ : BitVec 32) (_ : BitVec 32), BitVec 32) → sProp 𝕄),
        iprop(owns (c : Thread nD τ) arg3 fullShare x0 ∗ owns (c : Thread nD τ) arg6 fullShare x3
            ∗ (∃ d, owns (c : Thread nD τ) arg10 fullShare d) ∗ (∃ d, owns (c : Thread nD τ) arg11 fullShare d)
            ∗ (iprop(owns (c : Thread nD τ) arg3 fullShare x0 ∗ owns (c : Thread nD τ) arg6 fullShare x3
                ∗ (∃ f, arg10.view.loc (c : Thread nD τ) ↦[arg10.view.set]{fullShare} arg10.view.writes (Elt F) f L10)
                ∗ (∃ f, arg11.view.loc (c : Thread nD τ) ↦[arg11.view.set]{fullShare} arg11.view.writes (Elt F) f L11)) -∗ K r))
          ⊢ wp frame (wpE (defs₀ (F := F)) Variants.none c none) E (diffFill i arg3 harg3 arg4 harg4 arg5 harg5 arg6 harg6 arg7 harg7 arg8 harg8 arg9 harg9 arg10 harg10 arg11 harg11 arg12 harg12) K } := by
  refine ⟨?_, ?_, ?_, fun E K => ?run⟩
  case run =>
    unfold diffFill
    simp only [k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f3, %hf3, H3⟩, ⟨%d10, %f10, -, H10⟩, ⟨%d11, %f11, -, H11⟩, Hk⟩
    obtain rfl := harg3.eq_unread hf0; obtain rfl := harg6.eq_unread hf3
    sl_exec
    sl_step
    iapply Hk
    isplitl [H0]
    · iexists _; isplitr; · ipureintro; exact harg3.read_unread _
      iexact H0
    isplitl [H3]
    · iexists _; isplitr; · ipureintro; exact harg6.read_unread _
      iexact H3
    isplitl [H10]; · iexists _; iexact H10
    iexists _; iexact H11

end Cert.KernelIdeal.Diff

end
-- ==== Proof.Diff.Pairs.lean ====
/-
The two loops over the whole key blocks before the query block, run.
-/
module

public import proofs.«01_k».proof.Proof.Diff.Split
public import proofs.«01_k».proof.Proof.Gen.KernelIdeal.Loops
public import Idealize.ShloMosaic.Lib.Pipeline.FrameBody
public import Idealize.ShloMosaic.Lib.Ring
public import Idealize.ShloMosaic.Lib.WordCmp

@[expose] public section

set_option maxRecDepth 65536

noncomputable section

namespace Cert.KernelIdeal.Diff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

set_option maxHeartbeats 4000000 in
/-- What the whole key blocks before the query block store into the sums, as pieces (last first), and the proof. -/
def pairsRun (c : Dev nD) (i : grid0.Coords) (arg3 : Memref sig .tc .vmem S1x256x2048 .bf16) (harg3 : arg3.IsWhole) (arg4 : Memref sig .tc .vmem S1x8192x256 .bf16) (harg4 : arg4.IsWhole) (arg5 : Memref sig .tc .vmem S1x1x16x144x512 .bf16) (harg5 : arg5.IsWhole) (arg6 : Memref sig .tc .vmem S1x16x8x128 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S1x2048x128 .bf16) (harg9 : arg9.IsWhole) (arg10 : Memref sig .tc .vmem S256x2048 .bf16) (harg10 : arg10.IsWhole) (arg11 : Memref sig .tc .vmem S2x144x2048 .f32) (harg11 : arg11.IsWhole) (arg12 : Memref sig .tc .vmem S2x1x2048 .f32) (harg12 : arg12.IsWhole) (v3 : IVec S1x2048 32) (v21 : BitVec 32) (c2_i32_101 : BitVec 32) (v278 : BitVec 32) (v283 : BitVec 32) (v288 : BitVec 32)
    (x1 : Vec F S1x8192x256 .bf16) (x2 : Vec F S1x1x16x144x512 .bf16) (q : Vec F S256x2048 .bf16) (a : Vec F S2x144x2048 .f32) :
    { L11 : List (View.Piece (Elt F) S2x144x2048 .f32) //
      ∀ (E : Set ℕ) (K : PUnit → sProp 𝕄),
        iprop(owns (c : Thread nD τ) arg4 fullShare x1 ∗ owns (c : Thread nD τ) arg5 fullShare x2
            ∗ owns (c : Thread nD τ) arg10 fullShare q ∗ owns (c : Thread nD τ) arg11 fullShare a
            ∗ (iprop(owns (c : Thread nD τ) arg4 fullShare x1 ∗ owns (c : Thread nD τ) arg5 fullShare x2
                ∗ owns (c : Thread nD τ) arg10 fullShare q
                ∗ (arg11.view.loc (c : Thread nD τ) ↦[arg11.view.set]{fullShare} arg11.view.writes (Elt F) (harg11.unread a) L11)) -∗ K ⟨⟩))
          ⊢ wp frame (wpE (defs₀ (F := F)) Variants.none c none) E (diffPairs i arg3 harg3 arg4 harg4 arg5 harg5 arg6 harg6 arg7 harg7 arg8 harg8 arg9 harg9 arg10 harg10 arg11 harg11 arg12 harg12 v3 v21 c2_i32_101 v278 v283 v288) K } := by
  refine ⟨?_, fun E K => ?run⟩
  case run =>
    unfold diffPairs
    unfold owns
    iintro ⟨⟨%f1, %hf1, H1⟩, ⟨%f2, %hf2, H2⟩, ⟨%fq, %hfq, Hq⟩, ⟨%fa, %hfa, Ha⟩, Hk⟩
    obtain rfl := harg4.eq_unread hf1; obtain rfl := harg5.eq_unread hf2; obtain rfl := harg10.eq_unread hfq; obtain rfl := harg11.eq_unread hfa
    sl_exec
    iapply Hk
    isplitl [H1]
    · iexists _; isplitr; · ipureintro; exact harg4.read_unread _
      iexact H1
    isplitl [H2]
    · iexists _; isplitr; · ipureintro; exact harg5.read_unread _
      iexact H2
    isplitl [Hq]
    · iexists _; isplitr; · ipureintro; exact harg10.read_unread _
      iexact Hq
    iexact Ha

set_option maxHeartbeats 4000000 in
/-- What the running-maximum pass stores over the whole key blocks before the query block, and the proof. -/
def blocksRun (c : Dev nD) (i : grid0.Coords) (arg3 : Memref sig .tc .vmem S1x256x2048 .bf16) (harg3 : arg3.IsWhole) (arg4 : Memref sig .tc .vmem S1x8192x256 .bf16) (harg4 : arg4.IsWhole) (arg5 : Memref sig .tc .vmem S1x1x16x144x512 .bf16) (harg5 : arg5.IsWhole) (arg6 : Memref sig .tc .vmem S1x16x8x128 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S1x2048x128 .bf16) (harg9 : arg9.IsWhole) (arg10 : Memref sig .tc .vmem S256x2048 .bf16) (harg10 : arg10.IsWhole) (arg11 : Memref sig .tc .vmem S2x144x2048 .f32) (harg11 : arg11.IsWhole) (arg12 : Memref sig .tc .vmem S2x1x2048 .f32) (harg12 : arg12.IsWhole) (v21 : BitVec 32)
    (x1 : Vec F S1x8192x256 .bf16) (x2 : Vec F S1x1x16x144x512 .bf16) (q : Vec F S256x2048 .bf16) (a : Vec F S2x144x2048 .f32) (b : Vec F S2x1x2048 .f32) :
    Σ' (L11 : List (View.Piece (Elt F) S2x144x2048 .f32)), { L12 : List (View.Piece (Elt F) S2x1x2048 .f32) //
      ∀ (E : Set ℕ) (K : PUnit → sProp 𝕄),
        iprop(owns (c : Thread nD τ) arg4 fullShare x1 ∗ owns (c : Thread nD τ) arg5 fullShare x2
            ∗ owns (c : Thread nD τ) arg10 fullShare q ∗ owns (c : Thread nD τ) arg11 fullShare a ∗ owns (c : Thread nD τ) arg12 fullShare b
            ∗ (iprop(owns (c : Thread nD τ) arg4 fullShare x1 ∗ owns (c : Thread nD τ) arg5 fullShare x2
                ∗ owns (c : Thread nD τ) arg10 fullShare q
                ∗ (arg11.view.loc (c : Thread nD τ) ↦[arg11.view.set]{fullShare} arg11.view.writes (Elt F) (harg11.unread a) L11)
                ∗ (arg12.view.loc (c : Thread nD τ) ↦[arg12.view.set]{fullShare} arg12.view.writes (Elt F) (harg12.unread b) L12)) -∗ K ⟨⟩))
          ⊢ wp frame (wpE (defs₀ (F := F)) Variants.none c none) E (diffBlocks i arg3 harg3 arg4 harg4 arg5 harg5 arg6 harg6 arg7 harg7 arg8 harg8 arg9 harg9 arg10 harg10 arg11 harg11 arg12 harg12 v21) K } := by
  refine ⟨?_, ?_, fun E K => ?run⟩
  case run =>
    unfold diffBlocks
    unfold owns
    iintro ⟨⟨%f1, %hf1, H1⟩, ⟨%f2, %hf2, H2⟩, ⟨%fq, %hfq, Hq⟩, ⟨%fa, %hfa, Ha⟩, ⟨%fb, %hfb, Hb⟩, Hk⟩
    obtain rfl := harg4.eq_unread hf1; obtain rfl := harg5.eq_unread hf2; obtain rfl := harg10.eq_unread hfq; obtain rfl := harg11.eq_unread hfa; obtain rfl := harg12.eq_unread hfb
    sl_exec
    iapply Hk
    isplitl [H1]
    · iexists _; isplitr; · ipureintro; exact harg4.read_unread _
      iexact H1
    isplitl [H2]
    · iexists _; isplitr; · ipureintro; exact harg5.read_unread _
      iexact H2
    isplitl [Hq]
    · iexists _; isplitr; · ipureintro; exact harg10.read_unread _
      iexact Hq
    isplitl [Ha]; · iexact Ha
    iexact Hb

end Cert.KernelIdeal.Diff

end
-- ==== Proof.Diff.Diag.lean ====
/-
The stage of the four key blocks on the diagonal, run.
-/
module

public import proofs.«01_k».proof.Proof.Diff.Split
public import proofs.«01_k».proof.Proof.Gen.KernelIdeal.Loops
public import Idealize.ShloMosaic.Lib.Pipeline.FrameBody
public import Idealize.ShloMosaic.Lib.Ring
public import Idealize.ShloMosaic.Lib.WordCmp

@[expose] public section

set_option maxRecDepth 65536

noncomputable section

namespace Cert.KernelIdeal.Diff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

set_option maxHeartbeats 4000000 in
/-- What the four key blocks on the diagonal store into the sums, as pieces (last first), and the proof that they do. -/
def diagRun (c : Dev nD) (i : grid0.Coords) (arg3 : Memref sig .tc .vmem S1x256x2048 .bf16) (harg3 : arg3.IsWhole) (arg4 : Memref sig .tc .vmem S1x8192x256 .bf16) (harg4 : arg4.IsWhole) (arg5 : Memref sig .tc .vmem S1x1x16x144x512 .bf16) (harg5 : arg5.IsWhole) (arg6 : Memref sig .tc .vmem S1x16x8x128 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S1x2048x128 .bf16) (harg9 : arg9.IsWhole) (arg10 : Memref sig .tc .vmem S256x2048 .bf16) (harg10 : arg10.IsWhole) (arg11 : Memref sig .tc .vmem S2x144x2048 .f32) (harg11 : arg11.IsWhole) (arg12 : Memref sig .tc .vmem S2x1x2048 .f32) (harg12 : arg12.IsWhole) (v3 : IVec S1x2048 32) (v21 : BitVec 32) (k0_h2 : k0_cond2 i = 1#1)
    (x1 : Vec F S1x8192x256 .bf16) (x2 : Vec F S1x1x16x144x512 .bf16) (q : Vec F S256x2048 .bf16) (a : Vec F S2x144x2048 .f32) :
    { L11 : List (View.Piece (Elt F) S2x144x2048 .f32) //
      ∀ (E : Set ℕ) (K : PUnit → sProp 𝕄),
        iprop(owns (c : Thread nD τ) arg4 fullShare x1 ∗ owns (c : Thread nD τ) arg5 fullShare x2
            ∗ owns (c : Thread nD τ) arg10 fullShare q ∗ owns (c : Thread nD τ) arg11 fullShare a
            ∗ (iprop(owns (c : Thread nD τ) arg4 fullShare x1 ∗ owns (c : Thread nD τ) arg5 fullShare x2
                ∗ owns (c : Thread nD τ) arg10 fullShare q
                ∗ (arg11.view.loc (c : Thread nD τ) ↦[arg11.view.set]{fullShare} arg11.view.writes (Elt F) (harg11.unread a) L11)) -∗ K ⟨⟩))
          ⊢ wp frame (wpE (defs₀ (F := F)) Variants.none c none) E (diffDiag i arg3 harg3 arg4 harg4 arg5 harg5 arg6 harg6 arg7 harg7 arg8 harg8 arg9 harg9 arg10 harg10 arg11 harg11 arg12 harg12 v3 v21 k0_h2) K } := by
  refine ⟨?_, fun E K => ?run⟩
  case run =>
    unfold diffDiag
    simp only [k0_part9_eq_skeleton, k0_part10_eq_skeleton, k0_part11_eq_skeleton, k0_part12_eq_skeleton, k0_part13_eq_skeleton]
    unfold owns
    iintro ⟨⟨%f1, %hf1, H1⟩, ⟨%f2, %hf2, H2⟩, ⟨%fq, %hfq, Hq⟩, ⟨%fa, %hfa, Ha⟩, Hk⟩
    obtain rfl := harg4.eq_unread hf1; obtain rfl := harg5.eq_unread hf2; obtain rfl := harg10.eq_unread hfq; obtain rfl := harg11.eq_unread hfa
    sl_exec
    sl_step
    iapply Hk
    isplitl [H1]
    · iexists _; isplitr; · ipureintro; exact harg4.read_unread _
      iexact H1
    isplitl [H2]
    · iexists _; isplitr; · ipureintro; exact harg5.read_unread _
      iexact H2
    isplitl [Hq]
    · iexists _; isplitr; · ipureintro; exact harg10.read_unread _
      iexact Hq
    iexact Ha

end Cert.KernelIdeal.Diff

end
-- ==== Proof.Diff.Redo.lean ====
/-
The running-maximum pass: its start and its four key blocks on the diagonal, run.
-/
module

public import proofs.«01_k».proof.Proof.Diff.Split
public import proofs.«01_k».proof.Proof.Gen.KernelIdeal.Loops
public import Idealize.ShloMosaic.Lib.Pipeline.FrameBody
public import Idealize.ShloMosaic.Lib.Ring
public import Idealize.ShloMosaic.Lib.WordCmp

@[expose] public section

set_option maxRecDepth 65536

noncomputable section

namespace Cert.KernelIdeal.Diff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

set_option maxHeartbeats 4000000 in
/-- What starting the running-maximum pass stores into the sums and the maxima, and the proof that it does. -/
def resetRun (c : Dev nD) (i : grid0.Coords) (arg3 : Memref sig .tc .vmem S1x256x2048 .bf16) (harg3 : arg3.IsWhole) (arg4 : Memref sig .tc .vmem S1x8192x256 .bf16) (harg4 : arg4.IsWhole) (arg5 : Memref sig .tc .vmem S1x1x16x144x512 .bf16) (harg5 : arg5.IsWhole) (arg6 : Memref sig .tc .vmem S1x16x8x128 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S1x2048x128 .bf16) (harg9 : arg9.IsWhole) (arg10 : Memref sig .tc .vmem S256x2048 .bf16) (harg10 : arg10.IsWhole) (arg11 : Memref sig .tc .vmem S2x144x2048 .f32) (harg11 : arg11.IsWhole) (arg12 : Memref sig .tc .vmem S2x1x2048 .f32) (harg12 : arg12.IsWhole) :
    Σ' (L11 : List (View.Piece (Elt F) S2x144x2048 .f32)), { L12 : List (View.Piece (Elt F) S2x1x2048 .f32) //
      ∀ (E : Set ℕ) (K : PUnit → sProp 𝕄),
        iprop((∃ d, owns (c : Thread nD τ) arg11 fullShare d) ∗ (∃ d, owns (c : Thread nD τ) arg12 fullShare d)
            ∗ (iprop((∃ f, arg11.view.loc (c : Thread nD τ) ↦[arg11.view.set]{fullShare} arg11.view.writes (Elt F) f L11)
                ∗ (∃ f, arg12.view.loc (c : Thread nD τ) ↦[arg12.view.set]{fullShare} arg12.view.writes (Elt F) f L12)) -∗ K ⟨⟩))
          ⊢ wp frame (wpE (defs₀ (F := F)) Variants.none c none) E (diffReset i arg3 harg3 arg4 harg4 arg5 harg5 arg6 harg6 arg7 harg7 arg8 harg8 arg9 harg9 arg10 harg10 arg11 harg11 arg12 harg12) K } := by
  refine ⟨?_, ?_, fun E K => ?run⟩
  case run =>
    unfold diffReset
    unfold owns
    iintro ⟨⟨%d11, %f11, -, H11⟩, ⟨%d12, %f12, -, H12⟩, Hk⟩
    sl_exec
    sl_step
    iapply Hk
    isplitl [H11]; · iexists _; iexact H11
    iexists _; iexact H12

set_option maxHeartbeats 4000000 in
/-- What the running-maximum pass over the four key blocks on the diagonal stores, and the proof that it does. -/
def redoRun (c : Dev nD) (i : grid0.Coords) (arg3 : Memref sig .tc .vmem S1x256x2048 .bf16) (harg3 : arg3.IsWhole) (arg4 : Memref sig .tc .vmem S1x8192x256 .bf16) (harg4 : arg4.IsWhole) (arg5 : Memref sig .tc .vmem S1x1x16x144x512 .bf16) (harg5 : arg5.IsWhole) (arg6 : Memref sig .tc .vmem S1x16x8x128 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S1x2048x128 .bf16) (harg9 : arg9.IsWhole) (arg10 : Memref sig .tc .vmem S256x2048 .bf16) (harg10 : arg10.IsWhole) (arg11 : Memref sig .tc .vmem S2x144x2048 .f32) (harg11 : arg11.IsWhole) (arg12 : Memref sig .tc .vmem S2x1x2048 .f32) (harg12 : arg12.IsWhole) (v3 : IVec S1x2048 32) (v21 : BitVec 32)
    (x1 : Vec F S1x8192x256 .bf16) (x2 : Vec F S1x1x16x144x512 .bf16) (q : Vec F S256x2048 .bf16) (a : Vec F S2x144x2048 .f32) (b : Vec F S2x1x2048 .f32) :
    Σ' (L11 : List (View.Piece (Elt F) S2x144x2048 .f32)), { L12 : List (View.Piece (Elt F) S2x1x2048 .f32) //
      ∀ (E : Set ℕ) (K : PUnit → sProp 𝕄),
        iprop(owns (c : Thread nD τ) arg4 fullShare x1 ∗ owns (c : Thread nD τ) arg5 fullShare x2
            ∗ owns (c : Thread nD τ) arg10 fullShare q ∗ owns (c : Thread nD τ) arg11 fullShare a ∗ owns (c : Thread nD τ) arg12 fullShare b
            ∗ (iprop(owns (c : Thread nD τ) arg4 fullShare x1 ∗ owns (c : Thread nD τ) arg5 fullShare x2
                ∗ owns (c : Thread nD τ) arg10 fullShare q
                ∗ (arg11.view.loc (c : Thread nD τ) ↦[arg11.view.set]{fullShare} arg11.view.writes (Elt F) (harg11.unread a) L11)
                ∗ (arg12.view.loc (c : Thread nD τ) ↦[arg12.view.set]{fullShare} arg12.view.writes (Elt F) (harg12.unread b) L12)) -∗ K ⟨⟩))
          ⊢ wp frame (wpE (defs₀ (F := F)) Variants.none c none) E (diffRedo i arg3 harg3 arg4 harg4 arg5 harg5 arg6 harg6 arg7 harg7 arg8 harg8 arg9 harg9 arg10 harg10 arg11 harg11 arg12 harg12 v3 v21) K } := by
  refine ⟨?_, ?_, fun E K => ?run⟩
  case run =>
    unfold diffRedo
    simp only [k0_part17_eq_skeleton, k0_part18_eq_skeleton, k0_part19_eq_skeleton, k0_part20_eq_skeleton, k0_part21_eq_skeleton, k0_part22_eq_skeleton, k0_part23_eq_skeleton]
    unfold owns
    iintro ⟨⟨%f1, %hf1, H1⟩, ⟨%f2, %hf2, H2⟩, ⟨%fq, %hfq, Hq⟩, ⟨%fa, %hfa, Ha⟩, ⟨%fb, %hfb, Hb⟩, Hk⟩
    obtain rfl := harg4.eq_unread hf1; obtain rfl := harg5.eq_unread hf2; obtain rfl := harg10.eq_unread hfq; obtain rfl := harg11.eq_unread hfa; obtain rfl := harg12.eq_unread hfb
    sl_exec
    sl_step
    iapply Hk
    isplitl [H1]
    · iexists _; isplitr; · ipureintro; exact harg4.read_unread _
      iexact H1
    isplitl [H2]
    · iexists _; isplitr; · ipureintro; exact harg5.read_unread _
      iexact H2
    isplitl [Hq]
    · iexists _; isplitr; · ipureintro; exact harg10.read_unread _
      iexact Hq
    isplitl [Ha]; · iexact Ha
    iexact Hb

end Cert.KernelIdeal.Diff

end
-- ==== Proof.Diff.Out.lean ====
/-
The stage that writes the output block, run.
-/
module

public import proofs.«01_k».proof.Proof.Diff.Split
public import proofs.«01_k».proof.Proof.Gen.KernelIdeal.Loops
public import Idealize.ShloMosaic.Lib.Pipeline.FrameBody
public import Idealize.ShloMosaic.Lib.Ring
public import Idealize.ShloMosaic.Lib.WordCmp

@[expose] public section

set_option maxRecDepth 65536

noncomputable section

namespace Cert.KernelIdeal.Diff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

set_option maxHeartbeats 4000000 in
/-- What the output stage stores into the output block, as pieces, and the proof that it does. -/
def outRun (c : Dev nD) (i : grid0.Coords) (arg3 : Memref sig .tc .vmem S1x256x2048 .bf16) (harg3 : arg3.IsWhole) (arg4 : Memref sig .tc .vmem S1x8192x256 .bf16) (harg4 : arg4.IsWhole) (arg5 : Memref sig .tc .vmem S1x1x16x144x512 .bf16) (harg5 : arg5.IsWhole) (arg6 : Memref sig .tc .vmem S1x16x8x128 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S1x2048x128 .bf16) (harg9 : arg9.IsWhole) (arg10 : Memref sig .tc .vmem S256x2048 .bf16) (harg10 : arg10.IsWhole) (arg11 : Memref sig .tc .vmem S2x144x2048 .f32) (harg11 : arg11.IsWhole) (arg12 : Memref sig .tc .vmem S2x1x2048 .f32) (harg12 : arg12.IsWhole) (x4 : Vec F S4x64 .f32) (x5 : Vec F S128x1 .f32) (a : Vec F S2x144x2048 .f32) :
    { L9 : List (View.Piece (Elt F) S1x2048x128 .bf16) //
      ∀ (E : Set ℕ) (K : PUnit → sProp 𝕄),
        iprop(owns (c : Thread nD τ) arg7 fullShare x4 ∗ owns (c : Thread nD τ) arg8 fullShare x5
            ∗ (∃ d, owns (c : Thread nD τ) arg9 fullShare d) ∗ owns (c : Thread nD τ) arg11 fullShare a
            ∗ (iprop(owns (c : Thread nD τ) arg7 fullShare x4 ∗ owns (c : Thread nD τ) arg8 fullShare x5
                ∗ (∃ f, arg9.view.loc (c : Thread nD τ) ↦[arg9.view.set]{fullShare} arg9.view.writes (Elt F) f L9)
                ∗ owns (c : Thread nD τ) arg11 fullShare a) -∗ K ⟨⟩))
          ⊢ wp frame (wpE (defs₀ (F := F)) Variants.none c none) E (diffOut i arg3 harg3 arg4 harg4 arg5 harg5 arg6 harg6 arg7 harg7 arg8 harg8 arg9 harg9 arg10 harg10 arg11 harg11 arg12 harg12) K } := by
  refine ⟨?_, fun E K => ?run⟩
  case run =>
    unfold diffOut
    unfold owns
    iintro ⟨⟨%f4, %hf4, H4⟩, ⟨%f5, %hf5, H5⟩, ⟨%d9, %f9, -, H9⟩, ⟨%fa, %hfa, Ha⟩, Hk⟩
    obtain rfl := harg7.eq_unread hf4; obtain rfl := harg8.eq_unread hf5; obtain rfl := harg11.eq_unread hfa
    sl_exec
    sl_step
    iapply Hk
    isplitl [H4]
    · iexists _; isplitr; · ipureintro; exact harg7.read_unread _
      iexact H4
    isplitl [H5]
    · iexists _; isplitr; · ipureintro; exact harg8.read_unread _
      iexact H5
    isplitl [H9]; · iexists _; iexact H9
    iexists _; isplitr; · ipureintro; exact harg11.read_unread _
    iexact Ha

end Cert.KernelIdeal.Diff

end
-- ==== Proof.Diff.Body.lean ====
/-
The whole body of the differential attention call, from its stages: what each buffer holds between the stages, as
a function of the blocks read, and the body's triple.
-/
module

public import proofs.«01_k».proof.Proof.Diff.Fill
public import proofs.«01_k».proof.Proof.Diff.Pairs
public import proofs.«01_k».proof.Proof.Diff.Diag
public import proofs.«01_k».proof.Proof.Diff.Redo
public import proofs.«01_k».proof.Proof.Diff.Out

@[expose] public section

set_option maxRecDepth 65536

noncomputable section

namespace Cert.KernelIdeal.Diff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- The values the fill stage hands on. -/
def fillR (c : Dev nD) (i : grid0.Coords) (arg3 : Memref sig .tc .vmem S1x256x2048 .bf16) (harg3 : arg3.IsWhole) (arg4 : Memref sig .tc .vmem S1x8192x256 .bf16) (harg4 : arg4.IsWhole) (arg5 : Memref sig .tc .vmem S1x1x16x144x512 .bf16) (harg5 : arg5.IsWhole) (arg6 : Memref sig .tc .vmem S1x16x8x128 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S1x2048x128 .bf16) (harg9 : arg9.IsWhole) (arg10 : Memref sig .tc .vmem S256x2048 .bf16) (harg10 : arg10.IsWhole) (arg11 : Memref sig .tc .vmem S2x144x2048 .f32) (harg11 : arg11.IsWhole) (arg12 : Memref sig .tc .vmem S2x1x2048 .f32) (harg12 : arg12.IsWhole) (x0 : Vec F S1x256x2048 .bf16) (x3 : Vec F S1x16x8x128 .f32) :=
  (fillRun c i arg3 harg3 arg4 harg4 arg5 harg5 arg6 harg6 arg7 harg7 arg8 harg8 arg9 harg9 arg10 harg10 arg11 harg11 arg12 harg12 x0 x3).1

/-- The query rows after the fill stage. -/
def fillQ (c : Dev nD) (i : grid0.Coords) (arg3 : Memref sig .tc .vmem S1x256x2048 .bf16) (harg3 : arg3.IsWhole) (arg4 : Memref sig .tc .vmem S1x8192x256 .bf16) (harg4 : arg4.IsWhole) (arg5 : Memref sig .tc .vmem S1x1x16x144x512 .bf16) (harg5 : arg5.IsWhole) (arg6 : Memref sig .tc .vmem S1x16x8x128 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S1x2048x128 .bf16) (harg9 : arg9.IsWhole) (arg10 : Memref sig .tc .vmem S256x2048 .bf16) (harg10 : arg10.IsWhole) (arg11 : Memref sig .tc .vmem S2x144x2048 .f32) (harg11 : arg11.IsWhole) (arg12 : Memref sig .tc .vmem S2x1x2048 .f32) (harg12 : arg12.IsWhole) (x0 : Vec F S1x256x2048 .bf16) (x3 : Vec F S1x16x8x128 .f32) : Vec F S256x2048 .bf16 :=
  View.canon (fillRun c i arg3 harg3 arg4 harg4 arg5 harg5 arg6 harg6 arg7 harg7 arg8 harg8 arg9 harg9 arg10 harg10 arg11 harg11 arg12 harg12 x0 x3).2.1

/-- The sums after the fill stage. -/
def fillA (c : Dev nD) (i : grid0.Coords) (arg3 : Memref sig .tc .vmem S1x256x2048 .bf16) (harg3 : arg3.IsWhole) (arg4 : Memref sig .tc .vmem S1x8192x256 .bf16) (harg4 : arg4.IsWhole) (arg5 : Memref sig .tc .vmem S1x1x16x144x512 .bf16) (harg5 : arg5.IsWhole) (arg6 : Memref sig .tc .vmem S1x16x8x128 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S1x2048x128 .bf16) (harg9 : arg9.IsWhole) (arg10 : Memref sig .tc .vmem S256x2048 .bf16) (harg10 : arg10.IsWhole) (arg11 : Memref sig .tc .vmem S2x144x2048 .f32) (harg11 : arg11.IsWhole) (arg12 : Memref sig .tc .vmem S2x1x2048 .f32) (harg12 : arg12.IsWhole) (x0 : Vec F S1x256x2048 .bf16) (x3 : Vec F S1x16x8x128 .f32) : Vec F S2x144x2048 .f32 :=
  View.canon (fillRun c i arg3 harg3 arg4 harg4 arg5 harg5 arg6 harg6 arg7 harg7 arg8 harg8 arg9 harg9 arg10 harg10 arg11 harg11 arg12 harg12 x0 x3).2.2.1

theorem fillQ_cover (c : Dev nD) (i : grid0.Coords) (arg3 : Memref sig .tc .vmem S1x256x2048 .bf16) (harg3 : arg3.IsWhole) (arg4 : Memref sig .tc .vmem S1x8192x256 .bf16) (harg4 : arg4.IsWhole) (arg5 : Memref sig .tc .vmem S1x1x16x144x512 .bf16) (harg5 : arg5.IsWhole) (arg6 : Memref sig .tc .vmem S1x16x8x128 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S1x2048x128 .bf16) (harg9 : arg9.IsWhole) (arg10 : Memref sig .tc .vmem S256x2048 .bf16) (harg10 : arg10.IsWhole) (arg11 : Memref sig .tc .vmem S2x144x2048 .f32) (harg11 : arg11.IsWhole) (arg12 : Memref sig .tc .vmem S2x1x2048 .f32) (harg12 : arg12.IsWhole) (x0 : Vec F S1x256x2048 .bf16) (x3 : Vec F S1x16x8x128 .f32) (y : S256x2048.Idx) :
    ∃ pc ∈ (fillRun c i arg3 harg3 arg4 harg4 arg5 harg5 arg6 harg6 arg7 harg7 arg8 harg8 arg9 harg9 arg10 harg10 arg11 harg11 arg12 harg12 x0 x3).2.1, y ∈ pc.1.set :=
  View.cover_of_tiledBy _ ![16, 2048] (by sl_kernel_rfl) y

theorem fillA_cover (c : Dev nD) (i : grid0.Coords) (arg3 : Memref sig .tc .vmem S1x256x2048 .bf16) (harg3 : arg3.IsWhole) (arg4 : Memref sig .tc .vmem S1x8192x256 .bf16) (harg4 : arg4.IsWhole) (arg5 : Memref sig .tc .vmem S1x1x16x144x512 .bf16) (harg5 : arg5.IsWhole) (arg6 : Memref sig .tc .vmem S1x16x8x128 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S1x2048x128 .bf16) (harg9 : arg9.IsWhole) (arg10 : Memref sig .tc .vmem S256x2048 .bf16) (harg10 : arg10.IsWhole) (arg11 : Memref sig .tc .vmem S2x144x2048 .f32) (harg11 : arg11.IsWhole) (arg12 : Memref sig .tc .vmem S2x1x2048 .f32) (harg12 : arg12.IsWhole) (x0 : Vec F S1x256x2048 .bf16) (x3 : Vec F S1x16x8x128 .f32) (y : S2x144x2048.Idx) :
    ∃ pc ∈ (fillRun c i arg3 harg3 arg4 harg4 arg5 harg5 arg6 harg6 arg7 harg7 arg8 harg8 arg9 harg9 arg10 harg10 arg11 harg11 arg12 harg12 x0 x3).2.2.1, y ∈ pc.1.set :=
  View.cover_of_tiledL _ S2x144x2048.size (by sl_kernel_rfl) y

/-- The sums after the whole key blocks before the query block. -/
def pairsA (c : Dev nD) (i : grid0.Coords) (arg3 : Memref sig .tc .vmem S1x256x2048 .bf16) (harg3 : arg3.IsWhole) (arg4 : Memref sig .tc .vmem S1x8192x256 .bf16) (harg4 : arg4.IsWhole) (arg5 : Memref sig .tc .vmem S1x1x16x144x512 .bf16) (harg5 : arg5.IsWhole) (arg6 : Memref sig .tc .vmem S1x16x8x128 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S1x2048x128 .bf16) (harg9 : arg9.IsWhole) (arg10 : Memref sig .tc .vmem S256x2048 .bf16) (harg10 : arg10.IsWhole) (arg11 : Memref sig .tc .vmem S2x144x2048 .f32) (harg11 : arg11.IsWhole) (arg12 : Memref sig .tc .vmem S2x1x2048 .f32) (harg12 : arg12.IsWhole) (v3 : IVec S1x2048 32) (v21 : BitVec 32) (c2_i32_101 : BitVec 32) (v278 : BitVec 32) (v283 : BitVec 32) (v288 : BitVec 32)
    (x1 : Vec F S1x8192x256 .bf16) (x2 : Vec F S1x1x16x144x512 .bf16) (q : Vec F S256x2048 .bf16) (a : Vec F S2x144x2048 .f32) : Vec F S2x144x2048 .f32 :=
  arg11.view.read (Elt F) (arg11.view.writes (Elt F) (harg11.unread a) (pairsRun c i arg3 harg3 arg4 harg4 arg5 harg5 arg6 harg6 arg7 harg7 arg8 harg8 arg9 harg9 arg10 harg10 arg11 harg11 arg12 harg12 v3 v21 c2_i32_101 v278 v283 v288 x1 x2 q a).1)

/-- The sums after the diagonal. -/
def diagA (c : Dev nD) (i : grid0.Coords) (arg3 : Memref sig .tc .vmem S1x256x2048 .bf16) (harg3 : arg3.IsWhole) (arg4 : Memref sig .tc .vmem S1x8192x256 .bf16) (harg4 : arg4.IsWhole) (arg5 : Memref sig .tc .vmem S1x1x16x144x512 .bf16) (harg5 : arg5.IsWhole) (arg6 : Memref sig .tc .vmem S1x16x8x128 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S1x2048x128 .bf16) (harg9 : arg9.IsWhole) (arg10 : Memref sig .tc .vmem S256x2048 .bf16) (harg10 : arg10.IsWhole) (arg11 : Memref sig .tc .vmem S2x144x2048 .f32) (harg11 : arg11.IsWhole) (arg12 : Memref sig .tc .vmem S2x1x2048 .f32) (harg12 : arg12.IsWhole) (v3 : IVec S1x2048 32) (v21 : BitVec 32) (k0_h2 : k0_cond2 i = 1#1)
    (x1 : Vec F S1x8192x256 .bf16) (x2 : Vec F S1x1x16x144x512 .bf16) (q : Vec F S256x2048 .bf16) (a : Vec F S2x144x2048 .f32) : Vec F S2x144x2048 .f32 :=
  arg11.view.read (Elt F) (arg11.view.writes (Elt F) (harg11.unread a) (diagRun c i arg3 harg3 arg4 harg4 arg5 harg5 arg6 harg6 arg7 harg7 arg8 harg8 arg9 harg9 arg10 harg10 arg11 harg11 arg12 harg12 v3 v21 k0_h2 x1 x2 q a).1)

/-- The sums and the maxima at the start of the running-maximum pass. -/
def resetA (c : Dev nD) (i : grid0.Coords) (arg3 : Memref sig .tc .vmem S1x256x2048 .bf16) (harg3 : arg3.IsWhole) (arg4 : Memref sig .tc .vmem S1x8192x256 .bf16) (harg4 : arg4.IsWhole) (arg5 : Memref sig .tc .vmem S1x1x16x144x512 .bf16) (harg5 : arg5.IsWhole) (arg6 : Memref sig .tc .vmem S1x16x8x128 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S1x2048x128 .bf16) (harg9 : arg9.IsWhole) (arg10 : Memref sig .tc .vmem S256x2048 .bf16) (harg10 : arg10.IsWhole) (arg11 : Memref sig .tc .vmem S2x144x2048 .f32) (harg11 : arg11.IsWhole) (arg12 : Memref sig .tc .vmem S2x1x2048 .f32) (harg12 : arg12.IsWhole) : Vec F S2x144x2048 .f32 := View.canon (resetRun (F := F) c i arg3 harg3 arg4 harg4 arg5 harg5 arg6 harg6 arg7 harg7 arg8 harg8 arg9 harg9 arg10 harg10 arg11 harg11 arg12 harg12).1
def resetM (c : Dev nD) (i : grid0.Coords) (arg3 : Memref sig .tc .vmem S1x256x2048 .bf16) (harg3 : arg3.IsWhole) (arg4 : Memref sig .tc .vmem S1x8192x256 .bf16) (harg4 : arg4.IsWhole) (arg5 : Memref sig .tc .vmem S1x1x16x144x512 .bf16) (harg5 : arg5.IsWhole) (arg6 : Memref sig .tc .vmem S1x16x8x128 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S1x2048x128 .bf16) (harg9 : arg9.IsWhole) (arg10 : Memref sig .tc .vmem S256x2048 .bf16) (harg10 : arg10.IsWhole) (arg11 : Memref sig .tc .vmem S2x144x2048 .f32) (harg11 : arg11.IsWhole) (arg12 : Memref sig .tc .vmem S2x1x2048 .f32) (harg12 : arg12.IsWhole) : Vec F S2x1x2048 .f32 := View.canon (resetRun (F := F) c i arg3 harg3 arg4 harg4 arg5 harg5 arg6 harg6 arg7 harg7 arg8 harg8 arg9 harg9 arg10 harg10 arg11 harg11 arg12 harg12).2.1

theorem resetA_cover (c : Dev nD) (i : grid0.Coords) (arg3 : Memref sig .tc .vmem S1x256x2048 .bf16) (harg3 : arg3.IsWhole) (arg4 : Memref sig .tc .vmem S1x8192x256 .bf16) (harg4 : arg4.IsWhole) (arg5 : Memref sig .tc .vmem S1x1x16x144x512 .bf16) (harg5 : arg5.IsWhole) (arg6 : Memref sig .tc .vmem S1x16x8x128 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S1x2048x128 .bf16) (harg9 : arg9.IsWhole) (arg10 : Memref sig .tc .vmem S256x2048 .bf16) (harg10 : arg10.IsWhole) (arg11 : Memref sig .tc .vmem S2x144x2048 .f32) (harg11 : arg11.IsWhole) (arg12 : Memref sig .tc .vmem S2x1x2048 .f32) (harg12 : arg12.IsWhole) (y : S2x144x2048.Idx) :
    ∃ pc ∈ (resetRun (F := F) c i arg3 harg3 arg4 harg4 arg5 harg5 arg6 harg6 arg7 harg7 arg8 harg8 arg9 harg9 arg10 harg10 arg11 harg11 arg12 harg12).1, y ∈ pc.1.set :=
  View.cover_of_tiledL _ S2x144x2048.size (by sl_kernel_rfl) y

theorem resetM_cover (c : Dev nD) (i : grid0.Coords) (arg3 : Memref sig .tc .vmem S1x256x2048 .bf16) (harg3 : arg3.IsWhole) (arg4 : Memref sig .tc .vmem S1x8192x256 .bf16) (harg4 : arg4.IsWhole) (arg5 : Memref sig .tc .vmem S1x1x16x144x512 .bf16) (harg5 : arg5.IsWhole) (arg6 : Memref sig .tc .vmem S1x16x8x128 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S1x2048x128 .bf16) (harg9 : arg9.IsWhole) (arg10 : Memref sig .tc .vmem S256x2048 .bf16) (harg10 : arg10.IsWhole) (arg11 : Memref sig .tc .vmem S2x144x2048 .f32) (harg11 : arg11.IsWhole) (arg12 : Memref sig .tc .vmem S2x1x2048 .f32) (harg12 : arg12.IsWhole) (y : S2x1x2048.Idx) :
    ∃ pc ∈ (resetRun (F := F) c i arg3 harg3 arg4 harg4 arg5 harg5 arg6 harg6 arg7 harg7 arg8 harg8 arg9 harg9 arg10 harg10 arg11 harg11 arg12 harg12).2.1, y ∈ pc.1.set :=
  View.cover_of_tiledL _ S2x1x2048.size (by sl_kernel_rfl) y

/-- The sums and the maxima after the whole key blocks of the running-maximum pass. -/
def blocksA (c : Dev nD) (i : grid0.Coords) (arg3 : Memref sig .tc .vmem S1x256x2048 .bf16) (harg3 : arg3.IsWhole) (arg4 : Memref sig .tc .vmem S1x8192x256 .bf16) (harg4 : arg4.IsWhole) (arg5 : Memref sig .tc .vmem S1x1x16x144x512 .bf16) (harg5 : arg5.IsWhole) (arg6 : Memref sig .tc .vmem S1x16x8x128 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S1x2048x128 .bf16) (harg9 : arg9.IsWhole) (arg10 : Memref sig .tc .vmem S256x2048 .bf16) (harg10 : arg10.IsWhole) (arg11 : Memref sig .tc .vmem S2x144x2048 .f32) (harg11 : arg11.IsWhole) (arg12 : Memref sig .tc .vmem S2x1x2048 .f32) (harg12 : arg12.IsWhole) (v21 : BitVec 32)
    (x1 : Vec F S1x8192x256 .bf16) (x2 : Vec F S1x1x16x144x512 .bf16) (q : Vec F S256x2048 .bf16) (a : Vec F S2x144x2048 .f32) (b : Vec F S2x1x2048 .f32) : Vec F S2x144x2048 .f32 :=
  arg11.view.read (Elt F) (arg11.view.writes (Elt F) (harg11.unread a) (blocksRun c i arg3 harg3 arg4 harg4 arg5 harg5 arg6 harg6 arg7 harg7 arg8 harg8 arg9 harg9 arg10 harg10 arg11 harg11 arg12 harg12 v21 x1 x2 q a b).1)
def blocksM (c : Dev nD) (i : grid0.Coords) (arg3 : Memref sig .tc .vmem S1x256x2048 .bf16) (harg3 : arg3.IsWhole) (arg4 : Memref sig .tc .vmem S1x8192x256 .bf16) (harg4 : arg4.IsWhole) (arg5 : Memref sig .tc .vmem S1x1x16x144x512 .bf16) (harg5 : arg5.IsWhole) (arg6 : Memref sig .tc .vmem S1x16x8x128 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S1x2048x128 .bf16) (harg9 : arg9.IsWhole) (arg10 : Memref sig .tc .vmem S256x2048 .bf16) (harg10 : arg10.IsWhole) (arg11 : Memref sig .tc .vmem S2x144x2048 .f32) (harg11 : arg11.IsWhole) (arg12 : Memref sig .tc .vmem S2x1x2048 .f32) (harg12 : arg12.IsWhole) (v21 : BitVec 32)
    (x1 : Vec F S1x8192x256 .bf16) (x2 : Vec F S1x1x16x144x512 .bf16) (q : Vec F S256x2048 .bf16) (a : Vec F S2x144x2048 .f32) (b : Vec F S2x1x2048 .f32) : Vec F S2x1x2048 .f32 :=
  arg12.view.read (Elt F) (arg12.view.writes (Elt F) (harg12.unread b) (blocksRun c i arg3 harg3 arg4 harg4 arg5 harg5 arg6 harg6 arg7 harg7 arg8 harg8 arg9 harg9 arg10 harg10 arg11 harg11 arg12 harg12 v21 x1 x2 q a b).2.1)

/-- The sums after the diagonal of the running-maximum pass. -/
def redoA (c : Dev nD) (i : grid0.Coords) (arg3 : Memref sig .tc .vmem S1x256x2048 .bf16) (harg3 : arg3.IsWhole) (arg4 : Memref sig .tc .vmem S1x8192x256 .bf16) (harg4 : arg4.IsWhole) (arg5 : Memref sig .tc .vmem S1x1x16x144x512 .bf16) (harg5 : arg5.IsWhole) (arg6 : Memref sig .tc .vmem S1x16x8x128 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S1x2048x128 .bf16) (harg9 : arg9.IsWhole) (arg10 : Memref sig .tc .vmem S256x2048 .bf16) (harg10 : arg10.IsWhole) (arg11 : Memref sig .tc .vmem S2x144x2048 .f32) (harg11 : arg11.IsWhole) (arg12 : Memref sig .tc .vmem S2x1x2048 .f32) (harg12 : arg12.IsWhole) (v3 : IVec S1x2048 32) (v21 : BitVec 32)
    (x1 : Vec F S1x8192x256 .bf16) (x2 : Vec F S1x1x16x144x512 .bf16) (q : Vec F S256x2048 .bf16) (a : Vec F S2x144x2048 .f32) (b : Vec F S2x1x2048 .f32) : Vec F S2x144x2048 .f32 :=
  arg11.view.read (Elt F) (arg11.view.writes (Elt F) (harg11.unread a) (redoRun c i arg3 harg3 arg4 harg4 arg5 harg5 arg6 harg6 arg7 harg7 arg8 harg8 arg9 harg9 arg10 harg10 arg11 harg11 arg12 harg12 v3 v21 x1 x2 q a b).1)

/-- The output block, from the sums. -/
def outO (c : Dev nD) (i : grid0.Coords) (arg3 : Memref sig .tc .vmem S1x256x2048 .bf16) (harg3 : arg3.IsWhole) (arg4 : Memref sig .tc .vmem S1x8192x256 .bf16) (harg4 : arg4.IsWhole) (arg5 : Memref sig .tc .vmem S1x1x16x144x512 .bf16) (harg5 : arg5.IsWhole) (arg6 : Memref sig .tc .vmem S1x16x8x128 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S1x2048x128 .bf16) (harg9 : arg9.IsWhole) (arg10 : Memref sig .tc .vmem S256x2048 .bf16) (harg10 : arg10.IsWhole) (arg11 : Memref sig .tc .vmem S2x144x2048 .f32) (harg11 : arg11.IsWhole) (arg12 : Memref sig .tc .vmem S2x1x2048 .f32) (harg12 : arg12.IsWhole) (x4 : Vec F S4x64 .f32) (x5 : Vec F S128x1 .f32) (a : Vec F S2x144x2048 .f32) : Vec F S1x2048x128 .bf16 :=
  View.canon (outRun c i arg3 harg3 arg4 harg4 arg5 harg5 arg6 harg6 arg7 harg7 arg8 harg8 arg9 harg9 arg10 harg10 arg11 harg11 arg12 harg12 x4 x5 a).1

theorem outO_cover (c : Dev nD) (i : grid0.Coords) (arg3 : Memref sig .tc .vmem S1x256x2048 .bf16) (harg3 : arg3.IsWhole) (arg4 : Memref sig .tc .vmem S1x8192x256 .bf16) (harg4 : arg4.IsWhole) (arg5 : Memref sig .tc .vmem S1x1x16x144x512 .bf16) (harg5 : arg5.IsWhole) (arg6 : Memref sig .tc .vmem S1x16x8x128 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S1x2048x128 .bf16) (harg9 : arg9.IsWhole) (arg10 : Memref sig .tc .vmem S256x2048 .bf16) (harg10 : arg10.IsWhole) (arg11 : Memref sig .tc .vmem S2x144x2048 .f32) (harg11 : arg11.IsWhole) (arg12 : Memref sig .tc .vmem S2x1x2048 .f32) (harg12 : arg12.IsWhole) (x4 : Vec F S4x64 .f32) (x5 : Vec F S128x1 .f32) (a : Vec F S2x144x2048 .f32) (y : S1x2048x128.Idx) :
    ∃ pc ∈ (outRun c i arg3 harg3 arg4 harg4 arg5 harg5 arg6 harg6 arg7 harg7 arg8 harg8 arg9 harg9 arg10 harg10 arg11 harg11 arg12 harg12 x4 x5 a).1, y ∈ pc.1.set :=
  View.cover_of_tiledL _ S1x2048x128.size (by sl_kernel_rfl) y

/-- The sums the first pass leaves, of the blocks read. -/
def sumsA (c : Dev nD) (i : grid0.Coords) (arg3 : Memref sig .tc .vmem S1x256x2048 .bf16) (harg3 : arg3.IsWhole) (arg4 : Memref sig .tc .vmem S1x8192x256 .bf16) (harg4 : arg4.IsWhole) (arg5 : Memref sig .tc .vmem S1x1x16x144x512 .bf16) (harg5 : arg5.IsWhole) (arg6 : Memref sig .tc .vmem S1x16x8x128 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S1x2048x128 .bf16) (harg9 : arg9.IsWhole) (arg10 : Memref sig .tc .vmem S256x2048 .bf16) (harg10 : arg10.IsWhole) (arg11 : Memref sig .tc .vmem S2x144x2048 .f32) (harg11 : arg11.IsWhole) (arg12 : Memref sig .tc .vmem S2x1x2048 .f32) (harg12 : arg12.IsWhole) (k0_h2 : k0_cond2 i = 1#1) (x0 : Vec F S1x256x2048 .bf16) (x1 : Vec F S1x8192x256 .bf16) (x2 : Vec F S1x1x16x144x512 .bf16) (x3 : Vec F S1x16x8x128 .f32) (x4 : Vec F S4x64 .f32) (x5 : Vec F S128x1 .f32) : Vec F S2x144x2048 .f32 :=
  let r := fillR c i arg3 harg3 arg4 harg4 arg5 harg5 arg6 harg6 arg7 harg7 arg8 harg8 arg9 harg9 arg10 harg10 arg11 harg11 arg12 harg12 x0 x3
  diagA c i arg3 harg3 arg4 harg4 arg5 harg5 arg6 harg6 arg7 harg7 arg8 harg8 arg9 harg9 arg10 harg10 arg11 harg11 arg12 harg12 r.1 r.2.1 k0_h2 x1 x2 (fillQ c i arg3 harg3 arg4 harg4 arg5 harg5 arg6 harg6 arg7 harg7 arg8 harg8 arg9 harg9 arg10 harg10 arg11 harg11 arg12 harg12 x0 x3)
    (pairsA c i arg3 harg3 arg4 harg4 arg5 harg5 arg6 harg6 arg7 harg7 arg8 harg8 arg9 harg9 arg10 harg10 arg11 harg11 arg12 harg12 r.1 r.2.1 r.2.2.1 r.2.2.2.1 r.2.2.2.2.1 r.2.2.2.2.2 x1 x2 (fillQ c i arg3 harg3 arg4 harg4 arg5 harg5 arg6 harg6 arg7 harg7 arg8 harg8 arg9 harg9 arg10 harg10 arg11 harg11 arg12 harg12 x0 x3) (fillA c i arg3 harg3 arg4 harg4 arg5 harg5 arg6 harg6 arg7 harg7 arg8 harg8 arg9 harg9 arg10 harg10 arg11 harg11 arg12 harg12 x0 x3))

/-- The sums the running-maximum pass leaves, of the blocks read. -/
def againA (c : Dev nD) (i : grid0.Coords) (arg3 : Memref sig .tc .vmem S1x256x2048 .bf16) (harg3 : arg3.IsWhole) (arg4 : Memref sig .tc .vmem S1x8192x256 .bf16) (harg4 : arg4.IsWhole) (arg5 : Memref sig .tc .vmem S1x1x16x144x512 .bf16) (harg5 : arg5.IsWhole) (arg6 : Memref sig .tc .vmem S1x16x8x128 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S1x2048x128 .bf16) (harg9 : arg9.IsWhole) (arg10 : Memref sig .tc .vmem S256x2048 .bf16) (harg10 : arg10.IsWhole) (arg11 : Memref sig .tc .vmem S2x144x2048 .f32) (harg11 : arg11.IsWhole) (arg12 : Memref sig .tc .vmem S2x1x2048 .f32) (harg12 : arg12.IsWhole) (x0 : Vec F S1x256x2048 .bf16) (x1 : Vec F S1x8192x256 .bf16) (x2 : Vec F S1x1x16x144x512 .bf16) (x3 : Vec F S1x16x8x128 .f32) (x4 : Vec F S4x64 .f32) (x5 : Vec F S128x1 .f32) : Vec F S2x144x2048 .f32 :=
  let r := fillR c i arg3 harg3 arg4 harg4 arg5 harg5 arg6 harg6 arg7 harg7 arg8 harg8 arg9 harg9 arg10 harg10 arg11 harg11 arg12 harg12 x0 x3
  redoA c i arg3 harg3 arg4 harg4 arg5 harg5 arg6 harg6 arg7 harg7 arg8 harg8 arg9 harg9 arg10 harg10 arg11 harg11 arg12 harg12 r.1 r.2.1 x1 x2 (fillQ c i arg3 harg3 arg4 harg4 arg5 harg5 arg6 harg6 arg7 harg7 arg8 harg8 arg9 harg9 arg10 harg10 arg11 harg11 arg12 harg12 x0 x3)
    (blocksA c i arg3 harg3 arg4 harg4 arg5 harg5 arg6 harg6 arg7 harg7 arg8 harg8 arg9 harg9 arg10 harg10 arg11 harg11 arg12 harg12 r.2.1 x1 x2 (fillQ c i arg3 harg3 arg4 harg4 arg5 harg5 arg6 harg6 arg7 harg7 arg8 harg8 arg9 harg9 arg10 harg10 arg11 harg11 arg12 harg12 x0 x3) (resetA c i arg3 harg3 arg4 harg4 arg5 harg5 arg6 harg6 arg7 harg7 arg8 harg8 arg9 harg9 arg10 harg10 arg11 harg11 arg12 harg12) (resetM c i arg3 harg3 arg4 harg4 arg5 harg5 arg6 harg6 arg7 harg7 arg8 harg8 arg9 harg9 arg10 harg10 arg11 harg11 arg12 harg12))
    (blocksM c i arg3 harg3 arg4 harg4 arg5 harg5 arg6 harg6 arg7 harg7 arg8 harg8 arg9 harg9 arg10 harg10 arg11 harg11 arg12 harg12 r.2.1 x1 x2 (fillQ c i arg3 harg3 arg4 harg4 arg5 harg5 arg6 harg6 arg7 harg7 arg8 harg8 arg9 harg9 arg10 harg10 arg11 harg11 arg12 harg12 x0 x3) (resetA c i arg3 harg3 arg4 harg4 arg5 harg5 arg6 harg6 arg7 harg7 arg8 harg8 arg9 harg9 arg10 harg10 arg11 harg11 arg12 harg12) (resetM c i arg3 harg3 arg4 harg4 arg5 harg5 arg6 harg6 arg7 harg7 arg8 harg8 arg9 harg9 arg10 harg10 arg11 harg11 arg12 harg12))

/-- The denominators' test on the sums the first pass leaves. -/
def testA (a : Vec F S2x144x2048 .f32) : BitVec 1 :=
  tooSmall (View.ld a (Rect.unit (s := S2x144x2048) ![0, 130, 0] S2x1x2048.size inb_S2x144x2048_S2x1x2048_0_130_0))

/-- The output block, of the blocks read. -/
def bodyO (c : Dev nD) (i : grid0.Coords) (arg3 : Memref sig .tc .vmem S1x256x2048 .bf16) (harg3 : arg3.IsWhole) (arg4 : Memref sig .tc .vmem S1x8192x256 .bf16) (harg4 : arg4.IsWhole) (arg5 : Memref sig .tc .vmem S1x1x16x144x512 .bf16) (harg5 : arg5.IsWhole) (arg6 : Memref sig .tc .vmem S1x16x8x128 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S1x2048x128 .bf16) (harg9 : arg9.IsWhole) (arg10 : Memref sig .tc .vmem S256x2048 .bf16) (harg10 : arg10.IsWhole) (arg11 : Memref sig .tc .vmem S2x144x2048 .f32) (harg11 : arg11.IsWhole) (arg12 : Memref sig .tc .vmem S2x1x2048 .f32) (harg12 : arg12.IsWhole) (k0_h2 : k0_cond2 i = 1#1) (x0 : Vec F S1x256x2048 .bf16) (x1 : Vec F S1x8192x256 .bf16) (x2 : Vec F S1x1x16x144x512 .bf16) (x3 : Vec F S1x16x8x128 .f32) (x4 : Vec F S4x64 .f32) (x5 : Vec F S128x1 .f32) : Vec F S1x2048x128 .bf16 :=
  outO c i arg3 harg3 arg4 harg4 arg5 harg5 arg6 harg6 arg7 harg7 arg8 harg8 arg9 harg9 arg10 harg10 arg11 harg11 arg12 harg12 x4 x5
    (if testA (sumsA c i arg3 harg3 arg4 harg4 arg5 harg5 arg6 harg6 arg7 harg7 arg8 harg8 arg9 harg9 arg10 harg10 arg11 harg11 arg12 harg12 k0_h2 x0 x1 x2 x3 x4 x5) = 1#1 then againA c i arg3 harg3 arg4 harg4 arg5 harg5 arg6 harg6 arg7 harg7 arg8 harg8 arg9 harg9 arg10 harg10 arg11 harg11 arg12 harg12 x0 x1 x2 x3 x4 x5
      else sumsA c i arg3 harg3 arg4 harg4 arg5 harg5 arg6 harg6 arg7 harg7 arg8 harg8 arg9 harg9 arg10 harg10 arg11 harg11 arg12 harg12 k0_h2 x0 x1 x2 x3 x4 x5)

/-- Reading the denominators. -/
theorem test_stage (c : Dev nD) (i : grid0.Coords) (arg3 : Memref sig .tc .vmem S1x256x2048 .bf16) (harg3 : arg3.IsWhole) (arg4 : Memref sig .tc .vmem S1x8192x256 .bf16) (harg4 : arg4.IsWhole) (arg5 : Memref sig .tc .vmem S1x1x16x144x512 .bf16) (harg5 : arg5.IsWhole) (arg6 : Memref sig .tc .vmem S1x16x8x128 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S1x2048x128 .bf16) (harg9 : arg9.IsWhole) (arg10 : Memref sig .tc .vmem S256x2048 .bf16) (harg10 : arg10.IsWhole) (arg11 : Memref sig .tc .vmem S2x144x2048 .f32) (harg11 : arg11.IsWhole) (arg12 : Memref sig .tc .vmem S2x1x2048 .f32) (harg12 : arg12.IsWhole) (a : Vec F S2x144x2048 .f32)
    (E : Set ℕ) (K : Vec F S2x1x2048 .f32 → sProp 𝕄) :
    iprop(owns (c : Thread nD τ) arg11 fullShare a
        ∗ (owns (c : Thread nD τ) arg11 fullShare a -∗ K (View.ld a (Rect.unit (s := S2x144x2048) ![0, 130, 0] S2x1x2048.size inb_S2x144x2048_S2x1x2048_0_130_0))))
      ⊢ wp frame (wpE (defs₀ (F := F)) Variants.none c none) E (diffTest i arg3 harg3 arg4 harg4 arg5 harg5 arg6 harg6 arg7 harg7 arg8 harg8 arg9 harg9 arg10 harg10 arg11 harg11 arg12 harg12) K := by
  have e : View.ld a (Rect.unit (s := S2x144x2048) ![0, 130, 0] S2x1x2048.size inb_S2x144x2048_S2x1x2048_0_130_0)
      = arg11.view.readAt (Elt F) (Rect.unit (s := S2x144x2048) ![0, 130, 0] S2x1x2048.size inb_S2x144x2048_S2x1x2048_0_130_0).toLoadRect (harg11.unread a) := by
    rw [View.readAt_eq_ld, harg11.read_unread]
  rw [e]
  unfold diffTest owns
  iintro ⟨⟨%fa, %hfa, Ha⟩, Hk⟩
  obtain rfl := harg11.eq_unread hfa
  sl_exec
  sl_step
  iapply Hk
  iexists _; isplitr; swap; · iexact Ha
  ipureintro; exact harg11.read_unread _

set_option maxHeartbeats 4000000 in
/-- The second half when the denominators are large enough: the output block from the sums as they are. -/
theorem tail_direct (c : Dev nD) (i : grid0.Coords) (arg3 : Memref sig .tc .vmem S1x256x2048 .bf16) (harg3 : arg3.IsWhole) (arg4 : Memref sig .tc .vmem S1x8192x256 .bf16) (harg4 : arg4.IsWhole) (arg5 : Memref sig .tc .vmem S1x1x16x144x512 .bf16) (harg5 : arg5.IsWhole) (arg6 : Memref sig .tc .vmem S1x16x8x128 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S1x2048x128 .bf16) (harg9 : arg9.IsWhole) (arg10 : Memref sig .tc .vmem S256x2048 .bf16) (harg10 : arg10.IsWhole) (arg11 : Memref sig .tc .vmem S2x144x2048 .f32) (harg11 : arg11.IsWhole) (arg12 : Memref sig .tc .vmem S2x1x2048 .f32) (harg12 : arg12.IsWhole) (v3 : IVec S1x2048 32) (v21 : BitVec 32)
    (x4 : Vec F S4x64 .f32) (x5 : Vec F S128x1 .f32) (a : Vec F S2x144x2048 .f32) (ht : ¬testA a = 1#1)
    (E : Set ℕ) (K : PUnit → sProp 𝕄) :
    iprop(owns (c : Thread nD τ) arg7 fullShare x4 ∗ owns (c : Thread nD τ) arg8 fullShare x5
        ∗ (∃ d, owns (c : Thread nD τ) arg9 fullShare d) ∗ owns (c : Thread nD τ) arg11 fullShare a
        ∗ (iprop(owns (c : Thread nD τ) arg7 fullShare x4 ∗ owns (c : Thread nD τ) arg8 fullShare x5
            ∗ owns (c : Thread nD τ) arg9 fullShare (outO c i arg3 harg3 arg4 harg4 arg5 harg5 arg6 harg6 arg7 harg7 arg8 harg8 arg9 harg9 arg10 harg10 arg11 harg11 arg12 harg12 x4 x5 a) ∗ owns (c : Thread nD τ) arg11 fullShare a) -∗ K ⟨⟩))
      ⊢ wp frame (wpE (defs₀ (F := F)) Variants.none c none) E (diffTail i arg3 harg3 arg4 harg4 arg5 harg5 arg6 harg6 arg7 harg7 arg8 harg8 arg9 harg9 arg10 harg10 arg11 harg11 arg12 harg12 v3 v21) K := by
  unfold diffTail
  rw [wp_bind]
  iintro ⟨H4, H5, H9, H11, Hk⟩
  iapply (test_stage c i arg3 harg3 arg4 harg4 arg5 harg5 arg6 harg6 arg7 harg7 arg8 harg8 arg9 harg9 arg10 harg10 arg11 harg11 arg12 harg12 a E _)
  isplitl [H11]; · iexact H11
  iintro H11
  unfold testA at ht
  rw [if_neg ht]
  iapply ((outRun c i arg3 harg3 arg4 harg4 arg5 harg5 arg6 harg6 arg7 harg7 arg8 harg8 arg9 harg9 arg10 harg10 arg11 harg11 arg12 harg12 x4 x5 a).2 E _)
  unfold owns
  isplitl [H4]; · iexact H4
  isplitl [H5]; · iexact H5
  isplitl [H9]; · iexact H9
  isplitl [H11]; · iexact H11
  iintro ⟨H4, H5, ⟨%f9, H9⟩, H11⟩
  iapply Hk
  isplitl [H4]; · iexact H4
  isplitl [H5]; · iexact H5
  isplitl [H9]
  · iexists _; isplitr; swap; · iexact H9
    ipureintro; exact View.read_writes_eq_canon _ _ _ (outO_cover c i arg3 harg3 arg4 harg4 arg5 harg5 arg6 harg6 arg7 harg7 arg8 harg8 arg9 harg9 arg10 harg10 arg11 harg11 arg12 harg12 x4 x5 a)
  iexact H11

set_option maxHeartbeats 4000000 in
/-- The second half when a denominator is too small: the running-maximum pass, then the output block from its sums. -/
theorem tail_again (c : Dev nD) (i : grid0.Coords) (arg3 : Memref sig .tc .vmem S1x256x2048 .bf16) (harg3 : arg3.IsWhole) (arg4 : Memref sig .tc .vmem S1x8192x256 .bf16) (harg4 : arg4.IsWhole) (arg5 : Memref sig .tc .vmem S1x1x16x144x512 .bf16) (harg5 : arg5.IsWhole) (arg6 : Memref sig .tc .vmem S1x16x8x128 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S1x2048x128 .bf16) (harg9 : arg9.IsWhole) (arg10 : Memref sig .tc .vmem S256x2048 .bf16) (harg10 : arg10.IsWhole) (arg11 : Memref sig .tc .vmem S2x144x2048 .f32) (harg11 : arg11.IsWhole) (arg12 : Memref sig .tc .vmem S2x1x2048 .f32) (harg12 : arg12.IsWhole) (v3 : IVec S1x2048 32) (v21 : BitVec 32)
    (x1 : Vec F S1x8192x256 .bf16) (x2 : Vec F S1x1x16x144x512 .bf16) (q : Vec F S256x2048 .bf16)
    (x4 : Vec F S4x64 .f32) (x5 : Vec F S128x1 .f32) (a : Vec F S2x144x2048 .f32) (ht : testA a = 1#1)
    (E : Set ℕ) (K : PUnit → sProp 𝕄) :
    iprop(owns (c : Thread nD τ) arg4 fullShare x1 ∗ owns (c : Thread nD τ) arg5 fullShare x2 ∗ owns (c : Thread nD τ) arg7 fullShare x4 ∗ owns (c : Thread nD τ) arg8 fullShare x5
        ∗ (∃ d, owns (c : Thread nD τ) arg9 fullShare d) ∗ owns (c : Thread nD τ) arg10 fullShare q ∗ owns (c : Thread nD τ) arg11 fullShare a
        ∗ (∃ d, owns (c : Thread nD τ) arg12 fullShare d)
        ∗ (iprop(owns (c : Thread nD τ) arg4 fullShare x1 ∗ owns (c : Thread nD τ) arg5 fullShare x2 ∗ owns (c : Thread nD τ) arg7 fullShare x4 ∗ owns (c : Thread nD τ) arg8 fullShare x5
            ∗ owns (c : Thread nD τ) arg9 fullShare (outO c i arg3 harg3 arg4 harg4 arg5 harg5 arg6 harg6 arg7 harg7 arg8 harg8 arg9 harg9 arg10 harg10 arg11 harg11 arg12 harg12 x4 x5 (redoA c i arg3 harg3 arg4 harg4 arg5 harg5 arg6 harg6 arg7 harg7 arg8 harg8 arg9 harg9 arg10 harg10 arg11 harg11 arg12 harg12 v3 v21 x1 x2 q
                (blocksA c i arg3 harg3 arg4 harg4 arg5 harg5 arg6 harg6 arg7 harg7 arg8 harg8 arg9 harg9 arg10 harg10 arg11 harg11 arg12 harg12 v21 x1 x2 q (resetA c i arg3 harg3 arg4 harg4 arg5 harg5 arg6 harg6 arg7 harg7 arg8 harg8 arg9 harg9 arg10 harg10 arg11 harg11 arg12 harg12) (resetM c i arg3 harg3 arg4 harg4 arg5 harg5 arg6 harg6 arg7 harg7 arg8 harg8 arg9 harg9 arg10 harg10 arg11 harg11 arg12 harg12)) (blocksM c i arg3 harg3 arg4 harg4 arg5 harg5 arg6 harg6 arg7 harg7 arg8 harg8 arg9 harg9 arg10 harg10 arg11 harg11 arg12 harg12 v21 x1 x2 q (resetA c i arg3 harg3 arg4 harg4 arg5 harg5 arg6 harg6 arg7 harg7 arg8 harg8 arg9 harg9 arg10 harg10 arg11 harg11 arg12 harg12) (resetM c i arg3 harg3 arg4 harg4 arg5 harg5 arg6 harg6 arg7 harg7 arg8 harg8 arg9 harg9 arg10 harg10 arg11 harg11 arg12 harg12))))
            ∗ owns (c : Thread nD τ) arg10 fullShare q ∗ (∃ d, owns (c : Thread nD τ) arg11 fullShare d) ∗ (∃ d, owns (c : Thread nD τ) arg12 fullShare d)) -∗ K ⟨⟩))
      ⊢ wp frame (wpE (defs₀ (F := F)) Variants.none c none) E (diffTail i arg3 harg3 arg4 harg4 arg5 harg5 arg6 harg6 arg7 harg7 arg8 harg8 arg9 harg9 arg10 harg10 arg11 harg11 arg12 harg12 v3 v21) K := by
  unfold diffTail
  rw [wp_bind]
  iintro ⟨H1, H2, H4, H5, H9, Hq, H11, H12, Hk⟩
  iapply (test_stage c i arg3 harg3 arg4 harg4 arg5 harg5 arg6 harg6 arg7 harg7 arg8 harg8 arg9 harg9 arg10 harg10 arg11 harg11 arg12 harg12 a E _)
  isplitl [H11]; · iexact H11
  iintro H11
  unfold testA at ht
  rw [if_pos ht, wp_bind]
  iapply ((resetRun c i arg3 harg3 arg4 harg4 arg5 harg5 arg6 harg6 arg7 harg7 arg8 harg8 arg9 harg9 arg10 harg10 arg11 harg11 arg12 harg12).2.2 E _)
  unfold owns
  isplitl [H11]; · iexists _; iexact H11
  isplitl [H12]; · iexact H12
  iintro ⟨⟨%f11, H11⟩, ⟨%f12, H12⟩⟩
  rw [wp_bind]
  iapply ((blocksRun c i arg3 harg3 arg4 harg4 arg5 harg5 arg6 harg6 arg7 harg7 arg8 harg8 arg9 harg9 arg10 harg10 arg11 harg11 arg12 harg12 v21 x1 x2 q (resetA c i arg3 harg3 arg4 harg4 arg5 harg5 arg6 harg6 arg7 harg7 arg8 harg8 arg9 harg9 arg10 harg10 arg11 harg11 arg12 harg12) (resetM c i arg3 harg3 arg4 harg4 arg5 harg5 arg6 harg6 arg7 harg7 arg8 harg8 arg9 harg9 arg10 harg10 arg11 harg11 arg12 harg12)).2.2 E _)
  unfold owns
  isplitl [H1]; · iexact H1
  isplitl [H2]; · iexact H2
  isplitl [Hq]; · iexact Hq
  isplitl [H11]
  · iexists _; isplitr; swap; · iexact H11
    ipureintro; exact View.read_writes_eq_canon _ _ _ (resetA_cover c i arg3 harg3 arg4 harg4 arg5 harg5 arg6 harg6 arg7 harg7 arg8 harg8 arg9 harg9 arg10 harg10 arg11 harg11 arg12 harg12)
  isplitl [H12]
  · iexists _; isplitr; swap; · iexact H12
    ipureintro; exact View.read_writes_eq_canon _ _ _ (resetM_cover c i arg3 harg3 arg4 harg4 arg5 harg5 arg6 harg6 arg7 harg7 arg8 harg8 arg9 harg9 arg10 harg10 arg11 harg11 arg12 harg12)
  iintro ⟨H1, H2, Hq, H11, H12⟩
  rw [wp_bind]
  iapply ((redoRun c i arg3 harg3 arg4 harg4 arg5 harg5 arg6 harg6 arg7 harg7 arg8 harg8 arg9 harg9 arg10 harg10 arg11 harg11 arg12 harg12 v3 v21 x1 x2 q (blocksA c i arg3 harg3 arg4 harg4 arg5 harg5 arg6 harg6 arg7 harg7 arg8 harg8 arg9 harg9 arg10 harg10 arg11 harg11 arg12 harg12 v21 x1 x2 q (resetA c i arg3 harg3 arg4 harg4 arg5 harg5 arg6 harg6 arg7 harg7 arg8 harg8 arg9 harg9 arg10 harg10 arg11 harg11 arg12 harg12) (resetM c i arg3 harg3 arg4 harg4 arg5 harg5 arg6 harg6 arg7 harg7 arg8 harg8 arg9 harg9 arg10 harg10 arg11 harg11 arg12 harg12)) (blocksM c i arg3 harg3 arg4 harg4 arg5 harg5 arg6 harg6 arg7 harg7 arg8 harg8 arg9 harg9 arg10 harg10 arg11 harg11 arg12 harg12 v21 x1 x2 q (resetA c i arg3 harg3 arg4 harg4 arg5 harg5 arg6 harg6 arg7 harg7 arg8 harg8 arg9 harg9 arg10 harg10 arg11 harg11 arg12 harg12) (resetM c i arg3 harg3 arg4 harg4 arg5 harg5 arg6 harg6 arg7 harg7 arg8 harg8 arg9 harg9 arg10 harg10 arg11 harg11 arg12 harg12))).2.2 E _)
  unfold owns
  isplitl [H1]; · iexact H1
  isplitl [H2]; · iexact H2
  isplitl [Hq]; · iexact Hq
  isplitl [H11]
  · iexists _; isplitr; swap; · iexact H11
    ipureintro; rfl
  isplitl [H12]
  · iexists _; isplitr; swap; · iexact H12
    ipureintro; rfl
  iintro ⟨H1, H2, Hq, H11, H12⟩
  iapply ((outRun c i arg3 harg3 arg4 harg4 arg5 harg5 arg6 harg6 arg7 harg7 arg8 harg8 arg9 harg9 arg10 harg10 arg11 harg11 arg12 harg12 x4 x5 (redoA c i arg3 harg3 arg4 harg4 arg5 harg5 arg6 harg6 arg7 harg7 arg8 harg8 arg9 harg9 arg10 harg10 arg11 harg11 arg12 harg12 v3 v21 x1 x2 q (blocksA c i arg3 harg3 arg4 harg4 arg5 harg5 arg6 harg6 arg7 harg7 arg8 harg8 arg9 harg9 arg10 harg10 arg11 harg11 arg12 harg12 v21 x1 x2 q (resetA c i arg3 harg3 arg4 harg4 arg5 harg5 arg6 harg6 arg7 harg7 arg8 harg8 arg9 harg9 arg10 harg10 arg11 harg11 arg12 harg12) (resetM c i arg3 harg3 arg4 harg4 arg5 harg5 arg6 harg6 arg7 harg7 arg8 harg8 arg9 harg9 arg10 harg10 arg11 harg11 arg12 harg12)) (blocksM c i arg3 harg3 arg4 harg4 arg5 harg5 arg6 harg6 arg7 harg7 arg8 harg8 arg9 harg9 arg10 harg10 arg11 harg11 arg12 harg12 v21 x1 x2 q (resetA c i arg3 harg3 arg4 harg4 arg5 harg5 arg6 harg6 arg7 harg7 arg8 harg8 arg9 harg9 arg10 harg10 arg11 harg11 arg12 harg12) (resetM c i arg3 harg3 arg4 harg4 arg5 harg5 arg6 harg6 arg7 harg7 arg8 harg8 arg9 harg9 arg10 harg10 arg11 harg11 arg12 harg12)))).2 E _)
  unfold owns
  isplitl [H4]; · iexact H4
  isplitl [H5]; · iexact H5
  isplitl [H9]; · iexact H9
  isplitl [H11]
  · iexists _; isplitr; swap; · iexact H11
    ipureintro; rfl
  iintro ⟨H4, H5, ⟨%f9, H9⟩, H11⟩
  iapply Hk
  isplitl [H1]; · iexact H1
  isplitl [H2]; · iexact H2
  isplitl [H4]; · iexact H4
  isplitl [H5]; · iexact H5
  isplitl [H9]
  · iexists _; isplitr; swap; · iexact H9
    ipureintro; exact View.read_writes_eq_canon _ _ _ (outO_cover c i arg3 harg3 arg4 harg4 arg5 harg5 arg6 harg6 arg7 harg7 arg8 harg8 arg9 harg9 arg10 harg10 arg11 harg11 arg12 harg12 x4 x5 _)
  isplitl [Hq]; · iexact Hq
  isplitl [H11]; · iexists _; iexact H11
  iexists _; iexists _; isplitr; swap; · iexact H12
  ipureintro; rfl

set_option maxHeartbeats 4000000 in
/-- The body's triple: on whole buffers, the inputs' at their blocks and the others at anything, it runs and leaves the
    output block at `bodyO`. -/
theorem bodyRun (c : Dev nD) (i : grid0.Coords) (arg3 : Memref sig .tc .vmem S1x256x2048 .bf16) (harg3 : arg3.IsWhole) (arg4 : Memref sig .tc .vmem S1x8192x256 .bf16) (harg4 : arg4.IsWhole) (arg5 : Memref sig .tc .vmem S1x1x16x144x512 .bf16) (harg5 : arg5.IsWhole) (arg6 : Memref sig .tc .vmem S1x16x8x128 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S1x2048x128 .bf16) (harg9 : arg9.IsWhole) (arg10 : Memref sig .tc .vmem S256x2048 .bf16) (harg10 : arg10.IsWhole) (arg11 : Memref sig .tc .vmem S2x144x2048 .f32) (harg11 : arg11.IsWhole) (arg12 : Memref sig .tc .vmem S2x1x2048 .f32) (harg12 : arg12.IsWhole) (k0_h1 : ¬k0_cond1 i = 1#1) (k0_h2 : k0_cond2 i = 1#1) (x0 : Vec F S1x256x2048 .bf16) (x1 : Vec F S1x8192x256 .bf16) (x2 : Vec F S1x1x16x144x512 .bf16) (x3 : Vec F S1x16x8x128 .f32) (x4 : Vec F S4x64 .f32) (x5 : Vec F S128x1 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (iprop((owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5) ∗ owns (c : Thread nD τ) arg9 fullShare (bodyO c i arg3 harg3 arg4 harg4 arg5 harg5 arg6 harg6 arg7 harg7 arg8 harg8 arg9 harg9 arg10 harg10 arg11 harg11 arg12 harg12 k0_h2 x0 x1 x2 x3 x4 x5)
            ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0_diff i arg3 harg3 arg4 harg4 arg5 harg5 arg6 harg6 arg7 harg7 arg8 harg8 arg9 harg9 arg10 harg10 arg11 harg11 arg12 harg12) K := by
  rw [cc0_diff_split i arg3 harg3 arg4 harg4 arg5 harg5 arg6 harg6 arg7 harg7 arg8 harg8 arg9 harg9 arg10 harg10 arg11 harg11 arg12 harg12 k0_h1 k0_h2]
  unfold diffStages
  simp only [wp_bind]
  iintro ⟨H0, H1, H2, H3, H4, H5, H9, H10, H11, H12, Hk⟩
  -- the query rows
  iapply ((fillRun c i arg3 harg3 arg4 harg4 arg5 harg5 arg6 harg6 arg7 harg7 arg8 harg8 arg9 harg9 arg10 harg10 arg11 harg11 arg12 harg12 x0 x3).2.2.2 E _)
  isplitl [H0]; · iexact H0
  isplitl [H3]; · iexact H3
  isplitl [H10]; · iexact H10
  isplitl [H11]; · iexact H11
  iintro ⟨H0, H3, ⟨%f10, H10⟩, ⟨%f11, H11⟩⟩
  -- the whole key blocks
  iapply ((pairsRun c i arg3 harg3 arg4 harg4 arg5 harg5 arg6 harg6 arg7 harg7 arg8 harg8 arg9 harg9 arg10 harg10 arg11 harg11 arg12 harg12 (fillR c i arg3 harg3 arg4 harg4 arg5 harg5 arg6 harg6 arg7 harg7 arg8 harg8 arg9 harg9 arg10 harg10 arg11 harg11 arg12 harg12 x0 x3).1 (fillR c i arg3 harg3 arg4 harg4 arg5 harg5 arg6 harg6 arg7 harg7 arg8 harg8 arg9 harg9 arg10 harg10 arg11 harg11 arg12 harg12 x0 x3).2.1 (fillR c i arg3 harg3 arg4 harg4 arg5 harg5 arg6 harg6 arg7 harg7 arg8 harg8 arg9 harg9 arg10 harg10 arg11 harg11 arg12 harg12 x0 x3).2.2.1 (fillR c i arg3 harg3 arg4 harg4 arg5 harg5 arg6 harg6 arg7 harg7 arg8 harg8 arg9 harg9 arg10 harg10 arg11 harg11 arg12 harg12 x0 x3).2.2.2.1 (fillR c i arg3 harg3 arg4 harg4 arg5 harg5 arg6 harg6 arg7 harg7 arg8 harg8 arg9 harg9 arg10 harg10 arg11 harg11 arg12 harg12 x0 x3).2.2.2.2.1 (fillR c i arg3 harg3 arg4 harg4 arg5 harg5 arg6 harg6 arg7 harg7 arg8 harg8 arg9 harg9 arg10 harg10 arg11 harg11 arg12 harg12 x0 x3).2.2.2.2.2 x1 x2 (fillQ c i arg3 harg3 arg4 harg4 arg5 harg5 arg6 harg6 arg7 harg7 arg8 harg8 arg9 harg9 arg10 harg10 arg11 harg11 arg12 harg12 x0 x3) (fillA c i arg3 harg3 arg4 harg4 arg5 harg5 arg6 harg6 arg7 harg7 arg8 harg8 arg9 harg9 arg10 harg10 arg11 harg11 arg12 harg12 x0 x3)).2 E _)
  isplitl [H1]; · iexact H1
  isplitl [H2]; · iexact H2
  isplitl [H10]
  · unfold owns; iexists _; isplitr; swap; · iexact H10
    ipureintro; exact View.read_writes_eq_canon _ _ _ (fillQ_cover c i arg3 harg3 arg4 harg4 arg5 harg5 arg6 harg6 arg7 harg7 arg8 harg8 arg9 harg9 arg10 harg10 arg11 harg11 arg12 harg12 x0 x3)
  isplitl [H11]
  · unfold owns; iexists _; isplitr; swap; · iexact H11
    ipureintro; exact View.read_writes_eq_canon _ _ _ (fillA_cover c i arg3 harg3 arg4 harg4 arg5 harg5 arg6 harg6 arg7 harg7 arg8 harg8 arg9 harg9 arg10 harg10 arg11 harg11 arg12 harg12 x0 x3)
  iintro ⟨H1, H2, H10, H11⟩
  -- the diagonal
  iapply ((diagRun c i arg3 harg3 arg4 harg4 arg5 harg5 arg6 harg6 arg7 harg7 arg8 harg8 arg9 harg9 arg10 harg10 arg11 harg11 arg12 harg12 (fillR c i arg3 harg3 arg4 harg4 arg5 harg5 arg6 harg6 arg7 harg7 arg8 harg8 arg9 harg9 arg10 harg10 arg11 harg11 arg12 harg12 x0 x3).1 (fillR c i arg3 harg3 arg4 harg4 arg5 harg5 arg6 harg6 arg7 harg7 arg8 harg8 arg9 harg9 arg10 harg10 arg11 harg11 arg12 harg12 x0 x3).2.1 k0_h2 x1 x2 (fillQ c i arg3 harg3 arg4 harg4 arg5 harg5 arg6 harg6 arg7 harg7 arg8 harg8 arg9 harg9 arg10 harg10 arg11 harg11 arg12 harg12 x0 x3)
    (pairsA c i arg3 harg3 arg4 harg4 arg5 harg5 arg6 harg6 arg7 harg7 arg8 harg8 arg9 harg9 arg10 harg10 arg11 harg11 arg12 harg12 (fillR c i arg3 harg3 arg4 harg4 arg5 harg5 arg6 harg6 arg7 harg7 arg8 harg8 arg9 harg9 arg10 harg10 arg11 harg11 arg12 harg12 x0 x3).1 (fillR c i arg3 harg3 arg4 harg4 arg5 harg5 arg6 harg6 arg7 harg7 arg8 harg8 arg9 harg9 arg10 harg10 arg11 harg11 arg12 harg12 x0 x3).2.1 (fillR c i arg3 harg3 arg4 harg4 arg5 harg5 arg6 harg6 arg7 harg7 arg8 harg8 arg9 harg9 arg10 harg10 arg11 harg11 arg12 harg12 x0 x3).2.2.1 (fillR c i arg3 harg3 arg4 harg4 arg5 harg5 arg6 harg6 arg7 harg7 arg8 harg8 arg9 harg9 arg10 harg10 arg11 harg11 arg12 harg12 x0 x3).2.2.2.1 (fillR c i arg3 harg3 arg4 harg4 arg5 harg5 arg6 harg6 arg7 harg7 arg8 harg8 arg9 harg9 arg10 harg10 arg11 harg11 arg12 harg12 x0 x3).2.2.2.2.1 (fillR c i arg3 harg3 arg4 harg4 arg5 harg5 arg6 harg6 arg7 harg7 arg8 harg8 arg9 harg9 arg10 harg10 arg11 harg11 arg12 harg12 x0 x3).2.2.2.2.2 x1 x2 (fillQ c i arg3 harg3 arg4 harg4 arg5 harg5 arg6 harg6 arg7 harg7 arg8 harg8 arg9 harg9 arg10 harg10 arg11 harg11 arg12 harg12 x0 x3) (fillA c i arg3 harg3 arg4 harg4 arg5 harg5 arg6 harg6 arg7 harg7 arg8 harg8 arg9 harg9 arg10 harg10 arg11 harg11 arg12 harg12 x0 x3))).2 E _)
  isplitl [H1]; · iexact H1
  isplitl [H2]; · iexact H2
  isplitl [H10]; · iexact H10
  isplitl [H11]
  · unfold owns; iexists _; isplitr; swap; · iexact H11
    ipureintro; rfl
  iintro ⟨H1, H2, H10, H11⟩
  -- the test
  by_cases ht : testA (sumsA c i arg3 harg3 arg4 harg4 arg5 harg5 arg6 harg6 arg7 harg7 arg8 harg8 arg9 harg9 arg10 harg10 arg11 harg11 arg12 harg12 k0_h2 x0 x1 x2 x3 x4 x5) = 1#1
  · iapply (tail_again c i arg3 harg3 arg4 harg4 arg5 harg5 arg6 harg6 arg7 harg7 arg8 harg8 arg9 harg9 arg10 harg10 arg11 harg11 arg12 harg12 (fillR c i arg3 harg3 arg4 harg4 arg5 harg5 arg6 harg6 arg7 harg7 arg8 harg8 arg9 harg9 arg10 harg10 arg11 harg11 arg12 harg12 x0 x3).1 (fillR c i arg3 harg3 arg4 harg4 arg5 harg5 arg6 harg6 arg7 harg7 arg8 harg8 arg9 harg9 arg10 harg10 arg11 harg11 arg12 harg12 x0 x3).2.1 x1 x2 (fillQ c i arg3 harg3 arg4 harg4 arg5 harg5 arg6 harg6 arg7 harg7 arg8 harg8 arg9 harg9 arg10 harg10 arg11 harg11 arg12 harg12 x0 x3) x4 x5 _ ht E K)
    isplitl [H1]; · iexact H1
    isplitl [H2]; · iexact H2
    isplitl [H4]; · iexact H4
    isplitl [H5]; · iexact H5
    isplitl [H9]; · iexact H9
    isplitl [H10]; · iexact H10
    isplitl [H11]
    · unfold owns; iexists _; isplitr; swap; · iexact H11
      ipureintro; rfl
    isplitl [H12]; · iexact H12
    iintro ⟨H1, H2, H4, H5, H9, H10, H11, H12⟩
    iapply Hk
    unfold bodyO; rw [if_pos ht]
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H9]; · iexact H9
    isplitl [H10]; · iexists _; iexact H10
    isplitl [H11]; · iexact H11
    iexact H12
  · iapply (tail_direct c i arg3 harg3 arg4 harg4 arg5 harg5 arg6 harg6 arg7 harg7 arg8 harg8 arg9 harg9 arg10 harg10 arg11 harg11 arg12 harg12 (fillR c i arg3 harg3 arg4 harg4 arg5 harg5 arg6 harg6 arg7 harg7 arg8 harg8 arg9 harg9 arg10 harg10 arg11 harg11 arg12 harg12 x0 x3).1 (fillR c i arg3 harg3 arg4 harg4 arg5 harg5 arg6 harg6 arg7 harg7 arg8 harg8 arg9 harg9 arg10 harg10 arg11 harg11 arg12 harg12 x0 x3).2.1 x4 x5 _ ht E K)
    isplitl [H4]; · iexact H4
    isplitl [H5]; · iexact H5
    isplitl [H9]; · iexact H9
    isplitl [H11]
    · unfold owns; iexists _; isplitr; swap; · iexact H11
      ipureintro; rfl
    iintro ⟨H4, H5, H9, H11⟩
    iapply Hk
    unfold bodyO; rw [if_neg ht]
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H9]; · iexact H9
    isplitl [H10]; · iexists _; iexact H10
    isplitl [H11]; · iexists _; iexact H11
    iexact H12

end Cert.KernelIdeal.Diff

end
-- ==== Proof.Diff.Whole.lean ====
/-
The differential attention call's run over its grid: what each point leaves in its output block, the body at a
point, and from them that every fair execution ends with the arguments unchanged.
-/
module

public import proofs.«01_k».proof.Proof.Diff.Body
public import proofs.«01_k».proof.Proof.Gen.KernelIdeal.Frame
public import Idealize.ShloMosaic.Lib.Claim

@[expose] public section

set_option maxRecDepth 65536

noncomputable section

namespace Cert.KernelIdeal.Diff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- No key block is left over after the pairs, at any point. -/
theorem cond1_off : ∀ t : Fin cfg0.N, ¬k0_cond1 (grid0.coords t) = 1#1 := by
  have h : ∀ t : Fin grid0.N, ¬k0_cond1 (grid0.coords t) = 1#1 := by decide +kernel
  exact h

/-- The diagonal runs by itself, at every point. -/
theorem cond2_on : ∀ t : Fin cfg0.N, k0_cond2 (grid0.coords t) = 1#1 := by
  have h : ∀ t : Fin grid0.N, k0_cond2 (grid0.coords t) = 1#1 := by decide +kernel
  exact h

abbrev ms0 (t : Fin cfg0.N) : Memref sig .tc .vmem S1x256x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x8192x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x16x144x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x16x8x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S4x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x2048x128 .bf16 := win0_6.stage (cfg0.slots t 6)
abbrev hs6 (t : Fin cfg0.N) : (ms6 t).IsWhole := hstage0_6 ((cfg0.slots t 6).cast nbuf0_6)
abbrev sc0 : Memref sig .tc .vmem S256x2048 .bf16 := Memref.whole cc0_scratch0
abbrev sc1 : Memref sig .tc .vmem S2x144x2048 .f32 := Memref.whole cc0_scratch1
abbrev sc2 : Memref sig .tc .vmem S2x1x2048 .f32 := Memref.whole cc0_scratch2

/-- What a point leaves in its output block. -/
def outAt (c : Dev nD) (t : Fin cfg0.N) : Vec F S1x2048x128 .bf16 :=
  bodyO c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) (cond2_on t) (iblk m c 0 t) (iblk m c 1 t) (iblk m c 2 t) (iblk m c 3 t) (iblk m c 4 t) (iblk m c 5 t)

/-- The invariant between points, with the scratch buffers as memrefs at some contents. -/
theorem PhiA0_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- The pipeline's data: each input's buffer at its block after the body, the output's at `outAt`; the scratch buffers
    at anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t)

theorem leaves_0 (c : Dev nD) (t : Fin cfg0.N) : (dats m 0 c).leavesExact 0 t = owns (c : Thread nD τ) (ms0 t) fullShare (iblk m c 0 t) := by
  unfold Dat.leavesExact; rw [show cfg0.idle 0 (cfg0.grid.coords t) = false from rfl, after_0]
theorem leaves_1 (c : Dev nD) (t : Fin cfg0.N) : (dats m 0 c).leavesExact 1 t = owns (c : Thread nD τ) (ms1 t) fullShare (iblk m c 1 t) := by
  unfold Dat.leavesExact; rw [show cfg0.idle 1 (cfg0.grid.coords t) = false from rfl, after_1]
theorem leaves_2 (c : Dev nD) (t : Fin cfg0.N) : (dats m 0 c).leavesExact 2 t = owns (c : Thread nD τ) (ms2 t) fullShare (iblk m c 2 t) := by
  unfold Dat.leavesExact; rw [show cfg0.idle 2 (cfg0.grid.coords t) = false from rfl, after_2]
theorem leaves_3 (c : Dev nD) (t : Fin cfg0.N) : (dats m 0 c).leavesExact 3 t = owns (c : Thread nD τ) (ms3 t) fullShare (iblk m c 3 t) := by
  unfold Dat.leavesExact; rw [show cfg0.idle 3 (cfg0.grid.coords t) = false from rfl, after_3]
theorem leaves_4 (c : Dev nD) (t : Fin cfg0.N) : (dats m 0 c).leavesExact 4 t = owns (c : Thread nD τ) (ms4 t) fullShare (iblk m c 4 t) := by
  unfold Dat.leavesExact; rw [show cfg0.idle 4 (cfg0.grid.coords t) = false from rfl, after_4]
theorem leaves_5 (c : Dev nD) (t : Fin cfg0.N) : (dats m 0 c).leavesExact 5 t = owns (c : Thread nD τ) (ms5 t) fullShare (iblk m c 5 t) := by
  unfold Dat.leavesExact; rw [show cfg0.idle 5 (cfg0.grid.coords t) = false from rfl, after_5]
theorem leaves_6 (c : Dev nD) (t : Fin cfg0.N) : (dats m 0 c).leavesExact 6 t = owns (c : Thread nD τ) (ms6 t) fullShare (outAt m c t) := by
  unfold Dat.leavesExact; rw [show cfg0.idle 6 (cfg0.grid.coords t) = false from rfl, after_6]

set_option maxHeartbeats 9600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, PhiA0_eq,
    leaves_0, leaves_1, leaves_2, leaves_3, leaves_4, leaves_5, leaves_6]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply (bodyRun c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) (cond1_off t) (cond2_on t) (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  iintro ⟨⟨H0, H1, H2, H3, H4, H5⟩, H6, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t` is the body there. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = Pipeline.ΦA spec0 c from rfl]

set_option backward.isDefEq.respectTransparency.types false in
/-- The launch: every fair execution ends, with the arrays at what the pipeline's data gives and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_main_quiescent m ρ))

end Cert.KernelIdeal.Diff

end
-- ==== Proof.Diff.Printed.lean ====
/-
The printed kernel is the idealized kernel's text read at the machine's own formats: its run is that run.
-/
module

public import proofs.«01_k».proof.Defs
public import proofs.«01_k».proof.Proof.Diff.Whole
public import proofs.«01_k».proof.Proof.Gen.Kernel.Points

@[expose] public section

noncomputable section

namespace Cert.Diff

open Idealize.ShloMosaic Idealize.SL.Sem

/-- Every named constant read as the number it is printed as. -/
@[reducible] def bitsNamed : Named Bits where
  named _ _ {φ} b := FloatOps.ofBits φ b
attribute [local instance] bitsNamed

/-- The two bodies agree at every point. -/
theorem body_eq (t) (s) : @Cert.Kernel.defs₀ Bits _ Cert.Kernel.Gen.facts .tc 0 (t, s)
    = @Cert.KernelIdeal.defs₀ Bits _ _ Cert.KernelIdeal.Gen.facts .tc 0 (t, s) := rfl

set_option maxHeartbeats 8000000 in
theorem defs₀_eq : @Cert.Kernel.defs₀ Bits _ Cert.Kernel.Gen.facts = @Cert.KernelIdeal.defs₀ Bits _ _ Cert.KernelIdeal.Gen.facts := by
  funext k l a
  cases k with
  | tc =>
    match l, a with
    | ⟨0, _⟩, (t, s) => exact body_eq t s
  | _ => rfl

set_option maxHeartbeats 8000000 in
theorem main_eq : @Cert.Kernel.main Bits _ Cert.Kernel.Gen.facts = @Cert.KernelIdeal.main Bits _ Cert.KernelIdeal.Gen.facts := rfl

set_option maxHeartbeats 8000000 in
theorem defs_eq : @Cert.Kernel.defs Bits _ Cert.Kernel.Gen.facts = @Cert.KernelIdeal.defs Bits _ _ Cert.KernelIdeal.Gen.facts :=
  congrArg (Pipeline.defs Cert.KernelIdeal.pcfgs) defs₀_eq

set_option maxHeartbeats 8000000 in
/-- The printed kernel runs from any memory, keeps its arguments and leaves its counters at rest. -/
theorem printed_frame : quiescent_Kernel (hKernel := Cert.Kernel.Gen.facts) := fun m ρ _ => by
  have h := Cert.KernelIdeal.Diff.frame (F := Bits) m ρ
  rw [← defs_eq, ← main_eq] at h
  exact h

end Cert.Diff

end
-- ==== Proof.Diff.FastBlock.lean ====
/-
What one block of keys adds to the sums of the first pass, entry by entry: the values weighted by the exponentials of the scores,
a key after the query weighing nothing.
-/
module

public import proofs.«01_k».proof.Proof.Diff.Body
public import Idealize.ShloMosaic.Lib.Pointwise
public import Idealize.ShloMosaic.Lib.IdealHost

@[expose] public section

set_option maxRecDepth 65536

noncomputable section

namespace Cert.KernelIdeal.Diff

open Idealize.ShloMosaic Idealize.ShloMosaic.TcCoe Idealize.ShloMosaic.Tactic
open Cert.KernelIdeal Cert.KernelIdeal.Gen

/-- A score kept where key `j` of the block that word `w` numbers is not after the query at column `c`, else the mask. -/
def keep (v3 : IVec S1x2048 32) (w : BitVec 32) (j : Fin 512) (c : Fin 2048) (x : EReal) : EReal :=
  Scalar.select (IntOp.cmpi CmpIPredicate.sle (IntOp.addi (BitVec.ofNat 32 ↑j) (Scalar.muli w 512#32)) (v3 (ix2 0 c))) x
    (Named.named (F := Ideal) κ "mask" (φ := .f32) 0xF149F2CA#32)

theorem pay190_at (W : FVec Ideal S144x2048 .f32) (V : FVec Ideal S144x512 .bf16) (K : FVec Ideal S512x128 .bf16)
    (Q : Vec Ideal S128x2048 .bf16) (A : Vec Ideal S1x144x2048 .f32) (r : Fin 144) (col : Fin 2048) :
    k0_pay190 W V K Q A (ix3 0 r col) = A (ix3 0 r col) + (W (ix2 r col)
      + ∑ j : Fin 512, V (ix2 r j) * Ideal.exp (∑ l : Fin 128, K (ix2 j l) * Q (ix2 l col))) := by
  pointwise [k0_pay190]

theorem pay191_at (W : FVec Ideal S144x2048 .f32) (V : FVec Ideal S144x512 .bf16) (K : FVec Ideal S512x256 .bf16)
    (Q : Vec Ideal S128x2048 .bf16) (A : Vec Ideal S1x144x2048 .f32) (r : Fin 144) (col : Fin 2048) :
    k0_pay191 W K V Q A (ix3 0 r col) = A (ix3 0 r col) + (W (ix2 r col)
      + ∑ j : Fin 512, V (ix2 r j) * Ideal.exp (∑ l : Fin 128, K (ix2 j ⟨128 + l, by omega⟩) * Q (ix2 l col))) := by
  pointwise [k0_pay191]

variable (v3 : IVec S1x2048 32) (w : BitVec 32) (K : Vec Ideal S1x512x256 .bf16) (V : Vec Ideal S1x1x1x144x512 .bf16)

theorem diag0_0 (Q : Vec Ideal S128x2048 .bf16) (A : Vec Ideal S1x144x2048 .f32) (r : Fin 144) (col : Fin 2048) :
    k0_pay44 (k0_pay42 v3 w K V Q) A (ix3 0 r col) = A (ix3 0 r col)
      + ∑ j : Fin 512, V (ix5 0 0 0 r j) * Ideal.exp (keep v3 (Scalar.addi w 0#32) j col (∑ l : Fin 128, K (ix3 0 j ⟨l, by omega⟩) * Q (ix2 l col))) := by
  pointwise [k0_pay44, k0_pay42, k0_pay40, k0_pay41, keep]

theorem diag0_1 (Q : Vec Ideal S128x2048 .bf16) (A : Vec Ideal S1x144x2048 .f32) (r : Fin 144) (col : Fin 2048) :
    k0_pay45 (k0_pay43 v3 w K V Q) A (ix3 0 r col) = A (ix3 0 r col)
      + ∑ j : Fin 512, V (ix5 0 0 0 r j) * Ideal.exp (keep v3 (Scalar.addi w 0#32) j col (∑ l : Fin 128, K (ix3 0 j ⟨128 + l, by omega⟩) * Q (ix2 l col))) := by
  pointwise [k0_pay45, k0_pay43, k0_pay40, k0_pay41, keep]

theorem diag1_0 (Q : Vec Ideal S128x1536 .bf16) (A : Vec Ideal S1x144x1536 .f32) (r : Fin 144) (col : Fin 1536) :
    k0_pay49 (k0_pay47 V) (k0_pay48 v3 w K Q) diagRun.sl.cst_197 A (ix3 0 r col) = A (ix3 0 r col)
      + ∑ j : Fin 512, V (ix5 0 0 0 r j) * Ideal.exp (keep v3 (Scalar.addi w 1#32) j ⟨512 + col, by omega⟩ (∑ l : Fin 128, K (ix3 0 j ⟨l, by omega⟩) * Q (ix2 l col))) := by
  pointwise [k0_pay49, k0_pay48, k0_pay46, k0_pay47, diagRun.sl.cst_197, keep]

theorem diag1_1 (Q : Vec Ideal S128x1536 .bf16) (A : Vec Ideal S1x144x1536 .f32) (r : Fin 144) (col : Fin 1536) :
    k0_pay50 v3 w (k0_pay46 K) (k0_pay47 V) Q A (ix3 0 r col) = A (ix3 0 r col)
      + ∑ j : Fin 512, V (ix5 0 0 0 r j) * Ideal.exp (keep v3 w j ⟨512 + col, by omega⟩ (∑ l : Fin 128, K (ix3 0 j ⟨128 + l, by omega⟩) * Q (ix2 l col))) := by
  pointwise [k0_pay50, k0_pay46, k0_pay47, keep]

theorem diag2_0 (Q : Vec Ideal S128x1024 .bf16) (A : Vec Ideal S1x144x1024 .f32) (r : Fin 144) (col : Fin 1024) :
    k0_pay54 v3 w (k0_pay51 K) V Q A (ix3 0 r col) = A (ix3 0 r col)
      + ∑ j : Fin 512, V (ix5 0 0 0 r j) * Ideal.exp (keep v3 w j ⟨1024 + col, by omega⟩ (∑ l : Fin 128, K (ix3 0 j ⟨l, by omega⟩) * Q (ix2 l col))) := by
  pointwise [k0_pay54, k0_pay51, k0_pay52, keep]

theorem diag2_1 (Q : Vec Ideal S128x1024 .bf16) (A : Vec Ideal S1x144x1024 .f32) (r : Fin 144) (col : Fin 1024) :
    k0_pay55 (k0_pay53 v3 w (k0_pay51 K) V Q) A (ix3 0 r col) = A (ix3 0 r col)
      + ∑ j : Fin 512, V (ix5 0 0 0 r j) * Ideal.exp (keep v3 w j ⟨1024 + col, by omega⟩ (∑ l : Fin 128, K (ix3 0 j ⟨128 + l, by omega⟩) * Q (ix2 l col))) := by
  pointwise [k0_pay55, k0_pay53, k0_pay51, k0_pay52, keep]

theorem diag3_0 (Q : Vec Ideal S128x512 .bf16) (A : Vec Ideal S1x144x512 .f32) (r : Fin 144) (col : Fin 512) :
    k0_pay196 (k0_pay58 v3 w K V Q) A (ix3 0 r col) = A (ix3 0 r col)
      + ∑ j : Fin 512, V (ix5 0 0 0 r j) * Ideal.exp (keep v3 (Scalar.addi w 3#32) j ⟨1536 + col, by omega⟩ (∑ l : Fin 128, K (ix3 0 j ⟨l, by omega⟩) * Q (ix2 l col))) := by
  pointwise [k0_pay196, k0_pay58, k0_pay56, k0_pay57, keep]

theorem diag3_1 (Q : Vec Ideal S128x512 .bf16) (A : Vec Ideal S1x144x512 .f32) (r : Fin 144) (col : Fin 512) :
    k0_pay197 v3 (k0_pay57 V) (k0_pay59 K Q) diagRun.sl.v566 (diagRun.sl.v567 w) A (ix3 0 r col) = A (ix3 0 r col)
      + ∑ j : Fin 512, V (ix5 0 0 0 r j) * Ideal.exp (keep v3 (Scalar.addi w 3#32) j ⟨1536 + col, by omega⟩ (∑ l : Fin 128, K (ix3 0 j ⟨128 + l, by omega⟩) * Q (ix2 l col))) := by
  pointwise [k0_pay197, k0_pay59, k0_pay56, k0_pay57, keep, diagRun.sl.v566, diagRun.sl.v567, diagRun.sl.v539]

end Cert.KernelIdeal.Diff

end
-- ==== Proof.Diff.Spec.lean ====
/-
The vocabulary of the attention's value: keys numbered by block and place, the score of a key, what a key adds to a sum, and the sum
over the first blocks; the kernel's position words read as numbers; reading back stored pieces.
-/
module

public import proofs.«01_k».proof.Proof.Diff.FastBlock

@[expose] public section

set_option maxRecDepth 65536

noncomputable section

namespace Cert.KernelIdeal.Diff

open Idealize.ShloMosaic Idealize.ShloMosaic.TcCoe Idealize.ShloMosaic.Tactic
open Cert.KernelIdeal Cert.KernelIdeal.Gen

/-- Key `j` of block `kb`. -/
def key (kb : Fin 16) (j : Fin 512) : Fin 8192 := ⟨512 * kb + j, by omega⟩

/-- Lane `l` of half `m`. -/
def lane (m : Fin 2) (l : Fin 128) : Fin 256 := ⟨128 * m + l, by omega⟩

/-- The score of a key with the query of a column. -/
def score (x1 : Vec Ideal S1x8192x256 .bf16) (q : Vec Ideal S256x2048 .bf16) (m : Fin 2) (col : Fin 2048) (kb : Fin 16) (j : Fin 512) : EReal :=
  ∑ l : Fin 128, x1 (ix3 0 (key kb j) (lane m l)) * q (ix2 (lane m l) col)

/-- What a key adds to row `r` of a column's sums, with query block `n`. -/
def term (x1 : Vec Ideal S1x8192x256 .bf16) (x2 : Vec Ideal S1x1x16x144x512 .bf16) (q : Vec Ideal S256x2048 .bf16) (n : ℕ) (m : Fin 2) (r : Fin 144)
    (col : Fin 2048) (kb : Fin 16) (j : Fin 512) : EReal :=
  if 512 * kb.val + j.val ≤ 2048 * n + col.val then x2 (ix5 0 0 kb r j) * Ideal.exp (score x1 q m col kb j) else 0

/-- The sum over the keys of the first `N` blocks. -/
def upto (f : Fin 16 → Fin 512 → EReal) (N : ℕ) : EReal := ∑ kb : Fin 16, if kb.val < N then ∑ j, f kb j else 0

theorem upto_zero (f : Fin 16 → Fin 512 → EReal) : upto f 0 = 0 := by simp [upto]

theorem upto_succ (f : Fin 16 → Fin 512 → EReal) (kb : Fin 16) : upto f (kb.val + 1) = upto f kb.val + ∑ j, f kb j := by
  have h : ∀ k : Fin 16, (if k.val < kb.val + 1 then ∑ j, f k j else 0)
      = (if k.val < kb.val then ∑ j, f k j else 0) + (if k = kb then ∑ j, f kb j else 0) := by
    intro k
    by_cases h1 : k.val < kb.val
    · have h2 : k ≠ kb := fun h => by rw [h] at h1; omega
      rw [if_pos h1, if_neg h2, if_pos (by omega), add_zero]
    · by_cases h2 : k = kb
      · subst h2; simp
      · have h3 : k.val ≠ kb.val := fun h => h2 (Fin.ext h)
        rw [if_neg h1, if_neg h2, if_neg (by omega), add_zero]
  unfold upto
  rw [Finset.sum_congr rfl (fun k _ => h k), Finset.sum_add_distrib, Finset.sum_ite_eq' Finset.univ kb (fun _ => ∑ j, f kb j)]
  simp

theorem mask_bot : (Named.named (F := Ideal) κ "mask" (φ := .f32) 0xF149F2CA#32 : EReal) = ⊥ := IdealRules.named_const.ideal_named_scalar _ _ _ _ rfl

theorem sle_ofNat (a b : ℕ) (ha : a < 2 ^ 31) (hb : b < 2 ^ 31) :
    IntOp.cmpi CmpIPredicate.sle (BitVec.ofNat 32 a) (BitVec.ofNat 32 b) = if a ≤ b then 1#1 else 0#1 := by
  have h1 : (BitVec.ofNat 32 a).sle (BitVec.ofNat 32 b) = decide (a ≤ b) := by
    rw [BitVec.sle_eq_decide, decide_eq_decide]
    have e : ∀ n, n < 2 ^ 31 → (BitVec.ofNat 32 n).toInt = (n : ℤ) := fun n hn => by
      have h : (BitVec.ofNat 32 n).toNat = n := by rw [BitVec.toNat_ofNat]; exact Nat.mod_eq_of_lt (by omega)
      rw [BitVec.toInt_eq_toNat_of_lt (by omega), h]
    rw [e a ha, e b hb]
    omega
  unfold IntOp.cmpi
  simp only [h1]
  by_cases h : a ≤ b
  · rw [if_pos h, decide_eq_true h]; rfl
  · rw [if_neg h, decide_eq_false h]; rfl

/-- The position word of a column. -/
theorem pos_at (i : grid0.Coords) (col : Fin 2048) : k0_pay157 i (ix2 0 col) = BitVec.ofNat 32 (2048 * (i 2).val + col.val) := by
  pointwise [k0_pay157]
  show Scalar.muli (BitVec.ofNat 32 (i 2).val) 2048#32 + BitVec.ofNat 32 col.val = _
  show BitVec.ofNat 32 (i 2).val * BitVec.ofNat 32 2048 + BitVec.ofNat 32 col.val = _
  rw [← BitVec.ofNat_mul, ← BitVec.ofNat_add, Nat.mul_comm]

theorem coord2 (i : grid0.Coords) : (i 2).val < 4 := (i 2).isLt

/-- A score is kept where its key is not after the query. -/
theorem keep_eq (i : grid0.Coords) (kb : Fin 16) (j : Fin 512) (col : Fin 2048) (x : EReal) :
    keep (k0_pay157 i) (BitVec.ofNat 32 kb.val) j col x = if 512 * kb.val + j.val ≤ 2048 * (i 2).val + col.val then x else ⊥ := by
  have h : IntOp.addi (BitVec.ofNat 32 ↑j) (Scalar.muli (BitVec.ofNat 32 kb.val) 512#32) = BitVec.ofNat 32 (512 * kb.val + j.val) := by
    show BitVec.ofNat 32 j.val + BitVec.ofNat 32 kb.val * BitVec.ofNat 32 512 = _
    rw [← BitVec.ofNat_mul, ← BitVec.ofNat_add]
    congr 1; omega
  have hi := coord2 i
  unfold keep
  rw [h, pos_at, sle_ofNat _ _ (by omega) (by omega), mask_bot]
  by_cases h : 512 * kb.val + j.val ≤ 2048 * (i 2).val + col.val
  · rw [if_pos h, if_pos h]; rfl
  · rw [if_neg h, if_neg h]; rfl

theorem exp_bot : Ideal.exp (⊥ : EReal) = 0 := rfl

/-- A weighted value, masked through its score. -/
theorem keep_term (x1 : Vec Ideal S1x8192x256 .bf16) (x2 : Vec Ideal S1x1x16x144x512 .bf16) (q : Vec Ideal S256x2048 .bf16) (i : grid0.Coords)
    (m : Fin 2) (r : Fin 144) (col : Fin 2048) (kb : Fin 16) (j : Fin 512) :
    x2 (ix5 0 0 kb r j) * Ideal.exp (keep (k0_pay157 i) (BitVec.ofNat 32 kb.val) j col (score x1 q m col kb j)) = term x1 x2 q (i 2).val m r col kb j := by
  rw [keep_eq]
  unfold term
  split
  · rfl
  · rw [exp_bot, mul_zero]

section Pieces

variable {s : Shape} {e : EltTy} {off size : Fin s.rank → ℕ} {inb : ∀ a, off a + size a ≤ s.size a}
  {w : (Rect.unit off size inb).shape.Idx → Elt Ideal e} {L : List (View.Piece (Elt Ideal) s e)}

/-- Inside the last piece stored, that piece. -/
theorem canon_in (y : s.Idx) (x : (Rect.unit off size inb).shape.Idx) (hx : ∀ a, (y a).val = off a + (x a).val) :
    View.canon ((⟨Rect.unit off size inb, w⟩ : View.Piece (Elt Ideal) s e) :: L) y = w x := by
  have h : y = (Rect.unit off size inb).emb x := funext fun a => Fin.ext (by
    rw [Rect.emb_apply, hx a]; show _ = off a + 1 * _; rw [Nat.one_mul])
  rw [h]
  exact View.canon_cons_emb _ _ _ _

/-- Outside it, the earlier pieces. -/
theorem canon_out (y : s.Idx) (a : Fin s.rank) (ha : (y a).val < off a ∨ off a + size a ≤ (y a).val) :
    View.canon ((⟨Rect.unit off size inb, w⟩ : View.Piece (Elt Ideal) s e) :: L) y = View.canon L y := by
  refine View.canon_cons_of_not_mem _ _ fun h => ?_
  have h1 : ∀ a, off a ≤ y a ∧ (y a : ℕ) < off a + size a := (Rect.mem_set_unit (inb := inb)).mp h
  have h2 := h1 a
  omega

end Pieces

end Cert.KernelIdeal.Diff

end
-- ==== Proof.Diff.DiagSum.lean ====
/-
The sums after the four diagonal blocks of the first pass: each block adds its keys' terms, and the columns a block skips would have
received nothing from it.
-/
module

public import proofs.«01_k».proof.Proof.Diff.Spec
public import Idealize.ShloMosaic.Lib.Pointwise
public import Idealize.ShloMosaic.Lib.IdealHost
public import Idealize.ShloMosaic.Lib.Pipeline.ValueKit.Tiles

@[expose] public section

set_option maxRecDepth 65536

noncomputable section

namespace Cert.KernelIdeal.Diff

open Idealize.ShloMosaic Idealize.ShloMosaic.TcCoe Idealize.ShloMosaic.Tactic
open Cert.KernelIdeal Cert.KernelIdeal.Gen

/-- Block `d` of the diagonal of the point's query block. -/
def kbd (i : grid0.Coords) (d : Fin 4) : Fin 16 := ⟨4 * (i 2).val + d.val, by have := coord2 i; omega⟩

theorem idx2 {n0 n1 m0 m1 : ℕ} {y0 : Fin n0} {x0 : Fin m0} {y1 : Fin n1} {x1 : Fin m1} {o0 o1 : ℕ}
    (h0 : y0.val = o0 + x0.val) (h1 : y1.val = o1 + x1.val) : ∀ a, ((ix2 y0 y1) a).val = (![o0, o1] : Fin 2 → ℕ) a + ((ix2 x0 x1) a).val := by
  intro a
  match a with
  | ⟨0, _⟩ => exact h0
  | ⟨1, _⟩ => exact h1

theorem idx3 {n0 n1 n2 m0 m1 m2 : ℕ} {y0 : Fin n0} {x0 : Fin m0} {y1 : Fin n1} {x1 : Fin m1} {y2 : Fin n2} {x2 : Fin m2} {o0 o1 o2 : ℕ}
    (h0 : y0.val = o0 + x0.val) (h1 : y1.val = o1 + x1.val) (h2 : y2.val = o2 + x2.val) : ∀ a, ((ix3 y0 y1 y2) a).val = (![o0, o1, o2] : Fin 3 → ℕ) a + ((ix3 x0 x1 x2) a).val := by
  intro a
  match a with
  | ⟨0, _⟩ => exact h0
  | ⟨1, _⟩ => exact h1
  | ⟨2, _⟩ => exact h2

theorem idx5 {n0 n1 n2 n3 n4 m0 m1 m2 m3 m4 : ℕ} {y0 : Fin n0} {x0 : Fin m0} {y1 : Fin n1} {x1 : Fin m1} {y2 : Fin n2} {x2 : Fin m2} {y3 : Fin n3} {x3 : Fin m3} {y4 : Fin n4} {x4 : Fin m4} {o0 o1 o2 o3 o4 : ℕ}
    (h0 : y0.val = o0 + x0.val) (h1 : y1.val = o1 + x1.val) (h2 : y2.val = o2 + x2.val) (h3 : y3.val = o3 + x3.val) (h4 : y4.val = o4 + x4.val) : ∀ a, ((ix5 y0 y1 y2 y3 y4) a).val = (![o0, o1, o2, o3, o4] : Fin 5 → ℕ) a + ((ix5 x0 x1 x2 x3 x4) a).val := by
  intro a
  match a with
  | ⟨0, _⟩ => exact h0
  | ⟨1, _⟩ => exact h1
  | ⟨2, _⟩ => exact h2
  | ⟨3, _⟩ => exact h3
  | ⟨4, _⟩ => exact h4

/-- Loading block `kb` of the keys. -/
theorem ld_keys (X : Vec Ideal S1x8192x256 .bf16) (kb : Fin 16) (off : Fin 3 → ℕ) (h : off = ![0, 512 * kb.val, 0]) (inb) (j : Fin 512) (l : Fin 256) :
    View.ld X (Rect.unit off S1x512x256.size inb) (ix3 0 j l) = X (ix3 0 (key kb j) l) := by
  subst h
  exact View.ld_unit_apply_of X _ _ _ (ix3 0 j l) (ix3 0 (key kb j) l) (idx3 rfl rfl (Nat.zero_add _).symm)

/-- Loading block `kb` of the values. -/
theorem ld_vals (X : Vec Ideal S1x1x16x144x512 .bf16) (kb : Fin 16) (off : Fin 5 → ℕ) (h : off = ![0, 0, kb.val, 0, 0]) (inb) (r : Fin 144) (j : Fin 512) :
    View.ld X (Rect.unit off S1x1x1x144x512.size inb) (ix5 0 0 0 r j) = X (ix5 0 0 kb r j) := by
  subst h
  exact View.ld_unit_apply_of X _ _ _ (ix5 0 0 0 r j) (ix5 0 0 kb r j) (idx5 rfl rfl rfl (Nat.zero_add _).symm (Nat.zero_add _).symm)

theorem word_add (n d : ℕ) : Scalar.addi (BitVec.ofNat 32 n) (BitVec.ofNat 32 d) = BitVec.ofNat 32 (n + d) := by
  show BitVec.ofNat 32 n + BitVec.ofNat 32 d = _
  rw [← BitVec.ofNat_add]

/-- What a masked block adds is its keys' terms. -/
theorem block_sum (x1 : Vec Ideal S1x8192x256 .bf16) (x2 : Vec Ideal S1x1x16x144x512 .bf16) (q : Vec Ideal S256x2048 .bf16) (i : grid0.Coords) (m : Fin 2)
    (r : Fin 144) (col : Fin 2048) (kb : Fin 16) (w : BitVec 32) (hw : w = BitVec.ofNat 32 kb.val) (Vf : Fin 512 → EReal) (Kf : Fin 512 → Fin 128 → EReal)
    (Qf : Fin 128 → EReal) (hV : ∀ j, Vf j = x2 (ix5 0 0 kb r j)) (hK : ∀ j l, Kf j l = x1 (ix3 0 (key kb j) (lane m l)))
    (hQ : ∀ l, Qf l = q (ix2 (lane m l) col)) :
    ∑ j : Fin 512, Vf j * Ideal.exp (keep (k0_pay157 i) w j col (∑ l : Fin 128, Kf j l * Qf l)) = ∑ j, term x1 x2 q (i 2).val m r col kb j := by
  subst hw
  refine Finset.sum_congr rfl fun j _ => ?_
  rw [hV, ← keep_term]
  refine congrArg (fun x => _ * Ideal.exp (keep _ _ _ _ x)) ?_
  exact Finset.sum_congr rfl fun l _ => by rw [hK, hQ]

/-- A block wholly after a column adds nothing to it. -/
theorem term_zero (x1 : Vec Ideal S1x8192x256 .bf16) (x2 : Vec Ideal S1x1x16x144x512 .bf16) (q : Vec Ideal S256x2048 .bf16) (n : ℕ) (m : Fin 2) (r : Fin 144)
    (col : Fin 2048) (kb : Fin 16) (h : 2048 * n + col.val < 512 * kb.val) : ∑ j, term x1 x2 q n m r col kb j = 0 := by
  refine Finset.sum_eq_zero fun j _ => ?_
  unfold term
  rw [if_neg (by omega)]

theorem lane0 (l : Fin 128) (h) : lane 0 l = (⟨l.val, h⟩ : Fin 256) := Fin.ext (Nat.zero_add _)
theorem lane1 (l : Fin 128) (h) : lane 1 l = (⟨128 + l.val, h⟩ : Fin 256) := rfl

theorem off15_0 : ∀ t : Fin grid0.N, k0_off15 (grid0.coords t) 0#32 = ![0, 512 * (kbd (grid0.coords t) 0).val, 0] := by decide +kernel
theorem off16_0 : ∀ t : Fin grid0.N, k0_off16 (grid0.coords t) 0#32 = ![0, 0, (kbd (grid0.coords t) 0).val, 0, 0] := by decide +kernel
theorem off21_0 : ∀ t : Fin grid0.N, k0_off21 (grid0.coords t) 0#32 = ![0, 512 * (kbd (grid0.coords t) 0).val, 0] := by decide +kernel
theorem off22_0 : ∀ t : Fin grid0.N, k0_off22 (grid0.coords t) 0#32 = ![0, 0, (kbd (grid0.coords t) 0).val, 0, 0] := by decide +kernel

theorem off15_1 : ∀ t : Fin grid0.N, k0_off15 (grid0.coords t) 1#32 = ![0, 512 * (kbd (grid0.coords t) 1).val, 0] := by decide +kernel
theorem off16_1 : ∀ t : Fin grid0.N, k0_off16 (grid0.coords t) 1#32 = ![0, 0, (kbd (grid0.coords t) 1).val, 0, 0] := by decide +kernel
theorem off21_1 : ∀ t : Fin grid0.N, k0_off21 (grid0.coords t) 1#32 = ![0, 512 * (kbd (grid0.coords t) 1).val, 0] := by decide +kernel
theorem off22_1 : ∀ t : Fin grid0.N, k0_off22 (grid0.coords t) 1#32 = ![0, 0, (kbd (grid0.coords t) 1).val, 0, 0] := by decide +kernel

theorem off15_2 : ∀ t : Fin grid0.N, k0_off15 (grid0.coords t) 2#32 = ![0, 512 * (kbd (grid0.coords t) 2).val, 0] := by decide +kernel
theorem off16_2 : ∀ t : Fin grid0.N, k0_off16 (grid0.coords t) 2#32 = ![0, 0, (kbd (grid0.coords t) 2).val, 0, 0] := by decide +kernel
theorem off21_2 : ∀ t : Fin grid0.N, k0_off21 (grid0.coords t) 2#32 = ![0, 512 * (kbd (grid0.coords t) 2).val, 0] := by decide +kernel
theorem off22_2 : ∀ t : Fin grid0.N, k0_off22 (grid0.coords t) 2#32 = ![0, 0, (kbd (grid0.coords t) 2).val, 0, 0] := by decide +kernel

theorem off15_3 : ∀ t : Fin grid0.N, k0_off15 (grid0.coords t) 3#32 = ![0, 512 * (kbd (grid0.coords t) 3).val, 0] := by decide +kernel
theorem off16_3 : ∀ t : Fin grid0.N, k0_off16 (grid0.coords t) 3#32 = ![0, 0, (kbd (grid0.coords t) 3).val, 0, 0] := by decide +kernel
theorem off21_3 : ∀ t : Fin grid0.N, k0_off21 (grid0.coords t) 3#32 = ![0, 512 * (kbd (grid0.coords t) 3).val, 0] := by decide +kernel
theorem off22_3 : ∀ t : Fin grid0.N, k0_off22 (grid0.coords t) 3#32 = ![0, 0, (kbd (grid0.coords t) 3).val, 0, 0] := by decide +kernel

section

variable (c : Dev nD) (t : Fin grid0.N) (arg4 : Memref sig .tc .vmem S1x8192x256 .bf16) (harg4 : arg4.IsWhole) (arg5 : Memref sig .tc .vmem S1x1x16x144x512 .bf16) (harg5 : arg5.IsWhole) (arg10 : Memref sig .tc .vmem S256x2048 .bf16) (harg10 : arg10.IsWhole) (arg11 : Memref sig .tc .vmem S2x144x2048 .f32) (harg11 : arg11.IsWhole) (k0_h2 : k0_cond2 (grid0.coords t) = 1#1)
    (x1 : Vec Ideal S1x8192x256 .bf16) (x2 : Vec Ideal S1x1x16x144x512 .bf16) (q : Vec Ideal S256x2048 .bf16) (a : Vec Ideal S2x144x2048 .f32)
    (r : Fin 144) (col : Fin 2048)

theorem e0_0 : View.canon (diagRun.sl.Ha_2 c (grid0.coords t) arg4 harg4 arg5 harg5 arg10 harg10 arg11 harg11 (k0_pay157 (grid0.coords t)) (BitVec.ofNat 32 (4 * (grid0.coords t 2).val)) k0_h2 x1 x2 q a) (ix3 0 r col) = (a (ix3 0 r col) + ∑ j, term x1 x2 q (grid0.coords t 2).val 0 r col (kbd (grid0.coords t) 0) j) := by
  unfold diagRun.sl.Ha_2
  rw [canon_out _ 0 (Or.inl Nat.zero_lt_one)]
  rw [canon_in _ (ix3 0 r col) (idx3 rfl (Nat.zero_add _).symm (Nat.zero_add _).symm)]
  unfold diagRun.sl.r
  simp only [View.readAt_eq_ld, harg4.read_unread, harg5.read_unread, harg10.read_unread, harg11.read_unread]
  rw [diag0_0]
  refine congrArg₂ (· + ·) ?_ (block_sum x1 x2 q (grid0.coords t) 0 r _ (kbd (grid0.coords t) 0) _ (word_add _ 0) _ _ _
    (fun j => ld_vals x2 _ _ (off16_0 t) _ r j) (fun j l => (ld_keys x1 _ _ (off15_0 t) _ j _).trans (by rw [lane0]))
    (fun l => (View.ld_unit_apply_of q _ _ _ _ (ix2 (lane 0 l) _) (idx2 (by rw [lane0 _ (by omega)]; exact (Nat.zero_add _).symm) (Nat.zero_add _).symm))))
  exact View.ld_unit_apply_of a _ _ _ (ix3 0 r col) (ix3 0 r col) (idx3 rfl (Nat.zero_add _).symm (Nat.zero_add _).symm)

theorem e0_1 : View.canon (diagRun.sl.Ha_2 c (grid0.coords t) arg4 harg4 arg5 harg5 arg10 harg10 arg11 harg11 (k0_pay157 (grid0.coords t)) (BitVec.ofNat 32 (4 * (grid0.coords t 2).val)) k0_h2 x1 x2 q a) (ix3 1 r col) = (a (ix3 1 r col) + ∑ j, term x1 x2 q (grid0.coords t 2).val 1 r col (kbd (grid0.coords t) 0) j) := by
  unfold diagRun.sl.Ha_2
  skip
  rw [canon_in _ (ix3 0 r col) (idx3 rfl (Nat.zero_add _).symm (Nat.zero_add _).symm)]
  unfold diagRun.sl.r_1 diagRun.sl.v431
  simp only [View.readAt_eq_ld, harg4.read_unread, harg5.read_unread, harg10.read_unread, harg11.read_unread]
  rw [diag0_1]
  refine congrArg₂ (· + ·) ?_ (block_sum x1 x2 q (grid0.coords t) 1 r _ (kbd (grid0.coords t) 0) _ (word_add _ 0) _ _ _
    (fun j => ld_vals x2 _ _ (off16_0 t) _ r j) (fun j l => (ld_keys x1 _ _ (off15_0 t) _ j _).trans (by rw [lane1]))
    (fun l => (View.ld_unit_apply_of q _ _ _ _ (ix2 (lane 1 l) _) (idx2 rfl (Nat.zero_add _).symm))))
  exact View.ld_unit_apply_of a _ _ _ (ix3 0 r col) (ix3 1 r col) (idx3 rfl (Nat.zero_add _).symm (Nat.zero_add _).symm)

theorem e1_0 : View.canon (diagRun.sl.Ha_3 c (grid0.coords t) arg4 harg4 arg5 harg5 arg10 harg10 arg11 harg11 (k0_pay157 (grid0.coords t)) (BitVec.ofNat 32 (4 * (grid0.coords t 2).val)) k0_h2 x1 x2 q a) (ix3 0 r col) = ((a (ix3 0 r col) + ∑ j, term x1 x2 q (grid0.coords t 2).val 0 r col (kbd (grid0.coords t) 0) j) + ∑ j, term x1 x2 q (grid0.coords t 2).val 0 r col (kbd (grid0.coords t) 1) j) := by
  have hprev : ∀ col : Fin 2048, View.canon (diagRun.sl.Ha_2 c (grid0.coords t) arg4 harg4 arg5 harg5 arg10 harg10 arg11 harg11 (k0_pay157 (grid0.coords t)) (BitVec.ofNat 32 (4 * (grid0.coords t 2).val)) k0_h2 x1 x2 q a) (ix3 0 r col) = (a (ix3 0 r col) + ∑ j, term x1 x2 q (grid0.coords t 2).val 0 r col (kbd (grid0.coords t) 0) j) := fun col => by
    skip
    exact e0_0 c t arg4 harg4 arg5 harg5 arg10 harg10 arg11 harg11 k0_h2 x1 x2 q a r col
  have hlt : ∀ x : Fin 1536, 512 + x.val < 2048 := fun x => by omega
  unfold diagRun.sl.Ha_3
  by_cases hc : 512 ≤ col.val
  · obtain ⟨c', rfl⟩ : ∃ c' : Fin 1536, col = ⟨512 + c'.val, hlt c'⟩ := ⟨⟨col.val - 512, by omega⟩, Fin.ext (by show col.val = 512 + (col.val - 512); omega)⟩
    rw [canon_in _ (ix3 0 r c') (idx3 rfl (Nat.zero_add _).symm rfl)]
    unfold diagRun.sl.r_3 diagRun.sl.r_4 diagRun.sl.v476
    simp only [View.readAt_eq_ld, harg4.read_unread, harg5.read_unread, harg10.read_unread, harg11.read_unread]
    rw [diag1_0]
    refine congrArg₂ (· + ·) ?_ (block_sum x1 x2 q (grid0.coords t) 0 r _ (kbd (grid0.coords t) 1) _ (word_add _ 1) _ _ _
    (fun j => ld_vals x2 _ _ (off16_1 t) _ r j) (fun j l => (ld_keys x1 _ _ (off15_1 t) _ j _).trans (by rw [lane0]))
    (fun l => (View.ld_unit_apply_of q _ _ _ _ (ix2 (lane 0 l) _) (idx2 (by rw [lane0 _ (by omega)]; exact (Nat.zero_add _).symm) rfl))))
    rw [View.readCov_eq_canon']
    refine Eq.trans (congrArg (View.canon _) ?_) (hprev ⟨512 + c'.val, hlt c'⟩)
    funext a
    refine Fin.ext ?_
    match a with
    | ⟨0, _⟩ => rfl
    | ⟨1, _⟩ => show 0 + 1 * r.val = r.val; omega
    | ⟨2, _⟩ => show 512 + 1 * c'.val = 512 + c'.val; omega
  · rw [canon_out _ 2 (Or.inl (Nat.lt_of_not_le hc)), hprev col, term_zero x1 x2 q _ 0 r col (kbd (grid0.coords t) 1) (by show _ < 512 * (4 * _ + 1); omega), add_zero]

theorem e1_1 : View.canon (diagRun.sl.Ha_4 c (grid0.coords t) arg4 harg4 arg5 harg5 arg10 harg10 arg11 harg11 (k0_pay157 (grid0.coords t)) (BitVec.ofNat 32 (4 * (grid0.coords t 2).val)) k0_h2 x1 x2 q a) (ix3 1 r col) = ((a (ix3 1 r col) + ∑ j, term x1 x2 q (grid0.coords t 2).val 1 r col (kbd (grid0.coords t) 0) j) + ∑ j, term x1 x2 q (grid0.coords t 2).val 1 r col (kbd (grid0.coords t) 1) j) := by
  have hprev : ∀ col : Fin 2048, View.canon (diagRun.sl.Ha_3 c (grid0.coords t) arg4 harg4 arg5 harg5 arg10 harg10 arg11 harg11 (k0_pay157 (grid0.coords t)) (BitVec.ofNat 32 (4 * (grid0.coords t 2).val)) k0_h2 x1 x2 q a) (ix3 1 r col) = (a (ix3 1 r col) + ∑ j, term x1 x2 q (grid0.coords t 2).val 1 r col (kbd (grid0.coords t) 0) j) := fun col => by
    unfold diagRun.sl.Ha_3
    rw [canon_out (ix3 1 r col) 0 (Or.inr (Nat.le_refl 1))]
    exact e0_1 c t arg4 harg4 arg5 harg5 arg10 harg10 arg11 harg11 k0_h2 x1 x2 q a r col
  have hlt : ∀ x : Fin 1536, 512 + x.val < 2048 := fun x => by omega
  unfold diagRun.sl.Ha_4
  by_cases hc : 512 ≤ col.val
  · obtain ⟨c', rfl⟩ : ∃ c' : Fin 1536, col = ⟨512 + c'.val, hlt c'⟩ := ⟨⟨col.val - 512, by omega⟩, Fin.ext (by show col.val = 512 + (col.val - 512); omega)⟩
    rw [canon_in _ (ix3 0 r c') (idx3 rfl (Nat.zero_add _).symm rfl)]
    unfold diagRun.sl.r_2 diagRun.sl.r_3 diagRun.sl.v437 diagRun.sl.v482
    simp only [View.readAt_eq_ld, harg4.read_unread, harg5.read_unread, harg10.read_unread, harg11.read_unread]
    rw [diag1_1]
    refine congrArg₂ (· + ·) ?_ (block_sum x1 x2 q (grid0.coords t) 1 r _ (kbd (grid0.coords t) 1) _ (word_add _ 1) _ _ _
    (fun j => ld_vals x2 _ _ (off16_1 t) _ r j) (fun j l => (ld_keys x1 _ _ (off15_1 t) _ j _).trans (by rw [lane1]))
    (fun l => (View.ld_unit_apply_of q _ _ _ _ (ix2 (lane 1 l) _) (idx2 rfl rfl))))
    rw [View.readCov_eq_canon']
    refine Eq.trans (congrArg (View.canon _) ?_) (hprev ⟨512 + c'.val, hlt c'⟩)
    funext a
    refine Fin.ext ?_
    match a with
    | ⟨0, _⟩ => rfl
    | ⟨1, _⟩ => show 0 + 1 * r.val = r.val; omega
    | ⟨2, _⟩ => show 512 + 1 * c'.val = 512 + c'.val; omega
  · rw [canon_out _ 2 (Or.inl (Nat.lt_of_not_le hc)), hprev col, term_zero x1 x2 q _ 1 r col (kbd (grid0.coords t) 1) (by show _ < 512 * (4 * _ + 1); omega), add_zero]

theorem e2_0 : View.canon (diagRun.sl.Ha_5 c (grid0.coords t) arg4 harg4 arg5 harg5 arg10 harg10 arg11 harg11 (k0_pay157 (grid0.coords t)) (BitVec.ofNat 32 (4 * (grid0.coords t 2).val)) k0_h2 x1 x2 q a) (ix3 0 r col) = (((a (ix3 0 r col) + ∑ j, term x1 x2 q (grid0.coords t 2).val 0 r col (kbd (grid0.coords t) 0) j) + ∑ j, term x1 x2 q (grid0.coords t 2).val 0 r col (kbd (grid0.coords t) 1) j) + ∑ j, term x1 x2 q (grid0.coords t 2).val 0 r col (kbd (grid0.coords t) 2) j) := by
  have hprev : ∀ col : Fin 2048, View.canon (diagRun.sl.Ha_4 c (grid0.coords t) arg4 harg4 arg5 harg5 arg10 harg10 arg11 harg11 (k0_pay157 (grid0.coords t)) (BitVec.ofNat 32 (4 * (grid0.coords t 2).val)) k0_h2 x1 x2 q a) (ix3 0 r col) = ((a (ix3 0 r col) + ∑ j, term x1 x2 q (grid0.coords t 2).val 0 r col (kbd (grid0.coords t) 0) j) + ∑ j, term x1 x2 q (grid0.coords t 2).val 0 r col (kbd (grid0.coords t) 1) j) := fun col => by
    unfold diagRun.sl.Ha_4
    rw [canon_out (ix3 0 r col) 0 (Or.inl Nat.zero_lt_one)]
    exact e1_0 c t arg4 harg4 arg5 harg5 arg10 harg10 arg11 harg11 k0_h2 x1 x2 q a r col
  have hlt : ∀ x : Fin 1024, 1024 + x.val < 2048 := fun x => by omega
  unfold diagRun.sl.Ha_5
  by_cases hc : 1024 ≤ col.val
  · obtain ⟨c', rfl⟩ : ∃ c' : Fin 1024, col = ⟨1024 + c'.val, hlt c'⟩ := ⟨⟨col.val - 1024, by omega⟩, Fin.ext (by show col.val = 1024 + (col.val - 1024); omega)⟩
    rw [canon_in _ (ix3 0 r c') (idx3 rfl (Nat.zero_add _).symm rfl)]
    unfold diagRun.sl.r_5 diagRun.sl.v488 diagRun.sl.v527
    simp only [View.readAt_eq_ld, harg4.read_unread, harg5.read_unread, harg10.read_unread, harg11.read_unread]
    rw [diag2_0]
    refine congrArg₂ (· + ·) ?_ (block_sum x1 x2 q (grid0.coords t) 0 r _ (kbd (grid0.coords t) 2) _ (word_add _ 2) _ _ _
    (fun j => ld_vals x2 _ _ (off16_2 t) _ r j) (fun j l => (ld_keys x1 _ _ (off15_2 t) _ j _).trans (by rw [lane0]))
    (fun l => (View.ld_unit_apply_of q _ _ _ _ (ix2 (lane 0 l) _) (idx2 (by rw [lane0 _ (by omega)]; exact (Nat.zero_add _).symm) rfl))))
    rw [View.readCov_eq_canon']
    refine Eq.trans (congrArg (View.canon _) ?_) (hprev ⟨1024 + c'.val, hlt c'⟩)
    funext a
    refine Fin.ext ?_
    match a with
    | ⟨0, _⟩ => rfl
    | ⟨1, _⟩ => show 0 + 1 * r.val = r.val; omega
    | ⟨2, _⟩ => show 1024 + 1 * c'.val = 1024 + c'.val; omega
  · rw [canon_out _ 2 (Or.inl (Nat.lt_of_not_le hc)), hprev col, term_zero x1 x2 q _ 0 r col (kbd (grid0.coords t) 2) (by show _ < 512 * (4 * _ + 2); omega), add_zero]

theorem e2_1 : View.canon (diagRun.sl.Ha_6 c (grid0.coords t) arg4 harg4 arg5 harg5 arg10 harg10 arg11 harg11 (k0_pay157 (grid0.coords t)) (BitVec.ofNat 32 (4 * (grid0.coords t 2).val)) k0_h2 x1 x2 q a) (ix3 1 r col) = (((a (ix3 1 r col) + ∑ j, term x1 x2 q (grid0.coords t 2).val 1 r col (kbd (grid0.coords t) 0) j) + ∑ j, term x1 x2 q (grid0.coords t 2).val 1 r col (kbd (grid0.coords t) 1) j) + ∑ j, term x1 x2 q (grid0.coords t 2).val 1 r col (kbd (grid0.coords t) 2) j) := by
  have hprev : ∀ col : Fin 2048, View.canon (diagRun.sl.Ha_5 c (grid0.coords t) arg4 harg4 arg5 harg5 arg10 harg10 arg11 harg11 (k0_pay157 (grid0.coords t)) (BitVec.ofNat 32 (4 * (grid0.coords t 2).val)) k0_h2 x1 x2 q a) (ix3 1 r col) = ((a (ix3 1 r col) + ∑ j, term x1 x2 q (grid0.coords t 2).val 1 r col (kbd (grid0.coords t) 0) j) + ∑ j, term x1 x2 q (grid0.coords t 2).val 1 r col (kbd (grid0.coords t) 1) j) := fun col => by
    unfold diagRun.sl.Ha_5
    rw [canon_out (ix3 1 r col) 0 (Or.inr (Nat.le_refl 1))]
    exact e1_1 c t arg4 harg4 arg5 harg5 arg10 harg10 arg11 harg11 k0_h2 x1 x2 q a r col
  have hlt : ∀ x : Fin 1024, 1024 + x.val < 2048 := fun x => by omega
  unfold diagRun.sl.Ha_6
  by_cases hc : 1024 ≤ col.val
  · obtain ⟨c', rfl⟩ : ∃ c' : Fin 1024, col = ⟨1024 + c'.val, hlt c'⟩ := ⟨⟨col.val - 1024, by omega⟩, Fin.ext (by show col.val = 1024 + (col.val - 1024); omega)⟩
    rw [canon_in _ (ix3 0 r c') (idx3 rfl (Nat.zero_add _).symm rfl)]
    unfold diagRun.sl.r_6 diagRun.sl.r_5 diagRun.sl.v488 diagRun.sl.v533
    simp only [View.readAt_eq_ld, harg4.read_unread, harg5.read_unread, harg10.read_unread, harg11.read_unread]
    rw [diag2_1]
    refine congrArg₂ (· + ·) ?_ (block_sum x1 x2 q (grid0.coords t) 1 r _ (kbd (grid0.coords t) 2) _ (word_add _ 2) _ _ _
    (fun j => ld_vals x2 _ _ (off16_2 t) _ r j) (fun j l => (ld_keys x1 _ _ (off15_2 t) _ j _).trans (by rw [lane1]))
    (fun l => (View.ld_unit_apply_of q _ _ _ _ (ix2 (lane 1 l) _) (idx2 rfl rfl))))
    rw [View.readCov_eq_canon']
    refine Eq.trans (congrArg (View.canon _) ?_) (hprev ⟨1024 + c'.val, hlt c'⟩)
    funext a
    refine Fin.ext ?_
    match a with
    | ⟨0, _⟩ => rfl
    | ⟨1, _⟩ => show 0 + 1 * r.val = r.val; omega
    | ⟨2, _⟩ => show 1024 + 1 * c'.val = 1024 + c'.val; omega
  · rw [canon_out _ 2 (Or.inl (Nat.lt_of_not_le hc)), hprev col, term_zero x1 x2 q _ 1 r col (kbd (grid0.coords t) 2) (by show _ < 512 * (4 * _ + 2); omega), add_zero]

theorem e3_0 : View.canon (diagRun.sl.Ha_7 c (grid0.coords t) arg4 harg4 arg5 harg5 arg10 harg10 arg11 harg11 (k0_pay157 (grid0.coords t)) (BitVec.ofNat 32 (4 * (grid0.coords t 2).val)) k0_h2 x1 x2 q a) (ix3 0 r col) = ((((a (ix3 0 r col) + ∑ j, term x1 x2 q (grid0.coords t 2).val 0 r col (kbd (grid0.coords t) 0) j) + ∑ j, term x1 x2 q (grid0.coords t 2).val 0 r col (kbd (grid0.coords t) 1) j) + ∑ j, term x1 x2 q (grid0.coords t 2).val 0 r col (kbd (grid0.coords t) 2) j) + ∑ j, term x1 x2 q (grid0.coords t 2).val 0 r col (kbd (grid0.coords t) 3) j) := by
  have hprev : ∀ col : Fin 2048, View.canon (diagRun.sl.Ha_6 c (grid0.coords t) arg4 harg4 arg5 harg5 arg10 harg10 arg11 harg11 (k0_pay157 (grid0.coords t)) (BitVec.ofNat 32 (4 * (grid0.coords t 2).val)) k0_h2 x1 x2 q a) (ix3 0 r col) = (((a (ix3 0 r col) + ∑ j, term x1 x2 q (grid0.coords t 2).val 0 r col (kbd (grid0.coords t) 0) j) + ∑ j, term x1 x2 q (grid0.coords t 2).val 0 r col (kbd (grid0.coords t) 1) j) + ∑ j, term x1 x2 q (grid0.coords t 2).val 0 r col (kbd (grid0.coords t) 2) j) := fun col => by
    unfold diagRun.sl.Ha_6
    rw [canon_out (ix3 0 r col) 0 (Or.inl Nat.zero_lt_one)]
    exact e2_0 c t arg4 harg4 arg5 harg5 arg10 harg10 arg11 harg11 k0_h2 x1 x2 q a r col
  have hlt : ∀ x : Fin 512, 1536 + x.val < 2048 := fun x => by omega
  unfold diagRun.sl.Ha_7
  by_cases hc : 1536 ≤ col.val
  · obtain ⟨c', rfl⟩ : ∃ c' : Fin 512, col = ⟨1536 + c'.val, hlt c'⟩ := ⟨⟨col.val - 1536, by omega⟩, Fin.ext (by show col.val = 1536 + (col.val - 1536); omega)⟩
    rw [canon_in _ (ix3 0 r c') (idx3 rfl (Nat.zero_add _).symm rfl)]
    unfold diagRun.sl.r_8 diagRun.sl.v578
    simp only [View.readAt_eq_ld, harg4.read_unread, harg5.read_unread, harg10.read_unread, harg11.read_unread]
    rw [diag3_0]
    refine congrArg₂ (· + ·) ?_ (block_sum x1 x2 q (grid0.coords t) 0 r _ (kbd (grid0.coords t) 3) _ (word_add _ 3) _ _ _
    (fun j => ld_vals x2 _ _ (off16_3 t) _ r j) (fun j l => (ld_keys x1 _ _ (off15_3 t) _ j _).trans (by rw [lane0]))
    (fun l => (View.ld_unit_apply_of q _ _ _ _ (ix2 (lane 0 l) _) (idx2 (by rw [lane0 _ (by omega)]; exact (Nat.zero_add _).symm) rfl))))
    rw [View.readCov_eq_canon']
    refine Eq.trans (congrArg (View.canon _) ?_) (hprev ⟨1536 + c'.val, hlt c'⟩)
    funext a
    refine Fin.ext ?_
    match a with
    | ⟨0, _⟩ => rfl
    | ⟨1, _⟩ => show 0 + 1 * r.val = r.val; omega
    | ⟨2, _⟩ => show 1536 + 1 * c'.val = 1536 + c'.val; omega
  · rw [canon_out _ 2 (Or.inl (Nat.lt_of_not_le hc)), hprev col, term_zero x1 x2 q _ 0 r col (kbd (grid0.coords t) 3) (by show _ < 512 * (4 * _ + 3); omega), add_zero]

theorem e3_1 (inb) : View.canon ((⟨Rect.unit ![1, 0, 1536] ![1, 144, 512] inb, (k0_pay197 (k0_pay157 (grid0.coords t)) (diagRun.sl.r_7 c (grid0.coords t) arg5 harg5 k0_h2 x2) (diagRun.sl.r_9 c (grid0.coords t) arg4 harg4 arg10 harg10 k0_h2 x1 q) diagRun.sl.v566 (diagRun.sl.v567 (BitVec.ofNat 32 (4 * (grid0.coords t 2).val))) (diagRun.sl.v584 c (grid0.coords t) arg4 harg4 arg5 harg5 arg10 harg10 arg11 harg11 (k0_pay157 (grid0.coords t)) (BitVec.ofNat 32 (4 * (grid0.coords t 2).val)) k0_h2 x1 x2 q a))⟩ : View.Piece (Elt Ideal) S2x144x2048 .f32) :: (diagRun.sl.Ha_7 c (grid0.coords t) arg4 harg4 arg5 harg5 arg10 harg10 arg11 harg11 (k0_pay157 (grid0.coords t)) (BitVec.ofNat 32 (4 * (grid0.coords t 2).val)) k0_h2 x1 x2 q a)) (ix3 1 r col) = ((((a (ix3 1 r col) + ∑ j, term x1 x2 q (grid0.coords t 2).val 1 r col (kbd (grid0.coords t) 0) j) + ∑ j, term x1 x2 q (grid0.coords t 2).val 1 r col (kbd (grid0.coords t) 1) j) + ∑ j, term x1 x2 q (grid0.coords t 2).val 1 r col (kbd (grid0.coords t) 2) j) + ∑ j, term x1 x2 q (grid0.coords t 2).val 1 r col (kbd (grid0.coords t) 3) j) := by
  have hprev : ∀ col : Fin 2048, View.canon (diagRun.sl.Ha_7 c (grid0.coords t) arg4 harg4 arg5 harg5 arg10 harg10 arg11 harg11 (k0_pay157 (grid0.coords t)) (BitVec.ofNat 32 (4 * (grid0.coords t 2).val)) k0_h2 x1 x2 q a) (ix3 1 r col) = (((a (ix3 1 r col) + ∑ j, term x1 x2 q (grid0.coords t 2).val 1 r col (kbd (grid0.coords t) 0) j) + ∑ j, term x1 x2 q (grid0.coords t 2).val 1 r col (kbd (grid0.coords t) 1) j) + ∑ j, term x1 x2 q (grid0.coords t 2).val 1 r col (kbd (grid0.coords t) 2) j) := fun col => by
    unfold diagRun.sl.Ha_7
    rw [canon_out (ix3 1 r col) 0 (Or.inr (Nat.le_refl 1))]
    exact e2_1 c t arg4 harg4 arg5 harg5 arg10 harg10 arg11 harg11 k0_h2 x1 x2 q a r col
  have hlt : ∀ x : Fin 512, 1536 + x.val < 2048 := fun x => by omega
  by_cases hc : 1536 ≤ col.val
  · obtain ⟨c', rfl⟩ : ∃ c' : Fin 512, col = ⟨1536 + c'.val, hlt c'⟩ := ⟨⟨col.val - 1536, by omega⟩, Fin.ext (by show col.val = 1536 + (col.val - 1536); omega)⟩
    rw [canon_in _ (ix3 0 r c') (idx3 rfl (Nat.zero_add _).symm rfl)]
    unfold diagRun.sl.r_7 diagRun.sl.r_9 diagRun.sl.v584
    simp only [View.readAt_eq_ld, harg4.read_unread, harg5.read_unread, harg10.read_unread, harg11.read_unread]
    rw [diag3_1]
    refine congrArg₂ (· + ·) ?_ (block_sum x1 x2 q (grid0.coords t) 1 r _ (kbd (grid0.coords t) 3) _ (word_add _ 3) _ _ _
    (fun j => ld_vals x2 _ _ (off16_3 t) _ r j) (fun j l => (ld_keys x1 _ _ (off15_3 t) _ j _).trans (by rw [lane1]))
    (fun l => (View.ld_unit_apply_of q _ _ _ _ (ix2 (lane 1 l) _) (idx2 rfl rfl))))
    rw [View.readCov_eq_canon']
    refine Eq.trans (congrArg (View.canon _) ?_) (hprev ⟨1536 + c'.val, hlt c'⟩)
    funext a
    refine Fin.ext ?_
    match a with
    | ⟨0, _⟩ => rfl
    | ⟨1, _⟩ => show 0 + 1 * r.val = r.val; omega
    | ⟨2, _⟩ => show 1536 + 1 * c'.val = 1536 + c'.val; omega
  · rw [canon_out _ 2 (Or.inl (Nat.lt_of_not_le hc)), hprev col, term_zero x1 x2 q _ 1 r col (kbd (grid0.coords t) 3) (by show _ < 512 * (4 * _ + 3); omega), add_zero]

end

end Cert.KernelIdeal.Diff

end
-- ==== Proof.Diff.PairsSum.lean ====
/-
The sums after the whole key blocks before the query block: each trip of the loop adds the terms of two blocks, whose keys all lie
before the queries.
-/
module

public import proofs.«01_k».proof.Proof.Diff.DiagSum
public import Idealize.ShloMosaic.Lib.Pointwise
public import Idealize.ShloMosaic.Lib.IdealHost

@[expose] public section

set_option maxRecDepth 65536

noncomputable section

namespace Cert.KernelIdeal.Diff

open Idealize.ShloMosaic Idealize.ShloMosaic.TcCoe Idealize.ShloMosaic.Tactic
open Cert.KernelIdeal Cert.KernelIdeal.Gen

theorem pairOff1 : ∀ (t : Fin grid0.N) (k : Fin (k0_t1_loop (grid0.coords t)).trips), k0_off1 (grid0.coords t) k = ![0, 512 * (2 * k.val), 0] := by decide +kernel
theorem pairOff2 : ∀ (t : Fin grid0.N) (k : Fin (k0_t1_loop (grid0.coords t)).trips), k0_off2 (grid0.coords t) k = ![0, 0, 2 * k.val, 0, 0] := by decide +kernel
theorem pairOff3 : ∀ (t : Fin grid0.N) (k : Fin (k0_t1_loop (grid0.coords t)).trips), k0_off3 (grid0.coords t) k = ![0, 512 * (2 * k.val + 1), 0] := by decide +kernel
theorem pairOff4 : ∀ (t : Fin grid0.N) (k : Fin (k0_t1_loop (grid0.coords t)).trips), k0_off4 (grid0.coords t) k = ![0, 0, 2 * k.val + 1, 0, 0] := by decide +kernel
theorem pairTrips : ∀ t : Fin grid0.N, (k0_t1_loop (grid0.coords t)).trips = 2 * (grid0.coords t 2).val := by decide +kernel

theorem pairTrips2 : ∀ t : Fin grid0.N, (k0_t2_loop (grid0.coords t)).trips = 0 := by decide +kernel

/-- What a whole block before the queries adds is its keys' terms. -/
theorem plain_sum (x1 : Vec Ideal S1x8192x256 .bf16) (x2 : Vec Ideal S1x1x16x144x512 .bf16) (q : Vec Ideal S256x2048 .bf16) (n : ℕ) (m : Fin 2)
    (r : Fin 144) (col : Fin 2048) (kb : Fin 16) (hn : 512 * kb.val + 511 ≤ 2048 * n) (Vf : Fin 512 → EReal) (Kf : Fin 512 → Fin 128 → EReal)
    (Qf : Fin 128 → EReal) (hV : ∀ j, Vf j = x2 (ix5 0 0 kb r j)) (hK : ∀ j l, Kf j l = x1 (ix3 0 (key kb j) (lane m l)))
    (hQ : ∀ l, Qf l = q (ix2 (lane m l) col)) :
    ∑ j : Fin 512, Vf j * Ideal.exp (∑ l : Fin 128, Kf j l * Qf l) = ∑ j, term x1 x2 q n m r col kb j := by
  refine Finset.sum_congr rfl fun j _ => ?_
  unfold term
  rw [if_pos (by omega), hV]
  refine congrArg (fun x => _ * Ideal.exp x) ?_
  exact Finset.sum_congr rfl fun l _ => by rw [hK, hQ]

section

variable (c : Dev nD) (t : Fin grid0.N) (arg3 : Memref sig .tc .vmem S1x256x2048 .bf16) (harg3 : arg3.IsWhole) (arg4 : Memref sig .tc .vmem S1x8192x256 .bf16) (harg4 : arg4.IsWhole) (arg5 : Memref sig .tc .vmem S1x1x16x144x512 .bf16) (harg5 : arg5.IsWhole) (arg6 : Memref sig .tc .vmem S1x16x8x128 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S1x2048x128 .bf16) (harg9 : arg9.IsWhole) (arg10 : Memref sig .tc .vmem S256x2048 .bf16) (harg10 : arg10.IsWhole) (arg11 : Memref sig .tc .vmem S2x144x2048 .f32) (harg11 : arg11.IsWhole) (arg12 : Memref sig .tc .vmem S2x1x2048 .f32) (harg12 : arg12.IsWhole) (v3 : IVec S1x2048 32) (v21 c2_i32_101 v278 v283 v288 : BitVec 32)
  (k : Fin (k0_t1_loop (grid0.coords t)).trips) (x1 : Vec Ideal S1x8192x256 .bf16) (x2 : Vec Ideal S1x1x16x144x512 .bf16) (q : Vec Ideal S256x2048 .bf16)
  (f : BufTy.Contents (Elt Ideal) arg11.view.ty) (r : Fin 144) (j : Fin 512) (col : Fin 2048)

theorem pairW0 : trip_k0_t1.sl.v402 (F := Ideal) (grid0.coords t) arg4 arg5 arg10 (harg4.unread x1) (harg5.unread x2) (harg10.unread q) k (ix2 r col)
    = ∑ j : Fin 512, View.ld x2 (Rect.unit (k0_off2 (grid0.coords t) k) S1x1x1x144x512.size (k0_off2_inb (grid0.coords t) k)) (ix5 0 0 0 r j)
      * Ideal.exp (∑ l : Fin 128, View.ld x1 (Rect.unit (k0_off1 (grid0.coords t) k) S1x512x256.size (k0_off1_inb (grid0.coords t) k)) (ix3 0 j ⟨l, by omega⟩)
        * View.ld q (Rect.unit ![0, 0] S128x2048.size inb_S256x2048_S128x2048_0_0) (ix2 l col)) := by
  unfold trip_k0_t1.sl.v402 trip_k0_t1.sl.v401 trip_k0_t1.sl.v400 trip_k0_t1.sl.v399 trip_k0_t1.sl.v397 trip_k0_t1.sl.v396 trip_k0_t1.sl.v393 trip_k0_t1.sl.cst_163 trip_k0_t1.sl.cst_164
  simp only [View.readAt_eq_ld, harg4.read_unread, harg5.read_unread, harg10.read_unread]
  pointwise []

theorem pairW1 : trip_k0_t1.sl.v408 (F := Ideal) (grid0.coords t) arg4 arg5 arg10 (harg4.unread x1) (harg5.unread x2) (harg10.unread q) k (ix2 r col)
    = ∑ j : Fin 512, View.ld x2 (Rect.unit (k0_off2 (grid0.coords t) k) S1x1x1x144x512.size (k0_off2_inb (grid0.coords t) k)) (ix5 0 0 0 r j)
      * Ideal.exp (∑ l : Fin 128, View.ld x1 (Rect.unit (k0_off1 (grid0.coords t) k) S1x512x256.size (k0_off1_inb (grid0.coords t) k)) (ix3 0 j ⟨128 + l, by omega⟩)
        * View.ld q (Rect.unit ![128, 0] S128x2048.size inb_S256x2048_S128x2048_128_0) (ix2 l col)) := by
  unfold trip_k0_t1.sl.v408 trip_k0_t1.sl.v407 trip_k0_t1.sl.v406 trip_k0_t1.sl.v405 trip_k0_t1.sl.v403 trip_k0_t1.sl.v396 trip_k0_t1.sl.v393 trip_k0_t1.sl.cst_163 trip_k0_t1.sl.cst_164
  simp only [View.readAt_eq_ld, harg4.read_unread, harg5.read_unread, harg10.read_unread]
  pointwise []

theorem pairV : trip_k0_t1.sl.v418 (F := Ideal) (grid0.coords t) arg5 (harg5.unread x2) k (ix2 r j)
    = View.ld x2 (Rect.unit (k0_off4 (grid0.coords t) k) S1x1x1x144x512.size (k0_off4_inb (grid0.coords t) k)) (ix5 0 0 0 r j) := by
  unfold trip_k0_t1.sl.v418
  simp only [View.readAt_eq_ld, harg5.read_unread]
  pointwise []

theorem pairK1 (l : Fin 256) : trip_k0_t1.sl.v415 (F := Ideal) (grid0.coords t) arg4 (harg4.unread x1) k (ix2 j l)
    = View.ld x1 (Rect.unit (k0_off3 (grid0.coords t) k) S1x512x256.size (k0_off3_inb (grid0.coords t) k)) (ix3 0 j l) := by
  unfold trip_k0_t1.sl.v415
  simp only [View.readAt_eq_ld, harg4.read_unread]
  pointwise []

theorem pairK0 (l : Fin 128) : trip_k0_t1.sl.v419 (F := Ideal) (grid0.coords t) arg4 (harg4.unread x1) k (ix2 j l)
    = View.ld x1 (Rect.unit (k0_off3 (grid0.coords t) k) S1x512x256.size (k0_off3_inb (grid0.coords t) k)) (ix3 0 j ⟨l, by omega⟩) := by
  unfold trip_k0_t1.sl.v419 trip_k0_t1.sl.v415
  simp only [View.readAt_eq_ld, harg4.read_unread]
  pointwise []

include t k in
theorem pairLt : 2 * k.val + 1 < 4 * (grid0.coords t 2).val := by
  have h := k.isLt
  have h2 := pairTrips t
  omega

/-- The first block of a trip, and the second. -/
def pairB : Fin 16 := ⟨2 * k.val, by have := pairLt t k; have := coord2 (grid0.coords t); omega⟩
def pairB' : Fin 16 := ⟨2 * k.val + 1, by have := pairLt t k; have := coord2 (grid0.coords t); omega⟩

theorem trip1_list : (trip_k0_t1 (F := Ideal) Variants.none c none (grid0.coords t) arg3 harg3 arg4 harg4 arg5 harg5 arg6 harg6 arg7 harg7 arg8 harg8 arg9 harg9 arg10 harg10 arg11 harg11 arg12 harg12 v3 v21 c2_i32_101 v278 v283 v288 (harg4.unread x1) (harg5.unread x2) (harg10.unread q) k).1 f =
    [⟨Rect.unit (s := S2x144x2048) ![1, 0, 0] S1x144x2048.size inb_S2x144x2048_S1x144x2048_1_0_0,
        k0_pay191 (trip_k0_t1.sl.v408 (grid0.coords t) arg4 arg5 arg10 (harg4.unread x1) (harg5.unread x2) (harg10.unread q) k) (trip_k0_t1.sl.v415 (grid0.coords t) arg4 (harg4.unread x1) k)
          (trip_k0_t1.sl.v418 (grid0.coords t) arg5 (harg5.unread x2) k) (View.readAt (Elt Ideal) arg10.view (Rect.unit (s := S256x2048) ![128, 0] S128x2048.size inb_S256x2048_S128x2048_128_0).toLoadRect (harg10.unread q)) (trip_k0_t1.sl.v438 arg11 f)⟩,
      ⟨Rect.unit (s := S2x144x2048) ![0, 0, 0] S1x144x2048.size inb_S2x144x2048_S1x144x2048_0_0_0,
        k0_pay190 (trip_k0_t1.sl.v402 (grid0.coords t) arg4 arg5 arg10 (harg4.unread x1) (harg5.unread x2) (harg10.unread q) k) (trip_k0_t1.sl.v418 (grid0.coords t) arg5 (harg5.unread x2) k)
          (trip_k0_t1.sl.v419 (grid0.coords t) arg4 (harg4.unread x1) k) (View.readAt (Elt Ideal) arg10.view (Rect.unit (s := S256x2048) ![0, 0] S128x2048.size inb_S256x2048_S128x2048_0_0).toLoadRect (harg10.unread q))
          (View.readAt (Elt Ideal) arg11.view (Rect.unit (s := S2x144x2048) ![0, 0, 0] S1x144x2048.size inb_S2x144x2048_S1x144x2048_0_0_0).toLoadRect f)⟩] := by
  unfold trip_k0_t1
  rfl

theorem trip1_cover (y : S2x144x2048.Idx) : ∃ pc ∈ (trip_k0_t1 (F := Ideal) Variants.none c none (grid0.coords t) arg3 harg3 arg4 harg4 arg5 harg5 arg6 harg6 arg7 harg7 arg8 harg8 arg9 harg9 arg10 harg10 arg11 harg11 arg12 harg12 v3 v21 c2_i32_101 v278 v283 v288 (harg4.unread x1) (harg5.unread x2) (harg10.unread q) k).1 f, y ∈ pc.1.set := by
  rw [trip1_list]
  exact View.cover_of_tiledL _ ![1, 144, 2048] (by sl_kernel_rfl) y

/-- One trip adds the terms of its two blocks. -/
theorem trip1_0 : arg11.view.read (Elt Ideal) (arg11.view.writes (Elt Ideal) f ((trip_k0_t1 (F := Ideal) Variants.none c none (grid0.coords t) arg3 harg3 arg4 harg4 arg5 harg5 arg6 harg6 arg7 harg7 arg8 harg8 arg9 harg9 arg10 harg10 arg11 harg11 arg12 harg12 v3 v21 c2_i32_101 v278 v283 v288 (harg4.unread x1) (harg5.unread x2) (harg10.unread q) k).1 f)) (ix3 0 r col)
    = arg11.view.read (Elt Ideal) f (ix3 0 r col) + (∑ j, term x1 x2 q (grid0.coords t 2).val 0 r col (pairB t k) j
        + ∑ j, term x1 x2 q (grid0.coords t 2).val 0 r col (pairB' t k) j) := by
  have hlt := pairLt t k
  rw [View.read_writes_eq_canon _ _ _ (trip1_cover c t arg3 harg3 arg4 harg4 arg5 harg5 arg6 harg6 arg7 harg7 arg8 harg8 arg9 harg9 arg10 harg10 arg11 harg11 arg12 harg12 v3 v21 c2_i32_101 v278 v283 v288 k x1 x2 q f)]
  rw [trip1_list]
  rw [canon_out _ 0 (Or.inl Nat.zero_lt_one)]
  rw [canon_in _ (ix3 0 r col) (idx3 rfl (Nat.zero_add _).symm (Nat.zero_add _).symm)]
  rw [pay190_at, pairW0]
  simp only [View.readAt_eq_ld, harg10.read_unread]
  refine congrArg₂ (· + ·) ?_ (congrArg₂ (· + ·)
    (plain_sum x1 x2 q (grid0.coords t 2).val 0 r col (pairB t k) (by show 512 * (2 * k.val) + 511 ≤ _; omega) _ _ _
      (fun j => ld_vals x2 (pairB t k) _ (pairOff2 t k) _ r j) (fun j l => (ld_keys x1 (pairB t k) _ (pairOff1 t k) _ j _).trans (by rw [lane0 _ (by omega)]))
      (fun l => View.ld_unit_apply_of q _ _ _ _ (ix2 (lane 0 l) _) (idx2 (by rw [lane0 _ (by omega)]; exact (Nat.zero_add _).symm) (Nat.zero_add _).symm)))
    (plain_sum x1 x2 q (grid0.coords t 2).val 0 r col (pairB' t k) (by show 512 * (2 * k.val + 1) + 511 ≤ _; omega) _ _ _
      (fun j => (pairV t arg5 harg5 k x2 r j).trans (ld_vals x2 (pairB' t k) _ (pairOff4 t k) _ r j))
      (fun j l => (pairK0 t arg4 harg4 k x1 j l).trans ((ld_keys x1 (pairB' t k) _ (pairOff3 t k) _ j _).trans (by rw [lane0 _ (by omega)])))
      (fun l => View.ld_unit_apply_of q _ _ _ _ (ix2 (lane 0 l) _) (idx2 (by rw [lane0 _ (by omega)]; exact (Nat.zero_add _).symm) (Nat.zero_add _).symm))))
  exact View.ld_unit_apply_of (arg11.view.read (Elt Ideal) f) _ _ _ (ix3 0 r col) (ix3 0 r col) (idx3 rfl (Nat.zero_add _).symm (Nat.zero_add _).symm)

/-- One trip adds the terms of its two blocks. -/
theorem trip1_1 : arg11.view.read (Elt Ideal) (arg11.view.writes (Elt Ideal) f ((trip_k0_t1 (F := Ideal) Variants.none c none (grid0.coords t) arg3 harg3 arg4 harg4 arg5 harg5 arg6 harg6 arg7 harg7 arg8 harg8 arg9 harg9 arg10 harg10 arg11 harg11 arg12 harg12 v3 v21 c2_i32_101 v278 v283 v288 (harg4.unread x1) (harg5.unread x2) (harg10.unread q) k).1 f)) (ix3 1 r col)
    = arg11.view.read (Elt Ideal) f (ix3 1 r col) + (∑ j, term x1 x2 q (grid0.coords t 2).val 1 r col (pairB t k) j
        + ∑ j, term x1 x2 q (grid0.coords t 2).val 1 r col (pairB' t k) j) := by
  have hlt := pairLt t k
  rw [View.read_writes_eq_canon _ _ _ (trip1_cover c t arg3 harg3 arg4 harg4 arg5 harg5 arg6 harg6 arg7 harg7 arg8 harg8 arg9 harg9 arg10 harg10 arg11 harg11 arg12 harg12 v3 v21 c2_i32_101 v278 v283 v288 k x1 x2 q f)]
  rw [trip1_list]
  rw [canon_in _ (ix3 0 r col) (idx3 rfl (Nat.zero_add _).symm (Nat.zero_add _).symm)]
  rw [pay191_at, pairW1]
  unfold trip_k0_t1.sl.v438
  simp only [View.readAt_eq_ld, harg10.read_unread]
  refine congrArg₂ (· + ·) ?_ (congrArg₂ (· + ·)
    (plain_sum x1 x2 q (grid0.coords t 2).val 1 r col (pairB t k) (by show 512 * (2 * k.val) + 511 ≤ _; omega) _ _ _
      (fun j => ld_vals x2 (pairB t k) _ (pairOff2 t k) _ r j) (fun j l => (ld_keys x1 (pairB t k) _ (pairOff1 t k) _ j _).trans (by rw [lane1]))
      (fun l => View.ld_unit_apply_of q _ _ _ _ (ix2 (lane 1 l) _) (idx2 rfl (Nat.zero_add _).symm)))
    (plain_sum x1 x2 q (grid0.coords t 2).val 1 r col (pairB' t k) (by show 512 * (2 * k.val + 1) + 511 ≤ _; omega) _ _ _
      (fun j => (pairV t arg5 harg5 k x2 r j).trans (ld_vals x2 (pairB' t k) _ (pairOff4 t k) _ r j))
      (fun j l => (pairK1 t arg4 harg4 k x1 j _).trans ((ld_keys x1 (pairB' t k) _ (pairOff3 t k) _ j _).trans (by rw [lane1])))
      (fun l => View.ld_unit_apply_of q _ _ _ _ (ix2 (lane 1 l) _) (idx2 rfl (Nat.zero_add _).symm))))
  exact View.ld_unit_apply_of (arg11.view.read (Elt Ideal) f) _ _ _ (ix3 0 r col) (ix3 1 r col) (idx3 rfl (Nat.zero_add _).symm (Nat.zero_add _).symm)

theorem trip1 (m : Fin 2) : arg11.view.read (Elt Ideal) (arg11.view.writes (Elt Ideal) f ((trip_k0_t1 (F := Ideal) Variants.none c none (grid0.coords t) arg3 harg3 arg4 harg4 arg5 harg5 arg6 harg6 arg7 harg7 arg8 harg8 arg9 harg9 arg10 harg10 arg11 harg11 arg12 harg12 v3 v21 c2_i32_101 v278 v283 v288 (harg4.unread x1) (harg5.unread x2) (harg10.unread q) k).1 f)) (ix3 m r col)
    = arg11.view.read (Elt Ideal) f (ix3 m r col) + (∑ j, term x1 x2 q (grid0.coords t 2).val m r col (pairB t k) j
        + ∑ j, term x1 x2 q (grid0.coords t 2).val m r col (pairB' t k) j) :=
  match m with
  | ⟨0, _⟩ => trip1_0 c t arg3 harg3 arg4 harg4 arg5 harg5 arg6 harg6 arg7 harg7 arg8 harg8 arg9 harg9 arg10 harg10 arg11 harg11 arg12 harg12 v3 v21 c2_i32_101 v278 v283 v288 k x1 x2 q f r col
  | ⟨1, _⟩ => trip1_1 c t arg3 harg3 arg4 harg4 arg5 harg5 arg6 harg6 arg7 harg7 arg8 harg8 arg9 harg9 arg10 harg10 arg11 harg11 arg12 harg12 v3 v21 c2_i32_101 v278 v283 v288 k x1 x2 q f r col

/-- The first trips' stores add the terms of their blocks. -/
theorem trips1 (a : Vec Ideal S2x144x2048 .f32) (m : Fin 2) (n : ℕ) (hn : n ≤ (k0_t1_loop (grid0.coords t)).trips) :
    arg11.view.read (Elt Ideal) (arg11.view.writes (Elt Ideal) (harg11.unread a) (pb_k0_t1 (F := Ideal) Variants.none c none (grid0.coords t) arg3 harg3 arg4 harg4 arg5 harg5 arg6 harg6 arg7 harg7 arg8 harg8 arg9 harg9 arg10 harg10 arg11 harg11 arg12 harg12 v3 v21 c2_i32_101 v278 v283 v288 (harg4.unread x1) (harg5.unread x2) (harg10.unread q) (harg11.unread a) n)) (ix3 m r col)
      = a (ix3 m r col) + upto (term x1 x2 q (grid0.coords t 2).val m r col) (2 * n) := by
  induction n with
  | zero =>
    rw [Nat.mul_zero, upto_zero, add_zero]
    exact congrFun (harg11.read_unread a) _
  | succ n ih =>
    rw [pb_k0_t1_succ Variants.none c none (grid0.coords t) arg3 harg3 arg4 harg4 arg5 harg5 arg6 harg6 arg7 harg7 arg8 harg8 arg9 harg9 arg10 harg10 arg11 harg11 arg12 harg12 v3 v21 c2_i32_101 v278 v283 v288 (harg4.unread x1) (harg5.unread x2) (harg10.unread q) (harg11.unread a) ⟨n, hn⟩]
    rw [View.writes_append, trip1, ih (Nat.le_of_lt hn), add_assoc, ← add_assoc (upto _ _)]
    refine congrArg (_ + ·) ?_
    rw [show 2 * (n + 1) = (pairB' t ⟨n, hn⟩).val + 1 from rfl, upto_succ]
    refine congrArg (· + _) ?_
    exact (upto_succ _ (pairB t ⟨n, hn⟩)).symm

/-- The sums after the whole blocks. -/
theorem pairs_at (a : Vec Ideal S2x144x2048 .f32) (m : Fin 2) :
    pairsA c (grid0.coords t) arg3 harg3 arg4 harg4 arg5 harg5 arg6 harg6 arg7 harg7 arg8 harg8 arg9 harg9 arg10 harg10 arg11 harg11 arg12 harg12 v3 v21 c2_i32_101 v278 v283 v288 x1 x2 q a (ix3 m r col)
      = a (ix3 m r col) + upto (term x1 x2 q (grid0.coords t 2).val m r col) (4 * (grid0.coords t 2).val) := by
  have h := trips1 c t arg3 harg3 arg4 harg4 arg5 harg5 arg6 harg6 arg7 harg7 arg8 harg8 arg9 harg9 arg10 harg10 arg11 harg11 arg12 harg12 v3 v21 c2_i32_101 v278 v283 v288 x1 x2 q r col a m _ le_rfl
  have h2 : 2 * (k0_t1_loop (grid0.coords t)).trips = 4 * (grid0.coords t 2).val := by have := pairTrips t; omega
  rw [h2] at h
  obtain ⟨G, hG⟩ : ∃ G, (pairsRun c (grid0.coords t) arg3 harg3 arg4 harg4 arg5 harg5 arg6 harg6 arg7 harg7 arg8 harg8 arg9 harg9 arg10 harg10 arg11 harg11 arg12 harg12 v3 v21 c2_i32_101 v278 v283 v288 x1 x2 q a).1
      = pb_k0_t2 (F := Ideal) Variants.none c none (grid0.coords t) arg3 harg3 arg4 harg4 arg5 harg5 arg6 harg6 arg7 harg7 arg8 harg8 arg9 harg9 arg10 harg10 arg11 harg11 arg12 harg12 v3 v21 c2_i32_101 v278 v283 v288 _ (harg4.unread x1) (harg5.unread x2) (harg10.unread q) G
          (k0_t2_loop (grid0.coords t)).trips ++ pb_k0_t1 (F := Ideal) Variants.none c none (grid0.coords t) arg3 harg3 arg4 harg4 arg5 harg5 arg6 harg6 arg7 harg7 arg8 harg8 arg9 harg9 arg10 harg10 arg11 harg11 arg12 harg12 v3 v21 c2_i32_101 v278 v283 v288 (harg4.unread x1) (harg5.unread x2) (harg10.unread q) (harg11.unread a) (k0_t1_loop (grid0.coords t)).trips := ⟨_, rfl⟩
  unfold pairsA
  rw [hG, pairTrips2 t, pb_k0_t2.eq_1, List.nil_append]
  exact h

end

end Cert.KernelIdeal.Diff

end
-- ==== Proof.Diff.SlowBlock.lean ====
/-
What one block of keys does to the maxima and the sums of the running-maximum pass, entry by entry: the maximum grows by the block's
scores, and the sums are rescaled to it before the block's values are added.
-/
module

public import proofs.«01_k».proof.Proof.Diff.FastBlock
public import Idealize.ShloMosaic.Lib.Pointwise
public import Idealize.ShloMosaic.Lib.IdealHost

@[expose] public section

set_option maxRecDepth 65536

noncomputable section

namespace Cert.KernelIdeal.Diff

open Idealize.ShloMosaic Idealize.ShloMosaic.TcCoe Idealize.ShloMosaic.Tactic
open Cert.KernelIdeal Cert.KernelIdeal.Gen

/-- A maximum grown by the scores of a block. -/
def growM (m : EReal) (s : Fin 512 → EReal) : EReal := max m (Finset.fold max (Ideal.ofBits .f32 0xFF800000#32) s Finset.univ)

/-- A sum rescaled to the grown maximum, with the block's values added. -/
def growA (m : EReal) (s v : Fin 512 → EReal) (a : EReal) : EReal :=
  Ideal.exp (m - growM m s) * a + ∑ j : Fin 512, v j * Ideal.exp (s j - growM m s)

/-- One column's maximum over the keys of a block, joined to the maximum so far. -/
theorem grow_at (s : FVec Ideal S512x2048 .f32) (mo : FVec Ideal S1x2048 .f32) (h : S2048.numel = S1x2048.numel) (h1) (h2) (h3) (col : Fin 2048) :
    maximumf mo (shapeCast S1x2048 (multiReduction .maximumf [0] S2048 s 0xFF800000#32 h1 h2 h3) h) (ix2 0 col)
      = growM (mo (ix2 0 col)) (fun j => s (ix2 j col)) := by
  pointwise []
  rfl

variable (v3 : IVec S1x2048 32) (w : BitVec 32) (K : Vec Ideal S1x512x256 .bf16) (V : Vec Ideal S1x1x1x144x512 .bf16)
  (Q : Vec Ideal S256x2048 .bf16) (M : Vec Ideal S2x1x2048 .f32) (A : Vec Ideal S1x144x2048 .f32)

/-- The scores of a block of keys with the first half of the features. -/
def dotsA (K : Vec Ideal S1x512x256 .bf16) (Q : Vec Ideal S256x2048 .bf16) (j : Fin 512) (col : Fin 2048) : EReal :=
  ∑ l : Fin 128, K (ix3 0 j ⟨l, by omega⟩) * Q (ix2 ⟨l, by omega⟩ col)

/-- The scores of a block of keys with the second half of the features. -/
def dotsB (K : Vec Ideal S1x512x256 .bf16) (Q : Vec Ideal S256x2048 .bf16) (j : Fin 512) (col : Fin 2048) : EReal :=
  ∑ l : Fin 128, K (ix3 0 j ⟨128 + l, by omega⟩) * Q (ix2 ⟨128 + l, by omega⟩ col)

theorem s00 (j : Fin 512) (col : Fin 2048) : k0_pay97 v3 w (k0_pay96 K Q) (iota .tc S512x2048 32 [0] iota_S512x2048_d0_w32) 512#32 (ix2 j col) = keep v3 w j col (dotsA K Q j col) := by
  pointwise [k0_pay97, k0_pay96, k0_pay94, keep, dotsA]

theorem mx00 (col : Fin 2048) : k0_pay99 v3 w M (k0_pay96 K Q) (iota .tc S512x2048 32 [0] iota_S512x2048_d0_w32) 512#32 (ix2 0 col) = growM (M (ix3 0 0 col)) (fun j => keep v3 w j col (dotsA K Q j col)) := by
  refine (grow_at (k0_pay97 v3 w (k0_pay96 K Q) (iota .tc S512x2048 32 [0] iota_S512x2048_d0_w32) 512#32) (k0_pay98 M) _ _ _ _ col).trans ?_
  refine (congrArg (growM _) (funext fun j => s00 v3 w K Q j col)).trans ?_
  refine congrArg (fun x => growM x _) ?_
  pointwise [k0_pay98]

/-- The maxima stored after block 0 of the diagonal, plane 0. -/
theorem st00 (col : Fin 2048) : k0_pay107 v3 w M (k0_pay96 K Q) (iota .tc S512x2048 32 [0] iota_S512x2048_d0_w32) 512#32 (ix3 0 0 col) = growM (M (ix3 0 0 col)) (fun j => keep v3 w j col (dotsA K Q j col)) := by
  have h1 := mx00 v3 w K Q M
  have h2 := s00 v3 w K Q
  generalize (iota .tc S512x2048 32 [0] iota_S512x2048_d0_w32) = Y at h1 h2 ⊢
  pointwise [k0_pay107]
  simp only [h1]

/-- The sums stored after block 0 of the diagonal, plane 0. -/
theorem su00 (r : Fin 144) (col : Fin 2048) : k0_pay108 (k0_pay100 v3 w M (k0_pay96 K Q) (iota .tc S512x2048 32 [0] iota_S512x2048_d0_w32) 512#32) (k0_pay101 v3 w (k0_pay95 V) M (k0_pay96 K Q) (iota .tc S512x2048 32 [0] iota_S512x2048_d0_w32) 512#32) A (ix3 0 r col)
    = growA (M (ix3 0 0 col)) (fun j => keep v3 w j col (dotsA K Q j col)) (fun j => V (ix5 0 0 0 r j)) (A (ix3 0 r col)) := by
  have h1 := mx00 v3 w K Q M
  have h2 := s00 v3 w K Q
  generalize (iota .tc S512x2048 32 [0] iota_S512x2048_d0_w32) = Y at h1 h2 ⊢
  pointwise [k0_pay108, k0_pay100, k0_pay101, k0_pay95, k0_pay98]
  simp only [h1, h2]
  rfl

theorem s01 (j : Fin 512) (col : Fin 2048) : k0_pay102 v3 w (k0_pay94 K) Q (ix2 j col) = keep v3 w j col (dotsB K Q j col) := by
  pointwise [k0_pay102, k0_pay94, keep, dotsB]

theorem mx01 (col : Fin 2048) : k0_pay104 v3 w (k0_pay94 K) Q M (ix2 0 col) = growM (M (ix3 1 0 col)) (fun j => keep v3 w j col (dotsB K Q j col)) := by
  refine (grow_at (k0_pay102 v3 w (k0_pay94 K) Q) (k0_pay103 M) _ _ _ _ col).trans ?_
  simp only [s01]
  refine congrArg (fun x => growM x _) ?_
  pointwise [k0_pay103]

/-- The maxima stored after block 0 of the diagonal, plane 1. -/
theorem st01 (col : Fin 2048) : k0_pay109 (k0_pay104 v3 w (k0_pay94 K) Q M) (ix3 0 0 col) = growM (M (ix3 1 0 col)) (fun j => keep v3 w j col (dotsB K Q j col)) := by
  pointwise [k0_pay109]
  simp only [mx01]

/-- The sums stored after block 0 of the diagonal, plane 1. -/
theorem su01 (r : Fin 144) (col : Fin 2048) : k0_pay110 (k0_pay105 v3 w (k0_pay94 K) Q M) (k0_pay106 v3 w (k0_pay94 K) (k0_pay95 V) Q M) A (ix3 0 r col)
    = growA (M (ix3 1 0 col)) (fun j => keep v3 w j col (dotsB K Q j col)) (fun j => V (ix5 0 0 0 r j)) (A (ix3 0 r col)) := by
  pointwise [k0_pay110, k0_pay105, k0_pay106, k0_pay95, k0_pay103]
  simp only [mx01, s01]
  rfl

theorem s10 (j : Fin 512) (col : Fin 2048) : k0_pay115 v3 w (k0_pay113 K) (k0_pay114 Q) (ix2 j col) = keep v3 w j col (dotsA K Q j col) := by
  pointwise [k0_pay115, k0_pay113, k0_pay114, k0_pay111, keep, dotsA]

theorem mx10 (col : Fin 2048) : k0_pay117 v3 w M (k0_pay113 K) (k0_pay114 Q) (ix2 0 col) = growM (M (ix3 0 0 col)) (fun j => keep v3 w j col (dotsA K Q j col)) := by
  refine (grow_at (k0_pay115 v3 w (k0_pay113 K) (k0_pay114 Q)) (k0_pay116 M) _ _ _ _ col).trans ?_
  simp only [s10]
  refine congrArg (fun x => growM x _) ?_
  pointwise [k0_pay116]

/-- The maxima stored after block 1 of the diagonal, plane 0. -/
theorem st10 (col : Fin 2048) : k0_pay125 v3 w M (k0_pay113 K) (k0_pay114 Q) (ix3 0 0 col) = growM (M (ix3 0 0 col)) (fun j => keep v3 w j col (dotsA K Q j col)) := by
  pointwise [k0_pay125]
  simp only [mx10]

/-- The sums stored after block 1 of the diagonal, plane 0. -/
theorem su10 (r : Fin 144) (col : Fin 2048) : k0_pay126 (k0_pay118 v3 w M (k0_pay113 K) (k0_pay114 Q)) (k0_pay119 v3 w (k0_pay112 V) M (k0_pay113 K) (k0_pay114 Q)) A (ix3 0 r col)
    = growA (M (ix3 0 0 col)) (fun j => keep v3 w j col (dotsA K Q j col)) (fun j => V (ix5 0 0 0 r j)) (A (ix3 0 r col)) := by
  pointwise [k0_pay126, k0_pay118, k0_pay119, k0_pay112, k0_pay116]
  simp only [mx10, s10]
  rfl

theorem s11 (j : Fin 512) (col : Fin 2048) : k0_pay120 v3 w (k0_pay111 K) Q (ix2 j col) = keep v3 w j col (dotsB K Q j col) := by
  pointwise [k0_pay120, k0_pay111, keep, dotsB]

theorem mx11 (col : Fin 2048) : k0_pay122 v3 w (k0_pay111 K) Q M (ix2 0 col) = growM (M (ix3 1 0 col)) (fun j => keep v3 w j col (dotsB K Q j col)) := by
  refine (grow_at (k0_pay120 v3 w (k0_pay111 K) Q) (k0_pay121 M) _ _ _ _ col).trans ?_
  simp only [s11]
  refine congrArg (fun x => growM x _) ?_
  pointwise [k0_pay121]

/-- The maxima stored after block 1 of the diagonal, plane 1. -/
theorem st11 (col : Fin 2048) : k0_pay127 (k0_pay122 v3 w (k0_pay111 K) Q M) (ix3 0 0 col) = growM (M (ix3 1 0 col)) (fun j => keep v3 w j col (dotsB K Q j col)) := by
  pointwise [k0_pay127]
  simp only [mx11]

/-- The sums stored after block 1 of the diagonal, plane 1. -/
theorem su11 (r : Fin 144) (col : Fin 2048) : k0_pay128 (k0_pay123 v3 w (k0_pay111 K) Q M) (k0_pay124 v3 w (k0_pay111 K) (k0_pay112 V) Q M) A (ix3 0 r col)
    = growA (M (ix3 1 0 col)) (fun j => keep v3 w j col (dotsB K Q j col)) (fun j => V (ix5 0 0 0 r j)) (A (ix3 0 r col)) := by
  pointwise [k0_pay128, k0_pay123, k0_pay124, k0_pay112, k0_pay121]
  simp only [mx11, s11]
  rfl

theorem s20 (j : Fin 512) (col : Fin 2048) : k0_pay131 v3 w (k0_pay129 K) Q (ix2 j col) = keep v3 w j col (dotsA K Q j col) := by
  pointwise [k0_pay131, k0_pay129, keep, dotsA]

theorem mx20 (col : Fin 2048) : k0_pay133 v3 w (k0_pay129 K) Q M (ix2 0 col) = growM (M (ix3 0 0 col)) (fun j => keep v3 w j col (dotsA K Q j col)) := by
  refine (grow_at (k0_pay131 v3 w (k0_pay129 K) Q) (k0_pay132 M) _ _ _ _ col).trans ?_
  simp only [s20]
  refine congrArg (fun x => growM x _) ?_
  pointwise [k0_pay132]

/-- The maxima stored after block 2 of the diagonal, plane 0. -/
theorem st20 (col : Fin 2048) : k0_pay141 (k0_pay133 v3 w (k0_pay129 K) Q M) (ix3 0 0 col) = growM (M (ix3 0 0 col)) (fun j => keep v3 w j col (dotsA K Q j col)) := by
  pointwise [k0_pay141]
  simp only [mx20]

/-- The sums stored after block 2 of the diagonal, plane 0. -/
theorem su20 (r : Fin 144) (col : Fin 2048) : k0_pay142 (k0_pay134 v3 w (k0_pay129 K) Q M) (k0_pay135 v3 w (k0_pay129 K) (k0_pay130 V) Q M) A (ix3 0 r col)
    = growA (M (ix3 0 0 col)) (fun j => keep v3 w j col (dotsA K Q j col)) (fun j => V (ix5 0 0 0 r j)) (A (ix3 0 r col)) := by
  pointwise [k0_pay142, k0_pay134, k0_pay135, k0_pay130, k0_pay132]
  simp only [mx20, s20]
  rfl

theorem s21 (j : Fin 512) (col : Fin 2048) : k0_pay136 v3 w (k0_pay129 K) Q (ix2 j col) = keep v3 w j col (dotsB K Q j col) := by
  pointwise [k0_pay136, k0_pay129, keep, dotsB]

theorem mx21 (col : Fin 2048) : k0_pay138 v3 w (k0_pay129 K) Q M (ix2 0 col) = growM (M (ix3 1 0 col)) (fun j => keep v3 w j col (dotsB K Q j col)) := by
  refine (grow_at (k0_pay136 v3 w (k0_pay129 K) Q) (k0_pay137 M) _ _ _ _ col).trans ?_
  simp only [s21]
  refine congrArg (fun x => growM x _) ?_
  pointwise [k0_pay137]

/-- The maxima stored after block 2 of the diagonal, plane 1. -/
theorem st21 (col : Fin 2048) : k0_pay143 (k0_pay138 v3 w (k0_pay129 K) Q M) (ix3 0 0 col) = growM (M (ix3 1 0 col)) (fun j => keep v3 w j col (dotsB K Q j col)) := by
  pointwise [k0_pay143]
  simp only [mx21]

/-- The sums stored after block 2 of the diagonal, plane 1. -/
theorem su21 (r : Fin 144) (col : Fin 2048) : k0_pay144 (k0_pay139 v3 w (k0_pay129 K) Q M) (k0_pay140 v3 w (k0_pay129 K) (k0_pay130 V) Q M) A (ix3 0 r col)
    = growA (M (ix3 1 0 col)) (fun j => keep v3 w j col (dotsB K Q j col)) (fun j => V (ix5 0 0 0 r j)) (A (ix3 0 r col)) := by
  pointwise [k0_pay144, k0_pay139, k0_pay140, k0_pay130, k0_pay137]
  simp only [mx21, s21]
  rfl

theorem s30 (j : Fin 512) (col : Fin 2048) : k0_pay147 v3 w (k0_pay145 K) Q (ix2 j col) = keep v3 w j col (dotsA K Q j col) := by
  pointwise [k0_pay147, k0_pay145, keep, dotsA]

theorem mx30 (col : Fin 2048) : k0_pay149 v3 w (k0_pay145 K) Q M (ix2 0 col) = growM (M (ix3 0 0 col)) (fun j => keep v3 w j col (dotsA K Q j col)) := by
  refine (grow_at (k0_pay147 v3 w (k0_pay145 K) Q) (k0_pay148 M) _ _ _ _ col).trans ?_
  simp only [s30]
  refine congrArg (fun x => growM x _) ?_
  pointwise [k0_pay148]

/-- The maxima stored after block 3 of the diagonal, plane 0. -/
theorem st30 (col : Fin 2048) : k0_pay199 (k0_pay149 v3 w (k0_pay145 K) Q M) (ix3 0 0 col) = growM (M (ix3 0 0 col)) (fun j => keep v3 w j col (dotsA K Q j col)) := by
  pointwise [k0_pay199]
  simp only [mx30]

/-- The sums stored after block 3 of the diagonal, plane 0. -/
theorem su30 (r : Fin 144) (col : Fin 2048) : k0_pay200 (k0_pay150 v3 w (k0_pay145 K) Q M) (k0_pay151 v3 w (k0_pay145 K) (k0_pay146 V) Q M) A (ix3 0 r col)
    = growA (M (ix3 0 0 col)) (fun j => keep v3 w j col (dotsA K Q j col)) (fun j => V (ix5 0 0 0 r j)) (A (ix3 0 r col)) := by
  pointwise [k0_pay200, k0_pay150, k0_pay151, k0_pay146, k0_pay148]
  simp only [mx30, s30]
  rfl

theorem s31 (j : Fin 512) (col : Fin 2048) : k0_pay152 v3 w (k0_pay145 K) Q (ix2 j col) = keep v3 w j col (dotsB K Q j col) := by
  pointwise [k0_pay152, k0_pay145, keep, dotsB]

theorem mx31 (col : Fin 2048) : k0_pay154 v3 w (k0_pay145 K) Q M (ix2 0 col) = growM (M (ix3 1 0 col)) (fun j => keep v3 w j col (dotsB K Q j col)) := by
  refine (grow_at (k0_pay152 v3 w (k0_pay145 K) Q) (k0_pay153 M) _ _ _ _ col).trans ?_
  simp only [s31]
  refine congrArg (fun x => growM x _) ?_
  pointwise [k0_pay153]

/-- The maxima stored after block 3 of the diagonal, plane 1. -/
theorem st31 (col : Fin 2048) : k0_pay201 (k0_pay154 v3 w (k0_pay145 K) Q M) (ix3 0 0 col) = growM (M (ix3 1 0 col)) (fun j => keep v3 w j col (dotsB K Q j col)) := by
  pointwise [k0_pay201]
  simp only [mx31]

/-- The sums stored after block 3 of the diagonal, plane 1. -/
theorem su31 (r : Fin 144) (col : Fin 2048) : k0_pay202 (k0_pay146 V) (k0_pay155 v3 w (k0_pay145 K) Q M) (k0_pay156 v3 w (k0_pay145 K) Q M) A (ix3 0 r col)
    = growA (M (ix3 1 0 col)) (fun j => keep v3 w j col (dotsB K Q j col)) (fun j => V (ix5 0 0 0 r j)) (A (ix3 0 r col)) := by
  pointwise [k0_pay202, k0_pay155, k0_pay156, k0_pay146, k0_pay153]
  simp only [mx31, s31]
  rfl

end Cert.KernelIdeal.Diff

end
-- ==== Proof.Diff.BlocksSum.lean ====
/-
The running-maximum pass over the whole key blocks before the query block: each trip grows the maxima by one block's scores and
rescales the sums.
-/
module

public import proofs.«01_k».proof.Proof.Diff.PairsSum
public import proofs.«01_k».proof.Proof.Diff.SlowBlock
public import Idealize.ShloMosaic.Lib.Pointwise
public import Idealize.ShloMosaic.Lib.IdealHost

@[expose] public section

set_option maxRecDepth 65536

noncomputable section

namespace Cert.KernelIdeal.Diff

open Idealize.ShloMosaic Idealize.ShloMosaic.TcCoe Idealize.ShloMosaic.Tactic
open Cert.KernelIdeal Cert.KernelIdeal.Gen

/-- The running maximum over the first blocks, from scores block by block. -/
def runM (s : ℕ → Fin 512 → EReal) : ℕ → EReal
  | 0 => ⊥
  | k + 1 => growM (runM s k) (s k)

/-- The running sum over the first blocks, rescaled to the running maximum. -/
def runA (s v : ℕ → Fin 512 → EReal) : ℕ → EReal
  | 0 => 0
  | k + 1 => growA (runM s k) (s k) (v k) (runA s v k)

/-- A block, by its number. -/
def blk (k : ℕ) : Fin 16 := ⟨k % 16, Nat.mod_lt _ (by omega)⟩

theorem blk_eq (k : Fin 16) : blk k.val = k := Fin.ext (Nat.mod_eq_of_lt k.isLt)

/-- The scores of a block, a key after the query scoring `⊥`. -/
def msc (x1 : Vec Ideal S1x8192x256 .bf16) (q : Vec Ideal S256x2048 .bf16) (n : ℕ) (m : Fin 2) (col : Fin 2048) (k : ℕ) (j : Fin 512) : EReal :=
  if 512 * (blk k).val + j.val ≤ 2048 * n + col.val then score x1 q m col (blk k) j else ⊥

/-- A row of a block of the values. -/
def vals (x2 : Vec Ideal S1x1x16x144x512 .bf16) (r : Fin 144) (k : ℕ) (j : Fin 512) : EReal := x2 (ix5 0 0 (blk k) r j)

theorem soloOff1 : ∀ (t : Fin grid0.N) (k : Fin (k0_t3_loop (grid0.coords t)).trips), k0_off17 (grid0.coords t) k = ![0, 512 * (blk k.val).val, 0] := by decide +kernel
theorem soloOff2 : ∀ (t : Fin grid0.N) (k : Fin (k0_t3_loop (grid0.coords t)).trips), k0_off18 (grid0.coords t) k = ![0, 0, (blk k.val).val, 0, 0] := by decide +kernel
theorem soloTrips : ∀ t : Fin grid0.N, (k0_t3_loop (grid0.coords t)).trips = 4 * (grid0.coords t 2).val := by decide +kernel
theorem soloTrips2 : ∀ t : Fin grid0.N, (k0_t4_loop (grid0.coords t)).trips = 0 := by decide +kernel

section

variable (c : Dev nD) (t : Fin grid0.N) (arg3 : Memref sig .tc .vmem S1x256x2048 .bf16) (harg3 : arg3.IsWhole) (arg4 : Memref sig .tc .vmem S1x8192x256 .bf16) (harg4 : arg4.IsWhole) (arg5 : Memref sig .tc .vmem S1x1x16x144x512 .bf16) (harg5 : arg5.IsWhole) (arg6 : Memref sig .tc .vmem S1x16x8x128 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S1x2048x128 .bf16) (harg9 : arg9.IsWhole) (arg10 : Memref sig .tc .vmem S256x2048 .bf16) (harg10 : arg10.IsWhole) (arg11 : Memref sig .tc .vmem S2x144x2048 .f32) (harg11 : arg11.IsWhole) (arg12 : Memref sig .tc .vmem S2x1x2048 .f32) (harg12 : arg12.IsWhole) (v21 : BitVec 32)
  (k : Fin (k0_t3_loop (grid0.coords t)).trips) (x1 : Vec Ideal S1x8192x256 .bf16) (x2 : Vec Ideal S1x1x16x144x512 .bf16) (q : Vec Ideal S256x2048 .bf16)
  (f : BufTy.Contents (Elt Ideal) arg11.view.ty) (g : BufTy.Contents (Elt Ideal) arg12.view.ty) (r : Fin 144) (j : Fin 512) (col : Fin 2048)

include t k in
theorem soloLt : k.val < 4 * (grid0.coords t 2).val := by
  have h := k.isLt
  have h2 := soloTrips t
  omega

theorem ld_q (l : Fin 256) : View.ld q (Rect.unit (s := S256x2048) ![0, 0] S256x2048.size inb_S256x2048_S256x2048_0_0) (ix2 l col) = q (ix2 l col) :=
  View.ld_unit_apply_of q _ _ _ (ix2 l col) (ix2 l col) (idx2 (Nat.zero_add _).symm (Nat.zero_add _).symm)

theorem soloV : trip_k0_t3.sl.v724 (F := Ideal) (grid0.coords t) arg5 (harg5.unread x2) k (ix2 r j) = vals x2 r k.val j := by
  have h : trip_k0_t3.sl.v724 (F := Ideal) (grid0.coords t) arg5 (harg5.unread x2) k (ix2 r j)
      = View.ld x2 (Rect.unit (k0_off18 (grid0.coords t) k) S1x1x1x144x512.size (k0_off18_inb (grid0.coords t) k)) (ix5 0 0 0 r j) := by
    unfold trip_k0_t3.sl.v724
    simp only [View.readAt_eq_ld, harg5.read_unread]
    pointwise []
  exact h.trans (ld_vals x2 (blk k.val) _ (soloOff2 t k) _ r j)

theorem soloS0 : trip_k0_t3.sl.v729 (F := Ideal) (grid0.coords t) arg4 arg10 (harg4.unread x1) (harg10.unread q) k (ix2 j col) = msc x1 q (grid0.coords t 2).val 0 col k.val j := by
  have hlt := soloLt t k
  have hc := coord2 (grid0.coords t)
  have hb : (blk k.val).val = k.val := Nat.mod_eq_of_lt (by omega)
  have h : trip_k0_t3.sl.v729 (F := Ideal) (grid0.coords t) arg4 arg10 (harg4.unread x1) (harg10.unread q) k (ix2 j col) = ∑ l : Fin 128, View.ld x1 (Rect.unit (k0_off17 (grid0.coords t) k) S1x512x256.size (k0_off17_inb (grid0.coords t) k)) (ix3 0 j ⟨l, by omega⟩)
        * View.ld q (Rect.unit (s := S256x2048) ![0, 0] S256x2048.size inb_S256x2048_S256x2048_0_0) (ix2 ⟨l, by omega⟩ col) := by
    unfold trip_k0_t3.sl.v729 trip_k0_t3.sl.v727 trip_k0_t3.sl.v721 trip_k0_t3.sl.v728 trip_k0_t3.sl.cst_342
    simp only [View.readAt_eq_ld, harg4.read_unread, harg10.read_unread]
    pointwise []
  rw [h]
  unfold msc
  rw [if_pos (by omega)]
  refine Finset.sum_congr rfl fun l _ => ?_
  refine congrArg₂ (· * ·) ((ld_keys x1 (blk k.val) _ (soloOff1 t k) _ j _).trans (by rw [lane0 _ (by omega)])) ((ld_q q col _).trans ?_)
  rw [lane0 _ (by omega)]

theorem soloO0 : trip_k0_t3.sl.v731 (F := Ideal) arg12 g (ix2 0 col) = arg12.view.read (Elt Ideal) g (ix3 0 0 col) := by
  have h : trip_k0_t3.sl.v731 (F := Ideal) arg12 g (ix2 0 col)
      = View.ld (arg12.view.read (Elt Ideal) g) (Rect.unit (s := S2x1x2048) ![0, 0, 0] S2x1x2048.size inb_S2x1x2048_S2x1x2048_0_0_0) (ix3 0 0 col) := by
    unfold trip_k0_t3.sl.v731 trip_k0_t3.sl.v730
    simp only [View.readAt_eq_ld]
    pointwise []
  rw [h]
  exact View.ld_unit_apply_of (arg12.view.read (Elt Ideal) g) _ _ _ (ix3 0 0 col) (ix3 0 0 col) (idx3 (Nat.zero_add _).symm (Nat.zero_add _).symm (Nat.zero_add _).symm)

theorem soloM0 : trip_k0_t3.sl.v734 (F := Ideal) (grid0.coords t) arg4 arg10 arg12 (harg4.unread x1) (harg10.unread q) k g (ix2 0 col) = growM (arg12.view.read (Elt Ideal) g (ix3 0 0 col)) (msc x1 q (grid0.coords t 2).val 0 col k.val) := by
  unfold trip_k0_t3.sl.v734 trip_k0_t3.sl.v733 trip_k0_t3.sl.v732
  refine (grow_at _ _ _ _ _ _ col).trans ?_
  rw [soloO0]
  exact congrArg (growM _) (funext fun j => soloS0 t arg4 harg4 arg10 harg10 k x1 q j col)

theorem soloA0 (A : Vec Ideal S1x144x2048 .f32) : k0_pay87 (trip_k0_t3.sl.v740 (F := Ideal) (grid0.coords t) arg4 arg10 arg12 (harg4.unread x1) (harg10.unread q) k g) (trip_k0_t3.sl.v741 (F := Ideal) (grid0.coords t) arg4 arg5 arg10 arg12 (harg4.unread x1) (harg5.unread x2) (harg10.unread q) k g) A (ix3 0 r col)
    = growA (arg12.view.read (Elt Ideal) g (ix3 0 0 col)) (msc x1 q (grid0.coords t 2).val 0 col k.val) (vals x2 r k.val) (A (ix3 0 r col)) := by
  pointwise [k0_pay87, trip_k0_t3.sl.v740, trip_k0_t3.sl.v739, trip_k0_t3.sl.v741, trip_k0_t3.sl.v738, trip_k0_t3.sl.v737, trip_k0_t3.sl.v736, trip_k0_t3.sl.v735, trip_k0_t3.sl.cst_344]
  simp only [soloM0 t arg4 harg4 arg10 harg10 arg12 k x1 q g col, soloO0, soloV t arg5 harg5 k x2, soloS0 t arg4 harg4 arg10 harg10 k x1 q]
  rfl

theorem soloP0 : k0_pay86 (trip_k0_t3.sl.v734 (F := Ideal) (grid0.coords t) arg4 arg10 arg12 (harg4.unread x1) (harg10.unread q) k g) (ix3 0 0 col) = growM (arg12.view.read (Elt Ideal) g (ix3 0 0 col)) (msc x1 q (grid0.coords t 2).val 0 col k.val) := by
  rw [← soloM0 t arg4 harg4 arg10 harg10 arg12 k x1 q g col]
  pointwise [k0_pay86]

theorem soloS1 : trip_k0_t3.sl.v744 (F := Ideal) (grid0.coords t) arg4 arg10 (harg4.unread x1) (harg10.unread q) k (ix2 j col) = msc x1 q (grid0.coords t 2).val 1 col k.val j := by
  have hlt := soloLt t k
  have hc := coord2 (grid0.coords t)
  have hb : (blk k.val).val = k.val := Nat.mod_eq_of_lt (by omega)
  have h : trip_k0_t3.sl.v744 (F := Ideal) (grid0.coords t) arg4 arg10 (harg4.unread x1) (harg10.unread q) k (ix2 j col) = ∑ l : Fin 128, View.ld x1 (Rect.unit (k0_off17 (grid0.coords t) k) S1x512x256.size (k0_off17_inb (grid0.coords t) k)) (ix3 0 j ⟨128 + l, by omega⟩)
        * View.ld q (Rect.unit (s := S256x2048) ![0, 0] S256x2048.size inb_S256x2048_S256x2048_0_0) (ix2 ⟨128 + l, by omega⟩ col) := by
    unfold trip_k0_t3.sl.v744 trip_k0_t3.sl.v742 trip_k0_t3.sl.v721 trip_k0_t3.sl.v743 trip_k0_t3.sl.cst_342
    simp only [View.readAt_eq_ld, harg4.read_unread, harg10.read_unread]
    pointwise []
  rw [h]
  unfold msc
  rw [if_pos (by omega)]
  refine Finset.sum_congr rfl fun l _ => ?_
  refine congrArg₂ (· * ·) ((ld_keys x1 (blk k.val) _ (soloOff1 t k) _ j _).trans (by rw [lane1])) ((ld_q q col _).trans ?_)
  rw [lane1]

theorem soloO1 : trip_k0_t3.sl.v746 (F := Ideal) arg12 g (ix2 0 col) = arg12.view.read (Elt Ideal) g (ix3 1 0 col) := by
  have h : trip_k0_t3.sl.v746 (F := Ideal) arg12 g (ix2 0 col)
      = View.ld (arg12.view.read (Elt Ideal) g) (Rect.unit (s := S2x1x2048) ![0, 0, 0] S2x1x2048.size inb_S2x1x2048_S2x1x2048_0_0_0) (ix3 1 0 col) := by
    unfold trip_k0_t3.sl.v746 trip_k0_t3.sl.v745
    simp only [View.readAt_eq_ld]
    pointwise []
  rw [h]
  exact View.ld_unit_apply_of (arg12.view.read (Elt Ideal) g) _ _ _ (ix3 1 0 col) (ix3 1 0 col) (idx3 (Nat.zero_add _).symm (Nat.zero_add _).symm (Nat.zero_add _).symm)

theorem soloM1 : trip_k0_t3.sl.v749 (F := Ideal) (grid0.coords t) arg4 arg10 arg12 (harg4.unread x1) (harg10.unread q) k g (ix2 0 col) = growM (arg12.view.read (Elt Ideal) g (ix3 1 0 col)) (msc x1 q (grid0.coords t 2).val 1 col k.val) := by
  unfold trip_k0_t3.sl.v749 trip_k0_t3.sl.v748 trip_k0_t3.sl.v747
  refine (grow_at _ _ _ _ _ _ col).trans ?_
  rw [soloO1]
  exact congrArg (growM _) (funext fun j => soloS1 t arg4 harg4 arg10 harg10 k x1 q j col)

theorem soloA1 (A : Vec Ideal S1x144x2048 .f32) : k0_pay89 (trip_k0_t3.sl.v755 (F := Ideal) (grid0.coords t) arg4 arg10 arg12 (harg4.unread x1) (harg10.unread q) k g) (trip_k0_t3.sl.v756 (F := Ideal) (grid0.coords t) arg4 arg5 arg10 arg12 (harg4.unread x1) (harg5.unread x2) (harg10.unread q) k g) A (ix3 0 r col)
    = growA (arg12.view.read (Elt Ideal) g (ix3 1 0 col)) (msc x1 q (grid0.coords t 2).val 1 col k.val) (vals x2 r k.val) (A (ix3 0 r col)) := by
  pointwise [k0_pay89, trip_k0_t3.sl.v755, trip_k0_t3.sl.v754, trip_k0_t3.sl.v756, trip_k0_t3.sl.v753, trip_k0_t3.sl.v752, trip_k0_t3.sl.v751, trip_k0_t3.sl.v750, trip_k0_t3.sl.cst_344]
  simp only [soloM1 t arg4 harg4 arg10 harg10 arg12 k x1 q g col, soloO1, soloV t arg5 harg5 k x2, soloS1 t arg4 harg4 arg10 harg10 k x1 q]
  rfl

theorem soloP1 : k0_pay88 (trip_k0_t3.sl.v749 (F := Ideal) (grid0.coords t) arg4 arg10 arg12 (harg4.unread x1) (harg10.unread q) k g) (ix3 0 0 col) = growM (arg12.view.read (Elt Ideal) g (ix3 1 0 col)) (msc x1 q (grid0.coords t 2).val 1 col k.val) := by
  rw [← soloM1 t arg4 harg4 arg10 harg10 arg12 k x1 q g col]
  pointwise [k0_pay88]

theorem trip3_listA : (trip_k0_t3 (F := Ideal) Variants.none c none (grid0.coords t) arg3 harg3 arg4 harg4 arg5 harg5 arg6 harg6 arg7 harg7 arg8 harg8 arg9 harg9 arg10 harg10 arg11 harg11 arg12 harg12 v21 (harg4.unread x1) (harg5.unread x2) (harg10.unread q) k).1 f g =
    [⟨Rect.unit (s := S2x144x2048) ![1, 0, 0] S1x144x2048.size inb_S2x144x2048_S1x144x2048_1_0_0, k0_pay89 (trip_k0_t3.sl.v755 (F := Ideal) (grid0.coords t) arg4 arg10 arg12 (harg4.unread x1) (harg10.unread q) k g) (trip_k0_t3.sl.v756 (F := Ideal) (grid0.coords t) arg4 arg5 arg10 arg12 (harg4.unread x1) (harg5.unread x2) (harg10.unread q) k g) (trip_k0_t3.sl.v771 arg11 f)⟩,
      ⟨Rect.unit (s := S2x144x2048) ![0, 0, 0] S1x144x2048.size inb_S2x144x2048_S1x144x2048_0_0_0, k0_pay87 (trip_k0_t3.sl.v740 (F := Ideal) (grid0.coords t) arg4 arg10 arg12 (harg4.unread x1) (harg10.unread q) k g) (trip_k0_t3.sl.v741 (F := Ideal) (grid0.coords t) arg4 arg5 arg10 arg12 (harg4.unread x1) (harg5.unread x2) (harg10.unread q) k g)
          (View.readAt (Elt Ideal) arg11.view (Rect.unit (s := S2x144x2048) ![0, 0, 0] S1x144x2048.size inb_S2x144x2048_S1x144x2048_0_0_0).toLoadRect f)⟩] := by
  unfold trip_k0_t3
  rfl

theorem trip3_listM : (trip_k0_t3 (F := Ideal) Variants.none c none (grid0.coords t) arg3 harg3 arg4 harg4 arg5 harg5 arg6 harg6 arg7 harg7 arg8 harg8 arg9 harg9 arg10 harg10 arg11 harg11 arg12 harg12 v21 (harg4.unread x1) (harg5.unread x2) (harg10.unread q) k).2.1 f g =
    [⟨Rect.unit (s := S2x1x2048) ![1, 0, 0] S1x1x2048.size inb_S2x1x2048_S1x1x2048_1_0_0, k0_pay88 (trip_k0_t3.sl.v749 (F := Ideal) (grid0.coords t) arg4 arg10 arg12 (harg4.unread x1) (harg10.unread q) k g)⟩,
      ⟨Rect.unit (s := S2x1x2048) ![0, 0, 0] S1x1x2048.size inb_S2x1x2048_S1x1x2048_0_0_0, k0_pay86 (trip_k0_t3.sl.v734 (F := Ideal) (grid0.coords t) arg4 arg10 arg12 (harg4.unread x1) (harg10.unread q) k g)⟩] := by
  unfold trip_k0_t3
  rfl

theorem trip3_coverA (y : S2x144x2048.Idx) : ∃ pc ∈ (trip_k0_t3 (F := Ideal) Variants.none c none (grid0.coords t) arg3 harg3 arg4 harg4 arg5 harg5 arg6 harg6 arg7 harg7 arg8 harg8 arg9 harg9 arg10 harg10 arg11 harg11 arg12 harg12 v21 (harg4.unread x1) (harg5.unread x2) (harg10.unread q) k).1 f g, y ∈ pc.1.set := by
  rw [trip3_listA]
  exact View.cover_of_tiledL _ ![1, 144, 2048] (by sl_kernel_rfl) y

theorem trip3_coverM (y : S2x1x2048.Idx) : ∃ pc ∈ (trip_k0_t3 (F := Ideal) Variants.none c none (grid0.coords t) arg3 harg3 arg4 harg4 arg5 harg5 arg6 harg6 arg7 harg7 arg8 harg8 arg9 harg9 arg10 harg10 arg11 harg11 arg12 harg12 v21 (harg4.unread x1) (harg5.unread x2) (harg10.unread q) k).2.1 f g, y ∈ pc.1.set := by
  rw [trip3_listM]
  exact View.cover_of_tiledL _ ![1, 1, 2048] (by sl_kernel_rfl) y

theorem trip3A_0 : arg11.view.read (Elt Ideal) (arg11.view.writes (Elt Ideal) f ((trip_k0_t3 (F := Ideal) Variants.none c none (grid0.coords t) arg3 harg3 arg4 harg4 arg5 harg5 arg6 harg6 arg7 harg7 arg8 harg8 arg9 harg9 arg10 harg10 arg11 harg11 arg12 harg12 v21 (harg4.unread x1) (harg5.unread x2) (harg10.unread q) k).1 f g)) (ix3 0 r col)
    = growA (arg12.view.read (Elt Ideal) g (ix3 0 0 col)) (msc x1 q (grid0.coords t 2).val 0 col k.val) (vals x2 r k.val) (arg11.view.read (Elt Ideal) f (ix3 0 r col)) := by
  rw [View.read_writes_eq_canon _ _ _ (trip3_coverA c t arg3 harg3 arg4 harg4 arg5 harg5 arg6 harg6 arg7 harg7 arg8 harg8 arg9 harg9 arg10 harg10 arg11 harg11 arg12 harg12 v21 k x1 x2 q f g), trip3_listA]
  rw [canon_out _ 0 (Or.inl Nat.zero_lt_one)]
  rw [canon_in _ (ix3 0 r col) (idx3 rfl (Nat.zero_add _).symm (Nat.zero_add _).symm)]
  rw [soloA0]
  simp only [View.readAt_eq_ld]
  refine congrArg (growA _ _ _) ?_
  exact View.ld_unit_apply_of (arg11.view.read (Elt Ideal) f) _ _ _ (ix3 0 r col) (ix3 0 r col) (idx3 rfl (Nat.zero_add _).symm (Nat.zero_add _).symm)

theorem trip3M_0 : arg12.view.read (Elt Ideal) (arg12.view.writes (Elt Ideal) g ((trip_k0_t3 (F := Ideal) Variants.none c none (grid0.coords t) arg3 harg3 arg4 harg4 arg5 harg5 arg6 harg6 arg7 harg7 arg8 harg8 arg9 harg9 arg10 harg10 arg11 harg11 arg12 harg12 v21 (harg4.unread x1) (harg5.unread x2) (harg10.unread q) k).2.1 f g)) (ix3 0 0 col)
    = growM (arg12.view.read (Elt Ideal) g (ix3 0 0 col)) (msc x1 q (grid0.coords t 2).val 0 col k.val) := by
  rw [View.read_writes_eq_canon _ _ _ (trip3_coverM c t arg3 harg3 arg4 harg4 arg5 harg5 arg6 harg6 arg7 harg7 arg8 harg8 arg9 harg9 arg10 harg10 arg11 harg11 arg12 harg12 v21 k x1 x2 q f g), trip3_listM]
  rw [canon_out _ 0 (Or.inl Nat.zero_lt_one)]
  rw [canon_in _ (ix3 0 0 col) (idx3 rfl (Nat.zero_add _).symm (Nat.zero_add _).symm)]
  rw [soloP0]

theorem trip3A_1 : arg11.view.read (Elt Ideal) (arg11.view.writes (Elt Ideal) f ((trip_k0_t3 (F := Ideal) Variants.none c none (grid0.coords t) arg3 harg3 arg4 harg4 arg5 harg5 arg6 harg6 arg7 harg7 arg8 harg8 arg9 harg9 arg10 harg10 arg11 harg11 arg12 harg12 v21 (harg4.unread x1) (harg5.unread x2) (harg10.unread q) k).1 f g)) (ix3 1 r col)
    = growA (arg12.view.read (Elt Ideal) g (ix3 1 0 col)) (msc x1 q (grid0.coords t 2).val 1 col k.val) (vals x2 r k.val) (arg11.view.read (Elt Ideal) f (ix3 1 r col)) := by
  rw [View.read_writes_eq_canon _ _ _ (trip3_coverA c t arg3 harg3 arg4 harg4 arg5 harg5 arg6 harg6 arg7 harg7 arg8 harg8 arg9 harg9 arg10 harg10 arg11 harg11 arg12 harg12 v21 k x1 x2 q f g), trip3_listA]
  rw [canon_in _ (ix3 0 r col) (idx3 rfl (Nat.zero_add _).symm (Nat.zero_add _).symm)]
  rw [soloA1]
  unfold trip_k0_t3.sl.v771
  simp only [View.readAt_eq_ld]
  refine congrArg (growA _ _ _) ?_
  exact View.ld_unit_apply_of (arg11.view.read (Elt Ideal) f) _ _ _ (ix3 0 r col) (ix3 1 r col) (idx3 rfl (Nat.zero_add _).symm (Nat.zero_add _).symm)

theorem trip3M_1 : arg12.view.read (Elt Ideal) (arg12.view.writes (Elt Ideal) g ((trip_k0_t3 (F := Ideal) Variants.none c none (grid0.coords t) arg3 harg3 arg4 harg4 arg5 harg5 arg6 harg6 arg7 harg7 arg8 harg8 arg9 harg9 arg10 harg10 arg11 harg11 arg12 harg12 v21 (harg4.unread x1) (harg5.unread x2) (harg10.unread q) k).2.1 f g)) (ix3 1 0 col)
    = growM (arg12.view.read (Elt Ideal) g (ix3 1 0 col)) (msc x1 q (grid0.coords t 2).val 1 col k.val) := by
  rw [View.read_writes_eq_canon _ _ _ (trip3_coverM c t arg3 harg3 arg4 harg4 arg5 harg5 arg6 harg6 arg7 harg7 arg8 harg8 arg9 harg9 arg10 harg10 arg11 harg11 arg12 harg12 v21 k x1 x2 q f g), trip3_listM]
  rw [canon_in _ (ix3 0 0 col) (idx3 rfl (Nat.zero_add _).symm (Nat.zero_add _).symm)]
  rw [soloP1]

theorem trip3A (m : Fin 2) : arg11.view.read (Elt Ideal) (arg11.view.writes (Elt Ideal) f ((trip_k0_t3 (F := Ideal) Variants.none c none (grid0.coords t) arg3 harg3 arg4 harg4 arg5 harg5 arg6 harg6 arg7 harg7 arg8 harg8 arg9 harg9 arg10 harg10 arg11 harg11 arg12 harg12 v21 (harg4.unread x1) (harg5.unread x2) (harg10.unread q) k).1 f g)) (ix3 m r col)
    = growA (arg12.view.read (Elt Ideal) g (ix3 m 0 col)) (msc x1 q (grid0.coords t 2).val m col k.val) (vals x2 r k.val) (arg11.view.read (Elt Ideal) f (ix3 m r col)) :=
  match m with
  | ⟨0, _⟩ => trip3A_0 c t arg3 harg3 arg4 harg4 arg5 harg5 arg6 harg6 arg7 harg7 arg8 harg8 arg9 harg9 arg10 harg10 arg11 harg11 arg12 harg12 v21 k x1 x2 q f g r col
  | ⟨1, _⟩ => trip3A_1 c t arg3 harg3 arg4 harg4 arg5 harg5 arg6 harg6 arg7 harg7 arg8 harg8 arg9 harg9 arg10 harg10 arg11 harg11 arg12 harg12 v21 k x1 x2 q f g r col

theorem trip3M (m : Fin 2) : arg12.view.read (Elt Ideal) (arg12.view.writes (Elt Ideal) g ((trip_k0_t3 (F := Ideal) Variants.none c none (grid0.coords t) arg3 harg3 arg4 harg4 arg5 harg5 arg6 harg6 arg7 harg7 arg8 harg8 arg9 harg9 arg10 harg10 arg11 harg11 arg12 harg12 v21 (harg4.unread x1) (harg5.unread x2) (harg10.unread q) k).2.1 f g)) (ix3 m 0 col)
    = growM (arg12.view.read (Elt Ideal) g (ix3 m 0 col)) (msc x1 q (grid0.coords t 2).val m col k.val) :=
  match m with
  | ⟨0, _⟩ => trip3M_0 c t arg3 harg3 arg4 harg4 arg5 harg5 arg6 harg6 arg7 harg7 arg8 harg8 arg9 harg9 arg10 harg10 arg11 harg11 arg12 harg12 v21 k x1 x2 q f g col
  | ⟨1, _⟩ => trip3M_1 c t arg3 harg3 arg4 harg4 arg5 harg5 arg6 harg6 arg7 harg7 arg8 harg8 arg9 harg9 arg10 harg10 arg11 harg11 arg12 harg12 v21 k x1 x2 q f g col

/-- The first trips leave the running maxima and sums of their blocks. -/
theorem trips3 (a : Vec Ideal S2x144x2048 .f32) (b : Vec Ideal S2x1x2048 .f32) (m : Fin 2) (ha : a (ix3 m r col) = 0) (hb : b (ix3 m 0 col) = ⊥)
    (n : ℕ) (hn : n ≤ (k0_t3_loop (grid0.coords t)).trips) :
    arg11.view.read (Elt Ideal) (arg11.view.writes (Elt Ideal) (harg11.unread a) (pb_k0_t3 (F := Ideal) Variants.none c none (grid0.coords t) arg3 harg3 arg4 harg4 arg5 harg5 arg6 harg6 arg7 harg7 arg8 harg8 arg9 harg9 arg10 harg10 arg11 harg11 arg12 harg12 v21 (harg4.unread x1) (harg5.unread x2) (harg10.unread q) (harg11.unread a) (harg12.unread b) n).1) (ix3 m r col) = runA (msc x1 q (grid0.coords t 2).val m col) (vals x2 r) n
    ∧ arg12.view.read (Elt Ideal) (arg12.view.writes (Elt Ideal) (harg12.unread b) (pb_k0_t3 (F := Ideal) Variants.none c none (grid0.coords t) arg3 harg3 arg4 harg4 arg5 harg5 arg6 harg6 arg7 harg7 arg8 harg8 arg9 harg9 arg10 harg10 arg11 harg11 arg12 harg12 v21 (harg4.unread x1) (harg5.unread x2) (harg10.unread q) (harg11.unread a) (harg12.unread b) n).2) (ix3 m 0 col) = runM (msc x1 q (grid0.coords t 2).val m col) n := by
  induction n with
  | zero => exact ⟨(congrFun (harg11.read_unread a) _).trans ha, (congrFun (harg12.read_unread b) _).trans hb⟩
  | succ n ih =>
    obtain ⟨h1, h2⟩ := ih (Nat.le_of_lt hn)
    rw [pb_k0_t3_succ Variants.none c none (grid0.coords t) arg3 harg3 arg4 harg4 arg5 harg5 arg6 harg6 arg7 harg7 arg8 harg8 arg9 harg9 arg10 harg10 arg11 harg11 arg12 harg12 v21 (harg4.unread x1) (harg5.unread x2) (harg10.unread q) (harg11.unread a) (harg12.unread b) ⟨n, hn⟩]
    dsimp only
    rw [View.writes_append, View.writes_append]
    rw [trip3A, trip3M, h1, h2]
    exact ⟨rfl, rfl⟩

/-- The maxima and the sums after the whole blocks. -/
theorem blocks_at (a : Vec Ideal S2x144x2048 .f32) (b : Vec Ideal S2x1x2048 .f32) (m : Fin 2) (ha : a (ix3 m r col) = 0) (hb : b (ix3 m 0 col) = ⊥) :
    blocksA c (grid0.coords t) arg3 harg3 arg4 harg4 arg5 harg5 arg6 harg6 arg7 harg7 arg8 harg8 arg9 harg9 arg10 harg10 arg11 harg11 arg12 harg12 v21 x1 x2 q a b (ix3 m r col) = runA (msc x1 q (grid0.coords t 2).val m col) (vals x2 r) (4 * (grid0.coords t 2).val)
    ∧ blocksM c (grid0.coords t) arg3 harg3 arg4 harg4 arg5 harg5 arg6 harg6 arg7 harg7 arg8 harg8 arg9 harg9 arg10 harg10 arg11 harg11 arg12 harg12 v21 x1 x2 q a b (ix3 m 0 col) = runM (msc x1 q (grid0.coords t 2).val m col) (4 * (grid0.coords t 2).val) := by
  have h := trips3 c t arg3 harg3 arg4 harg4 arg5 harg5 arg6 harg6 arg7 harg7 arg8 harg8 arg9 harg9 arg10 harg10 arg11 harg11 arg12 harg12 v21 x1 x2 q r col a b m ha hb (4 * (grid0.coords t 2).val) (soloTrips t).ge
  obtain ⟨G, G', N, N4, hN, hN4, hG, hG'⟩ : ∃ G G' N N4, N = 4 * (grid0.coords t 2).val ∧ N4 = 0 ∧ (blocksRun c (grid0.coords t) arg3 harg3 arg4 harg4 arg5 harg5 arg6 harg6 arg7 harg7 arg8 harg8 arg9 harg9 arg10 harg10 arg11 harg11 arg12 harg12 v21 x1 x2 q a b).1
      = (pb_k0_t4 (F := Ideal) Variants.none c none (grid0.coords t) arg3 harg3 arg4 harg4 arg5 harg5 arg6 harg6 arg7 harg7 arg8 harg8 arg9 harg9 arg10 harg10 arg11 harg11 arg12 harg12 v21 _ (harg4.unread x1) (harg5.unread x2) (harg10.unread q) G G' N4).1
          ++ (pb_k0_t3 (F := Ideal) Variants.none c none (grid0.coords t) arg3 harg3 arg4 harg4 arg5 harg5 arg6 harg6 arg7 harg7 arg8 harg8 arg9 harg9 arg10 harg10 arg11 harg11 arg12 harg12 v21 (harg4.unread x1) (harg5.unread x2) (harg10.unread q) (harg11.unread a) (harg12.unread b) N).1
      ∧ (blocksRun c (grid0.coords t) arg3 harg3 arg4 harg4 arg5 harg5 arg6 harg6 arg7 harg7 arg8 harg8 arg9 harg9 arg10 harg10 arg11 harg11 arg12 harg12 v21 x1 x2 q a b).2.1
      = (pb_k0_t4 (F := Ideal) Variants.none c none (grid0.coords t) arg3 harg3 arg4 harg4 arg5 harg5 arg6 harg6 arg7 harg7 arg8 harg8 arg9 harg9 arg10 harg10 arg11 harg11 arg12 harg12 v21 _ (harg4.unread x1) (harg5.unread x2) (harg10.unread q) G G' N4).2
          ++ (pb_k0_t3 (F := Ideal) Variants.none c none (grid0.coords t) arg3 harg3 arg4 harg4 arg5 harg5 arg6 harg6 arg7 harg7 arg8 harg8 arg9 harg9 arg10 harg10 arg11 harg11 arg12 harg12 v21 (harg4.unread x1) (harg5.unread x2) (harg10.unread q) (harg11.unread a) (harg12.unread b) N).2 := ⟨_, _, (k0_t3_loop (grid0.coords t)).trips, (k0_t4_loop (grid0.coords t)).trips, soloTrips t, soloTrips2 t, rfl, rfl⟩
  subst hN4
  rw [pb_k0_t4.eq_1, List.nil_append] at hG hG'
  rw [hN] at hG hG'
  unfold blocksA blocksM
  exact ⟨(congrArg (fun L => arg11.view.read (Elt Ideal) (arg11.view.writes (Elt Ideal) (harg11.unread a) L) (ix3 m r col)) hG).trans h.1,
    (congrArg (fun L => arg12.view.read (Elt Ideal) (arg12.view.writes (Elt Ideal) (harg12.unread b) L) (ix3 m 0 col)) hG').trans h.2⟩

end

end Cert.KernelIdeal.Diff

end
-- ==== Proof.Diff.RedoSum.lean ====
/-
The running-maximum pass over the four diagonal blocks: each grows the maxima by its scores, a key after the query scoring `⊥`, and
rescales the sums.
-/
module

public import proofs.«01_k».proof.Proof.Diff.BlocksSum
public import Idealize.ShloMosaic.Lib.Pointwise
public import Idealize.ShloMosaic.Lib.IdealHost

@[expose] public section

set_option maxRecDepth 65536

noncomputable section

namespace Cert.KernelIdeal.Diff

open Idealize.ShloMosaic Idealize.ShloMosaic.TcCoe Idealize.ShloMosaic.Tactic
open Cert.KernelIdeal Cert.KernelIdeal.Gen

theorem growA_congr {m m' a a' : EReal} {s s' v v' : Fin 512 → EReal} (hm : m = m') (hs : ∀ j, s j = s' j) (hv : ∀ j, v j = v' j) (ha : a = a') :
    growA m s v a = growA m' s' v' a' := by
  rw [hm, ha, funext hs, funext hv]

theorem growM_congr {m m' : EReal} {s s' : Fin 512 → EReal} (hm : m = m') (hs : ∀ j, s j = s' j) : growM m s = growM m' s' := by
  rw [hm, funext hs]

theorem blk_kbd (i : grid0.Coords) (d : Fin 4) : blk (4 * (i 2).val + d.val) = kbd i d := blk_eq (kbd i d)

theorem redoS0 (i : grid0.Coords) (d : Fin 4) (w : BitVec 32) (hw : w = BitVec.ofNat 32 (kbd i d).val) (x1 : Vec Ideal S1x8192x256 .bf16) (q : Vec Ideal S256x2048 .bf16)
    (K : Vec Ideal S1x512x256 .bf16) (Q : Vec Ideal S256x2048 .bf16) (col : Fin 2048) (hK : ∀ j l, K (ix3 0 j l) = x1 (ix3 0 (key (kbd i d) j) l))
    (hQ : ∀ l, Q (ix2 l col) = q (ix2 l col)) (j : Fin 512) :
    keep (k0_pay157 i) w j col (dotsA K Q j col) = msc x1 q (i 2).val 0 col (4 * (i 2).val + d.val) j := by
  subst hw
  unfold msc
  rw [keep_eq, blk_kbd]
  refine if_congr Iff.rfl (Finset.sum_congr rfl fun l _ => ?_) rfl
  rw [hK, hQ]
  rw [lane0 _ (by omega)]

theorem redoS1 (i : grid0.Coords) (d : Fin 4) (w : BitVec 32) (hw : w = BitVec.ofNat 32 (kbd i d).val) (x1 : Vec Ideal S1x8192x256 .bf16) (q : Vec Ideal S256x2048 .bf16)
    (K : Vec Ideal S1x512x256 .bf16) (Q : Vec Ideal S256x2048 .bf16) (col : Fin 2048) (hK : ∀ j l, K (ix3 0 j l) = x1 (ix3 0 (key (kbd i d) j) l))
    (hQ : ∀ l, Q (ix2 l col) = q (ix2 l col)) (j : Fin 512) :
    keep (k0_pay157 i) w j col (dotsB K Q j col) = msc x1 q (i 2).val 1 col (4 * (i 2).val + d.val) j := by
  subst hw
  unfold msc
  rw [keep_eq, blk_kbd]
  refine if_congr Iff.rfl (Finset.sum_congr rfl fun l _ => ?_) rfl
  rw [hK, hQ]
  rw [lane1]

section

variable (c : Dev nD) (t : Fin grid0.N) (arg4 : Memref sig .tc .vmem S1x8192x256 .bf16) (harg4 : arg4.IsWhole) (arg5 : Memref sig .tc .vmem S1x1x16x144x512 .bf16) (harg5 : arg5.IsWhole) (arg10 : Memref sig .tc .vmem S256x2048 .bf16) (harg10 : arg10.IsWhole) (arg11 : Memref sig .tc .vmem S2x144x2048 .f32) (harg11 : arg11.IsWhole) (arg12 : Memref sig .tc .vmem S2x1x2048 .f32) (harg12 : arg12.IsWhole)
  (x1 : Vec Ideal S1x8192x256 .bf16) (x2 : Vec Ideal S1x1x16x144x512 .bf16) (q : Vec Ideal S256x2048 .bf16)
  (a : Vec Ideal S2x144x2048 .f32) (b : Vec Ideal S2x1x2048 .f32) (r : Fin 144) (col : Fin 2048)

theorem ld_rest (M : Vec Ideal S2x1x2048 .f32) (m : Fin 2) (inb) : View.ld M (Rect.unit (s := S2x1x2048) ![0, 0, 0] S2x1x2048.size inb) (ix3 m 0 col) = M (ix3 m 0 col) :=
  View.ld_unit_apply_of M _ _ _ (ix3 m 0 col) (ix3 m 0 col) (idx3 (Nat.zero_add _).symm (Nat.zero_add _).symm (Nat.zero_add _).symm)

theorem redoM0_0 (hb : b (ix3 0 0 col) = runM (msc x1 q (grid0.coords t 2).val 0 col) (4 * (grid0.coords t 2).val)) : View.canon (redoRun.sl.Hb_2 c (grid0.coords t) arg4 harg4 arg10 harg10 arg12 harg12 (k0_pay157 (grid0.coords t)) (BitVec.ofNat 32 (4 * (grid0.coords t 2).val)) x1 q b) (ix3 0 0 col) = runM (msc x1 q (grid0.coords t 2).val 0 col) (4 * (grid0.coords t 2).val + 1) := by
  unfold redoRun.sl.Hb_2
  rw [canon_out _ 0 (Or.inl Nat.zero_lt_one)]
  rw [canon_in _ (ix3 0 0 col) (idx3 rfl (Nat.zero_add _).symm (Nat.zero_add _).symm)]
  simp only [View.readAt_eq_ld, harg4.read_unread, harg10.read_unread, harg12.read_unread]
  rw [st00]
  exact growM_congr ((ld_rest col b 0 _).trans hb) (fun j => redoS0 (grid0.coords t) 0 _ (word_add _ 0) x1 q _ _ col (fun j l => ld_keys x1 (kbd (grid0.coords t) 0) _ (off21_0 t) _ j l) (fun l => ld_q q col l) j)

theorem redoM0_1 (hb : b (ix3 1 0 col) = runM (msc x1 q (grid0.coords t 2).val 1 col) (4 * (grid0.coords t 2).val)) : View.canon (redoRun.sl.Hb_2 c (grid0.coords t) arg4 harg4 arg10 harg10 arg12 harg12 (k0_pay157 (grid0.coords t)) (BitVec.ofNat 32 (4 * (grid0.coords t 2).val)) x1 q b) (ix3 1 0 col) = runM (msc x1 q (grid0.coords t 2).val 1 col) (4 * (grid0.coords t 2).val + 1) := by
  unfold redoRun.sl.Hb_2
  rw [canon_in _ (ix3 0 0 col) (idx3 rfl (Nat.zero_add _).symm (Nat.zero_add _).symm)]
  unfold redoRun.sl.r_2
  simp only [View.readAt_eq_ld, harg4.read_unread, harg10.read_unread, harg12.read_unread]
  rw [st01]
  exact growM_congr ((ld_rest col b 1 _).trans hb) (fun j => redoS1 (grid0.coords t) 0 _ (word_add _ 0) x1 q _ _ col (fun j l => ld_keys x1 (kbd (grid0.coords t) 0) _ (off21_0 t) _ j l) (fun l => ld_q q col l) j)

theorem redoL1 (m : Fin 2) (y : EReal) (h : View.canon (redoRun.sl.Hb_2 c (grid0.coords t) arg4 harg4 arg10 harg10 arg12 harg12 (k0_pay157 (grid0.coords t)) (BitVec.ofNat 32 (4 * (grid0.coords t 2).val)) x1 q b) (ix3 m 0 col) = y) :
    redoRun.sl.v490 c (grid0.coords t) arg4 harg4 arg10 harg10 arg12 harg12 (k0_pay157 (grid0.coords t)) (BitVec.ofNat 32 (4 * (grid0.coords t 2).val)) x1 q b (ix3 m 0 col) = y := by
  unfold redoRun.sl.v490
  rw [View.readCov_eq_canon']
  refine Eq.trans (congrArg (View.canon _) ?_) h
  funext a
  refine Fin.ext ?_
  match a with
  | ⟨0, _⟩ => show 0 + 1 * m.val = m.val; omega
  | ⟨1, _⟩ => rfl
  | ⟨2, _⟩ => show 0 + 1 * col.val = col.val; omega

theorem redoM1_0 (hb : b (ix3 0 0 col) = runM (msc x1 q (grid0.coords t 2).val 0 col) (4 * (grid0.coords t 2).val)) : View.canon (redoRun.sl.Hb_4 c (grid0.coords t) arg4 harg4 arg10 harg10 arg12 harg12 (k0_pay157 (grid0.coords t)) (BitVec.ofNat 32 (4 * (grid0.coords t 2).val)) x1 q b) (ix3 0 0 col) = runM (msc x1 q (grid0.coords t 2).val 0 col) (4 * (grid0.coords t 2).val + 2) := by
  unfold redoRun.sl.Hb_4
  rw [canon_out _ 0 (Or.inl Nat.zero_lt_one)]
  rw [canon_in _ (ix3 0 0 col) (idx3 rfl (Nat.zero_add _).symm (Nat.zero_add _).symm)]
  unfold redoRun.sl.r_15 redoRun.sl.r_8 redoRun.sl.r_9 redoRun.sl.v480
  simp only [View.readAt_eq_ld, harg4.read_unread, harg10.read_unread, harg12.read_unread]
  rw [st10]
  exact growM_congr (redoL1 c t arg4 harg4 arg10 harg10 arg12 harg12 x1 q b col 0 (runM (msc x1 q (grid0.coords t 2).val 0 col) (4 * (grid0.coords t 2).val + 1)) (redoM0_0 c t arg4 harg4 arg10 harg10 arg12 harg12 x1 q b col hb)) (fun j => redoS0 (grid0.coords t) 1 _ (word_add _ 1) x1 q _ _ col (fun j l => ld_keys x1 (kbd (grid0.coords t) 1) _ (off21_1 t) _ j l) (fun l => ld_q q col l) j)

theorem redoM1_1 (hb : b (ix3 1 0 col) = runM (msc x1 q (grid0.coords t 2).val 1 col) (4 * (grid0.coords t 2).val)) : View.canon (redoRun.sl.Hb_4 c (grid0.coords t) arg4 harg4 arg10 harg10 arg12 harg12 (k0_pay157 (grid0.coords t)) (BitVec.ofNat 32 (4 * (grid0.coords t 2).val)) x1 q b) (ix3 1 0 col) = runM (msc x1 q (grid0.coords t 2).val 1 col) (4 * (grid0.coords t 2).val + 2) := by
  unfold redoRun.sl.Hb_4
  rw [canon_in _ (ix3 0 0 col) (idx3 rfl (Nat.zero_add _).symm (Nat.zero_add _).symm)]
  unfold redoRun.sl.r_12 redoRun.sl.r_5 redoRun.sl.r_7 redoRun.sl.v480
  simp only [View.readAt_eq_ld, harg4.read_unread, harg10.read_unread, harg12.read_unread]
  rw [st11]
  exact growM_congr (redoL1 c t arg4 harg4 arg10 harg10 arg12 harg12 x1 q b col 1 (runM (msc x1 q (grid0.coords t 2).val 1 col) (4 * (grid0.coords t 2).val + 1)) (redoM0_1 c t arg4 harg4 arg10 harg10 arg12 harg12 x1 q b col hb)) (fun j => redoS1 (grid0.coords t) 1 _ (word_add _ 1) x1 q _ _ col (fun j l => ld_keys x1 (kbd (grid0.coords t) 1) _ (off21_1 t) _ j l) (fun l => ld_q q col l) j)

theorem redoL2 (m : Fin 2) (y : EReal) (h : View.canon (redoRun.sl.Hb_4 c (grid0.coords t) arg4 harg4 arg10 harg10 arg12 harg12 (k0_pay157 (grid0.coords t)) (BitVec.ofNat 32 (4 * (grid0.coords t 2).val)) x1 q b) (ix3 m 0 col) = y) :
    redoRun.sl.v569 c (grid0.coords t) arg4 harg4 arg10 harg10 arg12 harg12 (k0_pay157 (grid0.coords t)) (BitVec.ofNat 32 (4 * (grid0.coords t 2).val)) x1 q b (ix3 m 0 col) = y := by
  unfold redoRun.sl.v569
  rw [View.readCov_eq_canon']
  refine Eq.trans (congrArg (View.canon _) ?_) h
  funext a
  refine Fin.ext ?_
  match a with
  | ⟨0, _⟩ => show 0 + 1 * m.val = m.val; omega
  | ⟨1, _⟩ => rfl
  | ⟨2, _⟩ => show 0 + 1 * col.val = col.val; omega

theorem redoM2_0 (hb : b (ix3 0 0 col) = runM (msc x1 q (grid0.coords t 2).val 0 col) (4 * (grid0.coords t 2).val)) : View.canon (redoRun.sl.Hb_6 c (grid0.coords t) arg4 harg4 arg10 harg10 arg12 harg12 (k0_pay157 (grid0.coords t)) (BitVec.ofNat 32 (4 * (grid0.coords t 2).val)) x1 q b) (ix3 0 0 col) = runM (msc x1 q (grid0.coords t 2).val 0 col) (4 * (grid0.coords t 2).val + 3) := by
  unfold redoRun.sl.Hb_6
  rw [canon_out _ 0 (Or.inl Nat.zero_lt_one)]
  rw [canon_in _ (ix3 0 0 col) (idx3 rfl (Nat.zero_add _).symm (Nat.zero_add _).symm)]
  unfold redoRun.sl.r_18 redoRun.sl.r_16 redoRun.sl.r_7 redoRun.sl.v559
  simp only [View.readAt_eq_ld, harg4.read_unread, harg10.read_unread, harg12.read_unread]
  rw [st20]
  exact growM_congr (redoL2 c t arg4 harg4 arg10 harg10 arg12 harg12 x1 q b col 0 (runM (msc x1 q (grid0.coords t 2).val 0 col) (4 * (grid0.coords t 2).val + 2)) (redoM1_0 c t arg4 harg4 arg10 harg10 arg12 harg12 x1 q b col hb)) (fun j => redoS0 (grid0.coords t) 2 _ (word_add _ 2) x1 q _ _ col (fun j l => ld_keys x1 (kbd (grid0.coords t) 2) _ (off21_2 t) _ j l) (fun l => ld_q q col l) j)

theorem redoM2_1 (hb : b (ix3 1 0 col) = runM (msc x1 q (grid0.coords t 2).val 1 col) (4 * (grid0.coords t 2).val)) : View.canon (redoRun.sl.Hb_6 c (grid0.coords t) arg4 harg4 arg10 harg10 arg12 harg12 (k0_pay157 (grid0.coords t)) (BitVec.ofNat 32 (4 * (grid0.coords t 2).val)) x1 q b) (ix3 1 0 col) = runM (msc x1 q (grid0.coords t 2).val 1 col) (4 * (grid0.coords t 2).val + 3) := by
  unfold redoRun.sl.Hb_6
  rw [canon_in _ (ix3 0 0 col) (idx3 rfl (Nat.zero_add _).symm (Nat.zero_add _).symm)]
  unfold redoRun.sl.r_21 redoRun.sl.r_16 redoRun.sl.r_7 redoRun.sl.v559
  simp only [View.readAt_eq_ld, harg4.read_unread, harg10.read_unread, harg12.read_unread]
  rw [st21]
  exact growM_congr (redoL2 c t arg4 harg4 arg10 harg10 arg12 harg12 x1 q b col 1 (runM (msc x1 q (grid0.coords t 2).val 1 col) (4 * (grid0.coords t 2).val + 2)) (redoM1_1 c t arg4 harg4 arg10 harg10 arg12 harg12 x1 q b col hb)) (fun j => redoS1 (grid0.coords t) 2 _ (word_add _ 2) x1 q _ _ col (fun j l => ld_keys x1 (kbd (grid0.coords t) 2) _ (off21_2 t) _ j l) (fun l => ld_q q col l) j)

theorem redoL3 (m : Fin 2) (y : EReal) (h : View.canon (redoRun.sl.Hb_6 c (grid0.coords t) arg4 harg4 arg10 harg10 arg12 harg12 (k0_pay157 (grid0.coords t)) (BitVec.ofNat 32 (4 * (grid0.coords t 2).val)) x1 q b) (ix3 m 0 col) = y) :
    redoRun.sl.v648 c (grid0.coords t) arg4 harg4 arg10 harg10 arg12 harg12 (k0_pay157 (grid0.coords t)) (BitVec.ofNat 32 (4 * (grid0.coords t 2).val)) x1 q b (ix3 m 0 col) = y := by
  unfold redoRun.sl.v648
  rw [View.readCov_eq_canon']
  refine Eq.trans (congrArg (View.canon _) ?_) h
  funext a
  refine Fin.ext ?_
  match a with
  | ⟨0, _⟩ => show 0 + 1 * m.val = m.val; omega
  | ⟨1, _⟩ => rfl
  | ⟨2, _⟩ => show 0 + 1 * col.val = col.val; omega

theorem redoA0_0 (ha : a (ix3 0 r col) = runA (msc x1 q (grid0.coords t 2).val 0 col) (vals x2 r) (4 * (grid0.coords t 2).val)) (hb : b (ix3 0 0 col) = runM (msc x1 q (grid0.coords t 2).val 0 col) (4 * (grid0.coords t 2).val)) :
    View.canon (redoRun.sl.Ha_2 c (grid0.coords t) arg4 harg4 arg5 harg5 arg10 harg10 arg11 harg11 arg12 harg12 (k0_pay157 (grid0.coords t)) (BitVec.ofNat 32 (4 * (grid0.coords t 2).val)) x1 x2 q a b) (ix3 0 r col) = runA (msc x1 q (grid0.coords t 2).val 0 col) (vals x2 r) (4 * (grid0.coords t 2).val + 1) := by
  unfold redoRun.sl.Ha_2
  rw [canon_out _ 0 (Or.inl Nat.zero_lt_one)]
  rw [canon_in _ (ix3 0 r col) (idx3 rfl (Nat.zero_add _).symm (Nat.zero_add _).symm)]
  unfold redoRun.sl.r redoRun.sl.r_1
  simp only [View.readAt_eq_ld, harg4.read_unread, harg5.read_unread, harg10.read_unread, harg11.read_unread, harg12.read_unread]
  rw [su00]
  exact growA_congr ((ld_rest col b 0 _).trans hb) (fun j => redoS0 (grid0.coords t) 0 _ (word_add _ 0) x1 q _ _ col (fun j l => ld_keys x1 (kbd (grid0.coords t) 0) _ (off21_0 t) _ j l) (fun l => ld_q q col l) j)
    (fun j => (ld_vals x2 (kbd (grid0.coords t) 0) _ (off22_0 t) _ r j).trans (by unfold vals; rw [← blk_kbd]; rfl)) ((View.ld_unit_apply_of a _ _ _ (ix3 0 r col) (ix3 0 r col) (idx3 rfl (Nat.zero_add _).symm (Nat.zero_add _).symm)).trans ha)

theorem redoA0_1 (ha : a (ix3 1 r col) = runA (msc x1 q (grid0.coords t 2).val 1 col) (vals x2 r) (4 * (grid0.coords t 2).val)) (hb : b (ix3 1 0 col) = runM (msc x1 q (grid0.coords t 2).val 1 col) (4 * (grid0.coords t 2).val)) :
    View.canon (redoRun.sl.Ha_2 c (grid0.coords t) arg4 harg4 arg5 harg5 arg10 harg10 arg11 harg11 arg12 harg12 (k0_pay157 (grid0.coords t)) (BitVec.ofNat 32 (4 * (grid0.coords t 2).val)) x1 x2 q a b) (ix3 1 r col) = runA (msc x1 q (grid0.coords t 2).val 1 col) (vals x2 r) (4 * (grid0.coords t 2).val + 1) := by
  unfold redoRun.sl.Ha_2
  rw [canon_in _ (ix3 0 r col) (idx3 rfl (Nat.zero_add _).symm (Nat.zero_add _).symm)]
  unfold redoRun.sl.r_3 redoRun.sl.r_4 redoRun.sl.v472
  simp only [View.readAt_eq_ld, harg4.read_unread, harg5.read_unread, harg10.read_unread, harg11.read_unread, harg12.read_unread]
  rw [su01]
  exact growA_congr ((ld_rest col b 1 _).trans hb) (fun j => redoS1 (grid0.coords t) 0 _ (word_add _ 0) x1 q _ _ col (fun j l => ld_keys x1 (kbd (grid0.coords t) 0) _ (off21_0 t) _ j l) (fun l => ld_q q col l) j)
    (fun j => (ld_vals x2 (kbd (grid0.coords t) 0) _ (off22_0 t) _ r j).trans (by unfold vals; rw [← blk_kbd]; rfl)) ((View.ld_unit_apply_of a _ _ _ (ix3 0 r col) (ix3 1 r col) (idx3 rfl (Nat.zero_add _).symm (Nat.zero_add _).symm)).trans ha)

theorem redoA1_0 (ha : a (ix3 0 r col) = runA (msc x1 q (grid0.coords t 2).val 0 col) (vals x2 r) (4 * (grid0.coords t 2).val)) (hb : b (ix3 0 0 col) = runM (msc x1 q (grid0.coords t 2).val 0 col) (4 * (grid0.coords t 2).val)) :
    View.canon (redoRun.sl.Ha_3 c (grid0.coords t) arg4 harg4 arg5 harg5 arg10 harg10 arg11 harg11 arg12 harg12 (k0_pay157 (grid0.coords t)) (BitVec.ofNat 32 (4 * (grid0.coords t 2).val)) x1 x2 q a b) (ix3 0 r col) = runA (msc x1 q (grid0.coords t 2).val 0 col) (vals x2 r) (4 * (grid0.coords t 2).val + 2) := by
  have hprev : View.canon (redoRun.sl.Ha_2 c (grid0.coords t) arg4 harg4 arg5 harg5 arg10 harg10 arg11 harg11 arg12 harg12 (k0_pay157 (grid0.coords t)) (BitVec.ofNat 32 (4 * (grid0.coords t 2).val)) x1 x2 q a b) (ix3 0 r col) = runA (msc x1 q (grid0.coords t 2).val 0 col) (vals x2 r) (4 * (grid0.coords t 2).val + 1) := by
    exact redoA0_0 c t arg4 harg4 arg5 harg5 arg10 harg10 arg11 harg11 arg12 harg12 x1 x2 q a b r col ha hb
  have hA : redoRun.sl.v540 c (grid0.coords t) arg4 harg4 arg5 harg5 arg10 harg10 arg11 harg11 arg12 harg12 (k0_pay157 (grid0.coords t)) (BitVec.ofNat 32 (4 * (grid0.coords t 2).val)) x1 x2 q a b (ix3 0 r col) = runA (msc x1 q (grid0.coords t 2).val 0 col) (vals x2 r) (4 * (grid0.coords t 2).val + 1) := by
    unfold redoRun.sl.v540
    rw [View.readCov_eq_canon']
    refine Eq.trans (congrArg (View.canon _) ?_) hprev
    funext a
    refine Fin.ext ?_
    match a with
    | ⟨0, _⟩ => rfl
    | ⟨1, _⟩ => show 0 + 1 * r.val = r.val; omega
    | ⟨2, _⟩ => show 0 + 1 * col.val = col.val; omega
  unfold redoRun.sl.Ha_3
  rw [canon_in _ (ix3 0 r col) (idx3 rfl (Nat.zero_add _).symm (Nat.zero_add _).symm)]
  unfold redoRun.sl.r_10 redoRun.sl.r_11 redoRun.sl.r_6 redoRun.sl.r_8 redoRun.sl.r_9 redoRun.sl.v480
  simp only [View.readAt_eq_ld, harg4.read_unread, harg5.read_unread, harg10.read_unread, harg11.read_unread, harg12.read_unread]
  rw [su10]
  exact growA_congr (redoL1 c t arg4 harg4 arg10 harg10 arg12 harg12 x1 q b col 0 (runM (msc x1 q (grid0.coords t 2).val 0 col) (4 * (grid0.coords t 2).val + 1)) (redoM0_0 c t arg4 harg4 arg10 harg10 arg12 harg12 x1 q b col hb)) (fun j => redoS0 (grid0.coords t) 1 _ (word_add _ 1) x1 q _ _ col (fun j l => ld_keys x1 (kbd (grid0.coords t) 1) _ (off21_1 t) _ j l) (fun l => ld_q q col l) j)
    (fun j => (ld_vals x2 (kbd (grid0.coords t) 1) _ (off22_1 t) _ r j).trans (by unfold vals; rw [← blk_kbd]; rfl)) hA

theorem redoA1_1 (ha : a (ix3 1 r col) = runA (msc x1 q (grid0.coords t 2).val 1 col) (vals x2 r) (4 * (grid0.coords t 2).val)) (hb : b (ix3 1 0 col) = runM (msc x1 q (grid0.coords t 2).val 1 col) (4 * (grid0.coords t 2).val)) :
    View.canon (redoRun.sl.Ha_4 c (grid0.coords t) arg4 harg4 arg5 harg5 arg10 harg10 arg11 harg11 arg12 harg12 (k0_pay157 (grid0.coords t)) (BitVec.ofNat 32 (4 * (grid0.coords t 2).val)) x1 x2 q a b) (ix3 1 r col) = runA (msc x1 q (grid0.coords t 2).val 1 col) (vals x2 r) (4 * (grid0.coords t 2).val + 2) := by
  have hprev : View.canon (redoRun.sl.Ha_3 c (grid0.coords t) arg4 harg4 arg5 harg5 arg10 harg10 arg11 harg11 arg12 harg12 (k0_pay157 (grid0.coords t)) (BitVec.ofNat 32 (4 * (grid0.coords t 2).val)) x1 x2 q a b) (ix3 1 r col) = runA (msc x1 q (grid0.coords t 2).val 1 col) (vals x2 r) (4 * (grid0.coords t 2).val + 1) := by
    unfold redoRun.sl.Ha_3
    rw [canon_out _ 0 (Or.inr (le_refl 1))]
    exact redoA0_1 c t arg4 harg4 arg5 harg5 arg10 harg10 arg11 harg11 arg12 harg12 x1 x2 q a b r col ha hb
  have hA : redoRun.sl.v551 c (grid0.coords t) arg4 harg4 arg5 harg5 arg10 harg10 arg11 harg11 arg12 harg12 (k0_pay157 (grid0.coords t)) (BitVec.ofNat 32 (4 * (grid0.coords t 2).val)) x1 x2 q a b (ix3 0 r col) = runA (msc x1 q (grid0.coords t 2).val 1 col) (vals x2 r) (4 * (grid0.coords t 2).val + 1) := by
    unfold redoRun.sl.v551
    rw [View.readCov_eq_canon']
    refine Eq.trans (congrArg (View.canon _) ?_) hprev
    funext a
    refine Fin.ext ?_
    match a with
    | ⟨0, _⟩ => rfl
    | ⟨1, _⟩ => show 0 + 1 * r.val = r.val; omega
    | ⟨2, _⟩ => show 0 + 1 * col.val = col.val; omega
  unfold redoRun.sl.Ha_4
  rw [canon_in _ (ix3 0 r col) (idx3 rfl (Nat.zero_add _).symm (Nat.zero_add _).symm)]
  unfold redoRun.sl.r_13 redoRun.sl.r_14 redoRun.sl.r_5 redoRun.sl.r_6 redoRun.sl.r_7 redoRun.sl.v480
  simp only [View.readAt_eq_ld, harg4.read_unread, harg5.read_unread, harg10.read_unread, harg11.read_unread, harg12.read_unread]
  rw [su11]
  exact growA_congr (redoL1 c t arg4 harg4 arg10 harg10 arg12 harg12 x1 q b col 1 (runM (msc x1 q (grid0.coords t 2).val 1 col) (4 * (grid0.coords t 2).val + 1)) (redoM0_1 c t arg4 harg4 arg10 harg10 arg12 harg12 x1 q b col hb)) (fun j => redoS1 (grid0.coords t) 1 _ (word_add _ 1) x1 q _ _ col (fun j l => ld_keys x1 (kbd (grid0.coords t) 1) _ (off21_1 t) _ j l) (fun l => ld_q q col l) j)
    (fun j => (ld_vals x2 (kbd (grid0.coords t) 1) _ (off22_1 t) _ r j).trans (by unfold vals; rw [← blk_kbd]; rfl)) hA

theorem redoA2_0 (ha : a (ix3 0 r col) = runA (msc x1 q (grid0.coords t 2).val 0 col) (vals x2 r) (4 * (grid0.coords t 2).val)) (hb : b (ix3 0 0 col) = runM (msc x1 q (grid0.coords t 2).val 0 col) (4 * (grid0.coords t 2).val)) :
    View.canon (redoRun.sl.Ha_5 c (grid0.coords t) arg4 harg4 arg5 harg5 arg10 harg10 arg11 harg11 arg12 harg12 (k0_pay157 (grid0.coords t)) (BitVec.ofNat 32 (4 * (grid0.coords t 2).val)) x1 x2 q a b) (ix3 0 r col) = runA (msc x1 q (grid0.coords t 2).val 0 col) (vals x2 r) (4 * (grid0.coords t 2).val + 3) := by
  have hprev : View.canon (redoRun.sl.Ha_4 c (grid0.coords t) arg4 harg4 arg5 harg5 arg10 harg10 arg11 harg11 arg12 harg12 (k0_pay157 (grid0.coords t)) (BitVec.ofNat 32 (4 * (grid0.coords t 2).val)) x1 x2 q a b) (ix3 0 r col) = runA (msc x1 q (grid0.coords t 2).val 0 col) (vals x2 r) (4 * (grid0.coords t 2).val + 2) := by
    unfold redoRun.sl.Ha_4
    rw [canon_out _ 0 (Or.inl Nat.zero_lt_one)]
    exact redoA1_0 c t arg4 harg4 arg5 harg5 arg10 harg10 arg11 harg11 arg12 harg12 x1 x2 q a b r col ha hb
  have hA : redoRun.sl.v619 c (grid0.coords t) arg4 harg4 arg5 harg5 arg10 harg10 arg11 harg11 arg12 harg12 (k0_pay157 (grid0.coords t)) (BitVec.ofNat 32 (4 * (grid0.coords t 2).val)) x1 x2 q a b (ix3 0 r col) = runA (msc x1 q (grid0.coords t 2).val 0 col) (vals x2 r) (4 * (grid0.coords t 2).val + 2) := by
    unfold redoRun.sl.v619
    rw [View.readCov_eq_canon']
    refine Eq.trans (congrArg (View.canon _) ?_) hprev
    funext a
    refine Fin.ext ?_
    match a with
    | ⟨0, _⟩ => rfl
    | ⟨1, _⟩ => show 0 + 1 * r.val = r.val; omega
    | ⟨2, _⟩ => show 0 + 1 * col.val = col.val; omega
  unfold redoRun.sl.Ha_5
  rw [canon_in _ (ix3 0 r col) (idx3 rfl (Nat.zero_add _).symm (Nat.zero_add _).symm)]
  unfold redoRun.sl.r_19 redoRun.sl.r_20 redoRun.sl.r_16 redoRun.sl.r_17 redoRun.sl.r_7 redoRun.sl.v559
  simp only [View.readAt_eq_ld, harg4.read_unread, harg5.read_unread, harg10.read_unread, harg11.read_unread, harg12.read_unread]
  rw [su20]
  exact growA_congr (redoL2 c t arg4 harg4 arg10 harg10 arg12 harg12 x1 q b col 0 (runM (msc x1 q (grid0.coords t 2).val 0 col) (4 * (grid0.coords t 2).val + 2)) (redoM1_0 c t arg4 harg4 arg10 harg10 arg12 harg12 x1 q b col hb)) (fun j => redoS0 (grid0.coords t) 2 _ (word_add _ 2) x1 q _ _ col (fun j l => ld_keys x1 (kbd (grid0.coords t) 2) _ (off21_2 t) _ j l) (fun l => ld_q q col l) j)
    (fun j => (ld_vals x2 (kbd (grid0.coords t) 2) _ (off22_2 t) _ r j).trans (by unfold vals; rw [← blk_kbd]; rfl)) hA

theorem redoA2_1 (ha : a (ix3 1 r col) = runA (msc x1 q (grid0.coords t 2).val 1 col) (vals x2 r) (4 * (grid0.coords t 2).val)) (hb : b (ix3 1 0 col) = runM (msc x1 q (grid0.coords t 2).val 1 col) (4 * (grid0.coords t 2).val)) :
    View.canon (redoRun.sl.Ha_6 c (grid0.coords t) arg4 harg4 arg5 harg5 arg10 harg10 arg11 harg11 arg12 harg12 (k0_pay157 (grid0.coords t)) (BitVec.ofNat 32 (4 * (grid0.coords t 2).val)) x1 x2 q a b) (ix3 1 r col) = runA (msc x1 q (grid0.coords t 2).val 1 col) (vals x2 r) (4 * (grid0.coords t 2).val + 3) := by
  have hprev : View.canon (redoRun.sl.Ha_5 c (grid0.coords t) arg4 harg4 arg5 harg5 arg10 harg10 arg11 harg11 arg12 harg12 (k0_pay157 (grid0.coords t)) (BitVec.ofNat 32 (4 * (grid0.coords t 2).val)) x1 x2 q a b) (ix3 1 r col) = runA (msc x1 q (grid0.coords t 2).val 1 col) (vals x2 r) (4 * (grid0.coords t 2).val + 2) := by
    unfold redoRun.sl.Ha_5
    rw [canon_out _ 0 (Or.inr (le_refl 1))]
    exact redoA1_1 c t arg4 harg4 arg5 harg5 arg10 harg10 arg11 harg11 arg12 harg12 x1 x2 q a b r col ha hb
  have hA : redoRun.sl.v630 c (grid0.coords t) arg4 harg4 arg5 harg5 arg10 harg10 arg11 harg11 arg12 harg12 (k0_pay157 (grid0.coords t)) (BitVec.ofNat 32 (4 * (grid0.coords t 2).val)) x1 x2 q a b (ix3 0 r col) = runA (msc x1 q (grid0.coords t 2).val 1 col) (vals x2 r) (4 * (grid0.coords t 2).val + 2) := by
    unfold redoRun.sl.v630
    rw [View.readCov_eq_canon']
    refine Eq.trans (congrArg (View.canon _) ?_) hprev
    funext a
    refine Fin.ext ?_
    match a with
    | ⟨0, _⟩ => rfl
    | ⟨1, _⟩ => show 0 + 1 * r.val = r.val; omega
    | ⟨2, _⟩ => show 0 + 1 * col.val = col.val; omega
  unfold redoRun.sl.Ha_6
  rw [canon_in _ (ix3 0 r col) (idx3 rfl (Nat.zero_add _).symm (Nat.zero_add _).symm)]
  unfold redoRun.sl.r_22 redoRun.sl.r_23 redoRun.sl.r_16 redoRun.sl.r_17 redoRun.sl.r_7 redoRun.sl.v559
  simp only [View.readAt_eq_ld, harg4.read_unread, harg5.read_unread, harg10.read_unread, harg11.read_unread, harg12.read_unread]
  rw [su21]
  exact growA_congr (redoL2 c t arg4 harg4 arg10 harg10 arg12 harg12 x1 q b col 1 (runM (msc x1 q (grid0.coords t 2).val 1 col) (4 * (grid0.coords t 2).val + 2)) (redoM1_1 c t arg4 harg4 arg10 harg10 arg12 harg12 x1 q b col hb)) (fun j => redoS1 (grid0.coords t) 2 _ (word_add _ 2) x1 q _ _ col (fun j l => ld_keys x1 (kbd (grid0.coords t) 2) _ (off21_2 t) _ j l) (fun l => ld_q q col l) j)
    (fun j => (ld_vals x2 (kbd (grid0.coords t) 2) _ (off22_2 t) _ r j).trans (by unfold vals; rw [← blk_kbd]; rfl)) hA

theorem redoA3_0 (ha : a (ix3 0 r col) = runA (msc x1 q (grid0.coords t 2).val 0 col) (vals x2 r) (4 * (grid0.coords t 2).val)) (hb : b (ix3 0 0 col) = runM (msc x1 q (grid0.coords t 2).val 0 col) (4 * (grid0.coords t 2).val)) :
    View.canon (redoRun.sl.Ha_7 c (grid0.coords t) arg4 harg4 arg5 harg5 arg10 harg10 arg11 harg11 arg12 harg12 (k0_pay157 (grid0.coords t)) (BitVec.ofNat 32 (4 * (grid0.coords t 2).val)) x1 x2 q a b) (ix3 0 r col) = runA (msc x1 q (grid0.coords t 2).val 0 col) (vals x2 r) (4 * (grid0.coords t 2).val + 4) := by
  have hprev : View.canon (redoRun.sl.Ha_6 c (grid0.coords t) arg4 harg4 arg5 harg5 arg10 harg10 arg11 harg11 arg12 harg12 (k0_pay157 (grid0.coords t)) (BitVec.ofNat 32 (4 * (grid0.coords t 2).val)) x1 x2 q a b) (ix3 0 r col) = runA (msc x1 q (grid0.coords t 2).val 0 col) (vals x2 r) (4 * (grid0.coords t 2).val + 3) := by
    unfold redoRun.sl.Ha_6
    rw [canon_out _ 0 (Or.inl Nat.zero_lt_one)]
    exact redoA2_0 c t arg4 harg4 arg5 harg5 arg10 harg10 arg11 harg11 arg12 harg12 x1 x2 q a b r col ha hb
  have hA : redoRun.sl.v698 c (grid0.coords t) arg4 harg4 arg5 harg5 arg10 harg10 arg11 harg11 arg12 harg12 (k0_pay157 (grid0.coords t)) (BitVec.ofNat 32 (4 * (grid0.coords t 2).val)) x1 x2 q a b (ix3 0 r col) = runA (msc x1 q (grid0.coords t 2).val 0 col) (vals x2 r) (4 * (grid0.coords t 2).val + 3) := by
    unfold redoRun.sl.v698
    rw [View.readCov_eq_canon']
    refine Eq.trans (congrArg (View.canon _) ?_) hprev
    funext a
    refine Fin.ext ?_
    match a with
    | ⟨0, _⟩ => rfl
    | ⟨1, _⟩ => show 0 + 1 * r.val = r.val; omega
    | ⟨2, _⟩ => show 0 + 1 * col.val = col.val; omega
  unfold redoRun.sl.Ha_7
  rw [canon_in _ (ix3 0 r col) (idx3 rfl (Nat.zero_add _).symm (Nat.zero_add _).symm)]
  unfold redoRun.sl.r_27 redoRun.sl.r_28 redoRun.sl.r_24 redoRun.sl.r_25 redoRun.sl.v638
  simp only [View.readAt_eq_ld, harg4.read_unread, harg5.read_unread, harg10.read_unread, harg11.read_unread, harg12.read_unread]
  rw [su30]
  exact growA_congr (redoL3 c t arg4 harg4 arg10 harg10 arg12 harg12 x1 q b col 0 (runM (msc x1 q (grid0.coords t 2).val 0 col) (4 * (grid0.coords t 2).val + 3)) (redoM2_0 c t arg4 harg4 arg10 harg10 arg12 harg12 x1 q b col hb)) (fun j => redoS0 (grid0.coords t) 3 _ (word_add _ 3) x1 q _ _ col (fun j l => ld_keys x1 (kbd (grid0.coords t) 3) _ (off21_3 t) _ j l) (fun l => ld_q q col l) j)
    (fun j => (ld_vals x2 (kbd (grid0.coords t) 3) _ (off22_3 t) _ r j).trans (by unfold vals; rw [← blk_kbd]; rfl)) hA

theorem redoA3_1 (ha : a (ix3 1 r col) = runA (msc x1 q (grid0.coords t 2).val 1 col) (vals x2 r) (4 * (grid0.coords t 2).val)) (hb : b (ix3 1 0 col) = runM (msc x1 q (grid0.coords t 2).val 1 col) (4 * (grid0.coords t 2).val)) :
    View.canon (⟨Rect.unit (s := S2x144x2048) ![1, 0, 0] ![1, 144, 2048] inb_S2x144x2048_S1x144x2048_1_0_0,
        k0_pay202 (redoRun.sl.r_25 c (grid0.coords t) arg5 harg5 x2) (redoRun.sl.r_30 c (grid0.coords t) arg4 harg4 arg10 harg10 arg12 harg12 (k0_pay157 (grid0.coords t)) (BitVec.ofNat 32 (4 * (grid0.coords t 2).val)) x1 q b) (redoRun.sl.r_31 c (grid0.coords t) arg4 harg4 arg10 harg10 arg12 harg12 (k0_pay157 (grid0.coords t)) (BitVec.ofNat 32 (4 * (grid0.coords t 2).val)) x1 q b) (redoRun.sl.v709 c (grid0.coords t) arg4 harg4 arg5 harg5 arg10 harg10 arg11 harg11 arg12 harg12 (k0_pay157 (grid0.coords t)) (BitVec.ofNat 32 (4 * (grid0.coords t 2).val)) x1 x2 q a b)⟩ :: redoRun.sl.Ha_7 c (grid0.coords t) arg4 harg4 arg5 harg5 arg10 harg10 arg11 harg11 arg12 harg12 (k0_pay157 (grid0.coords t)) (BitVec.ofNat 32 (4 * (grid0.coords t 2).val)) x1 x2 q a b) (ix3 1 r col) = runA (msc x1 q (grid0.coords t 2).val 1 col) (vals x2 r) (4 * (grid0.coords t 2).val + 4) := by
  have hprev : View.canon (redoRun.sl.Ha_7 c (grid0.coords t) arg4 harg4 arg5 harg5 arg10 harg10 arg11 harg11 arg12 harg12 (k0_pay157 (grid0.coords t)) (BitVec.ofNat 32 (4 * (grid0.coords t 2).val)) x1 x2 q a b) (ix3 1 r col) = runA (msc x1 q (grid0.coords t 2).val 1 col) (vals x2 r) (4 * (grid0.coords t 2).val + 3) := by
    unfold redoRun.sl.Ha_7
    rw [canon_out _ 0 (Or.inr (le_refl 1))]
    exact redoA2_1 c t arg4 harg4 arg5 harg5 arg10 harg10 arg11 harg11 arg12 harg12 x1 x2 q a b r col ha hb
  have hA : redoRun.sl.v709 c (grid0.coords t) arg4 harg4 arg5 harg5 arg10 harg10 arg11 harg11 arg12 harg12 (k0_pay157 (grid0.coords t)) (BitVec.ofNat 32 (4 * (grid0.coords t 2).val)) x1 x2 q a b (ix3 0 r col) = runA (msc x1 q (grid0.coords t 2).val 1 col) (vals x2 r) (4 * (grid0.coords t 2).val + 3) := by
    unfold redoRun.sl.v709
    rw [View.readCov_eq_canon']
    refine Eq.trans (congrArg (View.canon _) ?_) hprev
    funext a
    refine Fin.ext ?_
    match a with
    | ⟨0, _⟩ => rfl
    | ⟨1, _⟩ => show 0 + 1 * r.val = r.val; omega
    | ⟨2, _⟩ => show 0 + 1 * col.val = col.val; omega
  rw [canon_in _ (ix3 0 r col) (idx3 rfl (Nat.zero_add _).symm (Nat.zero_add _).symm)]
  unfold redoRun.sl.r_25 redoRun.sl.r_30 redoRun.sl.r_31 redoRun.sl.r_24 redoRun.sl.v638
  simp only [View.readAt_eq_ld, harg4.read_unread, harg5.read_unread, harg10.read_unread, harg11.read_unread, harg12.read_unread]
  rw [su31]
  exact growA_congr (redoL3 c t arg4 harg4 arg10 harg10 arg12 harg12 x1 q b col 1 (runM (msc x1 q (grid0.coords t 2).val 1 col) (4 * (grid0.coords t 2).val + 3)) (redoM2_1 c t arg4 harg4 arg10 harg10 arg12 harg12 x1 q b col hb)) (fun j => redoS1 (grid0.coords t) 3 _ (word_add _ 3) x1 q _ _ col (fun j l => ld_keys x1 (kbd (grid0.coords t) 3) _ (off21_3 t) _ j l) (fun l => ld_q q col l) j)
    (fun j => (ld_vals x2 (kbd (grid0.coords t) 3) _ (off22_3 t) _ r j).trans (by unfold vals; rw [← blk_kbd]; rfl)) hA

end

end Cert.KernelIdeal.Diff

end
-- ==== Proof.Diff.Sums.lean ====
/-
What the two passes leave in the sums, of the blocks read: the first pass the sum of the keys' terms, the second the running sum.
-/
module

public import proofs.«01_k».proof.Proof.Diff.RedoSum
public import Idealize.ShloMosaic.Lib.Pointwise
public import Idealize.ShloMosaic.Lib.IdealHost

@[expose] public section

set_option maxRecDepth 65536

noncomputable section

namespace Cert.KernelIdeal.Diff

open Idealize.ShloMosaic Idealize.ShloMosaic.TcCoe Idealize.ShloMosaic.Tactic
open Cert.KernelIdeal Cert.KernelIdeal.Gen

theorem fillV21 : ∀ t : Fin grid0.N, fillRun.sl.v21 (grid0.coords t) = (BitVec.ofNat 32 (4 * (grid0.coords t 2).val)) := by decide +kernel

theorem plane_cover (L : List (View.Piece (Elt Ideal) S2x144x2048 .f32))
    (h1 : ∃ w, (⟨Rect.unit (s := S2x144x2048) ![1, 0, 0] S1x144x2048.size inb_S2x144x2048_S1x144x2048_1_0_0, w⟩ : View.Piece (Elt Ideal) S2x144x2048 .f32) ∈ L)
    (h0 : ∃ w, (⟨Rect.unit (s := S2x144x2048) ![0, 0, 0] S1x144x2048.size inb_S2x144x2048_S1x144x2048_0_0_0, w⟩ : View.Piece (Elt Ideal) S2x144x2048 .f32) ∈ L)
    (y : S2x144x2048.Idx) : ∃ pc ∈ L, y ∈ pc.1.set := by
  have b0 : (y 0).val < 2 := (y 0).isLt
  have b1 : (y 1).val < 144 := (y 1).isLt
  have b2 : (y 2).val < 2048 := (y 2).isLt
  by_cases h : (y 0).val = 0
  · obtain ⟨w, hw⟩ := h0
    refine ⟨_, hw, (Rect.mem_set_unit (inb := inb_S2x144x2048_S1x144x2048_0_0_0)).mpr fun a => ?_⟩
    match a with
    | ⟨0, _⟩ => show 0 ≤ (y 0).val ∧ (y 0).val < 0 + 1; omega
    | ⟨1, _⟩ => show 0 ≤ (y 1).val ∧ (y 1).val < 0 + 144; omega
    | ⟨2, _⟩ => show 0 ≤ (y 2).val ∧ (y 2).val < 0 + 2048; omega
  · obtain ⟨w, hw⟩ := h1
    refine ⟨_, hw, (Rect.mem_set_unit (inb := inb_S2x144x2048_S1x144x2048_1_0_0)).mpr fun a => ?_⟩
    match a with
    | ⟨0, _⟩ => show 1 ≤ (y 0).val ∧ (y 0).val < 1 + 1; omega
    | ⟨1, _⟩ => show 0 ≤ (y 1).val ∧ (y 1).val < 0 + 144; omega
    | ⟨2, _⟩ => show 0 ≤ (y 2).val ∧ (y 2).val < 0 + 2048; omega

/-- The sum over all blocks is that over the blocks up to the diagonal's last. -/
theorem upto_all (x1 : Vec Ideal S1x8192x256 .bf16) (x2 : Vec Ideal S1x1x16x144x512 .bf16) (q : Vec Ideal S256x2048 .bf16) (n : ℕ) (hn : n < 4) (m : Fin 2)
    (r : Fin 144) (col : Fin 2048) : upto (term x1 x2 q n m r col) (4 * n + 4) = ∑ kb : Fin 16, ∑ j, term x1 x2 q n m r col kb j := by
  unfold upto
  refine Finset.sum_congr rfl fun kb _ => ?_
  split
  · rfl
  · rw [term_zero _ _ _ _ _ _ _ _ (by omega)]

section

variable (c : Dev nD) (t : Fin grid0.N) (arg3 : Memref sig .tc .vmem S1x256x2048 .bf16) (harg3 : arg3.IsWhole) (arg4 : Memref sig .tc .vmem S1x8192x256 .bf16) (harg4 : arg4.IsWhole) (arg5 : Memref sig .tc .vmem S1x1x16x144x512 .bf16) (harg5 : arg5.IsWhole) (arg6 : Memref sig .tc .vmem S1x16x8x128 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S1x2048x128 .bf16) (harg9 : arg9.IsWhole) (arg10 : Memref sig .tc .vmem S256x2048 .bf16) (harg10 : arg10.IsWhole) (arg11 : Memref sig .tc .vmem S2x144x2048 .f32) (harg11 : arg11.IsWhole) (arg12 : Memref sig .tc .vmem S2x1x2048 .f32) (harg12 : arg12.IsWhole) (k0_h2 : k0_cond2 (grid0.coords t) = 1#1)
    (x1 : Vec Ideal S1x8192x256 .bf16) (x2 : Vec Ideal S1x1x16x144x512 .bf16) (q : Vec Ideal S256x2048 .bf16) (a : Vec Ideal S2x144x2048 .f32) (b : Vec Ideal S2x1x2048 .f32)
    (r : Fin 144) (col : Fin 2048)

theorem diag_list : (diagRun c (grid0.coords t) arg3 harg3 arg4 harg4 arg5 harg5 arg6 harg6 arg7 harg7 arg8 harg8 arg9 harg9 arg10 harg10 arg11 harg11 arg12 harg12 (k0_pay157 (grid0.coords t)) (BitVec.ofNat 32 (4 * (grid0.coords t 2).val)) k0_h2 x1 x2 q a).1 = (⟨Rect.unit (s := S2x144x2048) ![1, 0, 1536] ![1, 144, 512] inb_S2x144x2048_S1x144x512_1_0_1536, (k0_pay197 (k0_pay157 (grid0.coords t)) (diagRun.sl.r_7 c (grid0.coords t) arg5 harg5 k0_h2 x2) (diagRun.sl.r_9 c (grid0.coords t) arg4 harg4 arg10 harg10 k0_h2 x1 q) diagRun.sl.v566 (diagRun.sl.v567 (BitVec.ofNat 32 (4 * (grid0.coords t 2).val))) (diagRun.sl.v584 c (grid0.coords t) arg4 harg4 arg5 harg5 arg10 harg10 arg11 harg11 (k0_pay157 (grid0.coords t)) (BitVec.ofNat 32 (4 * (grid0.coords t 2).val)) k0_h2 x1 x2 q a))⟩ : View.Piece (Elt Ideal) S2x144x2048 .f32) :: diagRun.sl.Ha_7 c (grid0.coords t) arg4 harg4 arg5 harg5 arg10 harg10 arg11 harg11 (k0_pay157 (grid0.coords t)) (BitVec.ofNat 32 (4 * (grid0.coords t 2).val)) k0_h2 x1 x2 q a := rfl

theorem diag_cover (y : S2x144x2048.Idx) : ∃ pc ∈ (diagRun c (grid0.coords t) arg3 harg3 arg4 harg4 arg5 harg5 arg6 harg6 arg7 harg7 arg8 harg8 arg9 harg9 arg10 harg10 arg11 harg11 arg12 harg12 (k0_pay157 (grid0.coords t)) (BitVec.ofNat 32 (4 * (grid0.coords t 2).val)) k0_h2 x1 x2 q a).1, y ∈ pc.1.set := by
  rw [diag_list]
  unfold diagRun.sl.Ha_7 diagRun.sl.Ha_6 diagRun.sl.Ha_5 diagRun.sl.Ha_4 diagRun.sl.Ha_3 diagRun.sl.Ha_2
  exact plane_cover _ ⟨_, List.mem_cons_of_mem _ (List.mem_cons_of_mem _ (List.mem_cons_of_mem _ (List.mem_cons_of_mem _ (List.mem_cons_of_mem _ (List.mem_cons_of_mem _ (List.mem_cons_self))))))⟩
    ⟨_, List.mem_cons_of_mem _ (List.mem_cons_of_mem _ (List.mem_cons_of_mem _ (List.mem_cons_of_mem _ (List.mem_cons_of_mem _ (List.mem_cons_of_mem _ (List.mem_cons_of_mem _ (List.mem_cons_self)))))))⟩ y

/-- The sums after the diagonal. -/
theorem diag_at (m : Fin 2) : diagA c (grid0.coords t) arg3 harg3 arg4 harg4 arg5 harg5 arg6 harg6 arg7 harg7 arg8 harg8 arg9 harg9 arg10 harg10 arg11 harg11 arg12 harg12 (k0_pay157 (grid0.coords t)) (BitVec.ofNat 32 (4 * (grid0.coords t 2).val)) k0_h2 x1 x2 q a (ix3 m r col)
    = ((((a (ix3 m r col) + ∑ j, term x1 x2 q (grid0.coords t 2).val m r col (kbd (grid0.coords t) 0) j) + ∑ j, term x1 x2 q (grid0.coords t 2).val m r col (kbd (grid0.coords t) 1) j)
        + ∑ j, term x1 x2 q (grid0.coords t 2).val m r col (kbd (grid0.coords t) 2) j) + ∑ j, term x1 x2 q (grid0.coords t 2).val m r col (kbd (grid0.coords t) 3) j) := by
  unfold diagA
  rw [View.read_writes_eq_canon _ _ _ (diag_cover c t arg3 harg3 arg4 harg4 arg5 harg5 arg6 harg6 arg7 harg7 arg8 harg8 arg9 harg9 arg10 harg10 arg11 harg11 arg12 harg12 k0_h2 x1 x2 q a), diag_list]
  match m with
  | ⟨0, _⟩ =>
    refine Eq.trans ?_ (e3_0 c t arg4 harg4 arg5 harg5 arg10 harg10 arg11 harg11 k0_h2 x1 x2 q a r col)
    exact canon_out (ix3 0 r col) 0 (Or.inl Nat.zero_lt_one)
  | ⟨1, _⟩ => exact e3_1 c t arg4 harg4 arg5 harg5 arg10 harg10 arg11 harg11 k0_h2 x1 x2 q a r col _

theorem redo_list : (redoRun c (grid0.coords t) arg3 harg3 arg4 harg4 arg5 harg5 arg6 harg6 arg7 harg7 arg8 harg8 arg9 harg9 arg10 harg10 arg11 harg11 arg12 harg12 (k0_pay157 (grid0.coords t)) (BitVec.ofNat 32 (4 * (grid0.coords t 2).val)) x1 x2 q a b).1 = (⟨Rect.unit (s := S2x144x2048) ![1, 0, 0] ![1, 144, 2048] inb_S2x144x2048_S1x144x2048_1_0_0,
        k0_pay202 (redoRun.sl.r_25 c (grid0.coords t) arg5 harg5 x2) (redoRun.sl.r_30 c (grid0.coords t) arg4 harg4 arg10 harg10 arg12 harg12 (k0_pay157 (grid0.coords t)) (BitVec.ofNat 32 (4 * (grid0.coords t 2).val)) x1 q b) (redoRun.sl.r_31 c (grid0.coords t) arg4 harg4 arg10 harg10 arg12 harg12 (k0_pay157 (grid0.coords t)) (BitVec.ofNat 32 (4 * (grid0.coords t 2).val)) x1 q b) (redoRun.sl.v709 c (grid0.coords t) arg4 harg4 arg5 harg5 arg10 harg10 arg11 harg11 arg12 harg12 (k0_pay157 (grid0.coords t)) (BitVec.ofNat 32 (4 * (grid0.coords t 2).val)) x1 x2 q a b)⟩ : View.Piece (Elt Ideal) S2x144x2048 .f32) :: redoRun.sl.Ha_7 c (grid0.coords t) arg4 harg4 arg5 harg5 arg10 harg10 arg11 harg11 arg12 harg12 (k0_pay157 (grid0.coords t)) (BitVec.ofNat 32 (4 * (grid0.coords t 2).val)) x1 x2 q a b := rfl

theorem redo_cover (y : S2x144x2048.Idx) : ∃ pc ∈ (redoRun c (grid0.coords t) arg3 harg3 arg4 harg4 arg5 harg5 arg6 harg6 arg7 harg7 arg8 harg8 arg9 harg9 arg10 harg10 arg11 harg11 arg12 harg12 (k0_pay157 (grid0.coords t)) (BitVec.ofNat 32 (4 * (grid0.coords t 2).val)) x1 x2 q a b).1, y ∈ pc.1.set := by
  rw [redo_list]
  unfold redoRun.sl.Ha_7
  exact plane_cover _ ⟨_, List.mem_cons_self⟩ ⟨_, List.mem_cons_of_mem _ List.mem_cons_self⟩ y

/-- The sums after the diagonal of the running-maximum pass. -/
theorem redo_at (m : Fin 2) (ha : a (ix3 m r col) = runA (msc x1 q (grid0.coords t 2).val m col) (vals x2 r) (4 * (grid0.coords t 2).val)) (hb : b (ix3 m 0 col) = runM (msc x1 q (grid0.coords t 2).val m col) (4 * (grid0.coords t 2).val)) :
    redoA c (grid0.coords t) arg3 harg3 arg4 harg4 arg5 harg5 arg6 harg6 arg7 harg7 arg8 harg8 arg9 harg9 arg10 harg10 arg11 harg11 arg12 harg12 (k0_pay157 (grid0.coords t)) (BitVec.ofNat 32 (4 * (grid0.coords t 2).val)) x1 x2 q a b (ix3 m r col) = runA (msc x1 q (grid0.coords t 2).val m col) (vals x2 r) (4 * (grid0.coords t 2).val + 4) := by
  unfold redoA
  rw [View.read_writes_eq_canon _ _ _ (redo_cover c t arg3 harg3 arg4 harg4 arg5 harg5 arg6 harg6 arg7 harg7 arg8 harg8 arg9 harg9 arg10 harg10 arg11 harg11 arg12 harg12 x1 x2 q a b), redo_list]
  match m with
  | ⟨0, _⟩ =>
    refine Eq.trans ?_ (redoA3_0 c t arg4 harg4 arg5 harg5 arg10 harg10 arg11 harg11 arg12 harg12 x1 x2 q a b r col ha hb)
    exact canon_out (ix3 0 r col) 0 (Or.inl Nat.zero_lt_one)
  | ⟨1, _⟩ => exact redoA3_1 c t arg4 harg4 arg5 harg5 arg10 harg10 arg11 harg11 arg12 harg12 x1 x2 q a b r col ha hb

end

section

variable (c : Dev nD) (t : Fin grid0.N) (arg3 : Memref sig .tc .vmem S1x256x2048 .bf16) (harg3 : arg3.IsWhole) (arg4 : Memref sig .tc .vmem S1x8192x256 .bf16) (harg4 : arg4.IsWhole) (arg5 : Memref sig .tc .vmem S1x1x16x144x512 .bf16) (harg5 : arg5.IsWhole) (arg6 : Memref sig .tc .vmem S1x16x8x128 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S1x2048x128 .bf16) (harg9 : arg9.IsWhole) (arg10 : Memref sig .tc .vmem S256x2048 .bf16) (harg10 : arg10.IsWhole) (arg11 : Memref sig .tc .vmem S2x144x2048 .f32) (harg11 : arg11.IsWhole) (arg12 : Memref sig .tc .vmem S2x1x2048 .f32) (harg12 : arg12.IsWhole) (k0_h2 : k0_cond2 (grid0.coords t) = 1#1)
    (x0 : Vec Ideal S1x256x2048 .bf16) (x1 : Vec Ideal S1x8192x256 .bf16) (x2 : Vec Ideal S1x1x16x144x512 .bf16) (x3 : Vec Ideal S1x16x8x128 .f32)
    (x4 : Vec Ideal S4x64 .f32) (x5 : Vec Ideal S128x1 .f32) (m : Fin 2) (r : Fin 144) (col : Fin 2048)

theorem fillA_list : (fillRun c (grid0.coords t) arg3 harg3 arg4 harg4 arg5 harg5 arg6 harg6 arg7 harg7 arg8 harg8 arg9 harg9 arg10 harg10 arg11 harg11 arg12 harg12 x0 x3).2.2.1 = [⟨Rect.unit (s := S2x144x2048) ![0, 0, 0] S2x144x2048.size inb_S2x144x2048_S2x144x2048_0_0_0, k0_pay189 (F := Ideal)⟩] := rfl

theorem fillA_at : fillA c (grid0.coords t) arg3 harg3 arg4 harg4 arg5 harg5 arg6 harg6 arg7 harg7 arg8 harg8 arg9 harg9 arg10 harg10 arg11 harg11 arg12 harg12 x0 x3 (ix3 m r col) = 0 := by
  unfold fillA
  rw [fillA_list]
  refine (canon_in (ix3 m r col) (ix3 m r col) (idx3 (Nat.zero_add _).symm (Nat.zero_add _).symm (Nat.zero_add _).symm)).trans ?_
  pointwise [k0_pay189]

theorem resetA_list : (resetRun (F := Ideal) c (grid0.coords t) arg3 harg3 arg4 harg4 arg5 harg5 arg6 harg6 arg7 harg7 arg8 harg8 arg9 harg9 arg10 harg10 arg11 harg11 arg12 harg12).1 = [⟨Rect.unit (s := S2x144x2048) ![0, 0, 0] S2x144x2048.size inb_S2x144x2048_S2x144x2048_0_0_0, k0_pay84 (F := Ideal)⟩] := rfl

theorem resetA_at : resetA (F := Ideal) c (grid0.coords t) arg3 harg3 arg4 harg4 arg5 harg5 arg6 harg6 arg7 harg7 arg8 harg8 arg9 harg9 arg10 harg10 arg11 harg11 arg12 harg12 (ix3 m r col) = 0 := by
  unfold resetA
  rw [resetA_list]
  refine (canon_in (ix3 m r col) (ix3 m r col) (idx3 (Nat.zero_add _).symm (Nat.zero_add _).symm (Nat.zero_add _).symm)).trans ?_
  pointwise [k0_pay84]

theorem resetM_list : (resetRun (F := Ideal) c (grid0.coords t) arg3 harg3 arg4 harg4 arg5 harg5 arg6 harg6 arg7 harg7 arg8 harg8 arg9 harg9 arg10 harg10 arg11 harg11 arg12 harg12).2.1 = [⟨Rect.unit (s := S2x1x2048) ![0, 0, 0] S2x1x2048.size inb_S2x1x2048_S2x1x2048_0_0_0, k0_pay85 (F := Ideal)⟩] := rfl

theorem resetM_at : resetM (F := Ideal) c (grid0.coords t) arg3 harg3 arg4 harg4 arg5 harg5 arg6 harg6 arg7 harg7 arg8 harg8 arg9 harg9 arg10 harg10 arg11 harg11 arg12 harg12 (ix3 m 0 col) = ⊥ := by
  unfold resetM
  rw [resetM_list]
  refine (canon_in (ix3 m 0 col) (ix3 m 0 col) (idx3 (Nat.zero_add _).symm (Nat.zero_add _).symm (Nat.zero_add _).symm)).trans ?_
  rw [← mask_bot]
  pointwise [k0_pay85]

/-- The first pass leaves the sum of the keys' terms. -/
theorem sums_at : sumsA c (grid0.coords t) arg3 harg3 arg4 harg4 arg5 harg5 arg6 harg6 arg7 harg7 arg8 harg8 arg9 harg9 arg10 harg10 arg11 harg11 arg12 harg12 k0_h2 x0 x1 x2 x3 x4 x5 (ix3 m r col)
    = ∑ kb : Fin 16, ∑ j, term x1 x2 (fillQ c (grid0.coords t) arg3 harg3 arg4 harg4 arg5 harg5 arg6 harg6 arg7 harg7 arg8 harg8 arg9 harg9 arg10 harg10 arg11 harg11 arg12 harg12 x0 x3) (grid0.coords t 2).val m r col kb j := by
  have e : ∃ w1 w2 w3 w4, sumsA c (grid0.coords t) arg3 harg3 arg4 harg4 arg5 harg5 arg6 harg6 arg7 harg7 arg8 harg8 arg9 harg9 arg10 harg10 arg11 harg11 arg12 harg12 k0_h2 x0 x1 x2 x3 x4 x5
      = diagA c (grid0.coords t) arg3 harg3 arg4 harg4 arg5 harg5 arg6 harg6 arg7 harg7 arg8 harg8 arg9 harg9 arg10 harg10 arg11 harg11 arg12 harg12 (k0_pay157 (grid0.coords t)) (fillRun.sl.v21 (grid0.coords t)) k0_h2 x1 x2 (fillQ c (grid0.coords t) arg3 harg3 arg4 harg4 arg5 harg5 arg6 harg6 arg7 harg7 arg8 harg8 arg9 harg9 arg10 harg10 arg11 harg11 arg12 harg12 x0 x3)
          (pairsA c (grid0.coords t) arg3 harg3 arg4 harg4 arg5 harg5 arg6 harg6 arg7 harg7 arg8 harg8 arg9 harg9 arg10 harg10 arg11 harg11 arg12 harg12 (k0_pay157 (grid0.coords t)) (fillRun.sl.v21 (grid0.coords t)) w1 w2 w3 w4 x1 x2 (fillQ c (grid0.coords t) arg3 harg3 arg4 harg4 arg5 harg5 arg6 harg6 arg7 harg7 arg8 harg8 arg9 harg9 arg10 harg10 arg11 harg11 arg12 harg12 x0 x3) (fillA c (grid0.coords t) arg3 harg3 arg4 harg4 arg5 harg5 arg6 harg6 arg7 harg7 arg8 harg8 arg9 harg9 arg10 harg10 arg11 harg11 arg12 harg12 x0 x3)) := ⟨_, _, _, _, rfl⟩
  obtain ⟨w1, w2, w3, w4, e⟩ := e
  rw [e, fillV21 t, diag_at, pairs_at, fillA_at, zero_add, ← upto_all _ _ _ _ (coord2 (grid0.coords t))]
  have h := fun d : Fin 4 => upto_succ (term x1 x2 (fillQ c (grid0.coords t) arg3 harg3 arg4 harg4 arg5 harg5 arg6 harg6 arg7 harg7 arg8 harg8 arg9 harg9 arg10 harg10 arg11 harg11 arg12 harg12 x0 x3) (grid0.coords t 2).val m r col) (kbd (grid0.coords t) d)
  exact ((congrArg (· + _) ((congrArg (· + _) ((congrArg (· + _) (h 0).symm).trans (h 1).symm)).trans (h 2).symm)).trans (h 3).symm)

/-- The second pass leaves the running sum. -/
theorem again_at : againA c (grid0.coords t) arg3 harg3 arg4 harg4 arg5 harg5 arg6 harg6 arg7 harg7 arg8 harg8 arg9 harg9 arg10 harg10 arg11 harg11 arg12 harg12 x0 x1 x2 x3 x4 x5 (ix3 m r col)
    = runA (msc x1 (fillQ c (grid0.coords t) arg3 harg3 arg4 harg4 arg5 harg5 arg6 harg6 arg7 harg7 arg8 harg8 arg9 harg9 arg10 harg10 arg11 harg11 arg12 harg12 x0 x3) (grid0.coords t 2).val m col) (vals x2 r) (4 * (grid0.coords t 2).val + 4) := by
  have e : againA c (grid0.coords t) arg3 harg3 arg4 harg4 arg5 harg5 arg6 harg6 arg7 harg7 arg8 harg8 arg9 harg9 arg10 harg10 arg11 harg11 arg12 harg12 x0 x1 x2 x3 x4 x5
      = redoA c (grid0.coords t) arg3 harg3 arg4 harg4 arg5 harg5 arg6 harg6 arg7 harg7 arg8 harg8 arg9 harg9 arg10 harg10 arg11 harg11 arg12 harg12 (k0_pay157 (grid0.coords t)) (fillRun.sl.v21 (grid0.coords t)) x1 x2 (fillQ c (grid0.coords t) arg3 harg3 arg4 harg4 arg5 harg5 arg6 harg6 arg7 harg7 arg8 harg8 arg9 harg9 arg10 harg10 arg11 harg11 arg12 harg12 x0 x3)
          (blocksA c (grid0.coords t) arg3 harg3 arg4 harg4 arg5 harg5 arg6 harg6 arg7 harg7 arg8 harg8 arg9 harg9 arg10 harg10 arg11 harg11 arg12 harg12 (fillRun.sl.v21 (grid0.coords t)) x1 x2 (fillQ c (grid0.coords t) arg3 harg3 arg4 harg4 arg5 harg5 arg6 harg6 arg7 harg7 arg8 harg8 arg9 harg9 arg10 harg10 arg11 harg11 arg12 harg12 x0 x3) (resetA c (grid0.coords t) arg3 harg3 arg4 harg4 arg5 harg5 arg6 harg6 arg7 harg7 arg8 harg8 arg9 harg9 arg10 harg10 arg11 harg11 arg12 harg12) (resetM c (grid0.coords t) arg3 harg3 arg4 harg4 arg5 harg5 arg6 harg6 arg7 harg7 arg8 harg8 arg9 harg9 arg10 harg10 arg11 harg11 arg12 harg12))
          (blocksM c (grid0.coords t) arg3 harg3 arg4 harg4 arg5 harg5 arg6 harg6 arg7 harg7 arg8 harg8 arg9 harg9 arg10 harg10 arg11 harg11 arg12 harg12 (fillRun.sl.v21 (grid0.coords t)) x1 x2 (fillQ c (grid0.coords t) arg3 harg3 arg4 harg4 arg5 harg5 arg6 harg6 arg7 harg7 arg8 harg8 arg9 harg9 arg10 harg10 arg11 harg11 arg12 harg12 x0 x3) (resetA c (grid0.coords t) arg3 harg3 arg4 harg4 arg5 harg5 arg6 harg6 arg7 harg7 arg8 harg8 arg9 harg9 arg10 harg10 arg11 harg11 arg12 harg12) (resetM c (grid0.coords t) arg3 harg3 arg4 harg4 arg5 harg5 arg6 harg6 arg7 harg7 arg8 harg8 arg9 harg9 arg10 harg10 arg11 harg11 arg12 harg12)) := rfl
  have h := blocks_at c t arg3 harg3 arg4 harg4 arg5 harg5 arg6 harg6 arg7 harg7 arg8 harg8 arg9 harg9 arg10 harg10 arg11 harg11 arg12 harg12 (BitVec.ofNat 32 (4 * (grid0.coords t 2).val)) x1 x2 (fillQ c (grid0.coords t) arg3 harg3 arg4 harg4 arg5 harg5 arg6 harg6 arg7 harg7 arg8 harg8 arg9 harg9 arg10 harg10 arg11 harg11 arg12 harg12 x0 x3) r col (resetA c (grid0.coords t) arg3 harg3 arg4 harg4 arg5 harg5 arg6 harg6 arg7 harg7 arg8 harg8 arg9 harg9 arg10 harg10 arg11 harg11 arg12 harg12) (resetM c (grid0.coords t) arg3 harg3 arg4 harg4 arg5 harg5 arg6 harg6 arg7 harg7 arg8 harg8 arg9 harg9 arg10 harg10 arg11 harg11 arg12 harg12) m
    (resetA_at c t arg3 harg3 arg4 harg4 arg5 harg5 arg6 harg6 arg7 harg7 arg8 harg8 arg9 harg9 arg10 harg10 arg11 harg11 arg12 harg12 m r col) (resetM_at c t arg3 harg3 arg4 harg4 arg5 harg5 arg6 harg6 arg7 harg7 arg8 harg8 arg9 harg9 arg10 harg10 arg11 harg11 arg12 harg12 m col)
  rw [e, fillV21 t]
  exact redo_at c t arg3 harg3 arg4 harg4 arg5 harg5 arg6 harg6 arg7 harg7 arg8 harg8 arg9 harg9 arg10 harg10 arg11 harg11 arg12 harg12 x1 x2 (fillQ c (grid0.coords t) arg3 harg3 arg4 harg4 arg5 harg5 arg6 harg6 arg7 harg7 arg8 harg8 arg9 harg9 arg10 harg10 arg11 harg11 arg12 harg12 x0 x3) _ _ r col m h.1 h.2

end

end Cert.KernelIdeal.Diff

end
-- ==== Proof.Diff.Online.lean ====
/-
The running maximum and the running sum over blocks, of real scores and values: the sum of the values weighted by the exponentials of the
scores, less one number.
-/
module

public import proofs.«01_k».proof.Proof.Diff.BlocksSum
public import Mathlib.Analysis.SpecialFunctions.Exp

@[expose] public section

noncomputable section

namespace Cert.KernelIdeal.Diff

open Idealize.ShloMosaic

theorem bits_bot : Ideal.ofBits .f32 0xFF800000#32 = ⊥ := by simp [Ideal.ofBits, Ideal.ieee]

/-- A finite sum of reals, in the extended reals. -/
theorem coe_sum {α : Type} (s : Finset α) (f : α → ℝ) : (∑ a ∈ s, (f a : EReal)) = ((∑ a ∈ s, f a : ℝ) : EReal) := by
  classical
  induction s using Finset.induction_on with
  | empty => simp
  | insert a s h ih => rw [Finset.sum_insert h, Finset.sum_insert h, ih, EReal.coe_add]

/-- The weighted sum over the first blocks, the scores less `μ`. -/
def wsum (p : ℕ → Fin 512 → Prop) [∀ k j, Decidable (p k j)] (S V : ℕ → Fin 512 → ℝ) (μ : ℝ) (K : ℕ) : ℝ :=
  ∑ k ∈ Finset.range K, ∑ j, if p k j then V k j * Real.exp (S k j - μ) else 0

theorem wsum_rescale (p : ℕ → Fin 512 → Prop) [∀ k j, Decidable (p k j)] (S V : ℕ → Fin 512 → ℝ) (μ ν : ℝ) (K : ℕ) :
    Real.exp (μ - ν) * wsum p S V μ K = wsum p S V ν K := by
  unfold wsum
  rw [Finset.mul_sum]
  refine Finset.sum_congr rfl fun k _ => ?_
  rw [Finset.mul_sum]
  refine Finset.sum_congr rfl fun j _ => ?_
  split
  · have : S k j - ν = (μ - ν) + (S k j - μ) := by ring
    rw [this, Real.exp_add]; ring
  · rw [mul_zero]

section

variable (p : ℕ → Fin 512 → Prop) [∀ k j, Decidable (p k j)] (S : ℕ → Fin 512 → ℝ)

/-- The scores, `⊥` where not kept. -/
def masked (k : ℕ) (j : Fin 512) : EReal := if p k j then (S k j : EReal) else ⊥

theorem masked_lt (k : ℕ) (j : Fin 512) : masked p S k j < ⊤ := by
  unfold masked
  split
  · exact EReal.coe_lt_top _
  · exact bot_lt_top

theorem grow_real (m : EReal) (hm : m < ⊤) (k : ℕ) (h : m ≠ ⊥ ∨ ∃ j, p k j) : ∃ ν : ℝ, growM m (masked p S k) = ν := by
  have h1 : growM m (masked p S k) < ⊤ := by
    unfold growM
    rw [bits_bot]
    exact max_lt hm ((Finset.fold_max_lt _).mpr ⟨bot_lt_top, fun j _ => masked_lt p S k j⟩)
  have h2 : growM m (masked p S k) ≠ ⊥ := by
    unfold growM
    rcases h with h | ⟨j, hj⟩
    · exact fun e => h (le_bot_iff.mp (e ▸ le_max_left _ _))
    · intro e
      have h3 : masked p S k j ≤ ⊥ := by
        rw [← e]
        exact le_max_of_le_right ((Finset.le_fold_max _).mpr (Or.inr ⟨j, Finset.mem_univ _, le_refl _⟩))
      unfold masked at h3
      rw [if_pos hj] at h3
      exact EReal.coe_ne_bot _ (le_bot_iff.mp h3)
  exact ⟨_, (EReal.coe_toReal h1.ne h2).symm⟩

theorem weigh (V : ℕ → Fin 512 → ℝ) (ν : ℝ) (k : ℕ) :
    (∑ j : Fin 512, (V k j : EReal) * Ideal.exp (masked p S k j - ν)) = ((∑ j, if p k j then V k j * Real.exp (S k j - ν) else 0 : ℝ) : EReal) := by
  rw [← coe_sum]
  refine Finset.sum_congr rfl fun j _ => ?_
  unfold masked
  split
  · rw [← EReal.coe_sub, Ideal.exp_coe, ← EReal.coe_mul]
  · rw [EReal.bot_sub, Ideal.exp_bot, mul_zero, EReal.coe_zero]

/-- The running sum, after at least one block, is the weighted sum less the running maximum. -/
theorem online (h0 : ∃ j, p 0 j) (K : ℕ) : ∃ μ : ℝ, runM (masked p S) (K + 1) = μ ∧
    ∀ V : ℕ → Fin 512 → ℝ, runA (masked p S) (fun k j => (V k j : EReal)) (K + 1) = (wsum p S V μ (K + 1) : EReal) := by
  induction K with
  | zero =>
    obtain ⟨ν, hν⟩ := grow_real p S ⊥ bot_lt_top 0 (Or.inr h0)
    refine ⟨ν, hν, fun V => ?_⟩
    show growA ⊥ (masked p S 0) (fun j => (V 0 j : EReal)) 0 = _
    unfold growA
    rw [hν, mul_zero, zero_add, weigh]
    unfold wsum
    rw [Finset.sum_range_succ, Finset.sum_range_zero, zero_add]
  | succ K ih =>
    obtain ⟨μ, hμ, hA⟩ := ih
    obtain ⟨ν, hν⟩ := grow_real p S (runM (masked p S) (K + 1)) (by rw [hμ]; exact EReal.coe_lt_top _) (K + 1)
      (Or.inl (by rw [hμ]; exact EReal.coe_ne_bot _))
    refine ⟨ν, hν, fun V => ?_⟩
    show growA (runM (masked p S) (K + 1)) (masked p S (K + 1)) (fun j => (V (K + 1) j : EReal)) (runA (masked p S) (fun k j => (V k j : EReal)) (K + 1)) = _
    unfold growA
    rw [hν, hA V, hμ, weigh, ← EReal.coe_sub, Ideal.exp_coe, ← EReal.coe_mul, ← EReal.coe_add, wsum_rescale]
    congr 1
    unfold wsum
    rw [Finset.sum_range_succ _ (K + 1)]

end

end Cert.KernelIdeal.Diff

end
-- ==== Proof.Diff.Attn.lean ====
/-
The sums of either pass, of real scores and values, divided by the row of ones: the attention's weighted mean of the values, in which a
number subtracted from every score cancels.
-/
module

public import proofs.«01_k».proof.Proof.Diff.Sums
public import proofs.«01_k».proof.Proof.Diff.Online

@[expose] public section

set_option maxRecDepth 65536

noncomputable section

namespace Cert.KernelIdeal.Diff

open Idealize.ShloMosaic Idealize.ShloMosaic.TcCoe
open Cert.KernelIdeal Cert.KernelIdeal.Gen

/-- A sum over blocks and places is a sum over keys. -/
theorem sum_keys (f : Fin 8192 → ℝ) : ∑ kb : Fin 16, ∑ j : Fin 512, f (key kb j) = ∑ t, f t := by
  rw [← Fintype.sum_prod_type']
  refine Fintype.sum_equiv (finProdFinEquiv (m := 16) (n := 512)) _ _ fun x => congrArg f (Fin.ext ?_)
  show 512 * x.1.val + x.2.val = x.2.val + 512 * x.1.val
  omega

/-- The values of the keys up to `qp`, weighted by the exponentials of their scores. -/
def wpart (qp : ℕ) (S V : Fin 8192 → ℝ) : ℝ := ∑ t : Fin 8192, if t.val ≤ qp then V t * Real.exp (S t) else 0

theorem wpart_shift (qp : ℕ) (S V : Fin 8192 → ℝ) (d : ℝ) : wpart qp (fun t => S t - d) V = Real.exp (-d) * wpart qp S V := by
  unfold wpart
  rw [Finset.mul_sum]
  refine Finset.sum_congr rfl fun t _ => ?_
  split
  · rw [show (fun t => S t - d) t = -d + S t by ring, Real.exp_add]; ring
  · rw [mul_zero]

theorem wpart_pos (qp : ℕ) (S : Fin 8192 → ℝ) : 0 < wpart qp S (fun _ => 1) := by
  unfold wpart
  refine Finset.sum_pos' (fun t _ => ?_) ⟨⟨0, by omega⟩, Finset.mem_univ _, ?_⟩
  · split
    · rw [one_mul]; exact (Real.exp_pos _).le
    · exact le_refl _
  · rw [if_pos (Nat.zero_le _), one_mul]; exact Real.exp_pos _

/-- The attention's mean of the values of the keys up to `qp`. -/
def attn (qp : ℕ) (S V : Fin 8192 → ℝ) : ℝ := wpart qp S V / wpart qp S (fun _ => 1)

theorem attn_shift (qp : ℕ) (S V : Fin 8192 → ℝ) (d : ℝ) : attn qp (fun t => S t - d) V = attn qp S V := by
  unfold attn
  rw [wpart_shift, wpart_shift, mul_div_mul_left _ _ (Real.exp_pos _).ne']

theorem div_real (a b : ℝ) (h : b ≠ 0) : Ideal.div (a : EReal) (b : EReal) = ((a / b : ℝ) : EReal) := by
  rw [Ideal.div_coe h, ← EReal.coe_mul, mul_one_div]

section

variable (x1 : Vec Ideal S1x8192x256 .bf16) (x2 : Vec Ideal S1x1x16x144x512 .bf16) (q : Vec Ideal S256x2048 .bf16) (n : ℕ) (hn : n < 4) (m : Fin 2)
    (col : Fin 2048) (S : Fin 8192 → ℝ) (hS : ∀ kb j, score x1 q m col kb j = (S (key kb j) : EReal))

include hS in
theorem fast_real (r : Fin 144) (V : Fin 8192 → ℝ) (hV : ∀ kb j, (x2 (ix5 0 0 kb r j) : EReal) = (V (key kb j) : EReal)) :
    ∑ kb : Fin 16, ∑ j, term x1 x2 q n m r col kb j = (wpart (2048 * n + col.val) S V : EReal) := by
  unfold wpart
  rw [← sum_keys, ← coe_sum]
  refine Finset.sum_congr rfl fun kb _ => ?_
  rw [← coe_sum]
  refine Finset.sum_congr rfl fun j _ => ?_
  unfold term
  show (if 512 * kb.val + j.val ≤ 2048 * n + col.val then _ else _) = ((if 512 * kb.val + j.val ≤ 2048 * n + col.val then _ else _ : ℝ) : EReal)
  split
  · rw [hS, hV, Ideal.exp_coe, ← EReal.coe_mul]
  · rw [EReal.coe_zero]

theorem wsum_keys (V : Fin 8192 → ℝ) (μ : ℝ) (hn : n < 4) :
    wsum (fun k j => 512 * (blk k).val + j.val ≤ 2048 * n + col.val) (fun k j => S (key (blk k) j)) (fun k j => V (key (blk k) j)) μ (4 * n + 4)
      = wpart (2048 * n + col.val) (fun t => S t - μ) V := by
  unfold wpart
  rw [← sum_keys]
  have h : wsum (fun k j => 512 * (blk k).val + j.val ≤ 2048 * n + col.val) (fun k j => S (key (blk k) j)) (fun k j => V (key (blk k) j)) μ (4 * n + 4)
      = wsum (fun k j => 512 * (blk k).val + j.val ≤ 2048 * n + col.val) (fun k j => S (key (blk k) j)) (fun k j => V (key (blk k) j)) μ 16 := by
    unfold wsum
    refine Finset.sum_subset (fun k hk => ?_) fun k hk hk' => ?_
    · rw [Finset.mem_range] at hk ⊢; omega
    · rw [Finset.mem_range] at hk hk'
      refine Finset.sum_eq_zero fun j _ => if_neg ?_
      show ¬ 512 * (k % 16) + j.val ≤ 2048 * n + col.val
      have : k % 16 = k := Nat.mod_eq_of_lt hk
      omega
  rw [h]
  unfold wsum
  rw [Finset.sum_range]
  refine Finset.sum_congr rfl fun kb _ => Finset.sum_congr rfl fun j _ => ?_
  dsimp only
  simp only [blk_eq]
  rfl

include hS hn in
theorem slow_real : ∃ μ : ℝ, ∀ (r : Fin 144) (V : Fin 8192 → ℝ), (∀ kb j, (x2 (ix5 0 0 kb r j) : EReal) = (V (key kb j) : EReal)) →
    runA (msc x1 q n m col) (vals x2 r) (4 * n + 4) = (wpart (2048 * n + col.val) (fun t => S t - μ) V : EReal) := by
  obtain ⟨μ, -, h⟩ := online (fun k j => 512 * (blk k).val + j.val ≤ 2048 * n + col.val) (fun k j => S (key (blk k) j)) ⟨⟨0, by omega⟩, Nat.zero_le _⟩ (4 * n + 3)
  refine ⟨μ, fun r V hV => ?_⟩
  rw [← wsum_keys n col S V μ hn]
  have e1 : msc x1 q n m col = masked (fun k j => 512 * (blk k).val + j.val ≤ 2048 * n + col.val) (fun k j => S (key (blk k) j)) := by
    funext k j
    unfold msc masked
    rw [hS]
  have e2 : vals x2 r = fun k j => (V (key (blk k) j) : EReal) := by
    funext k j
    exact hV _ _
  rw [e1, e2]
  exact h _

include hS hn in
/-- Either pass's sums, divided by the row of ones. -/
theorem ratio (A : Fin 144 → EReal) (hA : (∀ r, A r = ∑ kb : Fin 16, ∑ j, term x1 x2 q n m r col kb j) ∨ (∀ r, A r = runA (msc x1 q n m col) (vals x2 r) (4 * n + 4)))
    (h1 : ∀ kb j, (x2 (ix5 0 0 kb 130 j) : EReal) = 1)
    (r : Fin 144) (V : Fin 8192 → ℝ) (hV : ∀ kb j, (x2 (ix5 0 0 kb r j) : EReal) = (V (key kb j) : EReal)) :
    Ideal.div (A r) (A 130) = (attn (2048 * n + col.val) S V : EReal) := by
  have h1' : ∀ kb j, (x2 (ix5 0 0 kb 130 j) : EReal) = (((fun _ => 1 : Fin 8192 → ℝ) (key kb j) : ℝ) : EReal) := fun kb j => by rw [h1, EReal.coe_one]
  rcases hA with hA | hA
  · rw [hA, hA, fast_real x1 x2 q n m col S hS r V hV, fast_real x1 x2 q n m col S hS 130 (fun _ => 1) h1', div_real _ _ (wpart_pos _ _).ne']
    rfl
  · obtain ⟨μ, h⟩ := slow_real x1 x2 q n hn m col S hS
    rw [hA, hA, h r V hV, h 130 (fun _ => 1) h1', div_real _ _ (wpart_pos _ _).ne', ← attn_shift _ S V μ]
    rfl

end

end Cert.KernelIdeal.Diff

end
-- ==== Proof.Diff.FillRows.lean ====
/-
The rows of query features a step prepares: the scaled queries, the four rows of the distance penalty, the row of the shift, and zeros.
-/
module

public import proofs.«01_k».proof.Proof.Diff.Attn
public import Idealize.ShloMosaic.Lib.Pointwise
public import Idealize.ShloMosaic.Lib.IdealHost

@[expose] public section

set_option maxRecDepth 65536

noncomputable section

namespace Cert.KernelIdeal.Diff

open Idealize.ShloMosaic Idealize.ShloMosaic.TcCoe Idealize.ShloMosaic.Tactic
open Cert.KernelIdeal Cert.KernelIdeal.Gen

/-- The position word's quotient by 64, as the kernel computes it. -/
def quo (w : BitVec 32) : BitVec 32 :=
  Scalar.select
          (IntOp.andi
            (IntOp.cmpi CmpIPredicate.ne
              (IntOp.subi
                (BitVec.setWidth 32 (IntOp.cmpi CmpIPredicate.sgt w 0#32))
                (BitVec.setWidth 32 (IntOp.cmpi CmpIPredicate.slt w 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector w 64#32)
              0#32))
          (IntOp.subi (IntOp.divsi ArithUnit.vector w 64#32) 1#32)
          (IntOp.divsi ArithUnit.vector w 64#32)

/-- Its remainder. -/
def rest (w : BitVec 32) : BitVec 32 :=
  Scalar.select
        (IntOp.andi
          (IntOp.xori
            (IntOp.cmpi CmpIPredicate.slt
              (IntOp.remsi ArithUnit.vector w
                (Scalar.select (Scalar.cmpi CmpIPredicate.eq 64#32 0#32) 1#32 64#32))
              0#32)
            (Scalar.cmpi CmpIPredicate.slt (Scalar.select (Scalar.cmpi CmpIPredicate.eq 64#32 0#32) 1#32 64#32) 0#32))
          (IntOp.cmpi CmpIPredicate.ne
            (IntOp.remsi ArithUnit.vector w
              (Scalar.select (Scalar.cmpi CmpIPredicate.eq 64#32 0#32) 1#32 64#32))
            0#32))
        (IntOp.addi
          (IntOp.remsi ArithUnit.vector w
            (Scalar.select (Scalar.cmpi CmpIPredicate.eq 64#32 0#32) 1#32 64#32))
          (Scalar.select (Scalar.cmpi CmpIPredicate.eq 64#32 0#32) 1#32 64#32))
        (IntOp.remsi ArithUnit.vector w
          (Scalar.select (Scalar.cmpi CmpIPredicate.eq 64#32 0#32) 1#32 64#32))

theorem quo_eq : ∀ p : Fin 8192, (quo (BitVec.ofNat 32 p.val)).toInt = ((p.val / 64 : ℕ) : ℤ) := by decide +kernel

theorem rest_eq : ∀ p : Fin 8192, (rest (BitVec.ofNat 32 p.val)).toInt = ((p.val % 64 : ℕ) : ℤ) := by decide +kernel

/-- The position of a column. -/
def qpos (i : grid0.Coords) (col : Fin 2048) : ℕ := 2048 * (i 2).val + col.val

theorem qpos_lt (i : grid0.Coords) (col : Fin 2048) : qpos i col < 8192 := by
  have := coord2 i
  unfold qpos
  omega

theorem quo_pos (i : grid0.Coords) (col : Fin 2048) :
    FloatOps.sitofp (F := Ideal) FTy.f32 (quo (BitVec.ofNat 32 (2048 * (i 2).val + col.val))) = (((qpos i col / 64 : ℕ) : ℝ) : EReal) := by
  show (((quo (BitVec.ofNat 32 (qpos i col))).toInt : ℝ) : EReal) = _
  rw [quo_eq ⟨qpos i col, qpos_lt i col⟩]
  norm_cast

theorem rest_pos (i : grid0.Coords) (col : Fin 2048) :
    FloatOps.sitofp (F := Ideal) FTy.f32 (rest (BitVec.ofNat 32 (2048 * (i 2).val + col.val))) = (((qpos i col % 64 : ℕ) : ℝ) : EReal) := by
  show (((rest (BitVec.ofNat 32 (qpos i col))).toInt : ℝ) : EReal) = _
  rw [rest_eq ⟨qpos i col, qpos_lt i col⟩]
  norm_cast

theorem bits64 : Ideal.ofBits .f32 0x42800000#32 = ((64 : ℝ) : EReal) := by simp [Ideal.ofBits, Ideal.ieee, -EReal.coe_mul]; norm_num
theorem bitsNeg64 : Ideal.ofBits .f32 0xC2800000#32 = ((-64 : ℝ) : EReal) := by simp [Ideal.ofBits, Ideal.ieee, -EReal.coe_mul]; norm_num
theorem bitsInv64 : Ideal.ofBits .f32 0x3C800000#32 = ((1 / 64 : ℝ) : EReal) := by simp [Ideal.ofBits, Ideal.ieee, -EReal.coe_mul]; norm_num
theorem bits4 : Ideal.ofBits .f32 0x3E800000#32 = ((1 / 4 : ℝ) : EReal) := by simp [Ideal.ofBits, Ideal.ieee, -EReal.coe_mul]; norm_num
theorem bits16 : Ideal.ofBits .f32 0x3D800000#32 = ((1 / 16 : ℝ) : EReal) := by simp [Ideal.ofBits, Ideal.ieee, -EReal.coe_mul]; norm_num
theorem bits256 : Ideal.ofBits .f32 0x3B800000#32 = ((1 / 256 : ℝ) : EReal) := by simp [Ideal.ofBits, Ideal.ieee, -EReal.coe_mul]; norm_num

/-- The slope of a head. -/
def slope (h : Fin 4) : ℝ := (![1 / 4, 1 / 16, 1 / 64, 1 / 256] : Fin 4 → ℝ) h

theorem slope_at (i : grid0.Coords) : (k0_pay158 (F := Ideal) i : EReal) = ((slope (i 1) : ℝ) : EReal) := by
  have h : ∀ h : Fin 4, (Scalar.select (Scalar.cmpi .eq (BitVec.ofNat 32 h.val) 2#32) (Ideal.ofBits .f32 0x3C800000#32)
      (Scalar.select (Scalar.cmpi .eq (BitVec.ofNat 32 h.val) 1#32) (Ideal.ofBits .f32 0x3D800000#32)
        (Scalar.select (Scalar.cmpi .eq (BitVec.ofNat 32 h.val) 0#32) (Ideal.ofBits .f32 0x3E800000#32) (Ideal.ofBits .f32 0x3B800000#32)) : EReal)) = ((slope h : ℝ) : EReal) := by
    intro h
    match h with
    | ⟨0, _⟩ => exact bits4
    | ⟨1, _⟩ => exact bits16
    | ⟨2, _⟩ => exact bitsInv64
    | ⟨3, _⟩ => exact bits256
  exact h (i 1)

theorem paA (i : grid0.Coords) (sl : EReal) (col : Fin 2048) : k0_pay170 (F := Ideal) (k0_pay157 i) sl 64#32 (k0_pay163 (k0_pay157 i)) (k0_pay164 (k0_pay157 i)) (ix2 0 col) = Ideal.ofBits .f32 0xC2800000#32 * sl * (((qpos i col / 64 : ℕ) : ℝ) : EReal) := by
  have h := pos_at i col
  generalize k0_pay157 i = P at h ⊢
  pointwise [k0_pay170, k0_pay163, k0_pay164]
  simp only [h]
  exact congrArg (_ * ·) (quo_pos i col)

theorem paB (i : grid0.Coords) (sl : EReal) (col : Fin 2048) : k0_pay184 (F := Ideal) (k0_pay157 i) sl 64#32 (k0_pay178 (k0_pay157 i)) (k0_pay179 (k0_pay157 i)) 1#32 0#32 (ix2 0 col) = Ideal.ofBits .f32 0xC2800000#32 * sl * (((qpos i col / 64 : ℕ) : ℝ) : EReal) := by
  have h := pos_at i col
  generalize k0_pay157 i = P at h ⊢
  pointwise [k0_pay184, k0_pay178, k0_pay179]
  simp only [h]
  exact congrArg (_ * ·) (quo_pos i col)

theorem pbA (i : grid0.Coords) (col : Fin 2048) : k0_pay165 (F := Ideal) (k0_pay157 i) (ix2 0 col) = (((qpos i col % 64 : ℕ) : ℝ) : EReal) := by
  have h := pos_at i col
  generalize k0_pay157 i = P at h ⊢
  pointwise [k0_pay165]
  simp only [h]
  exact rest_pos i col

theorem pbB (i : grid0.Coords) (sl : EReal) (col : Fin 2048) : k0_pay186 (F := Ideal) (k0_pay157 i) sl (ix2 0 col) = (0 - sl) * (((qpos i col % 64 : ℕ) : ℝ) : EReal) := by
  have h := pos_at i col
  generalize k0_pay157 i = P at h ⊢
  pointwise [k0_pay186]
  simp only [h]
  exact congrArg (_ * ·) (rest_pos i col)

theorem feats0 (sl x : EReal) (sh pa pb : FVec Ideal S1x2048 .f32) (col : Fin 2048) (d : Fin 16) :
    k0_pay172 (F := Ideal) sl sh fillRun.sl.v67 pb (k0_pay166 fillRun.sl.v67) x (k0_pay168 fillRun.sl.v67) (k0_pay169 fillRun.sl.v67) pa k0_pay171 (ix2 d col)
      = if d.val = 0 then x else if d.val = 1 then sl else if d.val = 2 then pa (ix2 0 col) else if d.val = 3 then (0 - sl) * pb (ix2 0 col)
        else if d.val = 4 then 0 - sh (ix2 0 col) else 0 := by
  pointwise [k0_pay172, k0_pay166, k0_pay168, k0_pay169, k0_pay171, fillRun.sl.v67]
  match d with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl
  | ⟨13, _⟩ => rfl
  | ⟨14, _⟩ => rfl
  | ⟨15, _⟩ => rfl
  | ⟨k + 16, h⟩ => exact absurd h (by omega)

theorem feats1 (sl x : EReal) (sh pa pb : FVec Ideal S1x2048 .f32) (col : Fin 2048) (d : Fin 16) :
    k0_pay187 (F := Ideal) sl sh fillRun.sl.v67 (k0_pay180 fillRun.sl.v67) x (k0_pay182 fillRun.sl.v67) (k0_pay183 fillRun.sl.v67) pa (k0_pay185 fillRun.sl.v67) pb 4#32 (ix2 d col)
      = if d.val = 0 then x else if d.val = 1 then sl else if d.val = 2 then pa (ix2 0 col) else if d.val = 3 then pb (ix2 0 col)
        else if d.val = 4 then 0 - sh (ix2 0 col) else 0 := by
  pointwise [k0_pay187, k0_pay180, k0_pay182, k0_pay183, k0_pay185, fillRun.sl.v67]
  match d with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl
  | ⟨13, _⟩ => rfl
  | ⟨14, _⟩ => rfl
  | ⟨15, _⟩ => rfl
  | ⟨k + 16, h⟩ => exact absurd h (by omega)

/-- The greatest of a tile of key norms. -/
def tile (v : Fin 16 → Fin 128 → EReal) : EReal :=
  Finset.fold max (Ideal.ofBits .f32 0xFF800000#32) (fun l : Fin 128 => Finset.fold max (Ideal.ofBits .f32 0xFF800000#32) (fun t : Fin 16 => v t l) Finset.univ) Finset.univ

theorem tile_lt (v : Fin 16 → Fin 128 → EReal) (h : ∀ t l, v t l < ⊤) : tile v < ⊤ := by
  unfold tile
  rw [bits_bot]
  exact (Finset.fold_max_lt _).mpr ⟨bot_lt_top, fun l _ => (Finset.fold_max_lt _).mpr ⟨bot_lt_top, fun t _ => h t l⟩⟩

theorem le_tile (v : Fin 16 → Fin 128 → EReal) (t : Fin 16) (l : Fin 128) (x : EReal) (h : x ≤ v t l) : x ≤ tile v :=
  (Finset.le_fold_max _).mpr (Or.inr ⟨l, Finset.mem_univ _, (Finset.le_fold_max _).mpr (Or.inr ⟨t, Finset.mem_univ _, h⟩)⟩)

/-- The shift of a column, of its query's squared norm and the greatest key norm. -/
def bound (x K : EReal) : EReal :=
  let b := Ideal.sqrt (x * K) + 0
  b + FloatOps.absf (F := Ideal) (φ := .f32) b * Ideal.ofBits .f32 0x3C800000#32 + Ideal.ofBits .f32 0x3C800000#32

theorem bound_real (x : ℝ) (hx : 0 ≤ x) (K : EReal) (h0 : 0 ≤ K) (h1 : K < ⊤) : ∃ c : ℝ, bound (x : EReal) K = (c : EReal) := by
  obtain ⟨k, rfl⟩ : ∃ k : ℝ, K = (k : EReal) := ⟨K.toReal, (EReal.coe_toReal h1.ne (fun e => by rw [e] at h0; exact absurd h0 (by simp))).symm⟩
  have hk : 0 ≤ k := by exact_mod_cast h0
  refine ⟨(Real.sqrt (x * k) + 0) + max (Real.sqrt (x * k) + 0) (-(Real.sqrt (x * k) + 0)) * (1 / 64) + 1 / 64, ?_⟩
  unfold bound
  rw [← EReal.coe_mul, Ideal.sqrt_coe, if_neg (not_lt.mpr (mul_nonneg hx hk)), bitsInv64]
  dsimp only
  show (_ : EReal) + max (((Real.sqrt (x * k) : ℝ) : EReal) + 0) (-(((Real.sqrt (x * k) : ℝ) : EReal) + 0)) * _ + _ = _
  rw [← EReal.coe_zero, ← EReal.coe_add, ← EReal.coe_neg, ← EReal.coe_strictMono.monotone.map_max, ← EReal.coe_mul, ← EReal.coe_add, ← EReal.coe_add]

theorem lane_off : ∀ (h : Fin 4), IntOp.cmpi CmpIPredicate.eq (BitVec.ofNat 32 127) (Scalar.addi (Scalar.muli 2#32 (BitVec.ofNat 32 h.val)) 0#32) = 0#1
    ∧ IntOp.cmpi CmpIPredicate.eq (BitVec.ofNat 32 127) (Scalar.addi (Scalar.muli 2#32 (BitVec.ofNat 32 h.val)) 1#32) = 0#1 := by decide +kernel

/-- The lane a head's map reads is among the first eight. -/
theorem lane_on : ∀ (h : Fin 4) (l : Fin 128),
    (IntOp.cmpi CmpIPredicate.eq (BitVec.ofNat 32 l.val) (Scalar.addi (Scalar.muli 2#32 (BitVec.ofNat 32 h.val)) 0#32) = 1#1 → l.val < 8)
    ∧ (IntOp.cmpi CmpIPredicate.eq (BitVec.ofNat 32 l.val) (Scalar.addi (Scalar.muli 2#32 (BitVec.ofNat 32 h.val)) 1#32) = 1#1 → l.val < 8) := by decide +kernel

theorem andi_right : ∀ a b : BitVec 1, IntOp.andi a b = 1#1 → b = 1#1 := by decide

theorem shift0 (h : Fin 4) (x : FVec Ideal S1x2048 .f32) (w : BitVec 32) (x3 : Vec Ideal S1x16x8x128 .f32) (col : Fin 2048)
    (h3 : ∀ t (l : Fin 128), l.val < 8 → (x3 (ix4 0 t 0 l) : EReal) < ⊤) (r : ℝ) (hr : 0 ≤ r) (hx : x (ix2 0 col) = (r : EReal)) :
    ∃ c : ℝ, k0_pay161 (F := Ideal) (BitVec.ofNat 32 h.val) x w 1#32 x3 (ix2 0 col) = (c : EReal) := by
  have e : k0_pay161 (F := Ideal) (BitVec.ofNat 32 h.val) x w 1#32 x3 (ix2 0 col)
      = bound (x (ix2 0 col)) (tile fun t l => Scalar.select (IntOp.andi (IntOp.cmpi CmpIPredicate.sle (BitVec.ofNat 32 t.val) (Scalar.subi w 1#32))
          (IntOp.cmpi CmpIPredicate.eq (BitVec.ofNat 32 l.val) (Scalar.addi (Scalar.muli 2#32 (BitVec.ofNat 32 h.val)) 0#32))) (x3 (ix4 0 t 0 l)) 0) := by
    pointwise [k0_pay161, bound, tile]
  rw [e, hx]
  refine bound_real r hr _ (le_tile _ 0 127 0 ?_) (tile_lt _ fun t l => ?_)
  · have h := (lane_off h).1
    generalize Scalar.addi (Scalar.muli 2#32 (BitVec.ofNat 32 _)) 0#32 = z at h ⊢
    show (0 : EReal) ≤ Scalar.select (IntOp.andi _ (IntOp.cmpi CmpIPredicate.eq (BitVec.ofNat 32 127) z)) _ _
    rw [h]
    have : ∀ y : BitVec 1, IntOp.andi y 0#1 = 0#1 := by decide
    rw [this]
    exact le_refl _
  · unfold Scalar.select
    split
    · rename_i hc
      exact h3 t l ((lane_on h l).1 (andi_right _ _ hc))
    · exact EReal.zero_lt_top

theorem shift1 (h : Fin 4) (x : FVec Ideal S1x2048 .f32) (w : BitVec 32) (x3 : Vec Ideal S1x16x8x128 .f32) (col : Fin 2048)
    (h3 : ∀ t (l : Fin 128), l.val < 8 → (x3 (ix4 0 t 0 l) : EReal) < ⊤) (r : ℝ) (hr : 0 ≤ r) (hx : x (ix2 0 col) = (r : EReal)) :
    ∃ c : ℝ, k0_pay176 (F := Ideal) x w (Scalar.addi (Scalar.muli 2#32 (BitVec.ofNat 32 h.val)) 1#32) x3 (ix2 0 col) = (c : EReal) := by
  have e : k0_pay176 (F := Ideal) x w (Scalar.addi (Scalar.muli 2#32 (BitVec.ofNat 32 h.val)) 1#32) x3 (ix2 0 col)
      = bound (x (ix2 0 col)) (tile fun t l => Scalar.select (IntOp.andi (IntOp.cmpi CmpIPredicate.sle (BitVec.ofNat 32 t.val) w)
          (IntOp.cmpi CmpIPredicate.eq (BitVec.ofNat 32 l.val) (Scalar.addi (Scalar.muli 2#32 (BitVec.ofNat 32 h.val)) 1#32))) (x3 (ix4 0 t 0 l)) 0) := by
    pointwise [k0_pay176, bound, tile]
  rw [e, hx]
  refine bound_real r hr _ (le_tile _ 0 127 0 ?_) (tile_lt _ fun t l => ?_)
  · have h := (lane_off h).2
    generalize Scalar.addi (Scalar.muli 2#32 (BitVec.ofNat 32 _)) 1#32 = z at h ⊢
    show (0 : EReal) ≤ Scalar.select (IntOp.andi _ (IntOp.cmpi CmpIPredicate.eq (BitVec.ofNat 32 127) z)) _ _
    rw [h]
    have : ∀ y : BitVec 1, IntOp.andi y 0#1 = 0#1 := by decide
    rw [this]
    exact le_refl _
  · unfold Scalar.select
    split
    · rename_i hc
      exact h3 t l ((lane_on h l).2 (andi_right _ _ hc))
    · exact EReal.zero_lt_top

end Cert.KernelIdeal.Diff

end
-- ==== Proof.Diff.Feats.lean ====
/-
The quotient and the remainder of a token's position by 64, as the host computes them.
-/
module

public import proofs.«01_k».proof.Proof.Diff.FillRows

@[expose] public section

set_option maxRecDepth 65536

noncomputable section

namespace Cert.KernelIdeal.Diff

open Idealize.ShloMosaic Idealize.ShloMosaic.TcCoe Idealize.ShloMosaic.Tactic
open Cert.KernelIdeal Cert.KernelIdeal.Gen

abbrev Words (s : Shape) : Type := (⟨s, .i32⟩ : BufTy).Contents (Elt Ideal)
abbrev spread (x : Words S_) : Words S8192x1 := broadcastInDim S8192x1 ![] bcast_S_S8192x1 x

/-- Positions divided by 64, as the host writes the floor of a quotient. -/
def hostQuo : Words S8192x1 :=
  select (andi (cmpi .ne (signi (iotaInDim S8192x1 32 0)) (broadcastInDim S8192x1 ![] bcast_S_S8192x1 (signi (constantI S_ 32 64#32))))
      (cmpi .ne (Host.remsi (iotaInDim S8192x1 32 0) (spread (constantI S_ 32 64#32))) (spread (constantI S_ 32 0#32))))
    (subi (Host.divsi (iotaInDim S8192x1 32 0) (spread (constantI S_ 32 64#32))) (spread (constantI S_ 32 1#32)))
    (Host.divsi (iotaInDim S8192x1 32 0) (spread (constantI S_ 32 64#32)))

/-- The divisor of a remainder, one in place of zero. -/
def hostDiv : Words S_ := select (cmpi .eq (constantI S_ 32 64#32) (constantI S_ 32 0#32)) (constantI S_ 32 1#32) (constantI S_ 32 64#32)

/-- The plain remainder of the positions by 64. -/
def hostRem : Words S8192x1 := Host.remsi (iotaInDim S8192x1 32 0) (spread hostDiv)

/-- Positions modulo 64, as the host writes the remainder with the divisor's sign. -/
def hostRest : Words S8192x1 :=
  select (andi (cmpi .ne (cmpi .slt hostRem (spread (constantI S_ 32 0#32)))
        (broadcastInDim S8192x1 ![] bcast_S_S8192x1 (cmpi .slt hostDiv (constantI S_ 32 0#32))))
      (cmpi .ne hostRem (spread (constantI S_ 32 0#32))))
    (addi hostRem (spread hostDiv)) hostRem

theorem quo_all : ∀ p : Fin 8192, hostQuo (ix2 p 0) = BitVec.ofNat 32 (p.val / 64) := by decide +kernel
theorem rest_all : ∀ p : Fin 8192, hostRest (ix2 p 0) = BitVec.ofNat 32 (p.val % 64) := by decide +kernel

theorem int_quo : ∀ p : Fin 8192, (BitVec.ofNat 32 (p.val / 64)).toInt = ((p.val / 64 : ℕ) : ℤ) := by decide +kernel
theorem int_rest : ∀ p : Fin 8192, (BitVec.ofNat 32 (p.val % 64)).toInt = ((p.val % 64 : ℕ) : ℤ) := by decide +kernel

end Cert.KernelIdeal.Diff

end
-- ==== Proof.Diff.FillAt.lean ====
/-
The whole table of query features a step prepares, read row by row, and the score it gives a key: the scaled product less the distance penalty
and less the column's shift.
-/
module

public import proofs.«01_k».proof.Proof.Diff.FillRows
public import Idealize.ShloMosaic.Lib.Pointwise
public import Idealize.ShloMosaic.Lib.Pipeline.ValueKit.Tiles

@[expose] public section

set_option maxRecDepth 65536

noncomputable section

namespace Cert.KernelIdeal.Diff

open Idealize.ShloMosaic Idealize.ShloMosaic.TcCoe Idealize.ShloMosaic.Tactic
open Cert.KernelIdeal Cert.KernelIdeal.Gen

/-- Query features: the scaled query, the distance penalty's four, the shift, zeros. -/
def qfeat (Q : Fin 64 → ℝ) (sl : ℝ) (p : ℕ) (c : ℝ) (l : Fin 128) : ℝ :=
  if h : l.val < 64 then Q ⟨l.val, h⟩ else if l.val = 64 then 64 * sl else if l.val = 65 then sl else if l.val = 66 then -64 * sl * (p / 64 : ℕ)
  else if l.val = 67 then (0 - sl) * (p % 64 : ℕ) else if l.val = 68 then 0 - c else 0

/-- Key features: the key, its position's quotient and remainder, three ones, zeros. -/
def kfeat (K : Fin 64 → ℝ) (p : ℕ) (l : Fin 128) : ℝ :=
  if h : l.val < 64 then K ⟨l.val, h⟩ else if l.val = 64 then (p / 64 : ℕ) else if l.val = 65 then (p % 64 : ℕ) else if l.val < 69 then 1 else 0

/-- The features' product: the score less the shift. -/
theorem feats_dot (Q K : Fin 64 → ℝ) (sl : ℝ) (p t : ℕ) (c : ℝ) :
    ∑ l : Fin 128, kfeat K t l * qfeat Q sl p c l = (∑ d : Fin 64, K d * Q d) - sl * ((p : ℝ) - (t : ℝ)) - c := by
  rw [Fin.sum_univ_add (a := 64) (b := 64) (fun l : Fin (64 + 64) => kfeat K t l * qfeat Q sl p c l)]
  have h1 : ∀ d : Fin 64, kfeat K t (Fin.castAdd 64 d) * qfeat Q sl p c (Fin.castAdd 64 d) = K d * Q d := fun d => by
    have hd : ((Fin.castAdd 64 d : Fin (64 + 64)) : Fin 128).val < 64 := d.isLt
    unfold kfeat qfeat
    rw [dif_pos hd, dif_pos hd]
    rfl
  rw [Finset.sum_congr rfl (fun d _ => h1 d), Fin.sum_univ_add (a := 5) (b := 59) (fun l : Fin (5 + 59) => kfeat K t (Fin.natAdd 64 l) * qfeat Q sl p c (Fin.natAdd 64 l))]
  have h2 : ∀ d : Fin 59, kfeat K t (Fin.natAdd 64 (Fin.natAdd 5 d)) * qfeat Q sl p c (Fin.natAdd 64 (Fin.natAdd 5 d)) = 0 := fun d => by
    have hv : ((Fin.natAdd 64 (Fin.natAdd 5 d) : Fin (64 + (5 + 59))) : Fin 128).val = 64 + (5 + d.val) := rfl
    unfold kfeat
    rw [dif_neg (by omega), if_neg (by omega), if_neg (by omega), if_neg (by omega), zero_mul]
  rw [Finset.sum_eq_zero (fun d _ => h2 d), add_zero, Fin.sum_univ_five]
  have e0 : kfeat K t (Fin.natAdd 64 (Fin.castAdd 59 (0 : Fin 5))) * qfeat Q sl p c (Fin.natAdd 64 (Fin.castAdd 59 (0 : Fin 5))) = (t / 64 : ℕ) * (64 * sl) := rfl
  have e1 : kfeat K t (Fin.natAdd 64 (Fin.castAdd 59 (1 : Fin 5))) * qfeat Q sl p c (Fin.natAdd 64 (Fin.castAdd 59 (1 : Fin 5))) = (t % 64 : ℕ) * sl := rfl
  have e2 : kfeat K t (Fin.natAdd 64 (Fin.castAdd 59 (2 : Fin 5))) * qfeat Q sl p c (Fin.natAdd 64 (Fin.castAdd 59 (2 : Fin 5))) = 1 * (-64 * sl * (p / 64 : ℕ)) := rfl
  have e3 : kfeat K t (Fin.natAdd 64 (Fin.castAdd 59 (3 : Fin 5))) * qfeat Q sl p c (Fin.natAdd 64 (Fin.castAdd 59 (3 : Fin 5))) = 1 * ((0 - sl) * (p % 64 : ℕ)) := rfl
  have e4 : kfeat K t (Fin.natAdd 64 (Fin.castAdd 59 (4 : Fin 5))) * qfeat Q sl p c (Fin.natAdd 64 (Fin.castAdd 59 (4 : Fin 5))) = 1 * (0 - c) := rfl
  rw [e0, e1, e2, e3, e4]
  have ht : (t : ℝ) = 64 * (t / 64 : ℕ) + (t % 64 : ℕ) := by exact_mod_cast (Nat.div_add_mod t 64).symm
  have hp : (p : ℝ) = 64 * (p / 64 : ℕ) + (p % 64 : ℕ) := by exact_mod_cast (Nat.div_add_mod p 64).symm
  linear_combination (-sl) * ht + sl * hp

section

variable (c : Dev nD) (t : Fin grid0.N) (arg3 : Memref sig .tc .vmem S1x256x2048 .bf16) (harg3 : arg3.IsWhole) (arg4 : Memref sig .tc .vmem S1x8192x256 .bf16) (harg4 : arg4.IsWhole) (arg5 : Memref sig .tc .vmem S1x1x16x144x512 .bf16) (harg5 : arg5.IsWhole) (arg6 : Memref sig .tc .vmem S1x16x8x128 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S1x2048x128 .bf16) (harg9 : arg9.IsWhole) (arg10 : Memref sig .tc .vmem S256x2048 .bf16) (harg10 : arg10.IsWhole) (arg11 : Memref sig .tc .vmem S2x144x2048 .f32) (harg11 : arg11.IsWhole) (arg12 : Memref sig .tc .vmem S2x1x2048 .f32) (harg12 : arg12.IsWhole)
    (x0 : Vec Ideal S1x256x2048 .bf16) (x3 : Vec Ideal S1x16x8x128 .f32)

theorem fill_list : (fillRun c (grid0.coords t) arg3 harg3 arg4 harg4 arg5 harg5 arg6 harg6 arg7 harg7 arg8 harg8 arg9 harg9 arg10 harg10 arg11 harg11 arg12 harg12 x0 x3).2.1 = [⟨Rect.unit (s := S256x2048) ![208, 0] ![48, 2048] inb_S256x2048_S48x2048_208_0, k0_pay188 (F := Ideal)⟩,
      ⟨Rect.unit (s := S256x2048) ![192, 0] ![16, 2048] inb_S256x2048_S16x2048_192_0, k0_pay187 (k0_pay158 (grid0.coords t)) (fillRun.sl.r_10 c (grid0.coords t) arg3 harg3 arg6 harg6 x0 x3) fillRun.sl.v67 (k0_pay180 fillRun.sl.v67) (fillRun.sl.r_13 (grid0.coords t)) (k0_pay182 fillRun.sl.v67) (k0_pay183 fillRun.sl.v67) (fillRun.sl.r_14 (grid0.coords t)) (k0_pay185 fillRun.sl.v67) (fillRun.sl.r_15 (grid0.coords t)) 4#32⟩,
      ⟨Rect.unit (s := S256x2048) ![128, 0] ![64, 2048] inb_S256x2048_S64x2048_128_0, k0_pay177 (fillRun.sl.r_8 c arg3 harg3 x0)⟩,
      ⟨Rect.unit (s := S256x2048) ![80, 0] ![48, 2048] inb_S256x2048_S48x2048_80_0, k0_pay173 (F := Ideal)⟩,
      ⟨Rect.unit (s := S256x2048) ![64, 0] ![16, 2048] inb_S256x2048_S16x2048_64_0, k0_pay172 (k0_pay158 (grid0.coords t)) (fillRun.sl.r_2 c (grid0.coords t) arg3 harg3 arg6 harg6 x0 x3) fillRun.sl.v67 (fillRun.sl.r_5 (grid0.coords t)) (k0_pay166 fillRun.sl.v67) (fillRun.sl.r_6 (grid0.coords t)) (k0_pay168 fillRun.sl.v67) (k0_pay169 fillRun.sl.v67) (fillRun.sl.r_7 (grid0.coords t)) k0_pay171⟩,
      ⟨Rect.unit (s := S256x2048) ![0, 0] ![64, 2048] inb_S256x2048_S64x2048_0_0, k0_pay162 (fillRun.sl.r c arg3 harg3 x0)⟩] := rfl

theorem piece0 (R : Fin 256) (col : Fin 2048) (h : 208 ≤ R.val ∧ R.val < 256) :
    fillQ c (grid0.coords t) arg3 harg3 arg4 harg4 arg5 harg5 arg6 harg6 arg7 harg7 arg8 harg8 arg9 harg9 arg10 harg10 arg11 harg11 arg12 harg12 x0 x3 (ix2 R col) = k0_pay188 (F := Ideal) (ix2 ⟨R.val - 208, by omega⟩ col) := by
  unfold fillQ
  rw [fill_list]

  exact canon_in (size := ![48, 2048]) (ix2 R col) (ix2 (⟨R.val - 208, by omega⟩ : Fin 48) col) (idx2 (show R.val = 208 + (R.val - 208) by omega) (Nat.zero_add _).symm)

theorem piece1 (R : Fin 256) (col : Fin 2048) (h : 192 ≤ R.val ∧ R.val < 208) :
    fillQ c (grid0.coords t) arg3 harg3 arg4 harg4 arg5 harg5 arg6 harg6 arg7 harg7 arg8 harg8 arg9 harg9 arg10 harg10 arg11 harg11 arg12 harg12 x0 x3 (ix2 R col) = k0_pay187 (k0_pay158 (grid0.coords t)) (fillRun.sl.r_10 c (grid0.coords t) arg3 harg3 arg6 harg6 x0 x3) fillRun.sl.v67 (k0_pay180 fillRun.sl.v67) (fillRun.sl.r_13 (grid0.coords t)) (k0_pay182 fillRun.sl.v67) (k0_pay183 fillRun.sl.v67) (fillRun.sl.r_14 (grid0.coords t)) (k0_pay185 fillRun.sl.v67) (fillRun.sl.r_15 (grid0.coords t)) 4#32 (ix2 ⟨R.val - 192, by omega⟩ col) := by
  unfold fillQ
  rw [fill_list]
  refine (canon_out _ 0 (Or.inl (show R.val < 208 by omega))).trans ?_
  exact canon_in (size := ![16, 2048]) (ix2 R col) (ix2 (⟨R.val - 192, by omega⟩ : Fin 16) col) (idx2 (show R.val = 192 + (R.val - 192) by omega) (Nat.zero_add _).symm)

theorem piece2 (R : Fin 256) (col : Fin 2048) (h : 128 ≤ R.val ∧ R.val < 192) :
    fillQ c (grid0.coords t) arg3 harg3 arg4 harg4 arg5 harg5 arg6 harg6 arg7 harg7 arg8 harg8 arg9 harg9 arg10 harg10 arg11 harg11 arg12 harg12 x0 x3 (ix2 R col) = k0_pay177 (fillRun.sl.r_8 c arg3 harg3 x0) (ix2 ⟨R.val - 128, by omega⟩ col) := by
  unfold fillQ
  rw [fill_list]
  refine (canon_out _ 0 (Or.inl (show R.val < 208 by omega))).trans ?_
  refine (canon_out _ 0 (Or.inl (show R.val < 192 by omega))).trans ?_
  exact canon_in (size := ![64, 2048]) (ix2 R col) (ix2 (⟨R.val - 128, by omega⟩ : Fin 64) col) (idx2 (show R.val = 128 + (R.val - 128) by omega) (Nat.zero_add _).symm)

theorem piece3 (R : Fin 256) (col : Fin 2048) (h : 80 ≤ R.val ∧ R.val < 128) :
    fillQ c (grid0.coords t) arg3 harg3 arg4 harg4 arg5 harg5 arg6 harg6 arg7 harg7 arg8 harg8 arg9 harg9 arg10 harg10 arg11 harg11 arg12 harg12 x0 x3 (ix2 R col) = k0_pay173 (F := Ideal) (ix2 ⟨R.val - 80, by omega⟩ col) := by
  unfold fillQ
  rw [fill_list]
  refine (canon_out _ 0 (Or.inl (show R.val < 208 by omega))).trans ?_
  refine (canon_out _ 0 (Or.inl (show R.val < 192 by omega))).trans ?_
  refine (canon_out _ 0 (Or.inl (show R.val < 128 by omega))).trans ?_
  exact canon_in (size := ![48, 2048]) (ix2 R col) (ix2 (⟨R.val - 80, by omega⟩ : Fin 48) col) (idx2 (show R.val = 80 + (R.val - 80) by omega) (Nat.zero_add _).symm)

theorem piece4 (R : Fin 256) (col : Fin 2048) (h : 64 ≤ R.val ∧ R.val < 80) :
    fillQ c (grid0.coords t) arg3 harg3 arg4 harg4 arg5 harg5 arg6 harg6 arg7 harg7 arg8 harg8 arg9 harg9 arg10 harg10 arg11 harg11 arg12 harg12 x0 x3 (ix2 R col) = k0_pay172 (k0_pay158 (grid0.coords t)) (fillRun.sl.r_2 c (grid0.coords t) arg3 harg3 arg6 harg6 x0 x3) fillRun.sl.v67 (fillRun.sl.r_5 (grid0.coords t)) (k0_pay166 fillRun.sl.v67) (fillRun.sl.r_6 (grid0.coords t)) (k0_pay168 fillRun.sl.v67) (k0_pay169 fillRun.sl.v67) (fillRun.sl.r_7 (grid0.coords t)) k0_pay171 (ix2 ⟨R.val - 64, by omega⟩ col) := by
  unfold fillQ
  rw [fill_list]
  refine (canon_out _ 0 (Or.inl (show R.val < 208 by omega))).trans ?_
  refine (canon_out _ 0 (Or.inl (show R.val < 192 by omega))).trans ?_
  refine (canon_out _ 0 (Or.inl (show R.val < 128 by omega))).trans ?_
  refine (canon_out _ 0 (Or.inl (show R.val < 80 by omega))).trans ?_
  exact canon_in (size := ![16, 2048]) (ix2 R col) (ix2 (⟨R.val - 64, by omega⟩ : Fin 16) col) (idx2 (show R.val = 64 + (R.val - 64) by omega) (Nat.zero_add _).symm)

theorem piece5 (R : Fin 256) (col : Fin 2048) (h : 0 ≤ R.val ∧ R.val < 64) :
    fillQ c (grid0.coords t) arg3 harg3 arg4 harg4 arg5 harg5 arg6 harg6 arg7 harg7 arg8 harg8 arg9 harg9 arg10 harg10 arg11 harg11 arg12 harg12 x0 x3 (ix2 R col) = k0_pay162 (fillRun.sl.r c arg3 harg3 x0) (ix2 ⟨R.val - 0, by omega⟩ col) := by
  unfold fillQ
  rw [fill_list]
  refine (canon_out _ 0 (Or.inl (show R.val < 208 by omega))).trans ?_
  refine (canon_out _ 0 (Or.inl (show R.val < 192 by omega))).trans ?_
  refine (canon_out _ 0 (Or.inl (show R.val < 128 by omega))).trans ?_
  refine (canon_out _ 0 (Or.inl (show R.val < 80 by omega))).trans ?_
  refine (canon_out _ 0 (Or.inl (show R.val < 64 by omega))).trans ?_
  exact canon_in (size := ![64, 2048]) (ix2 R col) (ix2 (⟨R.val - 0, by omega⟩ : Fin 64) col) (idx2 (show R.val = 0 + (R.val - 0) by omega) (Nat.zero_add _).symm)

theorem copy0 (X : Vec Ideal S1x64x2048 .bf16) (r : Fin 64) (col : Fin 2048) : k0_pay162 (k0_pay159 X) (ix2 r col) = X (ix3 0 r col) := by
  pointwise [k0_pay162, k0_pay159]

theorem copy1 (X : Vec Ideal S1x64x2048 .bf16) (r : Fin 64) (col : Fin 2048) : k0_pay177 (k0_pay174 X) (ix2 r col) = X (ix3 0 r col) := by
  pointwise [k0_pay177, k0_pay174]

theorem fill_query (m : Fin 2) (l : Fin 128) (col : Fin 2048) (h : l.val < 64) : fillQ c (grid0.coords t) arg3 harg3 arg4 harg4 arg5 harg5 arg6 harg6 arg7 harg7 arg8 harg8 arg9 harg9 arg10 harg10 arg11 harg11 arg12 harg12 x0 x3 (ix2 (lane m l) col) = x0 (ix3 0 (lane m l) col) := by
  have k0 : ∀ R : Fin 256, R.val < 64 → fillQ c (grid0.coords t) arg3 harg3 arg4 harg4 arg5 harg5 arg6 harg6 arg7 harg7 arg8 harg8 arg9 harg9 arg10 harg10 arg11 harg11 arg12 harg12 x0 x3 (ix2 R col) = x0 (ix3 0 R col) := fun R hR => by
    rw [piece5 c t arg3 harg3 arg4 harg4 arg5 harg5 arg6 harg6 arg7 harg7 arg8 harg8 arg9 harg9 arg10 harg10 arg11 harg11 arg12 harg12 x0 x3 R col (by omega)]
    unfold fillRun.sl.r
    rw [View.readAt_eq_ld, harg3.read_unread]
    refine (copy0 _ _ _).trans ?_
    exact View.ld_unit_apply_of x0 _ _ _ (ix3 0 ⟨R.val - 0, by omega⟩ col) (ix3 0 R col) (idx3 rfl (show R.val = 0 + (R.val - 0) by omega) (Nat.zero_add _).symm)
  have k1 : ∀ R : Fin 256, 128 ≤ R.val ∧ R.val < 192 → fillQ c (grid0.coords t) arg3 harg3 arg4 harg4 arg5 harg5 arg6 harg6 arg7 harg7 arg8 harg8 arg9 harg9 arg10 harg10 arg11 harg11 arg12 harg12 x0 x3 (ix2 R col) = x0 (ix3 0 R col) := fun R hR => by
    rw [piece2 c t arg3 harg3 arg4 harg4 arg5 harg5 arg6 harg6 arg7 harg7 arg8 harg8 arg9 harg9 arg10 harg10 arg11 harg11 arg12 harg12 x0 x3 R col (by omega)]
    unfold fillRun.sl.r_8
    rw [View.readAt_eq_ld, harg3.read_unread]
    refine (copy1 _ _ _).trans ?_
    exact View.ld_unit_apply_of x0 _ _ _ (ix3 0 ⟨R.val - 128, by omega⟩ col) (ix3 0 R col) (idx3 rfl (show R.val = 128 + (R.val - 128) by omega) (Nat.zero_add _).symm)
  match m with
  | ⟨0, hm⟩ => exact k0 _ (show 128 * 0 + l.val < 64 by omega)
  | ⟨1, hm⟩ => exact k1 _ ⟨show 128 ≤ 128 * 1 + l.val by omega, show 128 * 1 + l.val < 192 by omega⟩

theorem sqX0 (X : Vec Ideal S1x64x2048 .bf16) (col : Fin 2048) (Q : Fin 64 → ℝ) (hq : ∀ l : Fin 64, (X (ix3 0 l col) : EReal) = (Q l : EReal)) :
    (k0_pay160 X (ix2 0 col) : EReal) = ((∑ l, Q l * Q l : ℝ) : EReal) := by
  have h : k0_pay160 X (ix2 0 col) = ∑ l : Fin 64, (X (ix3 0 l col) : EReal) * X (ix3 0 l col) := by
    pointwise [k0_pay160, k0_pay159]
  rw [h, ← coe_sum]
  refine Finset.sum_congr rfl fun l _ => ?_
  rw [hq, ← EReal.coe_mul]

theorem sq0 (col : Fin 2048) (Q : Fin 64 → ℝ) (hq : ∀ l : Fin 64, (x0 (ix3 0 (lane 0 ⟨l.val, by omega⟩) col) : EReal) = (Q l : EReal)) :
    (fillRun.sl.r_1 c arg3 harg3 x0 (ix2 0 col) : EReal) = ((∑ l, Q l * Q l : ℝ) : EReal) := by
  unfold fillRun.sl.r_1
  rw [View.readAt_eq_ld, harg3.read_unread]
  refine sqX0 _ col Q fun l => Eq.trans ?_ (hq l)
  exact View.ld_unit_apply_of x0 _ _ _ (ix3 0 l col) (ix3 0 (lane 0 ⟨l.val, by omega⟩) col) (idx3 rfl (show 128 * 0 + l.val = 0 + l.val by omega) (Nat.zero_add _).symm)

theorem sh0 (col : Fin 2048) (Q : Fin 64 → ℝ) (hq : ∀ l : Fin 64, (x0 (ix3 0 (lane 0 ⟨l.val, by omega⟩) col) : EReal) = (Q l : EReal))
    (h3 : ∀ j (l : Fin 128), l.val < 8 → (x3 (ix4 0 j 0 l) : EReal) < ⊤) : ∃ s : ℝ, (fillRun.sl.r_2 c (grid0.coords t) arg3 harg3 arg6 harg6 x0 x3 (ix2 0 col) : EReal) = (s : EReal) := by
  unfold fillRun.sl.r_2
  rw [View.readAt_eq_ld, harg6.read_unread]
  refine shift0 ((grid0.coords t) 1) _ _ _ col (fun j l hl => ?_) _ (Finset.sum_nonneg fun l _ => mul_self_nonneg (Q l)) (sq0 c arg3 harg3 x0 col Q hq)
  have e := View.ld_unit_apply_of x3 _ _ inb_S1x16x8x128_S1x16x8x128_0_0_0_0 (ix4 0 j 0 l) (ix4 0 j 0 l)
    (fun a => match a with | ⟨0, _⟩ => (Nat.zero_add _).symm | ⟨1, _⟩ => (Nat.zero_add _).symm | ⟨2, _⟩ => (Nat.zero_add _).symm | ⟨3, _⟩ => (Nat.zero_add _).symm)
  exact e ▸ h3 j l hl

theorem rows0 (col : Fin 2048) (Q : Fin 64 → ℝ) (hq : ∀ l : Fin 64, (x0 (ix3 0 (lane 0 ⟨l.val, by omega⟩) col) : EReal) = (Q l : EReal))
    (h3 : ∀ j (l : Fin 128), l.val < 8 → (x3 (ix4 0 j 0 l) : EReal) < ⊤) :
    ∃ s : ℝ, ∀ l : Fin 128, (fillQ c (grid0.coords t) arg3 harg3 arg4 harg4 arg5 harg5 arg6 harg6 arg7 harg7 arg8 harg8 arg9 harg9 arg10 harg10 arg11 harg11 arg12 harg12 x0 x3 (ix2 (lane 0 l) col) : EReal) = ((qfeat Q (slope ((grid0.coords t) 1)) (qpos (grid0.coords t) col) s l : ℝ) : EReal) := by
  obtain ⟨s, hs⟩ := sh0 c t arg3 harg3 arg6 harg6 x0 x3 col Q hq h3
  refine ⟨s, fun l => ?_⟩
  have hl : (lane 0 l).val = 128 * 0 + l.val := rfl
  unfold qfeat
  by_cases h : l.val < 64
  · rw [dif_pos h, fill_query c t arg3 harg3 arg4 harg4 arg5 harg5 arg6 harg6 arg7 harg7 arg8 harg8 arg9 harg9 arg10 harg10 arg11 harg11 arg12 harg12 x0 x3 0 l col h]
    exact hq ⟨l.val, h⟩
  rw [dif_neg h]
  by_cases h' : l.val < 80
  · obtain ⟨d, hd, hp⟩ : ∃ d : Fin 16, d.val = l.val - 64 ∧ fillQ c (grid0.coords t) arg3 harg3 arg4 harg4 arg5 harg5 arg6 harg6 arg7 harg7 arg8 harg8 arg9 harg9 arg10 harg10 arg11 harg11 arg12 harg12 x0 x3 (ix2 (lane 0 l) col) = k0_pay172 (k0_pay158 (grid0.coords t)) (fillRun.sl.r_2 c (grid0.coords t) arg3 harg3 arg6 harg6 x0 x3) fillRun.sl.v67 (fillRun.sl.r_5 (grid0.coords t)) (k0_pay166 fillRun.sl.v67) (fillRun.sl.r_6 (grid0.coords t)) (k0_pay168 fillRun.sl.v67) (k0_pay169 fillRun.sl.v67) (fillRun.sl.r_7 (grid0.coords t)) k0_pay171 (ix2 d col) :=
      ⟨_, (show (lane 0 l).val - 64 = l.val - 64 by omega), piece4 c t arg3 harg3 arg4 harg4 arg5 harg5 arg6 harg6 arg7 harg7 arg8 harg8 arg9 harg9 arg10 harg10 arg11 harg11 arg12 harg12 x0 x3 (lane 0 l) col (by omega)⟩
    rw [hp, feats0, hs]
    have ex : (fillRun.sl.r_6 (F := Ideal) (grid0.coords t) : EReal) = Ideal.ofBits .f32 0x42800000#32 * (k0_pay158 (F := Ideal) (grid0.coords t) : EReal) := rfl
    have ea : (fillRun.sl.r_7 (F := Ideal) (grid0.coords t) (ix2 0 col) : EReal) = Ideal.ofBits .f32 0xC2800000#32 * (k0_pay158 (F := Ideal) (grid0.coords t) : EReal) * (((qpos (grid0.coords t) col / 64 : ℕ) : ℝ) : EReal) := (paA (grid0.coords t) (k0_pay158 (F := Ideal) (grid0.coords t)) col)
    have eb : (fillRun.sl.r_5 (F := Ideal) (grid0.coords t) (ix2 0 col) : EReal) = (((qpos (grid0.coords t) col % 64 : ℕ) : ℝ) : EReal) := (pbA (grid0.coords t) col)
    rw [ex, ea, eb, slope_at, bits64, bitsNeg64]
    by_cases h0 : l.val = 64
    · rw [if_pos (by omega), if_pos h0, EReal.coe_mul]
    rw [if_neg (by omega), if_neg h0]
    by_cases h1 : l.val = 65
    · rw [if_pos (by omega), if_pos h1]
    rw [if_neg (by omega), if_neg h1]
    by_cases h2 : l.val = 66
    · rw [if_pos (by omega), if_pos h2, EReal.coe_mul, EReal.coe_mul]
    rw [if_neg (by omega), if_neg h2]
    by_cases h3 : l.val = 67
    · rw [if_pos (by omega), if_pos h3, EReal.coe_mul, EReal.coe_sub, EReal.coe_zero]
    rw [if_neg (by omega), if_neg h3]
    by_cases h4 : l.val = 68
    · rw [if_pos (by omega), if_pos h4, EReal.coe_sub, EReal.coe_zero]
    rw [if_neg (by omega), if_neg h4, EReal.coe_zero]
  · rw [piece3 c t arg3 harg3 arg4 harg4 arg5 harg5 arg6 harg6 arg7 harg7 arg8 harg8 arg9 harg9 arg10 harg10 arg11 harg11 arg12 harg12 x0 x3 (lane 0 l) col (by omega), if_neg (by omega), if_neg (by omega), if_neg (by omega), if_neg (by omega), if_neg (by omega), EReal.coe_zero]
    pointwise [k0_pay173, k0_pay188]

theorem sqX1 (X : Vec Ideal S1x64x2048 .bf16) (col : Fin 2048) (Q : Fin 64 → ℝ) (hq : ∀ l : Fin 64, (X (ix3 0 l col) : EReal) = (Q l : EReal)) :
    (k0_pay175 X (ix2 0 col) : EReal) = ((∑ l, Q l * Q l : ℝ) : EReal) := by
  have h : k0_pay175 X (ix2 0 col) = ∑ l : Fin 64, (X (ix3 0 l col) : EReal) * X (ix3 0 l col) := by
    pointwise [k0_pay175, k0_pay174]
  rw [h, ← coe_sum]
  refine Finset.sum_congr rfl fun l _ => ?_
  rw [hq, ← EReal.coe_mul]

theorem sq1 (col : Fin 2048) (Q : Fin 64 → ℝ) (hq : ∀ l : Fin 64, (x0 (ix3 0 (lane 1 ⟨l.val, by omega⟩) col) : EReal) = (Q l : EReal)) :
    (fillRun.sl.r_9 c arg3 harg3 x0 (ix2 0 col) : EReal) = ((∑ l, Q l * Q l : ℝ) : EReal) := by
  unfold fillRun.sl.r_9
  rw [View.readAt_eq_ld, harg3.read_unread]
  refine sqX1 _ col Q fun l => Eq.trans ?_ (hq l)
  exact View.ld_unit_apply_of x0 _ _ _ (ix3 0 l col) (ix3 0 (lane 1 ⟨l.val, by omega⟩) col) (idx3 rfl (show 128 * 1 + l.val = 128 + l.val by omega) (Nat.zero_add _).symm)

theorem sh1 (col : Fin 2048) (Q : Fin 64 → ℝ) (hq : ∀ l : Fin 64, (x0 (ix3 0 (lane 1 ⟨l.val, by omega⟩) col) : EReal) = (Q l : EReal))
    (h3 : ∀ j (l : Fin 128), l.val < 8 → (x3 (ix4 0 j 0 l) : EReal) < ⊤) : ∃ s : ℝ, (fillRun.sl.r_10 c (grid0.coords t) arg3 harg3 arg6 harg6 x0 x3 (ix2 0 col) : EReal) = (s : EReal) := by
  unfold fillRun.sl.r_10
  rw [View.readAt_eq_ld, harg6.read_unread]
  refine shift1 ((grid0.coords t) 1) _ _ _ col (fun j l hl => ?_) _ (Finset.sum_nonneg fun l _ => mul_self_nonneg (Q l)) (sq1 c arg3 harg3 x0 col Q hq)
  have e := View.ld_unit_apply_of x3 _ _ inb_S1x16x8x128_S1x16x8x128_0_0_0_0 (ix4 0 j 0 l) (ix4 0 j 0 l)
    (fun a => match a with | ⟨0, _⟩ => (Nat.zero_add _).symm | ⟨1, _⟩ => (Nat.zero_add _).symm | ⟨2, _⟩ => (Nat.zero_add _).symm | ⟨3, _⟩ => (Nat.zero_add _).symm)
  exact e ▸ h3 j l hl

theorem rows1 (col : Fin 2048) (Q : Fin 64 → ℝ) (hq : ∀ l : Fin 64, (x0 (ix3 0 (lane 1 ⟨l.val, by omega⟩) col) : EReal) = (Q l : EReal))
    (h3 : ∀ j (l : Fin 128), l.val < 8 → (x3 (ix4 0 j 0 l) : EReal) < ⊤) :
    ∃ s : ℝ, ∀ l : Fin 128, (fillQ c (grid0.coords t) arg3 harg3 arg4 harg4 arg5 harg5 arg6 harg6 arg7 harg7 arg8 harg8 arg9 harg9 arg10 harg10 arg11 harg11 arg12 harg12 x0 x3 (ix2 (lane 1 l) col) : EReal) = ((qfeat Q (slope ((grid0.coords t) 1)) (qpos (grid0.coords t) col) s l : ℝ) : EReal) := by
  obtain ⟨s, hs⟩ := sh1 c t arg3 harg3 arg6 harg6 x0 x3 col Q hq h3
  refine ⟨s, fun l => ?_⟩
  have hl : (lane 1 l).val = 128 * 1 + l.val := rfl
  unfold qfeat
  by_cases h : l.val < 64
  · rw [dif_pos h, fill_query c t arg3 harg3 arg4 harg4 arg5 harg5 arg6 harg6 arg7 harg7 arg8 harg8 arg9 harg9 arg10 harg10 arg11 harg11 arg12 harg12 x0 x3 1 l col h]
    exact hq ⟨l.val, h⟩
  rw [dif_neg h]
  by_cases h' : l.val < 80
  · obtain ⟨d, hd, hp⟩ : ∃ d : Fin 16, d.val = l.val - 64 ∧ fillQ c (grid0.coords t) arg3 harg3 arg4 harg4 arg5 harg5 arg6 harg6 arg7 harg7 arg8 harg8 arg9 harg9 arg10 harg10 arg11 harg11 arg12 harg12 x0 x3 (ix2 (lane 1 l) col) = k0_pay187 (k0_pay158 (grid0.coords t)) (fillRun.sl.r_10 c (grid0.coords t) arg3 harg3 arg6 harg6 x0 x3) fillRun.sl.v67 (k0_pay180 fillRun.sl.v67) (fillRun.sl.r_13 (grid0.coords t)) (k0_pay182 fillRun.sl.v67) (k0_pay183 fillRun.sl.v67) (fillRun.sl.r_14 (grid0.coords t)) (k0_pay185 fillRun.sl.v67) (fillRun.sl.r_15 (grid0.coords t)) 4#32 (ix2 d col) :=
      ⟨_, (show (lane 1 l).val - 192 = l.val - 64 by omega), piece1 c t arg3 harg3 arg4 harg4 arg5 harg5 arg6 harg6 arg7 harg7 arg8 harg8 arg9 harg9 arg10 harg10 arg11 harg11 arg12 harg12 x0 x3 (lane 1 l) col (by omega)⟩
    rw [hp, feats1, hs]
    have ex : (fillRun.sl.r_13 (F := Ideal) (grid0.coords t) : EReal) = Ideal.ofBits .f32 0x42800000#32 * (k0_pay158 (F := Ideal) (grid0.coords t) : EReal) := rfl
    have ea : (fillRun.sl.r_14 (F := Ideal) (grid0.coords t) (ix2 0 col) : EReal) = Ideal.ofBits .f32 0xC2800000#32 * (k0_pay158 (F := Ideal) (grid0.coords t) : EReal) * (((qpos (grid0.coords t) col / 64 : ℕ) : ℝ) : EReal) := (paB (grid0.coords t) (k0_pay158 (F := Ideal) (grid0.coords t)) col)
    have eb : (fillRun.sl.r_15 (F := Ideal) (grid0.coords t) (ix2 0 col) : EReal) = ((0 - (k0_pay158 (F := Ideal) (grid0.coords t) : EReal)) * (((qpos (grid0.coords t) col % 64 : ℕ) : ℝ) : EReal)) := (pbB (grid0.coords t) (k0_pay158 (F := Ideal) (grid0.coords t)) col)
    rw [ex, ea, eb, slope_at, bits64, bitsNeg64]
    by_cases h0 : l.val = 64
    · rw [if_pos (by omega), if_pos h0, EReal.coe_mul]
    rw [if_neg (by omega), if_neg h0]
    by_cases h1 : l.val = 65
    · rw [if_pos (by omega), if_pos h1]
    rw [if_neg (by omega), if_neg h1]
    by_cases h2 : l.val = 66
    · rw [if_pos (by omega), if_pos h2, EReal.coe_mul, EReal.coe_mul]
    rw [if_neg (by omega), if_neg h2]
    by_cases h3 : l.val = 67
    · rw [if_pos (by omega), if_pos h3, EReal.coe_mul, EReal.coe_sub, EReal.coe_zero]
    rw [if_neg (by omega), if_neg h3]
    by_cases h4 : l.val = 68
    · rw [if_pos (by omega), if_pos h4, EReal.coe_sub, EReal.coe_zero]
    rw [if_neg (by omega), if_neg h4, EReal.coe_zero]
  · rw [piece0 c t arg3 harg3 arg4 harg4 arg5 harg5 arg6 harg6 arg7 harg7 arg8 harg8 arg9 harg9 arg10 harg10 arg11 harg11 arg12 harg12 x0 x3 (lane 1 l) col (by omega), if_neg (by omega), if_neg (by omega), if_neg (by omega), if_neg (by omega), if_neg (by omega), EReal.coe_zero]
    pointwise [k0_pay173, k0_pay188]

/-- The score of a key of real features: the scaled product less the distance penalty, less a number of the column. -/
theorem score_at (m : Fin 2) (col : Fin 2048) (Q : Fin 64 → ℝ) (hq : ∀ l : Fin 64, (x0 (ix3 0 (lane m ⟨l.val, by omega⟩) col) : EReal) = (Q l : EReal))
    (h3 : ∀ j (l : Fin 128), l.val < 8 → (x3 (ix4 0 j 0 l) : EReal) < ⊤) (x1 : Vec Ideal S1x8192x256 .bf16) (K : Fin 8192 → Fin 64 → ℝ)
    (h1 : ∀ (p : Fin 8192) (l : Fin 128), (x1 (ix3 0 p (lane m l)) : EReal) = ((kfeat (K p) p.val l : ℝ) : EReal)) :
    ∃ s : ℝ, ∀ kb j, score x1 (fillQ c (grid0.coords t) arg3 harg3 arg4 harg4 arg5 harg5 arg6 harg6 arg7 harg7 arg8 harg8 arg9 harg9 arg10 harg10 arg11 harg11 arg12 harg12 x0 x3) m col kb j
      = ((((∑ d : Fin 64, K (key kb j) d * Q d) - slope ((grid0.coords t) 1) * ((qpos (grid0.coords t) col : ℝ) - ((key kb j).val : ℝ)) - s : ℝ)) : EReal) := by
  obtain ⟨s, hs⟩ : ∃ s : ℝ, ∀ l : Fin 128, (fillQ c (grid0.coords t) arg3 harg3 arg4 harg4 arg5 harg5 arg6 harg6 arg7 harg7 arg8 harg8 arg9 harg9 arg10 harg10 arg11 harg11 arg12 harg12 x0 x3 (ix2 (lane m l) col) : EReal) = ((qfeat Q (slope ((grid0.coords t) 1)) (qpos (grid0.coords t) col) s l : ℝ) : EReal) := by
    match m with
    | ⟨0, _⟩ => exact rows0 c t arg3 harg3 arg4 harg4 arg5 harg5 arg6 harg6 arg7 harg7 arg8 harg8 arg9 harg9 arg10 harg10 arg11 harg11 arg12 harg12 x0 x3 col Q hq h3
    | ⟨1, _⟩ => exact rows1 c t arg3 harg3 arg4 harg4 arg5 harg5 arg6 harg6 arg7 harg7 arg8 harg8 arg9 harg9 arg10 harg10 arg11 harg11 arg12 harg12 x0 x3 col Q hq h3
  refine ⟨s, fun kb j => ?_⟩
  rw [← feats_dot, ← coe_sum]
  unfold score
  refine Finset.sum_congr rfl fun l _ => ?_
  rw [h1, hs, ← EReal.coe_mul]
end

end Cert.KernelIdeal.Diff

end
-- ==== Proof.Diff.OutBlock.lean ====
/-
The block a step writes, entry by entry: the difference of the two halves' attention means, normalised and scaled.
-/
module

public import proofs.«01_k».proof.Proof.Diff.FillAt
public import Idealize.ShloMosaic.Lib.Pointwise
public import Idealize.ShloMosaic.Lib.IdealHost

@[expose] public section

set_option maxRecDepth 65536

noncomputable section

namespace Cert.KernelIdeal.Diff

open Idealize.ShloMosaic Idealize.ShloMosaic.TcCoe Idealize.ShloMosaic.Tactic
open Cert.KernelIdeal Cert.KernelIdeal.Gen

/-- The mixing weight of the second half, of the four mixing vectors. -/
def lamOf (w : Fin 4 → Fin 64 → EReal) : EReal :=
  Ideal.exp (∑ d, w 0 d * w 1 d) - Ideal.exp (∑ d, w 2 d * w 3 d) + Ideal.ofBits .f32 0x3E4CCCCD#32

/-- A token's values, normalised and scaled. -/
def fin (o : Fin 128 → EReal) (g : EReal) (e : Fin 128) : EReal :=
  o e * Ideal.rsqrt (Ideal.div (∑ d, o d * o d) (Ideal.ofBits .f32 0x43000000#32) + Ideal.ofBits .f32 0x358637BD#32) * g * Ideal.ofBits .f32 0x3F4CCCCD#32

theorem pay1_at (lam : FVec Ideal S1x1 .f32) (P0 P1 D1 : FVec Ideal S128x2048 .f32) (g : Vec Ideal S128x1 .f32) (col : Fin 2048) (e : Fin 128) :
    k0_pay1 lam P0 P1 D1 g (ix3 0 col e)
      = fin (fun d => P0 (ix2 d col) - lam (ix2 0 0) * Ideal.div (P1 (ix2 d col)) (D1 (ix2 d col))) (g (ix2 e 0)) e := by
  pointwise [k0_pay1, fin]

theorem lam_at (w : Vec Ideal S4x64 .f32) : k0_pay203 w (ix2 0 0) = lamOf fun k d => w (ix2 k d) := by
  pointwise [k0_pay203, lamOf]

theorem p0_at (A : Vec Ideal S1x144x2048 .f32) (d : Fin 128) (col : Fin 2048) :
    k0_pay205 A (ix2 d col) = Ideal.div (A (ix3 0 ⟨d.val, by omega⟩ col)) (A (ix3 0 130 col)) := by
  pointwise [k0_pay205]
theorem p1_at (A : Vec Ideal S1x144x2048 .f32) (d : Fin 128) (col : Fin 2048) :
    k0_pay206 A (ix2 d col) = A (ix3 0 ⟨d.val, by omega⟩ col) := by
  pointwise [k0_pay206, k0_pay204]
theorem d1_at (A : Vec Ideal S1x144x2048 .f32) (d : Fin 128) (col : Fin 2048) :
    k0_pay207 A (ix2 d col) = A (ix3 0 130 col) := by
  pointwise [k0_pay207, k0_pay204]

theorem ld_plane0 (a : Vec Ideal S2x144x2048 .f32) (r : Fin 144) (col : Fin 2048) (inb) :
    View.ld a (Rect.unit (s := S2x144x2048) ![0, 0, 0] ![1, 144, 2048] inb) (ix3 0 r col) = a (ix3 0 r col) :=
  View.ld_unit_apply_of a _ _ _ (ix3 0 r col) (ix3 0 r col) (idx3 rfl (Nat.zero_add _).symm (Nat.zero_add _).symm)
theorem ld_plane1 (a : Vec Ideal S2x144x2048 .f32) (r : Fin 144) (col : Fin 2048) (inb) :
    View.ld a (Rect.unit (s := S2x144x2048) ![1, 0, 0] ![1, 144, 2048] inb) (ix3 0 r col) = a (ix3 1 r col) :=
  View.ld_unit_apply_of a _ _ _ (ix3 0 r col) (ix3 1 r col) (idx3 rfl (Nat.zero_add _).symm (Nat.zero_add _).symm)

section

variable (c : Dev nD) (t : Fin grid0.N) (arg3 : Memref sig .tc .vmem S1x256x2048 .bf16) (harg3 : arg3.IsWhole) (arg4 : Memref sig .tc .vmem S1x8192x256 .bf16) (harg4 : arg4.IsWhole) (arg5 : Memref sig .tc .vmem S1x1x16x144x512 .bf16) (harg5 : arg5.IsWhole) (arg6 : Memref sig .tc .vmem S1x16x8x128 .f32) (harg6 : arg6.IsWhole) (arg7 : Memref sig .tc .vmem S4x64 .f32) (harg7 : arg7.IsWhole) (arg8 : Memref sig .tc .vmem S128x1 .f32) (harg8 : arg8.IsWhole) (arg9 : Memref sig .tc .vmem S1x2048x128 .bf16) (harg9 : arg9.IsWhole) (arg10 : Memref sig .tc .vmem S256x2048 .bf16) (harg10 : arg10.IsWhole) (arg11 : Memref sig .tc .vmem S2x144x2048 .f32) (harg11 : arg11.IsWhole) (arg12 : Memref sig .tc .vmem S2x1x2048 .f32) (harg12 : arg12.IsWhole)

theorem out_list (x4 : Vec Ideal S4x64 .f32) (x5 : Vec Ideal S128x1 .f32) (a : Vec Ideal S2x144x2048 .f32) :
    (outRun c (grid0.coords t) arg3 harg3 arg4 harg4 arg5 harg5 arg6 harg6 arg7 harg7 arg8 harg8 arg9 harg9 arg10 harg10 arg11 harg11 arg12 harg12 x4 x5 a).1 = [⟨Rect.unit (s := S1x2048x128) ![0, 0, 0] S1x2048x128.size inb_S1x2048x128_S1x2048x128_0_0_0,
      k0_pay1 (outRun.sl.v351 c arg7 harg7 x4) (outRun.sl.v359 c arg11 harg11 a) (outRun.sl.v360 c arg11 harg11 a) (outRun.sl.v362 c arg11 harg11 a)
        (View.readAt (Elt Ideal) arg8.view (Rect.unit ![0, 0] S128x1.size inb_S128x1_S128x1_0_0).toLoadRect (harg8.unread x5))⟩] := rfl

theorem out_at (x4 : Vec Ideal S4x64 .f32) (x5 : Vec Ideal S128x1 .f32) (a : Vec Ideal S2x144x2048 .f32) (col : Fin 2048) (e : Fin 128) :
    outO c (grid0.coords t) arg3 harg3 arg4 harg4 arg5 harg5 arg6 harg6 arg7 harg7 arg8 harg8 arg9 harg9 arg10 harg10 arg11 harg11 arg12 harg12 x4 x5 a (ix3 0 col e)
      = fin (fun d => Ideal.div (a (ix3 0 ⟨d.val, by omega⟩ col)) (a (ix3 0 130 col))
          - lamOf (fun k d => x4 (ix2 k d)) * Ideal.div (a (ix3 1 ⟨d.val, by omega⟩ col)) (a (ix3 1 130 col))) (x5 (ix2 e 0)) e := by
  unfold outO
  rw [out_list]
  refine (canon_in (size := S1x2048x128.size) (ix3 0 col e) (ix3 0 col e) (idx3 (Nat.zero_add _).symm (Nat.zero_add _).symm (Nat.zero_add _).symm)).trans ?_
  refine (pay1_at _ _ _ _ _ col e).trans ?_
  unfold outRun.sl.v351 outRun.sl.v359 outRun.sl.v360 outRun.sl.v362
  simp only [View.readAt_eq_ld, harg7.read_unread, harg8.read_unread, harg11.read_unread]
  have h4 : ∀ k d, View.ld x4 (Rect.unit (s := S4x64) ![0, 0] ![4, 64] inb_S4x64_S4x64_0_0) (ix2 k d) = x4 (ix2 k d) := fun k d =>
    View.ld_unit_apply_of x4 _ _ _ (ix2 k d) (ix2 k d) (idx2 (Nat.zero_add _).symm (Nat.zero_add _).symm)
  have h5 : View.ld x5 (Rect.unit (s := S128x1) ![0, 0] ![128, 1] inb_S128x1_S128x1_0_0) (ix2 e 0) = x5 (ix2 e 0) :=
    View.ld_unit_apply_of x5 _ _ _ (ix2 e 0) (ix2 e 0) (idx2 (Nat.zero_add _).symm (Nat.zero_add _).symm)
  have hl : k0_pay203 (View.ld x4 (Rect.unit (s := S4x64) ![0, 0] ![4, 64] inb_S4x64_S4x64_0_0)) (ix2 0 0) = lamOf fun k d => x4 (ix2 k d) :=
    (lam_at _).trans (congrArg lamOf (funext fun k => funext fun d => h4 k d))
  have h0 : ∀ d : Fin 128, k0_pay205 (View.ld a (Rect.unit (s := S2x144x2048) ![0, 0, 0] ![1, 144, 2048] inb_S2x144x2048_S1x144x2048_0_0_0)) (ix2 d col)
      = Ideal.div (a (ix3 0 ⟨d.val, by omega⟩ col)) (a (ix3 0 130 col)) := fun d => (p0_at _ d col).trans (congrArg₂ Ideal.div (ld_plane0 a _ col _) (ld_plane0 a _ col _))
  have h1 : ∀ d : Fin 128, k0_pay206 (View.ld a (Rect.unit (s := S2x144x2048) ![1, 0, 0] ![1, 144, 2048] inb_S2x144x2048_S1x144x2048_1_0_0)) (ix2 d col)
      = a (ix3 1 ⟨d.val, by omega⟩ col) := fun d => (p1_at _ d col).trans (ld_plane1 a _ col _)
  have h2 : ∀ d : Fin 128, k0_pay207 (View.ld a (Rect.unit (s := S2x144x2048) ![1, 0, 0] ![1, 144, 2048] inb_S2x144x2048_S1x144x2048_1_0_0)) (ix2 d col)
      = a (ix3 1 130 col) := fun d => (d1_at _ d col).trans (ld_plane1 a _ col _)
  exact congrArg₂ (fun o g => fin o g e) (funext fun d => congrArg₂ (· - ·) (h0 d) (congrArg₂ (· * ·) hl (congrArg₂ Ideal.div (h1 d) (h2 d)))) h5

/-- The score of a key, with query `Q` at position `p`. -/
def trueScore (K : Fin 8192 → Fin 64 → ℝ) (Q : Fin 64 → ℝ) (sl : ℝ) (p : ℕ) (s : Fin 8192) : ℝ := (∑ d : Fin 64, K s d * Q d) - sl * ((p : ℝ) - (s.val : ℝ))

/-- The block a step writes, of real queries, keys and values. -/
theorem body_at (k0_h2 : k0_cond2 (grid0.coords t) = 1#1)
    (x0 : Vec Ideal S1x256x2048 .bf16) (x1 : Vec Ideal S1x8192x256 .bf16) (x2 : Vec Ideal S1x1x16x144x512 .bf16) (x3 : Vec Ideal S1x16x8x128 .f32)
    (x4 : Vec Ideal S4x64 .f32) (x5 : Vec Ideal S128x1 .f32) (col : Fin 2048) (e : Fin 128)
    (Q : Fin 2 → Fin 64 → ℝ) (hq : ∀ (m : Fin 2) (l : Fin 64), (x0 (ix3 0 (lane m ⟨l.val, by omega⟩) col) : EReal) = (Q m l : EReal))
    (h3 : ∀ j (l : Fin 128), l.val < 8 → (x3 (ix4 0 j 0 l) : EReal) < ⊤) (K : Fin 2 → Fin 8192 → Fin 64 → ℝ)
    (h1 : ∀ (m : Fin 2) (p : Fin 8192) (l : Fin 128), (x1 (ix3 0 p (lane m l)) : EReal) = ((kfeat (K m p) p.val l : ℝ) : EReal))
    (V : Fin 128 → Fin 8192 → ℝ) (hV : ∀ (r : Fin 128) kb j, (x2 (ix5 0 0 kb ⟨r.val, by omega⟩ j) : EReal) = (V r (key kb j) : EReal))
    (hone : ∀ kb j, (x2 (ix5 0 0 kb 130 j) : EReal) = 1) :
    bodyO c (grid0.coords t) arg3 harg3 arg4 harg4 arg5 harg5 arg6 harg6 arg7 harg7 arg8 harg8 arg9 harg9 arg10 harg10 arg11 harg11 arg12 harg12 k0_h2 x0 x1 x2 x3 x4 x5 (ix3 0 col e)
      = fin (fun d => (attn (qpos (grid0.coords t) col) (trueScore (K 0) (Q 0) (slope ((grid0.coords t) 1)) (qpos (grid0.coords t) col)) (V d) : EReal)
          - lamOf (fun k d => x4 (ix2 k d)) * (attn (qpos (grid0.coords t) col) (trueScore (K 1) (Q 1) (slope ((grid0.coords t) 1)) (qpos (grid0.coords t) col)) (V d) : EReal)) (x5 (ix2 e 0)) e := by
  unfold bodyO
  generalize hA : (if testA (sumsA c (grid0.coords t) arg3 harg3 arg4 harg4 arg5 harg5 arg6 harg6 arg7 harg7 arg8 harg8 arg9 harg9 arg10 harg10 arg11 harg11 arg12 harg12 k0_h2 x0 x1 x2 x3 x4 x5) = 1#1 then againA c (grid0.coords t) arg3 harg3 arg4 harg4 arg5 harg5 arg6 harg6 arg7 harg7 arg8 harg8 arg9 harg9 arg10 harg10 arg11 harg11 arg12 harg12 x0 x1 x2 x3 x4 x5
      else sumsA c (grid0.coords t) arg3 harg3 arg4 harg4 arg5 harg5 arg6 harg6 arg7 harg7 arg8 harg8 arg9 harg9 arg10 harg10 arg11 harg11 arg12 harg12 k0_h2 x0 x1 x2 x3 x4 x5) = A
  have hr : ∀ (m : Fin 2) (d : Fin 128), Ideal.div (A (ix3 m ⟨d.val, by omega⟩ col)) (A (ix3 m 130 col))
      = (attn (qpos (grid0.coords t) col) (trueScore (K m) (Q m) (slope ((grid0.coords t) 1)) (qpos (grid0.coords t) col)) (V d) : EReal) := by
    intro m d
    obtain ⟨s, hs⟩ := score_at c t arg3 harg3 arg4 harg4 arg5 harg5 arg6 harg6 arg7 harg7 arg8 harg8 arg9 harg9 arg10 harg10 arg11 harg11 arg12 harg12 x0 x3 m col (Q m) (hq m) h3 x1 (K m) (h1 m)
    refine (ratio x1 x2 (fillQ c (grid0.coords t) arg3 harg3 arg4 harg4 arg5 harg5 arg6 harg6 arg7 harg7 arg8 harg8 arg9 harg9 arg10 harg10 arg11 harg11 arg12 harg12 x0 x3) ((grid0.coords t) 2).val (coord2 (grid0.coords t)) m col
      (fun p => trueScore (K m) (Q m) (slope ((grid0.coords t) 1)) (qpos (grid0.coords t) col) p - s) hs (fun r => A (ix3 m r col)) ?_ hone ⟨d.val, by omega⟩ (V d) (hV d)).trans ?_
    · rw [← hA]
      split
      · exact Or.inr fun r => again_at c t arg3 harg3 arg4 harg4 arg5 harg5 arg6 harg6 arg7 harg7 arg8 harg8 arg9 harg9 arg10 harg10 arg11 harg11 arg12 harg12 x0 x1 x2 x3 x4 x5 m r col
      · exact Or.inl fun r => sums_at c t arg3 harg3 arg4 harg4 arg5 harg5 arg6 harg6 arg7 harg7 arg8 harg8 arg9 harg9 arg10 harg10 arg11 harg11 arg12 harg12 k0_h2 x0 x1 x2 x3 x4 x5 m r col
    · exact congrArg (fun x : ℝ => (x : EReal)) (attn_shift _ _ _ s)
  rw [out_at]
  exact congrArg (fun o => fin o (x5 (ix2 e 0)) e) (funext fun d => congrArg₂ (· - ·) (hr 0 d) (congrArg (_ * ·) (hr 1 d)))

end

end Cert.KernelIdeal.Diff

end
-- ==== Proof.Diff.HostF.lean ====
/-
The arrays the host prepares for the attention kernel, entry by entry: the scaled queries laid along columns, the keys and the values with the
position features beside them, the mixing vectors and the scale.
-/
module

public import proofs.«01_k».proof.Proof.Diff.Feats
public import proofs.«01_k».proof.Proof.Diff.OutBlock
public import proofs.«01_k».proof.Proof.Diff.Whole

@[expose] public section

set_option maxRecDepth 65536

noncomputable section

namespace Cert.KernelIdeal.Diff

open Idealize.ShloMosaic Idealize.ShloMosaic.TcCoe Idealize.ShloMosaic.Tactic
open Cert.KernelIdeal Cert.KernelIdeal.Gen

abbrev lanes (x : Words S_) : Words S8192x64 := broadcastInDim S8192x64 ![] bcast_S_S8192x64 x

/-- The features of every position, of the quotients and the remainders. -/
def featOf (A B : Words S8192x1) : (⟨S8192x64, .f32⟩ : BufTy).Contents (Elt Ideal) :=
  select (cmpi .eq (iotaInDim S8192x64 32 1) (lanes (constantI S_ 32 0#32)))
    (broadcastInDim S8192x64 ![0, 1] bcast_S8192x1_S8192x64_0_1 (sitofp (F := Ideal) .f32 A))
    (select (cmpi .eq (iotaInDim S8192x64 32 1) (lanes (constantI S_ 32 1#32)))
      (broadcastInDim S8192x64 ![0, 1] bcast_S8192x1_S8192x64_0_1 (sitofp (F := Ideal) .f32 B))
      (select (cmpi .slt (iotaInDim S8192x64 32 1) (lanes (constantI S_ 32 5#32)))
        (broadcastInDim S8192x64 ![] bcast_S_S8192x64 (constant (F := Ideal) S_ .f32 0x3F800000#32))
        (broadcastInDim S8192x64 ![] bcast_S_S8192x64 (constant (F := Ideal) S_ .f32 0x00000000#32))))

/-- The features of every position. -/
def hostFeat : (⟨S8192x64, .f32⟩ : BufTy).Contents (Elt Ideal) := featOf hostQuo hostRest

/-- One lane of one position's features. -/
def featVal (p : ℕ) (l : ℕ) : ℝ := if l = 0 then (p / 64 : ℕ) else if l = 1 then (p % 64 : ℕ) else if l < 5 then 1 else 0

theorem sel_lane : ∀ (l : Fin 64) (x y z w : EReal),
    Scalar.select (IntOp.cmpi CmpIPredicate.eq (BitVec.ofNat 32 l.val) 0#32) x (Scalar.select (IntOp.cmpi CmpIPredicate.eq (BitVec.ofNat 32 l.val) 1#32) y
        (Scalar.select (IntOp.cmpi CmpIPredicate.slt (BitVec.ofNat 32 l.val) 5#32) z w))
      = if l.val = 0 then x else if l.val = 1 then y else if l.val < 5 then z else w := by
  intro l x y z w
  have h0 : ∀ l : Fin 64, IntOp.cmpi CmpIPredicate.eq (BitVec.ofNat 32 l.val) 0#32 = if l.val = 0 then 1#1 else 0#1 := by decide +kernel
  have h1 : ∀ l : Fin 64, IntOp.cmpi CmpIPredicate.eq (BitVec.ofNat 32 l.val) 1#32 = if l.val = 1 then 1#1 else 0#1 := by decide +kernel
  have h5 : ∀ l : Fin 64, IntOp.cmpi CmpIPredicate.slt (BitVec.ofNat 32 l.val) 5#32 = if l.val < 5 then 1#1 else 0#1 := by decide +kernel
  have hs : ∀ (P : Prop) [Decidable P] (a b : EReal), Scalar.select (if P then 1#1 else 0#1) a b = if P then a else b := fun P _ a b => by
    by_cases hP : P
    · simp [hP, Scalar.select]
    · simp [hP, Scalar.select]
  rw [h0, h1, h5, hs, hs, hs]

theorem featOf_apply (A B : Words S8192x1) (p : Fin 8192) (l : Fin 64) :
    featOf A B (ix2 p l) = if l.val = 0 then (((A (ix2 p 0) : BitVec 32).toInt : ℝ) : EReal) else if l.val = 1 then (((B (ix2 p 0) : BitVec 32).toInt : ℝ) : EReal)
      else if l.val < 5 then 1 else 0 := by
  pointwise [featOf]
  exact sel_lane l _ _ _ _

theorem hostFeat_apply (p : Fin 8192) (l : Fin 64) : hostFeat (ix2 p l) = ((featVal p.val l.val : ℝ) : EReal) := by
  unfold hostFeat featVal
  rw [featOf_apply, quo_all, rest_all, int_quo, int_rest]
  split
  · push_cast; rfl
  split
  · push_cast; rfl
  split <;> simp

end Cert.KernelIdeal.Diff

end
-- ==== Proof.Diff.HostK.lean ====
/-
The arrays the host prepares for the attention kernel, entry by entry: the scaled queries laid along columns, the keys and the values with the
position features beside them, the mixing vectors and the scale.
-/
module

public import proofs.«01_k».proof.Proof.Diff.Feats
public import proofs.«01_k».proof.Proof.Diff.OutBlock
public import proofs.«01_k».proof.Proof.Diff.Whole

@[expose] public section

set_option maxRecDepth 65536

noncomputable section

namespace Cert.KernelIdeal.Diff

open Idealize.ShloMosaic Idealize.ShloMosaic.TcCoe Idealize.ShloMosaic.Tactic
open Cert.KernelIdeal Cert.KernelIdeal.Gen

/-- The keys, each half with the position features in its lanes 64 to 127. -/
def hostK (k : FVec Ideal S8x8192x4x2x64 .f32) (f : FVec Ideal S8192x64 .f32) : FVec Ideal S8x8192x1024 .bf16 :=
  truncf .bf16 (shapeCast S8x8192x1024 (concatenate S8x8192x8x128 3 [⟨S8x8192x8x64, shapeCast S8x8192x8x64 k shapeCasts_S8x8192x4x2x64_S8x8192x8x64⟩,
      ⟨S8x8192x8x64, broadcastInDim S8x8192x8x64 ![0, 1, 2, 3] bcast_S1x8192x1x64_S8x8192x8x64_0_1_2_3 (broadcastInDim S1x8192x1x64 ![1, 3] bcast_S8192x64_S1x8192x1x64_1_3 f)⟩]
    concatenates_S8x8192x8x64_S8x8192x8x64_S8x8192x8x128_d3) shapeCasts_S8x8192x8x128_S8x8192x1024) bitsLt_bf16_f32

theorem castK (X : FVec Ideal S8x8192x1024 .f32) (i : S8x8192x1024.Idx) : (truncf .bf16 X bitsLt_bf16_f32) i = X i := rfl

theorem joinK (X : FVec Ideal S8x8192x8x128 .f32) (b : Fin 8) (h : Fin 4) (m : Fin 2) (l : Fin 128) (p : Fin 8192) :
    shapeCast S8x8192x1024 X shapeCasts_S8x8192x8x128_S8x8192x1024 (ix3 b p ⟨256 * h.val + (128 * m.val + l.val), by omega⟩)
      = X (ix4 b p ⟨2 * h.val + m.val, by omega⟩ l) :=
  shapeCast_apply X shapeCasts_S8x8192x8x128_S8x8192x1024 _ (ix4 b p ⟨2 * h.val + m.val, by omega⟩ l) (by
    rewrite [Shape.rowMajor_val_four, Shape.rowMajor_val_three]
    show ((b.val * 8192 + p.val) * 8 + (2 * h.val + m.val)) * 128 + l.val = (b.val * 8192 + p.val) * 1024 + (256 * h.val + (128 * m.val + l.val))
    omega)

theorem splitK (k : FVec Ideal S8x8192x4x2x64 .f32) (b : Fin 8) (h : Fin 4) (m : Fin 2) (l : Fin 64) (p : Fin 8192) :
    shapeCast S8x8192x8x64 k shapeCasts_S8x8192x4x2x64_S8x8192x8x64 (ix4 b p ⟨2 * h.val + m.val, by omega⟩ l) = k (ix5 b p h m l) :=
  shapeCast_apply k shapeCasts_S8x8192x4x2x64_S8x8192x8x64 _ (ix5 b p h m l) (by
    rewrite [Shape.rowMajor_val_five, Shape.rowMajor_val_four]
    show (((b.val * 8192 + p.val) * 4 + h.val) * 2 + m.val) * 64 + l.val = ((b.val * 8192 + p.val) * 8 + (2 * h.val + m.val)) * 64 + l.val
    omega)

theorem catK (A B : FVec Ideal S8x8192x8x64 .f32) (b : Fin 8) (n : Fin 8) (l : Fin 128) (p : Fin 8192) :
    concatenate S8x8192x8x128 3 [⟨S8x8192x8x64, A⟩, ⟨S8x8192x8x64, B⟩] concatenates_S8x8192x8x64_S8x8192x8x64_S8x8192x8x128_d3 (ix4 b p n l)
      = if hl : l.val < 64 then A (ix4 b p n ⟨l.val, hl⟩) else B (ix4 b p n ⟨l.val - 64, by omega⟩) := by
  pointwise []

theorem featK (f : FVec Ideal S8192x64 .f32) (b : Fin 8) (n : Fin 8) (l : Fin 64) (p : Fin 8192) :
    broadcastInDim S8x8192x8x64 ![0, 1, 2, 3] bcast_S1x8192x1x64_S8x8192x8x64_0_1_2_3 (broadcastInDim S1x8192x1x64 ![1, 3] bcast_S8192x64_S1x8192x1x64_1_3 f) (ix4 b p n l)
      = f (ix2 p l) := by
  pointwise []

theorem hostK_apply (k : FVec Ideal S8x8192x4x2x64 .f32) (f : FVec Ideal S8192x64 .f32) (b : Fin 8) (h : Fin 4) (m : Fin 2) (l : Fin 128) (p : Fin 8192) :
    hostK k f (ix3 b p ⟨256 * h.val + (128 * m.val + l.val), by omega⟩)
      = if hl : l.val < 64 then k (ix5 b p h m ⟨l.val, hl⟩) else f (ix2 p ⟨l.val - 64, by omega⟩) := by
  unfold hostK
  rw [castK, joinK, catK]
  split
  · rename_i hl
    rw [splitK k b h m ⟨l.val, hl⟩ p]
  · rw [featK]

end Cert.KernelIdeal.Diff

end
-- ==== Proof.Diff.HostQ.lean ====
/-
The arrays the host prepares for the attention kernel, entry by entry: the scaled queries laid along columns, the keys and the values with the
position features beside them, the mixing vectors and the scale.
-/
module

public import proofs.«01_k».proof.Proof.Diff.Feats
public import proofs.«01_k».proof.Proof.Diff.OutBlock
public import proofs.«01_k».proof.Proof.Diff.Whole

@[expose] public section

set_option maxRecDepth 65536

noncomputable section

namespace Cert.KernelIdeal.Diff

open Idealize.ShloMosaic Idealize.ShloMosaic.TcCoe Idealize.ShloMosaic.Tactic
open Cert.KernelIdeal Cert.KernelIdeal.Gen

/-- The queries: scaled, padded with zeros to 128 lanes a half, laid along columns. -/
def hostQ (q : FVec Ideal S8x8192x4x2x64 .f32) : FVec Ideal S8x1024x8192 .bf16 :=
  truncf .bf16 (transpose S8x1024x8192 [0, 2, 1] (shapeCast S8x8192x1024
    (pad S8x8192x8x128 ![0, 0, 0, 0] ![0, 0, 0, 64] ![0, 0, 0, 0]
      (shapeCast S8x8192x8x64 (mulf q (broadcastInDim S8x8192x4x2x64 ![] bcast_S_S8x8192x4x2x64 (constant S_ .f32 0x3E000000#32))) shapeCasts_S8x8192x4x2x64_S8x8192x8x64)
      (sitofp .f32 (constantI S_ 32 0#32)) pads_S8x8192x8x64_S8x8192x8x128_000_000_000_0640 h_S_)
    shapeCasts_S8x8192x8x128_S8x8192x1024) transposes_S8x8192x1024_S8x1024x8192_0_2_1) bitsLt_bf16_f32

theorem hostQ_apply (q : FVec Ideal S8x8192x4x2x64 .f32) (b : Fin 8) (h : Fin 4) (m : Fin 2) (l : Fin 64) (p : Fin 8192) :
    hostQ q (ix3 b ⟨256 * h.val + (128 * m.val + l.val), by omega⟩ p) = (q (ix5 b p h m l) : EReal) * Ideal.ofBits .f32 0x3E000000#32 := by
  pointwise [hostQ]
  have e : (256 * h.val + (128 * m.val + l.val)) % 128 = l.val := by omega
  rw [dif_pos ⟨by omega, by omega⟩]
  simp only [e]

end Cert.KernelIdeal.Diff

end
-- ==== Proof.Diff.HostV.lean ====
/-
The arrays the host prepares for the attention kernel, entry by entry: the scaled queries laid along columns, the keys and the values with the
position features beside them, the mixing vectors and the scale.
-/
module

public import proofs.«01_k».proof.Proof.Diff.Feats
public import proofs.«01_k».proof.Proof.Diff.OutBlock
public import proofs.«01_k».proof.Proof.Diff.Whole

@[expose] public section

set_option maxRecDepth 65536

noncomputable section

namespace Cert.KernelIdeal.Diff

open Idealize.ShloMosaic Idealize.ShloMosaic.TcCoe Idealize.ShloMosaic.Tactic
open Cert.KernelIdeal Cert.KernelIdeal.Gen

/-- The values, laid along columns, with sixteen of the position features under them. -/
def hostV (v : FVec Ideal S8x8192x4x128 .f32) (f : FVec Ideal S8192x64 .f32) : FVec Ideal S8x4x16x144x512 .bf16 :=
  truncf .bf16 (transpose S8x4x16x144x512 [0, 3, 1, 4, 2] (concatenate S8x16x512x4x144 4 [⟨S8x16x512x4x128, shapeCast S8x16x512x4x128 v shapeCasts_S8x8192x4x128_S8x16x512x4x128⟩,
      ⟨S8x16x512x4x16, broadcastInDim S8x16x512x4x16 ![0, 1, 2, 3, 4] bcast_S1x16x512x1x16_S8x16x512x4x16_0_1_2_3_4
        (shapeCast S1x16x512x1x16 (extractStridedSlice S8192x16 ![0, 0] f slices_S8192x64_S8192x16_0_0) shapeCasts_S8192x16_S1x16x512x1x16)⟩]
    concatenates_S8x16x512x4x128_S8x16x512x4x16_S8x16x512x4x144_d4) transposes_S8x16x512x4x144_S8x4x16x144x512_0_3_1_4_2) bitsLt_bf16_f32

theorem hostV_apply (v : FVec Ideal S8x8192x4x128 .f32) (f : FVec Ideal S8192x64 .f32) (b : Fin 8) (h : Fin 4) (kb : Fin 16) (r : Fin 144) (j : Fin 512) :
    hostV v f (ix5 b h kb r j) = if hr : r.val < 128 then v (ix4 b (key kb j) h ⟨r.val, hr⟩) else f (ix2 (key kb j) ⟨r.val - 128, by omega⟩) := by
  pointwise [hostV]
  have e : (⟨kb.val * 512 + j.val, by omega⟩ : Fin 8192) = key kb j := Fin.ext (by show kb.val * 512 + j.val = 512 * kb.val + j.val; omega)
  split
  · exact congrArg (fun p => v (ix4 b p h ⟨r.val, by omega⟩)) e
  · exact congrArg (fun p => f (ix2 p ⟨r.val - 128, by omega⟩)) e

end Cert.KernelIdeal.Diff

end
-- ==== Proof.Diff.HostL.lean ====
/-
The arrays the host prepares for the attention kernel, entry by entry: the scaled queries laid along columns, the keys and the values with the
position features beside them, the mixing vectors and the scale.
-/
module

public import proofs.«01_k».proof.Proof.Diff.Feats
public import proofs.«01_k».proof.Proof.Diff.OutBlock
public import proofs.«01_k».proof.Proof.Diff.Whole

@[expose] public section

set_option maxRecDepth 65536

noncomputable section

namespace Cert.KernelIdeal.Diff

open Idealize.ShloMosaic Idealize.ShloMosaic.TcCoe Idealize.ShloMosaic.Tactic
open Cert.KernelIdeal Cert.KernelIdeal.Gen

def vec1 (x : FVec Ideal S1x64 .f32) : FVec Ideal S1x64 .f32 := broadcastInDim S1x64 ![1] bcast_S64_S1x64_1 (shapeCast S64 x shapeCasts_S1x64_S64)

/-- The four mixing vectors, one under the other. -/
def hostL (a b c d : FVec Ideal S1x64 .f32) : FVec Ideal S4x64 .f32 :=
  concatenate S4x64 0 [⟨S1x64, vec1 a⟩, ⟨S1x64, vec1 b⟩, ⟨S1x64, vec1 c⟩, ⟨S1x64, vec1 d⟩] concatenates_S1x64_S1x64_S1x64_S1x64_S4x64_d0

/-- The scale as a column. -/
def hostG (g : FVec Ideal S1x128 .f32) : FVec Ideal S128x1 .f32 := shapeCast S128x1 (shapeCast S128 g shapeCasts_S1x128_S128) shapeCasts_S128_S128x1

theorem hostG_apply (g : FVec Ideal S1x128 .f32) (e : Fin 128) : hostG g (ix2 e 0) = g (ix2 0 e) := by
  pointwise [hostG]

theorem hostL_apply (a b c d : FVec Ideal S1x64 .f32) (l : Fin 64) :
    hostL a b c d (ix2 0 l) = a (ix2 0 l) ∧ hostL a b c d (ix2 1 l) = b (ix2 0 l) ∧ hostL a b c d (ix2 2 l) = c (ix2 0 l) ∧ hostL a b c d (ix2 3 l) = d (ix2 0 l) := by
  refine ⟨?_, ?_, ?_, ?_⟩ <;> pointwise [hostL, vec1]

variable (m : (ℓ : Loc nD τ sig) → Buf (Elt Ideal) ℓ) (c : Dev nD)

theorem V_v43 : V m c main_v43 = hostL (m ((c : Thread nD τ).loc main_arg4)) (m ((c : Thread nD τ).loc main_arg5)) (m ((c : Thread nD τ).loc main_arg6)) (m ((c : Thread nD τ).loc main_arg7)) := rfl
theorem V_v45 : V m c main_v45 = hostG (m ((c : Thread nD τ).loc main_arg8)) := rfl

end Cert.KernelIdeal.Diff

end
-- ==== Proof.Diff.HostX.lean ====
/-
What the attention kernel finds in its arrays: what the host prepared of the arguments.
-/
module

public import proofs.«01_k».proof.Proof.Diff.HostF
public import proofs.«01_k».proof.Proof.Diff.HostK
public import proofs.«01_k».proof.Proof.Diff.HostQ
public import proofs.«01_k».proof.Proof.Diff.HostV
public import proofs.«01_k».proof.Proof.Diff.HostL
public import Idealize.ShloMosaic.Lib.StableHlo.RunRead
public import proofs.«01_k».proof.Proof.Diff.OutBlock
public import proofs.«01_k».proof.Proof.Diff.Whole

@[expose] public section

set_option maxRecDepth 65536

noncomputable section

namespace Cert.KernelIdeal.Diff

open Idealize.ShloMosaic Idealize.ShloMosaic.TcCoe Idealize.ShloMosaic.Tactic
open Cert.KernelIdeal Cert.KernelIdeal.Gen

variable (m : (ℓ : Loc nD τ sig) → Buf (Elt Ideal) ℓ) (c : Dev nD)

theorem V_v21 : V m c main_v21 = hostQ (m ((c : Thread nD τ).loc main_arg0)) := by
  after_reads_simp
  unfold hostQ
  refine congrArg (fun X => truncf .bf16 (transpose S8x1024x8192 [0, 2, 1] X transposes_S8x8192x1024_S8x1024x8192_0_2_1) bitsLt_bf16_f32)
    (funext fun i => congrArg (fun X => shapeCast S8x8192x1024 X shapeCasts_S8x8192x8x128_S8x8192x1024 i) ?_)
  exact congrArg₂ (fun (X : FVec Ideal S8x8192x8x64 .f32) (w : FVec Ideal S_ .f32) => pad S8x8192x8x128 ![0, 0, 0, 0] ![0, 0, 0, 64] ![0, 0, 0, 0] X w pads_S8x8192x8x64_S8x8192x8x128_000_000_000_0640 h_S_) rfl rfl

end Cert.KernelIdeal.Diff

end
-- ==== Proof.Diff.HostY.lean ====
/-
What the attention kernel finds in its arrays: what the host prepared of the arguments.
-/
module

public import proofs.«01_k».proof.Proof.Diff.HostF
public import proofs.«01_k».proof.Proof.Diff.HostK
public import proofs.«01_k».proof.Proof.Diff.HostQ
public import proofs.«01_k».proof.Proof.Diff.HostV
public import proofs.«01_k».proof.Proof.Diff.HostL
public import Idealize.ShloMosaic.Lib.StableHlo.RunRead
public import proofs.«01_k».proof.Proof.Diff.OutBlock
public import proofs.«01_k».proof.Proof.Diff.Whole

@[expose] public section

set_option maxRecDepth 65536

noncomputable section

namespace Cert.KernelIdeal.Diff

open Idealize.ShloMosaic Idealize.ShloMosaic.TcCoe Idealize.ShloMosaic.Tactic
open Cert.KernelIdeal Cert.KernelIdeal.Gen

variable (m : (ℓ : Loc nD τ sig) → Buf (Elt Ideal) ℓ) (c : Dev nD)

theorem V_v27 : V m c main_v27 = hostK (m ((c : Thread nD τ).loc main_arg1)) hostFeat := by
  after_reads_simp
  rfl

end Cert.KernelIdeal.Diff

end
-- ==== Proof.Diff.HostZ.lean ====
/-
What the attention kernel finds in its arrays: what the host prepared of the arguments.
-/
module

public import proofs.«01_k».proof.Proof.Diff.HostF
public import proofs.«01_k».proof.Proof.Diff.HostK
public import proofs.«01_k».proof.Proof.Diff.HostQ
public import proofs.«01_k».proof.Proof.Diff.HostV
public import proofs.«01_k».proof.Proof.Diff.HostL
public import Idealize.ShloMosaic.Lib.StableHlo.RunRead
public import proofs.«01_k».proof.Proof.Diff.OutBlock
public import proofs.«01_k».proof.Proof.Diff.Whole

@[expose] public section

set_option maxRecDepth 65536

noncomputable section

namespace Cert.KernelIdeal.Diff

open Idealize.ShloMosaic Idealize.ShloMosaic.TcCoe Idealize.ShloMosaic.Tactic
open Cert.KernelIdeal Cert.KernelIdeal.Gen

variable (m : (ℓ : Loc nD τ sig) → Buf (Elt Ideal) ℓ) (c : Dev nD)

theorem V_v31 : StableHlo.upto (List.flatten [hostOps0, hostOps0_1, hostOps0_2, hostOps0_3, hostOps0_4, hostOps0_5, hostOps0_6, hostOps0_7, hostOps0_8, hostOps0_9, hostOps0_10]) (fun b => m (c, b)) 83 (Proc.tc.devRef main_v31)
    = shapeCast S8x16x512x4x128 (m ((c : Thread nD τ).loc main_arg2)) shapeCasts_S8x8192x4x128_S8x16x512x4x128 := by
  after_reads_simp
  rfl

theorem V_v30 : StableHlo.upto (List.flatten [hostOps0, hostOps0_1, hostOps0_2, hostOps0_3, hostOps0_4, hostOps0_5, hostOps0_6, hostOps0_7, hostOps0_8, hostOps0_9, hostOps0_10]) (fun b => m (c, b)) 83 (Proc.tc.devRef main_v30)
    = broadcastInDim S8x16x512x4x16 ![0, 1, 2, 3, 4] bcast_S1x16x512x1x16_S8x16x512x4x16_0_1_2_3_4
        (shapeCast S1x16x512x1x16 (extractStridedSlice S8192x16 ![0, 0] hostFeat slices_S8192x64_S8192x16_0_0) shapeCasts_S8192x16_S1x16x512x1x16) := by
  after_reads_simp
  rfl

theorem V_v34 : V m c main_v34 = hostV (m ((c : Thread nD τ).loc main_arg2)) hostFeat := by
  after_reads_simp
  rw [V_v31, V_v30]
  rfl

end Cert.KernelIdeal.Diff

end
-- ==== Proof.Diff.Reads.lean ====
/-
The blocks the attention kernel's windows hold at a grid point, of the arguments.
-/
module

public import proofs.«01_k».proof.Proof.Diff.HostX
public import proofs.«01_k».proof.Proof.Diff.HostY
public import proofs.«01_k».proof.Proof.Diff.HostZ

@[expose] public section

set_option maxRecDepth 65536

noncomputable section

namespace Cert.KernelIdeal.Diff

open Idealize.ShloMosaic Idealize.ShloMosaic.TcCoe Idealize.ShloMosaic.Tactic
open scoped BigOperators
open Cert.KernelIdeal Cert.KernelIdeal.Gen

variable (m : (ℓ : Loc nD τ sig) → Buf (Elt Ideal) ℓ) (c : Dev nD)

/-- Which block of its array each window holds at a grid point: the batch is the point's sixteenth, the head its fourth within the batch, the
    query tile its place in the head. -/
theorem idx_facts : ∀ t : Fin cfg0.N,
    (win0_0.index t (0 : Fin 3) = t.val / 16 ∧ win0_0.index t (1 : Fin 3) = t.val / 4 % 4 ∧ win0_0.index t (2 : Fin 3) = t.val % 4)
    ∧ (win0_1.index t (0 : Fin 3) = t.val / 16 ∧ win0_1.index t (1 : Fin 3) = 0 ∧ win0_1.index t (2 : Fin 3) = t.val / 4 % 4)
    ∧ (win0_2.index t (0 : Fin 5) = t.val / 16 ∧ win0_2.index t (1 : Fin 5) = t.val / 4 % 4 ∧ win0_2.index t (2 : Fin 5) = 0 ∧ win0_2.index t (3 : Fin 5) = 0 ∧ win0_2.index t (4 : Fin 5) = 0)
    ∧ (win0_3.index t (0 : Fin 4) = t.val / 16 ∧ win0_3.index t (1 : Fin 4) = 0 ∧ win0_3.index t (2 : Fin 4) = 0 ∧ win0_3.index t (3 : Fin 4) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 3) = t.val / 16 ∧ win0_6.index t (1 : Fin 3) = t.val % 4 ∧ win0_6.index t (2 : Fin 3) = t.val / 4 % 4)
    ∧ (grid0.coords t 1).val = t.val / 4 % 4 ∧ (grid0.coords t 2).val = t.val % 4 :=
  (by decide +kernel : ∀ t : Fin grid0.N, _)

theorem t_lt (t : Fin cfg0.N) : t.val < 128 := lt_of_lt_of_eq t.isLt N_0

theorem read0 (X : Vec Ideal S8x1024x8192 .bf16) (t : Fin cfg0.N) (l : Fin 256) (col : Fin 2048) :
    (((cfg0.win 0).blk t).view.read (Elt Ideal) X : Vec Ideal S1x256x2048 .bf16) (ix3 0 l col) = X (ix3 ⟨t.val / 16, by have := t_lt t; omega⟩ ⟨256 * (t.val / 4 % 4) + l.val, by omega⟩ ⟨2048 * (t.val % 4) + col.val, by omega⟩) := by
  obtain ⟨i0, i1, i2⟩ := (idx_facts t).1
  rw [View.read_apply]
  show X _ = X _
  refine congrArg X ?_
  funext a
  apply Fin.ext
  match a with
  | ⟨0, _⟩ => show win0_0.index t (0 : Fin 3) * 1 + 1 * 0 = t.val / 16; rw [i0]; omega
  | ⟨1, _⟩ => show win0_0.index t (1 : Fin 3) * 256 + 1 * l.val = 256 * (t.val / 4 % 4) + l.val; rw [i1]; omega
  | ⟨2, _⟩ => show win0_0.index t (2 : Fin 3) * 2048 + 1 * col.val = 2048 * (t.val % 4) + col.val; rw [i2]; omega

theorem blk0 (t : Fin cfg0.N) (l : Fin 256) (col : Fin 2048) :
    (iblk m c 0 t : Vec Ideal S1x256x2048 .bf16) (ix3 0 l col) = hostQ (m ((c : Thread nD τ).loc main_arg0)) (ix3 ⟨t.val / 16, by have := t_lt t; omega⟩ ⟨256 * (t.val / 4 % 4) + l.val, by omega⟩ ⟨2048 * (t.val % 4) + col.val, by omega⟩) := by
  unfold iblk
  have hV : V m c (Pipeline.arrRef spec0 0) = _ := V_v21 m c
  rw [hV]
  exact read0 _ t l col

theorem read1 (X : Vec Ideal S8x8192x1024 .bf16) (t : Fin cfg0.N) (p : Fin 8192) (l : Fin 256) :
    (((cfg0.win 1).blk t).view.read (Elt Ideal) X : Vec Ideal S1x8192x256 .bf16) (ix3 0 p l) = X (ix3 ⟨t.val / 16, by have := t_lt t; omega⟩ p ⟨256 * (t.val / 4 % 4) + l.val, by omega⟩) := by
  obtain ⟨i0, i1, i2⟩ := (idx_facts t).2.1
  rw [View.read_apply]
  show X _ = X _
  refine congrArg X ?_
  funext a
  apply Fin.ext
  match a with
  | ⟨0, _⟩ => show win0_1.index t (0 : Fin 3) * 1 + 1 * 0 = t.val / 16; rw [i0]; omega
  | ⟨1, _⟩ => show win0_1.index t (1 : Fin 3) * 8192 + 1 * p.val = p.val; rw [i1]; omega
  | ⟨2, _⟩ => show win0_1.index t (2 : Fin 3) * 256 + 1 * l.val = 256 * (t.val / 4 % 4) + l.val; rw [i2]; omega

theorem blk1 (t : Fin cfg0.N) (p : Fin 8192) (l : Fin 256) :
    (iblk m c 1 t : Vec Ideal S1x8192x256 .bf16) (ix3 0 p l) = hostK (m ((c : Thread nD τ).loc main_arg1)) hostFeat (ix3 ⟨t.val / 16, by have := t_lt t; omega⟩ p ⟨256 * (t.val / 4 % 4) + l.val, by omega⟩) := by
  unfold iblk
  have hV : V m c (Pipeline.arrRef spec0 1) = _ := V_v27 m c
  rw [hV]
  exact read1 _ t p l

theorem read2 (X : Vec Ideal S8x4x16x144x512 .bf16) (t : Fin cfg0.N) (kb : Fin 16) (r : Fin 144) (j : Fin 512) :
    (((cfg0.win 2).blk t).view.read (Elt Ideal) X : Vec Ideal S1x1x16x144x512 .bf16) (ix5 0 0 kb r j) = X (ix5 ⟨t.val / 16, by have := t_lt t; omega⟩ ⟨t.val / 4 % 4, by omega⟩ kb r j) := by
  obtain ⟨i0, i1, i2, i3, i4⟩ := (idx_facts t).2.2.1
  rw [View.read_apply]
  show X _ = X _
  refine congrArg X ?_
  funext a
  apply Fin.ext
  match a with
  | ⟨0, _⟩ => show win0_2.index t (0 : Fin 5) * 1 + 1 * 0 = t.val / 16; rw [i0]; omega
  | ⟨1, _⟩ => show win0_2.index t (1 : Fin 5) * 1 + 1 * 0 = t.val / 4 % 4; rw [i1]; omega
  | ⟨2, _⟩ => show win0_2.index t (2 : Fin 5) * 16 + 1 * kb.val = kb.val; rw [i2]; omega
  | ⟨3, _⟩ => show win0_2.index t (3 : Fin 5) * 144 + 1 * r.val = r.val; rw [i3]; omega
  | ⟨4, _⟩ => show win0_2.index t (4 : Fin 5) * 512 + 1 * j.val = j.val; rw [i4]; omega

theorem blk2 (t : Fin cfg0.N) (kb : Fin 16) (r : Fin 144) (j : Fin 512) :
    (iblk m c 2 t : Vec Ideal S1x1x16x144x512 .bf16) (ix5 0 0 kb r j) = hostV (m ((c : Thread nD τ).loc main_arg2)) hostFeat (ix5 ⟨t.val / 16, by have := t_lt t; omega⟩ ⟨t.val / 4 % 4, by omega⟩ kb r j) := by
  unfold iblk
  have hV : V m c (Pipeline.arrRef spec0 2) = _ := V_v34 m c
  rw [hV]
  exact read2 _ t kb r j

theorem read3 (X : Vec Ideal S8x16x8x128 .f32) (t : Fin cfg0.N) (j : Fin 16) (l : Fin 128) :
    (((cfg0.win 3).blk t).view.read (Elt Ideal) X : Vec Ideal S1x16x8x128 .f32) (ix4 0 j 0 l) = X (ix4 ⟨t.val / 16, by have := t_lt t; omega⟩ j 0 l) := by
  obtain ⟨i0, i1, i2, i3⟩ := (idx_facts t).2.2.2.1
  rw [View.read_apply]
  show X _ = X _
  refine congrArg X ?_
  funext a
  apply Fin.ext
  match a with
  | ⟨0, _⟩ => show win0_3.index t (0 : Fin 4) * 1 + 1 * 0 = t.val / 16; rw [i0]; omega
  | ⟨1, _⟩ => show win0_3.index t (1 : Fin 4) * 16 + 1 * j.val = j.val; rw [i1]; omega
  | ⟨2, _⟩ => show win0_3.index t (2 : Fin 4) * 8 + 1 * 0 = 0; rw [i2]
  | ⟨3, _⟩ => show win0_3.index t (3 : Fin 4) * 128 + 1 * l.val = l.val; rw [i3]; omega

theorem blk3 (t : Fin cfg0.N) (j : Fin 16) (l : Fin 128) :
    (iblk m c 3 t : Vec Ideal S1x16x8x128 .f32) (ix4 0 j 0 l) = (m ((c : Thread nD τ).loc main_arg3) : Vec Ideal S8x16x8x128 .f32) (ix4 ⟨t.val / 16, by have := t_lt t; omega⟩ j 0 l) := by
  unfold iblk
  have hV : V m c (Pipeline.arrRef spec0 3) = _ := V_main_arg3 m c
  rw [hV]
  exact read3 _ t j l

theorem read4 (X : Vec Ideal S4x64 .f32) (t : Fin cfg0.N) (k : Fin 4) (l : Fin 64) :
    (((cfg0.win 4).blk t).view.read (Elt Ideal) X : Vec Ideal S4x64 .f32) (ix2 k l) = X (ix2 k l) := by
  obtain ⟨i0, i1⟩ := (idx_facts t).2.2.2.2.1
  rw [View.read_apply]
  show X _ = X _
  refine congrArg X ?_
  funext a
  apply Fin.ext
  match a with
  | ⟨0, _⟩ => show win0_4.index t (0 : Fin 2) * 4 + 1 * k.val = k.val; rw [i0]; omega
  | ⟨1, _⟩ => show win0_4.index t (1 : Fin 2) * 64 + 1 * l.val = l.val; rw [i1]; omega

theorem blk4 (t : Fin cfg0.N) (k : Fin 4) (l : Fin 64) :
    (iblk m c 4 t : Vec Ideal S4x64 .f32) (ix2 k l) = hostL (m ((c : Thread nD τ).loc main_arg4)) (m ((c : Thread nD τ).loc main_arg5)) (m ((c : Thread nD τ).loc main_arg6)) (m ((c : Thread nD τ).loc main_arg7)) (ix2 k l) := by
  unfold iblk
  have hV : V m c (Pipeline.arrRef spec0 4) = _ := V_v43 m c
  rw [hV]
  exact read4 _ t k l

theorem read5 (X : Vec Ideal S128x1 .f32) (t : Fin cfg0.N) (e : Fin 128) :
    (((cfg0.win 5).blk t).view.read (Elt Ideal) X : Vec Ideal S128x1 .f32) (ix2 e 0) = X (ix2 e 0) := by
  obtain ⟨i0, i1⟩ := (idx_facts t).2.2.2.2.2.1
  rw [View.read_apply]
  show X _ = X _
  refine congrArg X ?_
  funext a
  apply Fin.ext
  match a with
  | ⟨0, _⟩ => show win0_5.index t (0 : Fin 2) * 128 + 1 * e.val = e.val; rw [i0]; omega
  | ⟨1, _⟩ => show win0_5.index t (1 : Fin 2) * 1 + 1 * 0 = 0; rw [i1]

theorem blk5 (t : Fin cfg0.N) (e : Fin 128) :
    (iblk m c 5 t : Vec Ideal S128x1 .f32) (ix2 e 0) = hostG (m ((c : Thread nD τ).loc main_arg8)) (ix2 e 0) := by
  unfold iblk
  have hV : V m c (Pipeline.arrRef spec0 5) = _ := V_v45 m c
  rw [hV]
  exact read5 _ t e

end Cert.KernelIdeal.Diff

end
-- ==== Proof.Diff.Blocks.lean ====
/-
What a point leaves in its output block, of the arguments.
-/
module

public import proofs.«01_k».proof.Proof.Diff.Reads

@[expose] public section

set_option maxRecDepth 65536

noncomputable section

namespace Cert.KernelIdeal.Diff

open Idealize.ShloMosaic Idealize.ShloMosaic.TcCoe Idealize.ShloMosaic.Tactic
open scoped BigOperators
open Cert.KernelIdeal Cert.KernelIdeal.Gen

/-- Real queries, keys and values. -/
structure Reals where
  q : Fin 8 → Fin 8192 → Fin 4 → Fin 2 → Fin 64 → ℝ
  k : Fin 8 → Fin 8192 → Fin 4 → Fin 2 → Fin 64 → ℝ
  v : Fin 8 → Fin 8192 → Fin 4 → Fin 128 → ℝ

/-- One half's attention mean, at one position. -/
def Reals.mean (R : Reals) (b : Fin 8) (p : Fin 8192) (h : Fin 4) (n : Fin 2) (d : Fin 128) : ℝ :=
  attn p.val (trueScore (fun s l => R.k b s h n l) (fun l => R.q b p h n l * (1 / 8)) (slope h) p.val) (fun s => R.v b s h d)

/-- The layer's result at one position and head. -/
def Reals.result (R : Reals) (w : Fin 4 → Fin 64 → EReal) (g : Fin 128 → EReal) (b : Fin 8) (p : Fin 8192) (h : Fin 4) (e : Fin 128) : EReal :=
  fin (fun d => (R.mean b p h 0 d : EReal) - lamOf w * (R.mean b p h 1 d : EReal)) (g e) e

variable (m : (ℓ : Loc nD τ sig) → Buf (Elt Ideal) ℓ) (c : Dev nD)

/-- The mixing vectors among the arguments. -/
def mixOf (k : Fin 4) (l : Fin 64) : EReal :=
  hostL (m ((c : Thread nD τ).loc main_arg4)) (m ((c : Thread nD τ).loc main_arg5)) (m ((c : Thread nD τ).loc main_arg6)) (m ((c : Thread nD τ).loc main_arg7)) (ix2 k l)

theorem eighth : (Ideal.ofBits .f32 0x3E000000#32 : EReal) = ((1 / 8 : ℝ) : EReal) := by
  simp [Ideal.ofBits, Ideal.ieee, -EReal.coe_mul]; norm_num

/-- What a point leaves in its output block. -/
theorem outAt_at (R : Reals)
    (hq : ∀ b p h n l, ((m ((c : Thread nD τ).loc main_arg0) : Vec Ideal S8x8192x4x2x64 .f32) (ix5 b p h n l) : EReal) = (R.q b p h n l : EReal))
    (hk : ∀ b p h n l, ((m ((c : Thread nD τ).loc main_arg1) : Vec Ideal S8x8192x4x2x64 .f32) (ix5 b p h n l) : EReal) = (R.k b p h n l : EReal))
    (hv : ∀ b p h d, ((m ((c : Thread nD τ).loc main_arg2) : Vec Ideal S8x8192x4x128 .f32) (ix4 b p h d) : EReal) = (R.v b p h d : EReal))
    (hm : ∀ b j (l : Fin 128), l.val < 8 → @LT.lt EReal _ ((m ((c : Thread nD τ).loc main_arg3) : Vec Ideal S8x16x8x128 .f32) (ix4 b j 0 l)) ⊤)
    (t : Fin cfg0.N) (col : Fin 2048) (e : Fin 128) :
    outAt m c t (ix3 0 col e) = R.result (mixOf m c) (fun e => (m ((c : Thread nD τ).loc main_arg8) : Vec Ideal S1x128 .f32) (ix2 0 e))
      ⟨t.val / 16, by have := t_lt t; omega⟩ ⟨2048 * (t.val % 4) + col.val, by omega⟩ ⟨t.val / 4 % 4, by omega⟩ e := by
  have hc1 : grid0.coords t 1 = (⟨t.val / 4 % 4, by omega⟩ : Fin 4) := Fin.ext (idx_facts t).2.2.2.2.2.2.2.1
  have hc2 : qpos (grid0.coords t) col = 2048 * (t.val % 4) + col.val := by unfold qpos; rw [(idx_facts t).2.2.2.2.2.2.2.2]
  unfold outAt
  refine (body_at c t (ms0 t) (hs0 t) (ms1 t) (hs1 t) (ms2 t) (hs2 t) (ms3 t) (hs3 t) (ms4 t) (hs4 t) (ms5 t) (hs5 t) (ms6 t) (hs6 t) sc0 (Memref.isWhole_whole _) sc1
    (Memref.isWhole_whole _) sc2 (Memref.isWhole_whole _) (cond2_on t) (iblk m c 0 t) (iblk m c 1 t) (iblk m c 2 t) (iblk m c 3 t) (iblk m c 4 t) (iblk m c 5 t) col e
    (fun n l => R.q ⟨t.val / 16, by have := t_lt t; omega⟩ ⟨2048 * (t.val % 4) + col.val, by omega⟩ ⟨t.val / 4 % 4, by omega⟩ n l * (1 / 8)) ?_ ?_
    (fun n s l => R.k ⟨t.val / 16, by have := t_lt t; omega⟩ s ⟨t.val / 4 % 4, by omega⟩ n l) ?_
    (fun d s => R.v ⟨t.val / 16, by have := t_lt t; omega⟩ s ⟨t.val / 4 % 4, by omega⟩ d) ?_ ?_).trans ?_
  · intro n l
    refine (blk0 m c t (lane n ⟨l.val, by omega⟩) col).trans ((hostQ_apply _ ⟨t.val / 16, by have := t_lt t; omega⟩ ⟨t.val / 4 % 4, by omega⟩ n l _).trans ?_)
    rw [hq, eighth, ← EReal.coe_mul]
  · intro j l hl
    rw [blk3]
    exact hm _ _ _ hl
  · intro n p l
    refine (blk1 m c t p (lane n l)).trans ((hostK_apply _ _ ⟨t.val / 16, by have := t_lt t; omega⟩ ⟨t.val / 4 % 4, by omega⟩ n l p).trans ?_)
    unfold kfeat
    by_cases hl : l.val < 64
    · rw [dif_pos hl, dif_pos hl]
      exact hk _ _ _ _ _
    · rw [dif_neg hl, dif_neg hl, hostFeat_apply]
      unfold featVal
      refine congrArg (fun x : ℝ => (x : EReal)) ?_
      show (if l.val - 64 = 0 then _ else if l.val - 64 = 1 then _ else if l.val - 64 < 5 then _ else _) = _
      by_cases h64 : l.val = 64
      · simp [h64]
      by_cases h65 : l.val = 65
      · simp [h65]
      rw [if_neg (by omega), if_neg (by omega), if_neg h64, if_neg h65]
      by_cases h69 : l.val < 69
      · rw [if_pos (by omega), if_pos h69]
      · rw [if_neg (by omega), if_neg h69]
  · intro r kb j
    refine (blk2 m c t kb _ j).trans ((hostV_apply _ _ _ _ kb _ j).trans ?_)
    rw [dif_pos (show r.val < 128 from r.isLt)]
    exact hv _ _ _ _
  · intro kb j
    refine (blk2 m c t kb _ j).trans ((hostV_apply _ _ _ _ kb _ j).trans ?_)
    rw [dif_neg (show ¬((130 : Fin 144).val < 128) by decide), hostFeat_apply]
    show ((featVal _ 2 : ℝ) : EReal) = 1
    simp [featVal]
  · rw [hc1, hc2]
    unfold Reals.result Reals.mean
    have hw : (fun k d => (iblk m c 4 t : Vec Ideal S4x64 .f32) (ix2 k d)) = mixOf m c := funext fun k => funext fun d => blk4 m c t k d
    have hg : (iblk m c 5 t : Vec Ideal S128x1 .f32) (ix2 e 0) = (m ((c : Thread nD τ).loc main_arg8) : Vec Ideal S1x128 .f32) (ix2 0 e) :=
      (blk5 m c t e).trans (hostG_apply _ e)
    rw [hw, hg]

end Cert.KernelIdeal.Diff

end
-- ==== Proof.Diff.Result.lean ====
/-
The array the attention kernel ends with: at a batch, token and place, the result of the token's head at the place in the head.
-/
module

public import proofs.«01_k».proof.Proof.Diff.Blocks
public import Idealize.ShloMosaic.Lib.Pipeline.Value

@[expose] public section

set_option maxRecDepth 16384

noncomputable section

namespace Cert.KernelIdeal.Diff

open Idealize.ShloMosaic Idealize.ShloMosaic.TcCoe Idealize.ShloMosaic.Tactic
open Idealize.SL.Sem
open Cert.KernelIdeal Cert.KernelIdeal.Gen

variable (m : (ℓ : Loc nD τ sig) → Buf (Elt Ideal) ℓ) (ρ : Dev nD → PrngReg) (c : Dev nD)

/-- The grid point that writes the block holding an index. -/
def ptOf (i : S8x8192x512.Idx) : Fin cfg0.N :=
  ⟨16 * (i 0).val + 4 * ((i 2).val / 128) + (i 1).val / 2048, by
    have h0 : (i 0).val < 8 := (i 0).isLt
    have h1 : (i 1).val < 8192 := (i 1).isLt
    have h2 : (i 2).val < 512 := (i 2).isLt
    exact lt_of_lt_of_eq (by omega) N_0.symm⟩

/-- The index's place in the block. -/
def locOf (i : S8x8192x512.Idx) : S1x2048x128.Idx := ix3 0 ⟨(i 1).val % 2048, by omega⟩ ⟨(i 2).val % 128, by omega⟩

/-- The array that blocks written by the grid points fill. -/
def gather (O : Fin cfg0.N → Vec Ideal S1x2048x128 .bf16) : Vec Ideal S8x8192x512 .bf16 := fun i => O (ptOf i) (locOf i)

theorem cut6 (O : Fin cfg0.N → Vec Ideal S1x2048x128 .bf16) (t : Fin cfg0.N) :
    (cfg0.win 6).cut (grid0.coords t) (O t) = ((cfg0.win 6).blk t).view.read (Elt Ideal) (gather O) := by
  obtain ⟨e0, e1, e2⟩ := (idx_facts t).2.2.2.2.2.2.1
  have ht := t_lt t
  funext y
  have hy0 : (y 0).val < 1 := (y 0).isLt
  have hy1 : (y 1).val < 2048 := (y 1).isLt
  have hy2 : (y 2).val < 128 := (y 2).isLt
  have hb0 : (((cfg0.win 6).blk t).view.emb y 0).val = win0_6.index t (0 : Fin 3) * 1 + 1 * (y 0).val := rfl
  have hb1 : (((cfg0.win 6).blk t).view.emb y 1).val = win0_6.index t (1 : Fin 3) * 2048 + 1 * (y 1).val := rfl
  have hb2 : (((cfg0.win 6).blk t).view.emb y 2).val = win0_6.index t (2 : Fin 3) * 128 + 1 * (y 2).val := rfl
  have hp : ptOf (((cfg0.win 6).blk t).view.emb y) = t := by
    apply Fin.ext
    show 16 * (((cfg0.win 6).blk t).view.emb y 0).val + 4 * ((((cfg0.win 6).blk t).view.emb y 2).val / 128) + (((cfg0.win 6).blk t).view.emb y 1).val / 2048 = t.val
    rw [hb0, hb1, hb2, e0, e1, e2]
    omega
  have hl : locOf (((cfg0.win 6).blk t).view.emb y) = (cfg0.win 6).xinj (grid0.coords t) y := by
    funext a; apply Fin.ext
    match a with
    | ⟨0, _⟩ => show 0 = (y 0).val; omega
    | ⟨1, _⟩ => show (((cfg0.win 6).blk t).view.emb y 1).val % 2048 = (y 1).val; rw [hb1]; omega
    | ⟨2, _⟩ => show (((cfg0.win 6).blk t).view.emb y 2).val % 128 = (y 2).val; rw [hb2]; omega
  show O t ((cfg0.win 6).xinj (grid0.coords t) y) = gather O (((cfg0.win 6).blk t).view.emb y)
  unfold gather
  rw [hp, hl]

theorem gather_at (O : Fin cfg0.N → Vec Ideal S1x2048x128 .bf16) (b : Fin 8) (p : Fin 8192) (z : Fin 512) :
    gather O (ix3 b p z) = O (ptOf (ix3 b p z)) (ix3 0 ⟨p.val % 2048, by omega⟩ ⟨z.val % 128, by omega⟩) := rfl

/-- The array. -/
def G6 : Buf (Elt Ideal) ((c : Thread nD τ).loc main_v46) := gather fun t => outAt m c t

theorem flushed6 (t : Fin cfg0.N) : (dats (F := Ideal) m 0 c).flushed 6 t = ((cfg0.win 6).blk t).view.read (Elt Ideal) (G6 m c) := by
  have h := cut6 (fun t => outAt m c t) t
  unfold G6
  rw [← h]
  exact congrArg ((cfg0.win 6).cut (grid0.coords t)) (after_6 m c t)

theorem mem_blk6 (t : Fin cfg0.N) (i : S8x8192x512.Idx) :
    i ∈ ((cfg0.win 6).blk t).view.set ↔ ∀ a : Fin 3, win0_6.index t a * S1x2048x128.size a ≤ (i a).val ∧ (i a).val < win0_6.index t a * S1x2048x128.size a + S1x2048x128.size a := by
  show i ∈ ((View.whole main_v46).slice (win0_6.rect t)).set ↔ _
  rw [View.set_slice_whole, Rect.mem_set_unit]
  exact Iff.rfl

theorem flush6 : ∀ t : Fin cfg0.N, (cfg0.win 6).flush t = true := (by decide +kernel : ∀ t : Fin grid0.N, win0_6.flush t = true)

theorem covered6 (i : S8x8192x512.Idx) : ∃ t : Fin cfg0.N, (cfg0.win 6).flush t = true ∧ i ∈ ((cfg0.win 6).blk t).view.set := by
  have h0 : (i 0).val < 8 := (i 0).isLt
  have h1 : (i 1).val < 8192 := (i 1).isLt
  have h2 : (i 2).val < 512 := (i 2).isLt
  refine ⟨ptOf i, flush6 _, ?_⟩
  rw [mem_blk6]
  obtain ⟨e0, e1, e2⟩ := (idx_facts (ptOf i)).2.2.2.2.2.2.1
  have hv : (ptOf i).val = 16 * (i 0).val + 4 * ((i 2).val / 128) + (i 1).val / 2048 := rfl
  intro a
  match a with
  | ⟨0, _⟩ => show win0_6.index (ptOf i) (0 : Fin 3) * 1 ≤ (i 0).val ∧ (i 0).val < win0_6.index (ptOf i) (0 : Fin 3) * 1 + 1; omega
  | ⟨1, _⟩ => show win0_6.index (ptOf i) (1 : Fin 3) * 2048 ≤ (i 1).val ∧ (i 1).val < win0_6.index (ptOf i) (1 : Fin 3) * 2048 + 2048; omega
  | ⟨2, _⟩ => show win0_6.index (ptOf i) (2 : Fin 3) * 128 ≤ (i 2).val ∧ (i 2).val < win0_6.index (ptOf i) (2 : Fin 3) * 128 + 128; omega

/-- The blocks fill the array. -/
theorem final6 : (dats (F := Ideal) m 0 c).arrAt 6 cfg0.N = G6 m c :=
  (dats (F := Ideal) m 0 c).arrAt_eq_of_cover 6 _ (fun t _ => flushed6 m c t) (fun i => covered6 i)

/-- The run ends with the array, the arguments unchanged. -/
theorem run : θ_run defs (onTc (τ := τ) (main (F := Ideal))) ⟨m, fun _ => 0, ρ⟩ (fun r => ∀ c : Dev nD,
      r.2.mem ((c.tc : Thread nD τ).loc main_v46) = G6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h.1 c).1 6).trans (final6 m c), h.2.1 c⟩) (θ_run_and (run_main m ρ) (frame m ρ))

/-- The array's entry, of real queries, keys and values. -/
theorem G6_at (R : Reals)
    (hq : ∀ b p h n l, ((m ((c : Thread nD τ).loc main_arg0) : Vec Ideal S8x8192x4x2x64 .f32) (ix5 b p h n l) : EReal) = (R.q b p h n l : EReal))
    (hk : ∀ b p h n l, ((m ((c : Thread nD τ).loc main_arg1) : Vec Ideal S8x8192x4x2x64 .f32) (ix5 b p h n l) : EReal) = (R.k b p h n l : EReal))
    (hv : ∀ b p h d, ((m ((c : Thread nD τ).loc main_arg2) : Vec Ideal S8x8192x4x128 .f32) (ix4 b p h d) : EReal) = (R.v b p h d : EReal))
    (hm : ∀ b j (l : Fin 128), l.val < 8 → @LT.lt EReal _ ((m ((c : Thread nD τ).loc main_arg3) : Vec Ideal S8x16x8x128 .f32) (ix4 b j 0 l)) ⊤)
    (b : Fin 8) (p : Fin 8192) (z : Fin 512) :
    (G6 m c : Vec Ideal S8x8192x512 .bf16) (ix3 b p z)
      = R.result (mixOf m c) (fun e => (m ((c : Thread nD τ).loc main_arg8) : Vec Ideal S1x128 .f32) (ix2 0 e)) b p ⟨z.val / 128, by omega⟩ ⟨z.val % 128, by omega⟩ := by
  have h := outAt_at m c R hq hk hv hm (ptOf (ix3 b p z)) ⟨p.val % 2048, by omega⟩ ⟨z.val % 128, by omega⟩
  unfold G6
  rw [gather_at]
  rw [h]
  clear h hq hk hm
  have hv : (ptOf (ix3 b p z)).val = 16 * b.val + 4 * (z.val / 128) + p.val / 2048 := rfl
  have i0 : (⟨(ptOf (ix3 b p z)).val / 16, by have := t_lt (ptOf (ix3 b p z)); omega⟩ : Fin 8) = b := Fin.ext (by show (ptOf (ix3 b p z)).val / 16 = b.val; omega)
  have i1 : (⟨2048 * ((ptOf (ix3 b p z)).val % 4) + p.val % 2048, by omega⟩ : Fin 8192) = p :=
    Fin.ext (by show 2048 * ((ptOf (ix3 b p z)).val % 4) + p.val % 2048 = p.val; omega)
  have i2 : (⟨(ptOf (ix3 b p z)).val / 4 % 4, by omega⟩ : Fin 4) = ⟨z.val / 128, by omega⟩ := Fin.ext (by show (ptOf (ix3 b p z)).val / 4 % 4 = z.val / 128; omega)
  have hr : ∀ (b' b'' : Fin 8) (p' p'' : Fin 8192) (h' h'' : Fin 4) (w : Fin 4 → Fin 64 → EReal) (g : Fin 128 → EReal) (e : Fin 128), b' = b'' → p' = p'' → h' = h'' →
      R.result w g b' p' h' e = R.result w g b'' p'' h'' e := by
    rintro b' _ p' _ h' _ w g e rfl rfl rfl; rfl
  exact hr _ _ _ _ _ _ _ _ _ i0 i1 i2

end Cert.KernelIdeal.Diff

end
-- ==== Proof.Diff.RefScore.lean ====
/-
The reference's scores at an index: of real queries and keys, the scaled product less the slope times the distance up to the query's own
position, and minus infinity after it.
-/
module

public import proofs.«01_k».proof.Proof.Diff.Blocks
public import proofs.«01_k».proof.Proof.Gen.ReferenceIdeal.Read

@[expose] public section

set_option maxRecDepth 16384

noncomputable section

namespace Cert.Diff

open Cert.ReferenceIdeal Cert.ReferenceIdeal.Gen Cert.ReferenceIdeal.Read Idealize.ShloMosaic Idealize.ShloMosaic.TcCoe
open Cert.KernelIdeal.Diff (Reals trueScore slope coe_sum)
open scoped BigOperators

variable (x0 x1 : (⟨S8x8192x4x2x64, .f32⟩ : BufTy).Contents (Elt Ideal))

theorem v24_at (b : Fin 8) (h : Fin 4) (n : Fin 2) (p s : Fin 8192) :
    val_main_v24 (F := Ideal) x0 x1 (ix5 b h n p s) = ∑ l : Fin 64, (x0 (ix5 b p h n l) : EReal) * (x1 (ix5 b s h n l) : EReal) := by
  rw [val_main_v24_apply]
  refine Finset.sum_congr rfl fun l _ => ?_
  have i0 : lidx_main_v24 (ix5 b h n p s) l = ix5 b p h n l := by
    funext a; match a with | ⟨0, _⟩ => rfl | ⟨1, _⟩ => rfl | ⟨2, _⟩ => rfl | ⟨3, _⟩ => rfl | ⟨4, _⟩ => rfl
  have i1 : ridx_main_v24 (ix5 b h n p s) l = ix5 b s h n l := by
    funext a; match a with | ⟨0, _⟩ => rfl | ⟨1, _⟩ => rfl | ⟨2, _⟩ => rfl | ⟨3, _⟩ => rfl | ⟨4, _⟩ => rfl
  rw [i0, i1]

theorem eighth_bits : Ideal.ofBits .f32 0x3E000000#32 = ((1 / 8 : ℝ) : EReal) := by
  simp [Ideal.ofBits, Ideal.ieee, -EReal.coe_mul]; norm_num

theorem slope0_bits : Ideal.ofBits .f32 0x3E800000#32 = ((1 / 4 : ℝ) : EReal) := by
  simp [Ideal.ofBits, Ideal.ieee, -EReal.coe_mul]; norm_num
theorem slope1_bits : Ideal.ofBits .f32 0x3D800000#32 = ((1 / 16 : ℝ) : EReal) := by
  simp [Ideal.ofBits, Ideal.ieee, -EReal.coe_mul]; norm_num
theorem slope2_bits : Ideal.ofBits .f32 0x3C800000#32 = ((1 / 64 : ℝ) : EReal) := by
  simp [Ideal.ofBits, Ideal.ieee, -EReal.coe_mul]; norm_num
theorem slope3_bits : Ideal.ofBits .f32 0x3B800000#32 = ((1 / 256 : ℝ) : EReal) := by
  simp [Ideal.ofBits, Ideal.ieee, -EReal.coe_mul]; norm_num

theorem v4_at (h : Fin 4) : val_main_v4 (F := Ideal) (ix1 h) = (slope h : EReal) := by
  match h with
  | 0 => exact slope0_bits
  | 1 => exact slope1_bits
  | 2 => exact slope2_bits
  | 3 => exact slope3_bits

theorem dist_int (p s : Fin 8192) : (BitVec.ofNat 32 p.val - BitVec.ofNat 32 s.val).toInt = (p.val : ℤ) - (s.val : ℤ) := by
  have hp : (BitVec.ofNat 32 p.val).toInt = (p.val : ℤ) := by rw [BitVec.toInt_eq_toNat_of_lt (by rw [BitVec.toNat_ofNat]; omega), BitVec.toNat_ofNat]; omega
  have hs : (BitVec.ofNat 32 s.val).toInt = (s.val : ℤ) := by rw [BitVec.toInt_eq_toNat_of_lt (by rw [BitVec.toNat_ofNat]; omega), BitVec.toNat_ofNat]; omega
  rw [BitVec.toInt_sub, hp, hs, Int.bmod_def]
  omega

theorem v23_at (p s : Fin 8192) : val_main_v23 (F := Ideal) (ix2 p s) = (((p.val : ℝ) - (s.val : ℝ) : ℝ) : EReal) := by
  rw [val_main_v23_apply, val_main_v22_apply, val_main_v20_apply, val_main_v21_apply, val_main_v18_apply, val_main_v19_apply, val_main_v17_apply, val_main_v17_apply]
  show (((BitVec.ofNat 32 p.val - BitVec.ofNat 32 s.val).toInt : ℝ) : EReal) = _
  rw [dist_int]
  push_cast
  rfl

theorem v32_at (b : Fin 8) (h : Fin 4) (n : Fin 2) (p s : Fin 8192) :
    val_main_v32 (F := Ideal) (ix5 b h n p s) = ((slope h * ((p.val : ℝ) - (s.val : ℝ)) : ℝ) : EReal) := by
  rw [val_main_v32_apply, val_main_v31_apply, val_main_v29_apply, val_main_v30_apply, val_main_v27_apply, val_main_v28_apply]
  have i4 : idx_main_v27 (idx_main_v29 (idx_main_v32 (ix5 b h n p s))) = ix1 h := by
    funext a; match a with | ⟨0, _⟩ => rfl
  have i23 : idx_main_v28 (idx_main_v30 (idx_main_v32 (ix5 b h n p s))) = ix2 p s := by
    funext a; match a with | ⟨0, _⟩ => rfl | ⟨1, _⟩ => rfl
  rw [i4, i23, v4_at, v23_at]
  exact (EReal.coe_mul _ _).symm

/-- The real score of a key. -/
def sc (R : Reals) (b : Fin 8) (h : Fin 4) (n : Fin 2) (p s : Fin 8192) : ℝ :=
  trueScore (fun s l => R.k b s h n l) (fun l => R.q b p h n l * (1 / 8)) (slope h) p.val s

variable (R : Reals) (hq : ∀ b p h n l, (x0 (ix5 b p h n l) : EReal) = (R.q b p h n l : EReal)) (hk : ∀ b p h n l, (x1 (ix5 b p h n l) : EReal) = (R.k b p h n l : EReal))

include hq hk

theorem v33_at (b : Fin 8) (h : Fin 4) (n : Fin 2) (p s : Fin 8192) :
    val_main_v33 (F := Ideal) x0 x1 (ix5 b h n p s) = (sc R b h n p s : EReal) := by
  rw [val_main_v33_apply, val_main_v26_apply, val_main_v25_apply, val_main_cst_6_apply, v24_at, v32_at]
  have e : ∑ l : Fin 64, (x0 (ix5 b p h n l) : EReal) * (x1 (ix5 b s h n l) : EReal) = ((∑ l : Fin 64, R.q b p h n l * R.k b s h n l : ℝ) : EReal) := by
    rw [← coe_sum]
    refine Finset.sum_congr rfl fun l _ => ?_
    rw [hq, hk, ← EReal.coe_mul]
  rw [e]
  show ((∑ l : Fin 64, R.q b p h n l * R.k b s h n l : ℝ) : EReal) * Ideal.ofBits .f32 0x3E000000#32 - ((slope h * ((p.val : ℝ) - (s.val : ℝ)) : ℝ) : EReal) = _
  rw [eighth_bits, ← EReal.coe_mul, ← EReal.coe_sub]
  refine congrArg (fun x : ℝ => (x : EReal)) ?_
  unfold sc trueScore
  rw [Finset.sum_mul]
  refine congrArg (· - _) (Finset.sum_congr rfl fun l _ => ?_)
  ring

theorem v36_at (b : Fin 8) (h : Fin 4) (n : Fin 2) (p s : Fin 8192) :
    val_main_v36 (F := Ideal) x0 x1 (ix5 b h n p s) = if s.val ≤ p.val then (sc R b h n p s : EReal) else ⊥ := by
  rw [val_main_v36_apply, v33_at x0 x1 R hq hk, val_main_call0_v1_apply, val_main_call0_v2_apply, val_main_call0_v0_apply, val_main_cst_8_apply, val_main_v35_apply,
    val_main_v34_apply, val_main_cst_7_apply]
  have i : idx_main_call0_v1 (ix5 b h n p s) = ix2 p s := by
    funext a; match a with | ⟨0, _⟩ => rfl | ⟨1, _⟩ => rfl
  rw [i, v23_at]
  have e0 : (FloatOps.ofBits (F := Ideal) .f32 0x00000000#32) = ((0 : ℝ) : EReal) := Ideal.ofBits_zero_f32
  have eb : (FloatOps.ofBits (F := Ideal) .f32 0xFF800000#32) = (⊥ : EReal) := by
    show Ideal.ofBits .f32 0xFF800000#32 = ⊥
    simp [Ideal.ofBits, Ideal.ieee, -EReal.coe_mul]
  rw [e0, eb]
  have hc : FloatOps.cmpf (F := Ideal) (φ := .f32) .oge (((p.val : ℝ) - (s.val : ℝ) : ℝ) : EReal) ((0 : ℝ) : EReal) = if s.val ≤ p.val then 1#1 else 0#1 := by
    show Ideal.cmp .oge (((p.val : ℝ) - (s.val : ℝ) : ℝ) : EReal) ((0 : ℝ) : EReal) = _
    have hiff : ((0 : ℝ) : EReal) ≤ (((p.val : ℝ) - (s.val : ℝ) : ℝ) : EReal) ↔ s.val ≤ p.val := by
      rw [EReal.coe_le_coe_iff, sub_nonneg, Nat.cast_le]
    by_cases hsp : s.val ≤ p.val
    · rw [if_pos hsp]
      have := hiff.mpr hsp
      simp [Ideal.cmp, this, -EReal.coe_sub, -EReal.coe_zero]
    · rw [if_neg hsp]
      have : ¬ _ := fun hh => hsp (hiff.mp hh)
      simp [Ideal.cmp, this, -EReal.coe_sub, -EReal.coe_zero]
  rw [hc]
  by_cases hsp : s.val ≤ p.val
  · rw [if_pos hsp, if_pos hsp]; rfl
  · rw [if_neg hsp, if_neg hsp]; rfl

end Cert.Diff

end
-- ==== Proof.Diff.RefOut.lean ====
/-
The reference's last steps at an index: the sum over the keys of the values weighted by the two softmaxes' difference, its normalisation and
its scaling.
-/
module

public import proofs.«01_k».proof.Proof.Diff.OutBlock
public import proofs.«01_k».proof.Proof.Gen.ReferenceIdeal.Read
public import Idealize.ShloMosaic.Lib.IdealHost

@[expose] public section

set_option maxRecDepth 16384

noncomputable section

namespace Cert.Diff

open Cert.ReferenceIdeal Cert.ReferenceIdeal.Gen Cert.ReferenceIdeal.Read Idealize.ShloMosaic Idealize.ShloMosaic.TcCoe
open scoped BigOperators

variable (x0 x1 : (⟨S8x8192x4x2x64, .f32⟩ : BufTy).Contents (Elt Ideal)) (x2 : (⟨S8x8192x4x128, .f32⟩ : BufTy).Contents (Elt Ideal))
  (x4 x5 x6 x7 : (⟨S1x64, .f32⟩ : BufTy).Contents (Elt Ideal)) (x8 : (⟨S1x128, .f32⟩ : BufTy).Contents (Elt Ideal))

/-- The four mixing vectors as one table. -/
def mixTable (k : Fin 4) (l : Fin 64) : EReal := match k with
  | 0 => x4 (ix2 0 l)
  | 1 => x5 (ix2 0 l)
  | 2 => x6 (ix2 0 l)
  | 3 => x7 (ix2 0 l)

theorem v16_at : val_main_v16 (F := Ideal) x4 x5 x6 x7 ix0 = Cert.KernelIdeal.Diff.lamOf (mixTable x4 x5 x6 x7) := by
  pointwise [val_main_v16, val_main_v15, val_main_v14, val_main_v13, val_main_v12, val_main_v11, val_main_v10, val_main_v9, val_main_v8, val_main_v7, val_main_v6,
    val_main_v5, val_main_cst_3, val_main_cst_4, val_main_cst_5]
  rfl

theorem v54_at (b : Fin 8) (h : Fin 4) (p s : Fin 8192) :
    val_main_v54 (F := Ideal) x0 x1 x4 x5 x6 x7 (ix4 b h p s) = val_main_v47 (F := Ideal) x0 x1 (ix5 b h 0 p s)
      - Cert.KernelIdeal.Diff.lamOf (mixTable x4 x5 x6 x7) * val_main_v47 (F := Ideal) x0 x1 (ix5 b h 1 p s) := by
  rw [← v16_at]
  have h49 : val_main_v49 (F := Ideal) x0 x1 (ix4 b h p s) = val_main_v48 (F := Ideal) x0 x1 (ix5 b h 0 p s) := by
    unfold val_main_v49
    exact shapeCast_apply _ _ _ _ (by rewrite [Shape.rowMajor_val_five, Shape.rowMajor_val_four]; show (((b.val * 4 + h.val) * 1 + 0) * 8192 + p.val) * 8192 + s.val = ((b.val * 4 + h.val) * 8192 + p.val) * 8192 + s.val; omega)
  have h51 : val_main_v51 (F := Ideal) x0 x1 (ix4 b h p s) = val_main_v50 (F := Ideal) x0 x1 (ix5 b h 0 p s) := by
    unfold val_main_v51
    exact shapeCast_apply _ _ _ _ (by rewrite [Shape.rowMajor_val_five, Shape.rowMajor_val_four]; show (((b.val * 4 + h.val) * 1 + 0) * 8192 + p.val) * 8192 + s.val = ((b.val * 4 + h.val) * 8192 + p.val) * 8192 + s.val; omega)
  have i48 : idx_main_v48 (ix5 b h 0 p s) = ix5 b h 0 p s := by funext a; match a with | ⟨0, _⟩ => rfl | ⟨1, _⟩ => rfl | ⟨2, _⟩ => rfl | ⟨3, _⟩ => rfl | ⟨4, _⟩ => rfl
  have i50 : idx_main_v50 (ix5 b h 0 p s) = ix5 b h 1 p s := by funext a; match a with | ⟨0, _⟩ => rfl | ⟨1, _⟩ => rfl | ⟨2, _⟩ => rfl | ⟨3, _⟩ => rfl | ⟨4, _⟩ => rfl
  have i52 : idx_main_v52 (ix4 b h p s) = ix0 := funext fun a => a.elim0
  rw [val_main_v54_apply, val_main_v53_apply, val_main_v52_apply, h49, h51, val_main_v48_apply, val_main_v50_apply, i48, i50, i52]
  rfl

theorem v56_at (b : Fin 8) (p : Fin 8192) (h : Fin 4) (d : Fin 128) :
    val_main_v56 (F := Ideal) x0 x1 x2 x4 x5 x6 x7 (ix4 b p h d)
      = ∑ s : Fin 8192, (x2 (ix4 b s h d) : EReal) * val_main_v54 (F := Ideal) x0 x1 x4 x5 x6 x7 (ix4 b h p s) := by
  generalize hA : val_main_v54 (F := Ideal) x0 x1 x4 x5 x6 x7 = A
  pointwise [val_main_v56, val_main_v55, hA]

theorem v72_at (b : Fin 8) (p : Fin 8192) (h : Fin 4) (e : Fin 128) :
    val_main_v72 (F := Ideal) x0 x1 x2 x4 x5 x6 x7 x8 (ix4 b p h e)
      = Cert.KernelIdeal.Diff.fin (fun d => val_main_v56 (F := Ideal) x0 x1 x2 x4 x5 x6 x7 (ix4 b p h d)) (x8 (ix2 0 e)) e := by
  generalize hA : val_main_v56 (F := Ideal) x0 x1 x2 x4 x5 x6 x7 = A
  pointwise [val_main_v72, val_main_v71, val_main_v70, val_main_v69, val_main_v68, val_main_v67, val_main_v66, val_main_v65, val_main_v64, val_main_v63, val_main_v62,
    val_main_v61, val_main_v60, val_main_v59, val_main_v58, val_main_v57, val_main_cst_12, val_main_cst_13, val_main_cst_14, val_main_cst_15, hA]
  rfl

theorem v74_at (b : Fin 8) (p : Fin 8192) (z : Fin 512) :
    val_main_v74 (F := Ideal) x0 x1 x2 x4 x5 x6 x7 x8 (ix3 b p z)
      = val_main_v72 (F := Ideal) x0 x1 x2 x4 x5 x6 x7 x8 (ix4 b p ⟨z.val / 128, by omega⟩ ⟨z.val % 128, by omega⟩) := by
  have h73 : val_main_v73 (F := Ideal) x0 x1 x2 x4 x5 x6 x7 x8 (ix3 b p z)
      = val_main_v72 (F := Ideal) x0 x1 x2 x4 x5 x6 x7 x8 (ix4 b p ⟨z.val / 128, by omega⟩ ⟨z.val % 128, by omega⟩) := by
    unfold val_main_v73
    exact shapeCast_apply _ _ _ _ (by rewrite [Shape.rowMajor_val_four, Shape.rowMajor_val_three]; show ((b.val * 8192 + p.val) * 4 + z.val / 128) * 128 + z.val % 128 = (b.val * 8192 + p.val) * 512 + z.val; omega)
  exact h73

end Cert.Diff

end
-- ==== Proof.Diff.RefSoft.lean ====
/-
The reference's softmax at an index and its sum over the keys: the mean of the values weighted by the exponentials of the scores.
-/
module

public import proofs.«01_k».proof.Proof.Diff.RefScore
public import proofs.«01_k».proof.Proof.Diff.RefOut
public import Idealize.ShloMosaic.Lib.KernelVsHost

@[expose] public section

set_option maxRecDepth 16384

noncomputable section

namespace Cert.Diff

open Cert.ReferenceIdeal Cert.ReferenceIdeal.Gen Cert.ReferenceIdeal.Read Idealize.ShloMosaic Idealize.ShloMosaic.TcCoe
open Cert.KernelIdeal.Diff (Reals trueScore slope coe_sum wpart wpart_pos attn attn_shift div_real)
open scoped BigOperators

theorem foldl_max_lt {ι : Type} (f : ι → EReal) (hf : ∀ i, f i < ⊤) (l : List ι) : ∀ r : EReal, r < ⊤ → l.foldl (fun r n => max r (f n)) r < ⊤ := by
  induction l with
  | nil => exact fun r hr => hr
  | cons a l ih => exact fun r hr => ih _ (max_lt hr (hf a))

theorem le_foldl_max {ι : Type} (f : ι → EReal) (l : List ι) : ∀ r : EReal, r ≤ l.foldl (fun r n => max r (f n)) r := by
  induction l with
  | nil => exact fun r => le_refl r
  | cons a l ih => exact fun r => (le_max_left _ _).trans (ih _)

theorem mem_le_foldl_max {ι : Type} (f : ι → EReal) (l : List ι) (i : ι) (hi : i ∈ l) : ∀ r : EReal, f i ≤ l.foldl (fun r n => max r (f n)) r := by
  induction l with
  | nil => simp at hi
  | cons a l ih =>
    intro r
    rcases List.mem_cons.mp hi with rfl | h
    · exact (le_max_right _ _).trans (le_foldl_max f l _)
    · exact ih h _

variable (x0 x1 : (⟨S8x8192x4x2x64, .f32⟩ : BufTy).Contents (Elt Ideal))
variable (R : Reals) (hq : ∀ b p h n l, (x0 (ix5 b p h n l) : EReal) = (R.q b p h n l : EReal)) (hk : ∀ b p h n l, (x1 (ix5 b p h n l) : EReal) = (R.k b p h n l : EReal))

/-- The largest entry over the last axis is a real when no entry is infinite upwards and one is a real. -/
theorem reduce_real (X : FVec Ideal S8x4x2x8192x8192 .f32) (hX : ∀ i, @LT.lt EReal _ (X i) ⊤) (b : Fin 8) (h : Fin 4) (n : Fin 2) (p s : Fin 8192)
    (hs : @LT.lt EReal _ ⊥ (X (ix5 b h n p s))) :
    ∃ M : ℝ, ((Host.reduce FloatOps.maximumf X (val_main_cst_9 (F := Ideal)) reducesTo_S8x4x2x8192x8192_S8x4x2x8192_d4 h_S_ : FVec Ideal S8x4x2x8192 .f32) (ix4 b h n p) : EReal) = (M : EReal) := by
  unfold Host.reduce
  have hb : (val_main_cst_9 (F := Ideal) (Shape.Idx.first h_S_) : EReal) = ⊥ := by
    show Ideal.ofBits .f32 0xFF800000#32 = ⊥
    simp [Ideal.ofBits, Ideal.ieee, -EReal.coe_mul]
  rw [hb]
  generalize hl : (List.finRange S8x4x2x8192x8192.numel).filter _ = l
  have hmem : S8x4x2x8192x8192.rowMajor (ix5 b h n p s) ∈ l := by
    rw [← hl, List.mem_filter]
    refine ⟨List.mem_finRange _, ?_⟩
    rw [decide_eq_true_eq, Equiv.symm_apply_apply]
    funext a
    apply Fin.ext
    match a with
    | ⟨0, _⟩ => rfl
    | ⟨1, _⟩ => rfl
    | ⟨2, _⟩ => rfl
    | ⟨3, _⟩ => rfl
  have h1 := foldl_max_lt (fun k => X (S8x4x2x8192x8192.rowMajor.symm k)) (fun k => hX _) l ⊥ bot_lt_top
  have h2 := mem_le_foldl_max (fun k => X (S8x4x2x8192x8192.rowMajor.symm k)) l _ hmem ⊥
  rw [Equiv.symm_apply_apply] at h2
  exact ⟨_, (EReal.coe_toReal h1.ne (lt_of_lt_of_le hs h2).ne').symm⟩

include hq hk

theorem v41_at (b : Fin 8) (h : Fin 4) (n : Fin 2) (p : Fin 8192) :
    ∃ M : ℝ, ∀ s, val_main_v41 (F := Ideal) x0 x1 (ix5 b h n p s) = (M : EReal) := by
  obtain ⟨M, hM⟩ := reduce_real (val_main_v36 (F := Ideal) x0 x1) (fun i => by
    have hi : i = ix5 (i 0) (i 1) (i 2) (i 3) (i 4) := by
      funext a; match a with | ⟨0, _⟩ => rfl | ⟨1, _⟩ => rfl | ⟨2, _⟩ => rfl | ⟨3, _⟩ => rfl | ⟨4, _⟩ => rfl
    rw [hi]
    refine lt_of_eq_of_lt (v36_at x0 x1 R hq hk (i 0) (i 1) (i 2) (i 3) (i 4)) ?_
    split
    · exact EReal.coe_lt_top _
    · exact bot_lt_top) b h n p p (by
    refine lt_of_lt_of_eq ?_ (v36_at x0 x1 R hq hk b h n p p).symm
    rw [if_pos (le_refl _)]
    exact EReal.bot_lt_coe _)
  refine ⟨M, fun s => ?_⟩
  rw [val_main_v41_apply, val_main_v40_apply, val_main_v39_apply, val_main_v38_apply, val_main_cst_10_apply]
  have i : idx_main_v40 (idx_main_v41 (ix5 b h n p s)) = ix4 b h n p := by
    funext a; match a with | ⟨0, _⟩ => rfl | ⟨1, _⟩ => rfl | ⟨2, _⟩ => rfl | ⟨3, _⟩ => rfl
  rw [i]
  have hM' : val_main_v37 (F := Ideal) x0 x1 (ix4 b h n p) = (M : EReal) := hM
  rw [hM']
  have eb : (FloatOps.ofBits (F := Ideal) .f32 0xFF800000#32) = (⊥ : EReal) := by
    show Ideal.ofBits .f32 0xFF800000#32 = ⊥
    simp [Ideal.ofBits, Ideal.ieee, -EReal.coe_mul]
  rw [eb]
  exact max_eq_right bot_le

/-- The weight of a key: its exponential over the sum of those up to the query's position, all scores less one real number. -/
theorem v47_at (b : Fin 8) (h : Fin 4) (n : Fin 2) (p : Fin 8192) :
    ∃ M : ℝ, ∀ s, val_main_v47 (F := Ideal) x0 x1 (ix5 b h n p s)
      = ((if s.val ≤ p.val then Real.exp (sc R b h n p s - M) / wpart p.val (fun s => sc R b h n p s - M) (fun _ => 1) else 0 : ℝ) : EReal) := by
  obtain ⟨M, hM⟩ := v41_at x0 x1 R hq hk b h n p
  have h43 : ∀ s, val_main_v43 (F := Ideal) x0 x1 (ix5 b h n p s) = ((if s.val ≤ p.val then (1 : ℝ) * Real.exp (sc R b h n p s - M) else 0 : ℝ) : EReal) := by
    intro s
    rw [val_main_v43_apply, val_main_v42_apply, hM, v36_at x0 x1 R hq hk]
    by_cases hs : s.val ≤ p.val
    · rw [if_pos hs, if_pos hs, one_mul]
      show Ideal.exp ((sc R b h n p s : EReal) - (M : EReal)) = _
      rw [← EReal.coe_sub, Ideal.exp_coe]
    · rw [if_neg hs, if_neg hs]
      show Ideal.exp ((⊥ : EReal) - (M : EReal)) = _
      rw [show (⊥ : EReal) - (M : EReal) = ⊥ from EReal.bot_sub _, Ideal.exp_bot, EReal.coe_zero]
  refine ⟨M, fun s => ?_⟩
  rw [val_main_v47_apply, h43, val_main_v46_apply, val_main_v45_apply, val_main_v44_apply]
  have i : idx_main_v45 (idx_main_v46 (ix5 b h n p s)) = ix4 b h n p := by
    funext a; match a with | ⟨0, _⟩ => rfl | ⟨1, _⟩ => rfl | ⟨2, _⟩ => rfl | ⟨3, _⟩ => rfl
  have i2 : ∀ k, idx_main_v44 (ix4 b h n p) k = ix5 b h n p k := fun k => by
    funext a; match a with | ⟨0, _⟩ => rfl | ⟨1, _⟩ => rfl | ⟨2, _⟩ => rfl | ⟨3, _⟩ => rfl | ⟨4, _⟩ => rfl
  have e0 : (val_main_cst_11 (F := Ideal) (Shape.Idx.first h_S_) : EReal) = 0 := Ideal.ofBits_zero_f32
  have hsum : ∑ k : Fin 8192, (val_main_v43 (F := Ideal) x0 x1 (ix5 b h n p k) : EReal) = ((wpart p.val (fun s => sc R b h n p s - M) (fun _ => 1) : ℝ) : EReal) := by
    unfold wpart
    rw [← coe_sum]
    exact Finset.sum_congr rfl fun k _ => h43 k
  rw [i]
  simp only [i2]
  rw [e0, hsum]
  show Ideal.div _ ((0 : EReal) + _) = _
  rw [zero_add, div_real _ _ (wpart_pos _ _).ne']
  refine congrArg (fun x : ℝ => (x : EReal)) ?_
  split
  · rw [one_mul]
  · rw [zero_div]

end Cert.Diff

end
-- ==== Proof.Diff.RefAt.lean ====
/-
The reference's result at an index, of real queries, keys, values and mixing vectors, is the attention kernel's.
-/
module

public import proofs.«01_k».proof.Proof.Diff.RefSoft

@[expose] public section

set_option maxRecDepth 16384

noncomputable section

namespace Cert.Diff

open Cert.ReferenceIdeal Cert.ReferenceIdeal.Gen Cert.ReferenceIdeal.Read Idealize.ShloMosaic Idealize.ShloMosaic.TcCoe
open Cert.KernelIdeal.Diff (Reals trueScore slope coe_sum wpart wpart_pos attn attn_shift lamOf)
open scoped BigOperators

/-- The mean from the weights. -/
theorem mean_of (qp : ℕ) (S V : Fin 8192 → ℝ) (M : ℝ) :
    ∑ s : Fin 8192, V s * (if s.val ≤ qp then Real.exp (S s - M) / wpart qp (fun s => S s - M) (fun _ => 1) else 0) = attn qp S V := by
  rw [← attn_shift qp S V M]
  unfold attn
  rw [show wpart qp (fun t => S t - M) V = ∑ t : Fin 8192, if t.val ≤ qp then V t * Real.exp (S t - M) else 0 from rfl, Finset.sum_div]
  refine Finset.sum_congr rfl fun s _ => ?_
  split
  · rw [mul_div_assoc]
  · rw [mul_zero, zero_div]

theorem fifth_real : ∃ r : ℝ, Ideal.ofBits .f32 0x3E4CCCCD#32 = (r : EReal) := by
  refine ⟨13421773 / 67108864, ?_⟩
  simp [Ideal.ofBits, Ideal.ieee, -EReal.coe_mul]
  norm_num

/-- The mixing weight is a real. -/
theorem lam_real (w : Fin 4 → Fin 64 → EReal) (r : Fin 4 → Fin 64 → ℝ) (h : ∀ k l, w k l = (r k l : EReal)) : ∃ L : ℝ, lamOf w = (L : EReal) := by
  obtain ⟨c, hc⟩ := fifth_real
  refine ⟨Real.exp (∑ l, r 0 l * r 1 l) - Real.exp (∑ l, r 2 l * r 3 l) + c, ?_⟩
  have e : ∀ i j, ∑ l, w i l * w j l = ((∑ l, r i l * r j l : ℝ) : EReal) := by
    intro i j
    rw [← coe_sum]
    exact Finset.sum_congr rfl fun l _ => by rw [h, h, ← EReal.coe_mul]
  unfold lamOf
  rw [e, e, Ideal.exp_coe, Ideal.exp_coe, hc, ← EReal.coe_sub, ← EReal.coe_add]

variable (x0 x1 : (⟨S8x8192x4x2x64, .f32⟩ : BufTy).Contents (Elt Ideal)) (x2 : (⟨S8x8192x4x128, .f32⟩ : BufTy).Contents (Elt Ideal))
  (x4 x5 x6 x7 : (⟨S1x64, .f32⟩ : BufTy).Contents (Elt Ideal)) (x8 : (⟨S1x128, .f32⟩ : BufTy).Contents (Elt Ideal))
variable (R : Reals) (hq : ∀ b p h n l, (x0 (ix5 b p h n l) : EReal) = (R.q b p h n l : EReal)) (hk : ∀ b p h n l, (x1 (ix5 b p h n l) : EReal) = (R.k b p h n l : EReal))
  (hv : ∀ b p h d, (x2 (ix4 b p h d) : EReal) = (R.v b p h d : EReal))
  (r : Fin 4 → Fin 64 → ℝ) (hr : ∀ k l, mixTable x4 x5 x6 x7 k l = (r k l : EReal))

include hq hk hv hr

theorem v56_real (b : Fin 8) (p : Fin 8192) (h : Fin 4) (d : Fin 128) :
    val_main_v56 (F := Ideal) x0 x1 x2 x4 x5 x6 x7 (ix4 b p h d)
      = (R.mean b p h 0 d : EReal) - lamOf (mixTable x4 x5 x6 x7) * (R.mean b p h 1 d : EReal) := by
  obtain ⟨L, hL⟩ := lam_real (mixTable x4 x5 x6 x7) r hr
  obtain ⟨M0, h0⟩ := v47_at x0 x1 R hq hk b h 0 p
  obtain ⟨M1, h1⟩ := v47_at x0 x1 R hq hk b h 1 p
  rw [v56_at, hL]
  have e : ∀ s : Fin 8192, (x2 (ix4 b s h d) : EReal) * val_main_v54 (F := Ideal) x0 x1 x4 x5 x6 x7 (ix4 b h p s)
      = ((R.v b s h d * (if s.val ≤ p.val then Real.exp (sc R b h 0 p s - M0) / wpart p.val (fun s => sc R b h 0 p s - M0) (fun _ => 1) else 0)
        - L * (R.v b s h d * (if s.val ≤ p.val then Real.exp (sc R b h 1 p s - M1) / wpart p.val (fun s => sc R b h 1 p s - M1) (fun _ => 1) else 0)) : ℝ) : EReal) := by
    intro s
    rw [v54_at, hL, h0, h1, hv, ← EReal.coe_mul, ← EReal.coe_sub, ← EReal.coe_mul]
    refine congrArg (fun x : ℝ => (x : EReal)) ?_
    ring
  rw [Finset.sum_congr rfl fun s _ => e s, coe_sum, Finset.sum_sub_distrib, ← Finset.mul_sum, mean_of, mean_of, ← EReal.coe_mul, ← EReal.coe_sub]
  rfl

/-- The reference's result. -/
theorem ref_at (b : Fin 8) (p : Fin 8192) (z : Fin 512) :
    val_main_v74 (F := Ideal) x0 x1 x2 x4 x5 x6 x7 x8 (ix3 b p z)
      = R.result (mixTable x4 x5 x6 x7) (fun e => x8 (ix2 0 e)) b p ⟨z.val / 128, by omega⟩ ⟨z.val % 128, by omega⟩ := by
  rw [v74_at, v72_at]
  unfold Reals.result
  exact congrArg (fun o => Cert.KernelIdeal.Diff.fin o (x8 (ix2 0 ⟨z.val % 128, by omega⟩)) ⟨z.val % 128, by omega⟩)
    (funext fun d => v56_real x0 x1 x2 x4 x5 x6 x7 R hq hk hv r hr b p ⟨z.val / 128, by omega⟩ d)

end Cert.Diff

end
-- ==== Proof.Diff.Equal.lean ====
/-
The attention call's value claim: whenever its precondition holds, the kernel's array is the reference's, entry by entry.
-/
module

public import proofs.«01_k».proof.Proof.Diff.Result
public import proofs.«01_k».proof.Proof.Diff.RefAt
public import proofs.«01_k».proof.Proof.Diff.Finite
public import proofs.«01_k».proof.Proof.Gen.ReferenceIdeal.Run
public import Idealize.ShloMosaic.Lib.Quiescent

@[expose] public section

set_option maxRecDepth 16384

noncomputable section

namespace Cert.Diff

open Idealize.ShloMosaic Idealize.ShloMosaic.TcCoe Idealize.SL.Sem
open Cert.KernelIdeal.Diff (Reals G6 G6_at mixOf)

section

open Cert.KernelIdeal

variable (m : (ℓ : Loc nD τ sig) → Buf (Elt Ideal) ℓ) (c : Dev nD)

/-- The real arguments. -/
def realsOf : Reals where
  q b p h n l := EReal.toReal ((m ((c : Thread nD τ).loc main_arg0) : Vec Ideal S8x8192x4x2x64 .f32) (ix5 b p h n l))
  k b p h n l := EReal.toReal ((m ((c : Thread nD τ).loc main_arg1) : Vec Ideal S8x8192x4x2x64 .f32) (ix5 b p h n l))
  v b p h d := EReal.toReal ((m ((c : Thread nD τ).loc main_arg2) : Vec Ideal S8x8192x4x128 .f32) (ix4 b p h d))

/-- The two programs' tables of mixing vectors. -/
theorem mix_eq : mixOf m c = mixTable (m ((c : Thread nD τ).loc main_arg4)) (m ((c : Thread nD τ).loc main_arg5)) (m ((c : Thread nD τ).loc main_arg6)) (m ((c : Thread nD τ).loc main_arg7)) := by
  funext k l
  unfold mixOf mixTable
  obtain ⟨h0, h1, h2, h3⟩ := Cert.KernelIdeal.Diff.hostL_apply (m ((c : Thread nD τ).loc main_arg4)) (m ((c : Thread nD τ).loc main_arg5)) (m ((c : Thread nD τ).loc main_arg6)) (m ((c : Thread nD τ).loc main_arg7)) l
  match k with
  | 0 => exact h0
  | 1 => exact h1
  | 2 => exact h2
  | 3 => exact h3

theorem entry_eq (hpre : Pre_KernelIdeal_scores_ok m) (b : Fin 8) (p : Fin 8192) (z : Fin 512) :
    Cert.ReferenceIdeal.Read.val_main_v74 (F := Ideal) (m ((c : Thread nD τ).loc main_arg0)) (m ((c : Thread nD τ).loc main_arg1)) (m ((c : Thread nD τ).loc main_arg2))
        (m ((c : Thread nD τ).loc main_arg4)) (m ((c : Thread nD τ).loc main_arg5)) (m ((c : Thread nD τ).loc main_arg6)) (m ((c : Thread nD τ).loc main_arg7))
        (m ((c : Thread nD τ).loc main_arg8)) (ix3 b p z)
      = (G6 m c : Vec Ideal S8x8192x512 .bf16) (ix3 b p z) := by
  obtain ⟨h0, h1, h2, h3, h4, h5, h6, h7⟩ := hpre c
  have a0 := real0 _ _ _ _ _ _ _ _ _ h0
  have a1 := real1 _ _ _ _ _ _ _ _ _ h1
  have a2 := real2 _ _ _ _ _ _ _ _ _ h2
  have a3 := below3 _ _ _ _ _ _ _ _ _ h3
  have a4 := real4 _ _ _ _ _ _ _ _ _ h4
  have a5 := real5 _ _ _ _ _ _ _ _ _ h5
  have a6 := real6 _ _ _ _ _ _ _ _ _ h6
  have a7 := real7 _ _ _ _ _ _ _ _ _ h7
  have e := ref_at (m ((c : Thread nD τ).loc main_arg0)) (m ((c : Thread nD τ).loc main_arg1)) (m ((c : Thread nD τ).loc main_arg2)) (m ((c : Thread nD τ).loc main_arg4))
    (m ((c : Thread nD τ).loc main_arg5)) (m ((c : Thread nD τ).loc main_arg6)) (m ((c : Thread nD τ).loc main_arg7)) (m ((c : Thread nD τ).loc main_arg8)) (realsOf m c)
    (fun b p h n l => a0 _) (fun b p h n l => a1 _) (fun b p h d => a2 _)
    (fun k l => EReal.toReal (mixTable (m ((c : Thread nD τ).loc main_arg4)) (m ((c : Thread nD τ).loc main_arg5)) (m ((c : Thread nD τ).loc main_arg6)) (m ((c : Thread nD τ).loc main_arg7)) k l))
    (fun k l => by
      match k with
      | 0 => exact a4 _
      | 1 => exact a5 _
      | 2 => exact a6 _
      | 3 => exact a7 _) b p z
  have g := G6_at m c (realsOf m c) (fun b p h n l => a0 _) (fun b p h n l => a1 _) (fun b p h d => a2 _) (fun b j l hl => a3 b j l hl) b p z
  rw [mix_eq] at g
  exact e.trans g.symm

end

/-- The two arrays agree. -/
theorem algebraic : algebraic_KernelIdeal_ReferenceIdeal_pre_scores_ok := by
  intro m ρ m' ρ' hpre hagree
  refine ⟨fun c => G6 m c, Cert.KernelIdeal.Diff.run m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v74_eq]
  obtain ⟨h0, h1, h2, h3, h4, h5, h6, h7, h8⟩ := hagree c
  rw [h0, h1, h2, h4, h5, h6, h7, h8]
  funext i
  have hi : i = ix3 (i 0) (i 1) (i 2) := by
    funext a
    match a with
    | ⟨0, _⟩ => rfl
    | ⟨1, _⟩ => rfl
    | ⟨2, _⟩ => rfl
  rw [hi]
  exact entry_eq m c hpre (i 0) (i 1) (i 2)

end Cert.Diff

end
-- ==== Proof.Mod.Result.lean ====
/-
  The modulation call: six blocks of 1024 columns, each the activated conditioning rows through the block's columns of the
  projection, plus the block's part of the bias; against the reference's one product over all 6144 columns.
-/
module

public import proofs.«01_k».proof.Proof.Gen.Kernel3Ideal.Value
public import proofs.«01_k».proof.Proof.Gen.Reference3Ideal.Run
public import proofs.«01_k».proof.Proof.Gen.Reference3Ideal.Read
public import Idealize.ShloMosaic.Lib.Pointwise
public import Idealize.ShloMosaic.Lib.ValueIdx
public import Idealize.ShloMosaic.Lib.MatmulPlain

@[expose] public section

set_option maxRecDepth 16384

noncomputable section

namespace Cert.Mod

open Cert.Kernel3Ideal Cert.Kernel3Ideal.Gen Idealize.ShloMosaic Idealize.ShloMosaic.TcCoe Idealize.ShloMosaic.Tactic
open scoped BigOperators

/-- One entry of the modulation rows, from its conditioning row, its column of the projection and its bias. -/
def entry (x w : Fin 1024 → EReal) (b : EReal) : EReal := (∑ d : Fin 1024, x d * Ideal.logistic (x d) * w d) + b

/-- What one grid step stores, at an index. -/
theorem pay1_apply (x : Vec Ideal S8x1024 .f32) (w : Vec Ideal S1024x1024 .f32) (b : Vec Ideal S1x1024 .f32) (q : Fin 8) (n : Fin 1024) :
    k0_pay1 x w b (ix2 q n) = entry (fun d => x (ix2 q d)) (fun d => w (ix2 d n)) (b (ix2 0 n)) := by
  unfold entry
  pointwise [k0_pay1]

theorem hz2 : (![0, 0] : Fin 2 → ℕ) = fun _ => 0 := by
  funext a
  match a with
  | ⟨0, _⟩ => rfl
  | ⟨1, _⟩ => rfl

theorem out_eq (x : Vec Ideal S8x1024 .f32) (w : Vec Ideal S1024x1024 .f32) (b : Vec Ideal S1x1024 .f32) :
    out0_3 x w b = k0_pay1 x w b := by
  unfold out0_3
  rw [View.canon_unit_zero (S := S8x1024) hz2, View.ld_unit_zero (S := S8x1024) hz2, View.ld_unit_zero (S := S1024x1024) hz2,
    View.ld_unit_zero (S := S1x1024) hz2]

variable (m : (ℓ : Loc nD τ sig) → Buf (Elt Ideal) ℓ) (c : Dev nD)

theorem V_v0 : V m c main_v0 = shapeCast S1024x6144 (m ((c : Thread nD τ).loc main_arg1)) shapeCasts_S1x1024x6144_S1024x6144 := rfl

theorem w_apply (w : FVec Ideal S1x1024x6144 .f32) (d : Fin 1024) (n : Fin 6144) :
    shapeCast S1024x6144 w shapeCasts_S1x1024x6144_S1024x6144 (ix2 d n) = w (ix3 0 d n) := by
  pointwise

theorem t_lt (t : Fin cfg0.N) : t.val < 6 := lt_of_lt_of_eq t.isLt N_0

/-- Which block of its array each window holds at a grid point: the conditioning rows whole, the rest the point's 1024 columns. -/
theorem idx_facts : ∀ t : Fin cfg0.N,
    (win0_0.index t (0 : Fin 2) = 0 ∧ win0_0.index t (1 : Fin 2) = 0)
    ∧ (win0_1.index t (0 : Fin 2) = 0 ∧ win0_1.index t (1 : Fin 2) = t.val)
    ∧ (win0_2.index t (0 : Fin 2) = 0 ∧ win0_2.index t (1 : Fin 2) = t.val)
    ∧ (win0_3.index t (0 : Fin 2) = 0 ∧ win0_3.index t (1 : Fin 2) = t.val) :=
  (by decide +kernel : ∀ t : Fin grid0.N, _)

theorem blk0 (t : Fin cfg0.N) (q : Fin 8) (d : Fin 1024) :
    (iblk m c 0 t : Vec Ideal S8x1024 .f32) (ix2 q d) = (m ((c : Thread nD τ).loc main_arg0) : Vec Ideal S8x1024 .f32) (ix2 q d) := by
  obtain ⟨i0, i1⟩ := (idx_facts t).1
  unfold iblk
  rw [View.read_apply]
  show V m c main_arg0 _ = m ((c : Thread nD τ).loc main_arg0) _
  refine congrArg (m ((c : Thread nD τ).loc main_arg0)) ?_
  funext a
  apply Fin.ext
  match a with
  | ⟨0, _⟩ => show win0_0.index t (0 : Fin 2) * 8 + 1 * q.val = q.val; rw [i0]; omega
  | ⟨1, _⟩ => show win0_0.index t (1 : Fin 2) * 1024 + 1 * d.val = d.val; rw [i1]; omega

theorem blk1 (t : Fin cfg0.N) (d : Fin 1024) (n : Fin 1024) :
    (iblk m c 1 t : Vec Ideal S1024x1024 .f32) (ix2 d n)
      = (m ((c : Thread nD τ).loc main_arg1) : Vec Ideal S1x1024x6144 .f32) (ix3 0 d ⟨1024 * t.val + n.val, by have := t_lt t; omega⟩) := by
  obtain ⟨i0, i1⟩ := (idx_facts t).2.1
  refine Eq.trans ?_ (w_apply _ d ⟨1024 * t.val + n.val, by have := t_lt t; omega⟩)
  unfold iblk
  rw [View.read_apply]
  show V m c main_v0 _ = _
  rw [V_v0]
  refine congrArg (shapeCast S1024x6144 (m ((c : Thread nD τ).loc main_arg1)) shapeCasts_S1x1024x6144_S1024x6144) ?_
  funext a
  apply Fin.ext
  match a with
  | ⟨0, _⟩ => show win0_1.index t (0 : Fin 2) * 1024 + 1 * d.val = d.val; rw [i0]; omega
  | ⟨1, _⟩ => show win0_1.index t (1 : Fin 2) * 1024 + 1 * n.val = 1024 * t.val + n.val; rw [i1]; omega

theorem V_v2 : V m c main_v2 = shapeCast S1x6144 (shapeCast S6144 (m ((c : Thread nD τ).loc main_arg2)) shapeCasts_S1x6144_S6144)
    shapeCasts_S6144_S1x6144 := rfl

theorem b_apply (b : FVec Ideal S1x6144 .f32) (n : Fin 6144) :
    shapeCast S1x6144 (shapeCast S6144 b shapeCasts_S1x6144_S6144) shapeCasts_S6144_S1x6144 (ix2 0 n) = b (ix2 0 n) := by
  pointwise

theorem blk2 (t : Fin cfg0.N) (n : Fin 1024) :
    (iblk m c 2 t : Vec Ideal S1x1024 .f32) (ix2 0 n)
      = (m ((c : Thread nD τ).loc main_arg2) : Vec Ideal S1x6144 .f32) (ix2 0 ⟨1024 * t.val + n.val, by have := t_lt t; omega⟩) := by
  obtain ⟨i0, i1⟩ := (idx_facts t).2.2.1
  refine Eq.trans ?_ (b_apply _ ⟨1024 * t.val + n.val, by have := t_lt t; omega⟩)
  unfold iblk
  rw [View.read_apply]
  show V m c main_v2 _ = _
  rw [V_v2]
  refine congrArg (shapeCast S1x6144 (shapeCast S6144 (m ((c : Thread nD τ).loc main_arg2)) shapeCasts_S1x6144_S6144)
    shapeCasts_S6144_S1x6144) ?_
  funext a
  apply Fin.ext
  match a with
  | ⟨0, _⟩ => show win0_2.index t (0 : Fin 2) * 1 + 1 * 0 = 0; rw [i0]
  | ⟨1, _⟩ => show win0_2.index t (1 : Fin 2) * 1024 + 1 * n.val = 1024 * t.val + n.val; rw [i1]; omega

/-- The result array at a column of block `t`. -/
theorem result_blk (t : Fin cfg0.N) (q : Fin 8) (n : Fin 1024) :
    ((dats m 0 c).arrAt 3 cfg0.N : Vec Ideal S8x6144 .f32) (ix2 q ⟨1024 * t.val + n.val, by have := t_lt t; omega⟩)
      = entry (fun d => (m ((c : Thread nD τ).loc main_arg0) : Vec Ideal S8x1024 .f32) (ix2 q d))
          (fun d => (m ((c : Thread nD τ).loc main_arg1) : Vec Ideal S1x1024x6144 .f32) (ix3 0 d ⟨1024 * t.val + n.val, by have := t_lt t; omega⟩))
          ((m ((c : Thread nD τ).loc main_arg2) : Vec Ideal S1x6144 .f32) (ix2 0 ⟨1024 * t.val + n.val, by have := t_lt t; omega⟩)) := by
  obtain ⟨i0, i1⟩ := (idx_facts t).2.2.2
  have h := congrFun (Cert.Kernel3Ideal.Value.blocks3 m c t (flush0_3 t)) (ix2 q n)
  rw [Cert.Kernel3Ideal.Value.flushed3, View.read_apply, out_eq] at h
  refine Eq.trans (congrArg ((dats m 0 c).arrAt 3 cfg0.N) ?_) (h.trans ?_)
  · funext a
    apply Fin.ext
    match a with
    | ⟨0, _⟩ => show q.val = win0_3.index t (0 : Fin 2) * 8 + 1 * q.val; rw [i0]; omega
    | ⟨1, _⟩ => show 1024 * t.val + n.val = win0_3.index t (1 : Fin 2) * 1024 + 1 * n.val; rw [i1]; omega
  · refine Eq.trans (?_ : _ = k0_pay1 (iblk m c 0 t) (iblk m c 1 t) (iblk m c 2 t) (ix2 q n)) ?_
    · rfl
    · rw [pay1_apply]
      simp only [blk0, blk1, blk2]

/-- The result array at one index. -/
theorem result_at (q : Fin 8) (n : Fin 6144) :
    ((dats m 0 c).arrAt 3 cfg0.N : Vec Ideal S8x6144 .f32) (ix2 q n)
      = entry (fun d => (m ((c : Thread nD τ).loc main_arg0) : Vec Ideal S8x1024 .f32) (ix2 q d))
          (fun d => (m ((c : Thread nD τ).loc main_arg1) : Vec Ideal S1x1024x6144 .f32) (ix3 0 d n))
          ((m ((c : Thread nD τ).loc main_arg2) : Vec Ideal S1x6144 .f32) (ix2 0 n)) := by
  have h := result_blk m c ⟨n.val / 1024, lt_of_lt_of_eq (by omega) N_0.symm⟩ q ⟨n.val % 1024, by omega⟩
  have e : (⟨1024 * (n.val / 1024) + n.val % 1024, by omega⟩ : Fin 6144) = n := Fin.ext (by show 1024 * (n.val / 1024) + n.val % 1024 = n.val; omega)
  simp only [e] at h
  exact h

end Cert.Mod

end
-- ==== Proof.Mod.Ref.lean ====
/- The reference's modulation rows, read at an index: the same entry the kernel's blocks hold. -/
module

public import proofs.«01_k».proof.Proof.Mod.Result

@[expose] public section

set_option maxRecDepth 16384

noncomputable section

namespace Cert.Mod

open Cert.Reference3Ideal Cert.Reference3Ideal.Gen Cert.Reference3Ideal.Read Idealize.ShloMosaic Idealize.ShloMosaic.TcCoe
open scoped BigOperators

/-- The activated conditioning row: the reference writes the logistic function out. -/
theorem act_at (x : (⟨S8x1024, .f32⟩ : BufTy).Contents (Elt Ideal)) (i : S8x1024.Idx) :
    val_main_v0 (F := Ideal) x i = x i * Ideal.logistic (x i) := by
  rw [val_main_v0_apply, val_main_call0_v5_apply, val_main_call0_v3_apply, val_main_call0_v1_apply,
    val_main_call0_v0_apply, val_main_call0_v4_apply, val_main_call0_v2_apply, val_main_call0_cst_apply, val_main_call0_cst_0_apply]
  have e1 : (FloatOps.ofBits (F := Ideal) .f32 0x3F800000#32) = (1 : EReal) := Ideal.ofBits_one_f32
  rw [e1]
  rfl

theorem ref_at (x : (⟨S8x1024, .f32⟩ : BufTy).Contents (Elt Ideal)) (w : (⟨S1x1024x6144, .f32⟩ : BufTy).Contents (Elt Ideal))
    (b : (⟨S1x6144, .f32⟩ : BufTy).Contents (Elt Ideal)) (q : Fin 8) (n : Fin 6144) :
    val_main_v6 (F := Ideal) x w b (ix2 q n) = entry (fun d => x (ix2 q d)) (fun d => w (ix3 0 d n)) (b (ix2 0 n)) := by
  rw [val_main_v6_apply, val_main_v2_apply, val_main_v5_apply, val_main_v4_apply, val_main_v3_apply]
  unfold entry
  have hb : idx_main_v3 (idx_main_v4 (idx_main_v5 (ix2 q n))) = ix2 0 n := by
    funext a
    apply Fin.ext
    match a with
    | ⟨0, _⟩ => rfl
    | ⟨1, _⟩ => exact Nat.mod_eq_of_lt n.isLt
  rw [hb]
  refine congrArg (· + b (ix2 0 n)) (Finset.sum_congr rfl fun d _ => ?_)
  have hl : lidx_main_v2 (ix2 q n) d = ix2 q d := by
    funext a
    match a with
    | ⟨0, _⟩ => rfl
    | ⟨1, _⟩ => rfl
  have hw : idx_main_v1 (ridx_main_v2 (ix2 q n) d) = ix3 0 d n := by
    funext a
    apply Fin.ext
    match a with
    | ⟨0, _⟩ => rfl
    | ⟨1, _⟩ => show (d.val * 6144 + n.val) / 6144 % 1024 = d.val; omega
    | ⟨2, _⟩ => show (d.val * 6144 + n.val) % 6144 = n.val; omega
  rw [act_at, val_main_v1_apply, hl, hw]

end Cert.Mod

end
-- ==== Proof.lean ====
/-
  The certificate of three calls, the differential attention, the expert layer and the modulation: each kernel runs without fault
  from any memory, leaves its arguments as they were and its counters at rest, and over the extended reals ends with the array its
  reference ends with, under the preconditions stated of the first two.
-/
module

public import proofs.«01_k».proof.Defs
public import proofs.«01_k».proof.Proof.Gen.Kernel2.Frame
public import proofs.«01_k».proof.Proof.Gen.Kernel2Ideal.Value
public import proofs.«01_k».proof.Proof.Gen.Pre_gates_ok
public import proofs.«01_k».proof.Proof.Gen.Reference2Ideal.Run
public import proofs.«01_k».proof.Proof.Gen.Reference2Ideal.Read
public import proofs.«01_k».proof.Proof.Moe.Ref
public import proofs.«01_k».proof.Proof.Moe.Gates
public import proofs.«01_k».proof.Proof.Diff.Printed
public import proofs.«01_k».proof.Proof.Diff.Equal
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Mod.Ref
public import Idealize.ShloMosaic.Adequacy
public import Idealize.ShloMosaic.Init
public import Idealize.ShloMosaic.Lib.Quiescent

@[expose] public section

noncomputable section

namespace Cert.Proof

open Idealize.ShloMosaic Idealize.SL.Sem

/-- The reference runs from any memory, keeps its arguments, and has no counters to leave raised. -/
theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The kernel's result array is the reference's, entry by entry. -/
theorem algebraic_moe : algebraic_Kernel2Ideal_Reference2Ideal_pre_gates_ok := by
  intro m ρ m' ρ' hpre hagree
  refine ⟨_, Cert.Kernel2Ideal.Value.run (F := Ideal) m ρ, ?_⟩
  refine (θ_run Cert.Reference2Ideal.defs _ _).mono (fun _ h c => ⟨?_, (h c).2⟩) (Cert.Reference2Ideal.Value.run (F := Ideal) m' ρ')
  rw [(h c).1, Cert.Reference2Ideal.Read.val_main_v34_eq]
  obtain ⟨h0, h1, h2, h3, h4, h5, h6, h7⟩ := hagree c
  rw [h0, h1, h2, h3, h4, h5, h6, h7]
  funext i
  have hi : i = ix3 (i 0) (i 1) (i 2) := by
    funext a
    match a with
    | ⟨0, _⟩ => rfl
    | ⟨1, _⟩ => rfl
    | ⟨2, _⟩ => rfl
  rw [hi]
  refine (Cert.Moe.ref_at _ _ _ _ _ _ _ _ (Cert.Moe.gates_of_pre _ _ _ _ _ _ _ _ (hpre c)) (i 0) (i 1) (i 2)).trans ?_
  exact (Cert.Moe.result_at m c (i 0) (i 1) (i 2)).symm

/-- The attention call's reference, likewise. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The modulation's reference, likewise. -/
theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The modulation rows are the reference's, entry by entry. -/
theorem algebraic_mod : algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨?_, (h c).2⟩) (Cert.Reference3Ideal.Value.run (F := Ideal) m' ρ')
  rw [(h c).1, Cert.Reference3Ideal.Read.val_main_v6_eq]
  obtain ⟨h0, h1, h2⟩ := hagree c
  rw [h0, h1, h2]
  funext i
  have hi : i = ix2 (i 0) (i 1) := by
    funext a
    match a with
    | ⟨0, _⟩ => rfl
    | ⟨1, _⟩ => rfl
  rw [hi]
  exact (Cert.Mod.ref_at _ _ _ (i 0) (i 1)).trans (Cert.Mod.result_at m c (i 0) (i 1)).symm

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Pre_scores_ok.Gen.facts, Cert.Pre_gates_ok.Gen.facts,
    Cert.Diff.printed_frame, fun m ρ _ => Cert.KernelIdeal.Diff.frame m ρ, fun m ρ _ => Cert.KernelIdeal.Diff.frame m ρ,
    quiescent_ReferenceIdeal, fun m ρ _ => quiescent_ReferenceIdeal m ρ trivial,
    fun m ρ _ => Cert.Kernel2.Gen.frame m ρ, fun m ρ _ => Cert.Kernel2Ideal.Gen.frame m ρ, fun m ρ _ => Cert.Kernel2Ideal.Gen.frame m ρ,
    quiescent_Reference2Ideal, fun m ρ _ => quiescent_Reference2Ideal m ρ trivial,
    fun m ρ _ => Cert.Kernel3.Gen.frame m ρ, fun m ρ _ => Cert.Kernel3Ideal.Gen.frame m ρ, quiescent_Reference3Ideal,
    IdealRules.named_const.statement Cert.KernelIdeal.κ "mask" .f32 0xF149F2CA#32 ⊥ rfl, Cert.Diff.algebraic,
    (trivial : preserves_Kernel2_Kernel2Ideal), algebraic_moe,
    (trivial : preserves_Kernel3_Kernel3Ideal), algebraic_mod⟩

end Cert.Proof

end
